-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨4, ![2, 512, 8, 64]⟩ ⟨4, ![2, 16384, 8, 64]⟩ 1 32 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨4, ![2, 512, 8, 64]⟩ ⟨4, ![2, 16384, 8, 64]⟩ 1 32 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v377)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v377) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x256x768 : Shape := ⟨3, ![2, 256, 768]⟩
abbrev S768x512 : Shape := ⟨2, ![768, 512]⟩
abbrev S512x768 : Shape := ⟨2, ![512, 768]⟩
abbrev S2x512x8x64 : Shape := ⟨4, ![2, 512, 8, 64]⟩
abbrev S2x8x64x512 : Shape := ⟨4, ![2, 8, 64, 512]⟩
abbrev S16x64x512 : Shape := ⟨3, ![16, 64, 512]⟩
abbrev S2x8x512x64 : Shape := ⟨4, ![2, 8, 512, 64]⟩
abbrev S16x512x64 : Shape := ⟨3, ![16, 512, 64]⟩
abbrev S16x16384 : Shape := ⟨2, ![16, 16384]⟩
abbrev S8x4096 : Shape := ⟨2, ![8, 4096]⟩
abbrev S16x512 : Shape := ⟨2, ![16, 512]⟩
abbrev S32 : Shape := ⟨1, ![32]⟩
abbrev S_ : Shape := ⟨0, ![]⟩
abbrev S1x64x768 : Shape := ⟨3, ![1, 64, 768]⟩
abbrev S64x768 : Shape := ⟨2, ![64, 768]⟩
abbrev S64x512 : Shape := ⟨2, ![64, 512]⟩
abbrev S64x64 : Shape := ⟨2, ![64, 64]⟩
abbrev S1x64x512 : Shape := ⟨3, ![1, 64, 512]⟩
abbrev S64 : Shape := ⟨1, ![64]⟩
abbrev S64x1 : Shape := ⟨2, ![64, 1]⟩
abbrev S1x512x64 : Shape := ⟨3, ![1, 512, 64]⟩
abbrev S512x64 : Shape := ⟨2, ![512, 64]⟩
abbrev S64x1024 : Shape := ⟨2, ![64, 1024]⟩
abbrev S64x16 : Shape := ⟨2, ![64, 16]⟩
abbrev S8x96 : Shape := ⟨2, ![8, 96]⟩
abbrev S8x1024 : Shape := ⟨2, ![8, 1024]⟩
abbrev S8x512 : Shape := ⟨2, ![8, 512]⟩
abbrev S8x16 : Shape := ⟨2, ![8, 16]⟩
abbrev S8x128 : Shape := ⟨2, ![8, 128]⟩
abbrev S1 : Shape := ⟨1, ![1]⟩
abbrev S256x1024 : Shape := ⟨2, ![256, 1024]⟩
abbrev S256x16 : Shape := ⟨2, ![256, 16]⟩
abbrev S128x16 : Shape := ⟨2, ![128, 16]⟩
abbrev S128x1 : Shape := ⟨2, ![128, 1]⟩
abbrev S128x64 : Shape := ⟨2, ![128, 64]⟩
abbrev S128x1024 : Shape := ⟨2, ![128, 1024]⟩
abbrev S32x16 : Shape := ⟨2, ![32, 16]⟩
abbrev S32x1 : Shape := ⟨2, ![32, 1]⟩
abbrev S32x64 : Shape := ⟨2, ![32, 64]⟩
abbrev S32x1024 : Shape := ⟨2, ![32, 1024]⟩
abbrev S16x16 : Shape := ⟨2, ![16, 16]⟩
abbrev S16x1 : Shape := ⟨2, ![16, 1]⟩
abbrev S16x64 : Shape := ⟨2, ![16, 64]⟩
abbrev S16x1024 : Shape := ⟨2, ![16, 1024]⟩
abbrev S8x1 : Shape := ⟨2, ![8, 1]⟩
abbrev S8x64 : Shape := ⟨2, ![8, 64]⟩
abbrev S8x768 : Shape := ⟨2, ![8, 768]⟩
abbrev S1x8x768 : Shape := ⟨3, ![1, 8, 768]⟩

abbrev nBuf : Space → Nat
  | .hbm => 12
  | .vmem => 12
  | .smem => 0
  | _ => 0

abbrev bufTy : (tb : Table) → Fin (tcTables nBuf tb) → BufTy
  | .hbm, ⟨0, _⟩ => ⟨S2x256x768, .f32⟩
  | .hbm, ⟨1, _⟩ => ⟨S768x512, .f32⟩
  | .hbm, ⟨2, _⟩ => ⟨S512x768, .f32⟩
  | .hbm, ⟨3, _⟩ => ⟨S2x512x8x64, .f32⟩
  | .hbm, ⟨4, _⟩ => ⟨S2x512x8x64, .f32⟩
  | .hbm, ⟨5, _⟩ => ⟨S2x8x64x512, .f32⟩
  | .hbm, ⟨6, _⟩ => ⟨S16x64x512, .f32⟩
  | .hbm, ⟨7, _⟩ => ⟨S16x64x512, .bf16⟩
  | .hbm, ⟨8, _⟩ => ⟨S2x8x512x64, .f32⟩
  | .hbm, ⟨9, _⟩ => ⟨S16x512x64, .f32⟩
  | .hbm, ⟨10, _⟩ => ⟨S16x512x64, .bf16⟩
  | .hbm, ⟨11, _⟩ => ⟨S2x256x768, .f32⟩
  | .local _ .vmem, ⟨0, _⟩ => ⟨S2x256x768, .f32⟩
  | .local _ .vmem, ⟨1, _⟩ => ⟨S768x512, .f32⟩
  | .local _ .vmem, ⟨2, _⟩ => ⟨S512x768, .f32⟩
  | .local _ .vmem, ⟨3, _⟩ => ⟨S16x64x512, .bf16⟩
  | .local _ .vmem, ⟨4, _⟩ => ⟨S16x512x64, .bf16⟩
  | .local _ .vmem, ⟨5, _⟩ => ⟨S2x256x768, .f32⟩
  | .local _ .vmem, ⟨6, _⟩ => ⟨S16x16384, .bf16⟩
  | .local _ .vmem, ⟨7, _⟩ => ⟨S8x4096, .f32⟩
  | .local _ .vmem, ⟨8, _⟩ => ⟨S16x16384, .bf16⟩
  | .local _ .vmem, ⟨9, _⟩ => ⟨S8x4096, .f32⟩
  | .local _ .vmem, ⟨10, _⟩ => ⟨S16x512, .bf16⟩
  | .local _ .vmem, ⟨11, _⟩ => ⟨S16x16384, .bf16⟩
  | _, _ => ⟨S2x256x768, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 1 → Bool
  | ⟨0, _⟩ => false
  | _ => false

abbrev dmaSemScoped : Fin 198 → Bool
  | ⟨i, _⟩ => dmaSemScopedAt i

abbrev sig : RefSig :=
  (ofTc nBuf bufTy 1 198 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 32
abbrev τ : Topo := Topo.v7x

variable {F : FTy → Type} [FloatOps F]

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .ne v2 c0_i32
  let v5 : BitVec 32 := Scalar.extui v4
  let c0_i32_0 : BitVec 32 := 0#32
  let v6 : BitVec 1 := Scalar.cmpi .ne v5 c0_i32_0
  v6

def k0_dev1 : Nat :=
  let c0_i32_1300 : BitVec 32 := 0#32
  let c0_i32_1298 : BitVec 32 := 0#32
  let c1_i32_1299 : BitVec 32 := 1#32
  let v3165 : BitVec 32 := Scalar.muli c0_i32_1298 c1_i32_1299
  let v3166 : BitVec 32 := Scalar.addi c0_i32_1300 v3165
  v3166.toNat
def k0_cond2 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1 : BitVec 32 := 1#32
  let v7 : BitVec 1 := Scalar.cmpi .ne v2 c1_i32_1
  let v8 : BitVec 32 := Scalar.extui v7
  let c0_i32_2 : BitVec 32 := 0#32
  let v9 : BitVec 1 := Scalar.cmpi .ne v8 c0_i32_2
  v9

def k0_dev2 : Nat :=
  let c0_i32_1300 : BitVec 32 := 0#32
  let c1_i32_1298 : BitVec 32 := 1#32
  let c1_i32_1299 : BitVec 32 := 1#32
  let v3165 : BitVec 32 := Scalar.muli c1_i32_1298 c1_i32_1299
  let v3166 : BitVec 32 := Scalar.addi c0_i32_1300 v3165
  v3166.toNat
def k0_cond3 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v10 : BitVec 1 := Scalar.cmpi .ne v2 c2_i32
  let v11 : BitVec 32 := Scalar.extui v10
  let c0_i32_3 : BitVec 32 := 0#32
  let v12 : BitVec 1 := Scalar.cmpi .ne v11 c0_i32_3
  v12

def k0_dev3 : Nat :=
  let c0_i32_1300 : BitVec 32 := 0#32
  let c2_i32_1298 : BitVec 32 := 2#32
  let c1_i32_1299 : BitVec 32 := 1#32
  let v3165 : BitVec 32 := Scalar.muli c2_i32_1298 c1_i32_1299
  let v3166 : BitVec 32 := Scalar.addi c0_i32_1300 v3165
  v3166.toNat
def k0_cond4 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v13 : BitVec 1 := Scalar.cmpi .ne v2 c3_i32
  let v14 : BitVec 32 := Scalar.extui v13
  let c0_i32_4 : BitVec 32 := 0#32
  let v15 : BitVec 1 := Scalar.cmpi .ne v14 c0_i32_4
  v15

def k0_dev4 : Nat :=
  let c0_i32_1300 : BitVec 32 := 0#32
  let c3_i32_1298 : BitVec 32 := 3#32
  let c1_i32_1299 : BitVec 32 := 1#32
  let v3165 : BitVec 32 := Scalar.muli c3_i32_1298 c1_i32_1299
  let v3166 : BitVec 32 := Scalar.addi c0_i32_1300 v3165
  v3166.toNat
def k0_cond5 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v16 : BitVec 1 := Scalar.cmpi .ne v2 c4_i32
  let v17 : BitVec 32 := Scalar.extui v16
  let c0_i32_5 : BitVec 32 := 0#32
  let v18 : BitVec 1 := Scalar.cmpi .ne v17 c0_i32_5
  v18

def k0_dev5 : Nat :=
  let c0_i32_1300 : BitVec 32 := 0#32
  let c4_i32_1298 : BitVec 32 := 4#32
  let c1_i32_1299 : BitVec 32 := 1#32
  let v3165 : BitVec 32 := Scalar.muli c4_i32_1298 c1_i32_1299
  let v3166 : BitVec 32 := Scalar.addi c0_i32_1300 v3165
  v3166.toNat
def k0_cond6 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v19 : BitVec 1 := Scalar.cmpi .ne v2 c5_i32
  let v20 : BitVec 32 := Scalar.extui v19
  let c0_i32_6 : BitVec 32 := 0#32
  let v21 : BitVec 1 := Scalar.cmpi .ne v20 c0_i32_6
  v21

def k0_dev6 : Nat :=
  let c0_i32_1300 : BitVec 32 := 0#32
  let c5_i32_1298 : BitVec 32 := 5#32
  let c1_i32_1299 : BitVec 32 := 1#32
  let v3165 : BitVec 32 := Scalar.muli c5_i32_1298 c1_i32_1299
  let v3166 : BitVec 32 := Scalar.addi c0_i32_1300 v3165
  v3166.toNat
def k0_cond7 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v22 : BitVec 1 := Scalar.cmpi .ne v2 c6_i32
  let v23 : BitVec 32 := Scalar.extui v22
  let c0_i32_7 : BitVec 32 := 0#32
  let v24 : BitVec 1 := Scalar.cmpi .ne v23 c0_i32_7
  v24

def k0_dev7 : Nat :=
  let c0_i32_1300 : BitVec 32 := 0#32
  let c6_i32_1298 : BitVec 32 := 6#32
  let c1_i32_1299 : BitVec 32 := 1#32
  let v3165 : BitVec 32 := Scalar.muli c6_i32_1298 c1_i32_1299
  let v3166 : BitVec 32 := Scalar.addi c0_i32_1300 v3165
  v3166.toNat
def k0_cond8 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v25 : BitVec 1 := Scalar.cmpi .ne v2 c7_i32
  let v26 : BitVec 32 := Scalar.extui v25
  let c0_i32_8 : BitVec 32 := 0#32
  let v27 : BitVec 1 := Scalar.cmpi .ne v26 c0_i32_8
  v27

def k0_dev8 : Nat :=
  let c0_i32_1300 : BitVec 32 := 0#32
  let c7_i32_1298 : BitVec 32 := 7#32
  let c1_i32_1299 : BitVec 32 := 1#32
  let v3165 : BitVec 32 := Scalar.muli c7_i32_1298 c1_i32_1299
  let v3166 : BitVec 32 := Scalar.addi c0_i32_1300 v3165
  v3166.toNat
def k0_cond9 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v28 : BitVec 1 := Scalar.cmpi .ne v2 c8_i32
  let v29 : BitVec 32 := Scalar.extui v28
  let c0_i32_9 : BitVec 32 := 0#32
  let v30 : BitVec 1 := Scalar.cmpi .ne v29 c0_i32_9
  v30

def k0_dev9 : Nat :=
  let c0_i32_1300 : BitVec 32 := 0#32
  let c8_i32_1298 : BitVec 32 := 8#32
  let c1_i32_1299 : BitVec 32 := 1#32
  let v3165 : BitVec 32 := Scalar.muli c8_i32_1298 c1_i32_1299
  let v3166 : BitVec 32 := Scalar.addi c0_i32_1300 v3165
  v3166.toNat
def k0_cond10 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v31 : BitVec 1 := Scalar.cmpi .ne v2 c9_i32
  let v32 : BitVec 32 := Scalar.extui v31
  let c0_i32_10 : BitVec 32 := 0#32
  let v33 : BitVec 1 := Scalar.cmpi .ne v32 c0_i32_10
  v33

def k0_dev10 : Nat :=
  let c0_i32_1300 : BitVec 32 := 0#32
  let c9_i32_1298 : BitVec 32 := 9#32
  let c1_i32_1299 : BitVec 32 := 1#32
  let v3165 : BitVec 32 := Scalar.muli c9_i32_1298 c1_i32_1299
  let v3166 : BitVec 32 := Scalar.addi c0_i32_1300 v3165
  v3166.toNat
def k0_cond11 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v34 : BitVec 1 := Scalar.cmpi .ne v2 c10_i32
  let v35 : BitVec 32 := Scalar.extui v34
  let c0_i32_11 : BitVec 32 := 0#32
  let v36 : BitVec 1 := Scalar.cmpi .ne v35 c0_i32_11
  v36

def k0_dev11 : Nat :=
  let c0_i32_1300 : BitVec 32 := 0#32
  let c10_i32_1298 : BitVec 32 := 10#32
  let c1_i32_1299 : BitVec 32 := 1#32
  let v3165 : BitVec 32 := Scalar.muli c10_i32_1298 c1_i32_1299
  let v3166 : BitVec 32 := Scalar.addi c0_i32_1300 v3165
  v3166.toNat
def k0_cond12 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v37 : BitVec 1 := Scalar.cmpi .ne v2 c11_i32
  let v38 : BitVec 32 := Scalar.extui v37
  let c0_i32_12 : BitVec 32 := 0#32
  let v39 : BitVec 1 := Scalar.cmpi .ne v38 c0_i32_12
  v39

def k0_dev12 : Nat :=
  let c0_i32_1300 : BitVec 32 := 0#32
  let c11_i32_1298 : BitVec 32 := 11#32
  let c1_i32_1299 : BitVec 32 := 1#32
  let v3165 : BitVec 32 := Scalar.muli c11_i32_1298 c1_i32_1299
  let v3166 : BitVec 32 := Scalar.addi c0_i32_1300 v3165
  v3166.toNat
def k0_cond13 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v40 : BitVec 1 := Scalar.cmpi .ne v2 c12_i32
  let v41 : BitVec 32 := Scalar.extui v40
  let c0_i32_13 : BitVec 32 := 0#32
  let v42 : BitVec 1 := Scalar.cmpi .ne v41 c0_i32_13
  v42

def k0_dev13 : Nat :=
  let c0_i32_1300 : BitVec 32 := 0#32
  let c12_i32_1298 : BitVec 32 := 12#32
  let c1_i32_1299 : BitVec 32 := 1#32
  let v3165 : BitVec 32 := Scalar.muli c12_i32_1298 c1_i32_1299
  let v3166 : BitVec 32 := Scalar.addi c0_i32_1300 v3165
  v3166.toNat
def k0_cond14 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v43 : BitVec 1 := Scalar.cmpi .ne v2 c13_i32
  let v44 : BitVec 32 := Scalar.extui v43
  let c0_i32_14 : BitVec 32 := 0#32
  let v45 : BitVec 1 := Scalar.cmpi .ne v44 c0_i32_14
  v45

def k0_dev14 : Nat :=
  let c0_i32_1300 : BitVec 32 := 0#32
  let c13_i32_1298 : BitVec 32 := 13#32
  let c1_i32_1299 : BitVec 32 := 1#32
  let v3165 : BitVec 32 := Scalar.muli c13_i32_1298 c1_i32_1299
  let v3166 : BitVec 32 := Scalar.addi c0_i32_1300 v3165
  v3166.toNat
def k0_cond15 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v46 : BitVec 1 := Scalar.cmpi .ne v2 c14_i32
  let v47 : BitVec 32 := Scalar.extui v46
  let c0_i32_15 : BitVec 32 := 0#32
  let v48 : BitVec 1 := Scalar.cmpi .ne v47 c0_i32_15
  v48

def k0_dev15 : Nat :=
  let c0_i32_1300 : BitVec 32 := 0#32
  let c14_i32_1298 : BitVec 32 := 14#32
  let c1_i32_1299 : BitVec 32 := 1#32
  let v3165 : BitVec 32 := Scalar.muli c14_i32_1298 c1_i32_1299
  let v3166 : BitVec 32 := Scalar.addi c0_i32_1300 v3165
  v3166.toNat
def k0_cond16 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v49 : BitVec 1 := Scalar.cmpi .ne v2 c15_i32
  let v50 : BitVec 32 := Scalar.extui v49
  let c0_i32_16 : BitVec 32 := 0#32
  let v51 : BitVec 1 := Scalar.cmpi .ne v50 c0_i32_16
  v51

def k0_dev16 : Nat :=
  let c0_i32_1300 : BitVec 32 := 0#32
  let c15_i32_1298 : BitVec 32 := 15#32
  let c1_i32_1299 : BitVec 32 := 1#32
  let v3165 : BitVec 32 := Scalar.muli c15_i32_1298 c1_i32_1299
  let v3166 : BitVec 32 := Scalar.addi c0_i32_1300 v3165
  v3166.toNat
def k0_cond17 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v52 : BitVec 1 := Scalar.cmpi .ne v2 c16_i32
  let v53 : BitVec 32 := Scalar.extui v52
  let c0_i32_17 : BitVec 32 := 0#32
  let v54 : BitVec 1 := Scalar.cmpi .ne v53 c0_i32_17
  v54

def k0_dev17 : Nat :=
  let c0_i32_1300 : BitVec 32 := 0#32
  let c16_i32_1298 : BitVec 32 := 16#32
  let c1_i32_1299 : BitVec 32 := 1#32
  let v3165 : BitVec 32 := Scalar.muli c16_i32_1298 c1_i32_1299
  let v3166 : BitVec 32 := Scalar.addi c0_i32_1300 v3165
  v3166.toNat
def k0_cond18 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v55 : BitVec 1 := Scalar.cmpi .ne v2 c17_i32
  let v56 : BitVec 32 := Scalar.extui v55
  let c0_i32_18 : BitVec 32 := 0#32
  let v57 : BitVec 1 := Scalar.cmpi .ne v56 c0_i32_18
  v57

def k0_dev18 : Nat :=
  let c0_i32_1300 : BitVec 32 := 0#32
  let c17_i32_1298 : BitVec 32 := 17#32
  let c1_i32_1299 : BitVec 32 := 1#32
  let v3165 : BitVec 32 := Scalar.muli c17_i32_1298 c1_i32_1299
  let v3166 : BitVec 32 := Scalar.addi c0_i32_1300 v3165
  v3166.toNat
def k0_cond19 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v58 : BitVec 1 := Scalar.cmpi .ne v2 c18_i32
  let v59 : BitVec 32 := Scalar.extui v58
  let c0_i32_19 : BitVec 32 := 0#32
  let v60 : BitVec 1 := Scalar.cmpi .ne v59 c0_i32_19
  v60

def k0_dev19 : Nat :=
  let c0_i32_1300 : BitVec 32 := 0#32
  let c18_i32_1298 : BitVec 32 := 18#32
  let c1_i32_1299 : BitVec 32 := 1#32
  let v3165 : BitVec 32 := Scalar.muli c18_i32_1298 c1_i32_1299
  let v3166 : BitVec 32 := Scalar.addi c0_i32_1300 v3165
  v3166.toNat
def k0_cond20 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v61 : BitVec 1 := Scalar.cmpi .ne v2 c19_i32
  let v62 : BitVec 32 := Scalar.extui v61
  let c0_i32_20 : BitVec 32 := 0#32
  let v63 : BitVec 1 := Scalar.cmpi .ne v62 c0_i32_20
  v63

def k0_dev20 : Nat :=
  let c0_i32_1300 : BitVec 32 := 0#32
  let c19_i32_1298 : BitVec 32 := 19#32
  let c1_i32_1299 : BitVec 32 := 1#32
  let v3165 : BitVec 32 := Scalar.muli c19_i32_1298 c1_i32_1299
  let v3166 : BitVec 32 := Scalar.addi c0_i32_1300 v3165
  v3166.toNat
def k0_cond21 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v64 : BitVec 1 := Scalar.cmpi .ne v2 c20_i32
  let v65 : BitVec 32 := Scalar.extui v64
  let c0_i32_21 : BitVec 32 := 0#32
  let v66 : BitVec 1 := Scalar.cmpi .ne v65 c0_i32_21
  v66

def k0_dev21 : Nat :=
  let c0_i32_1300 : BitVec 32 := 0#32
  let c20_i32_1298 : BitVec 32 := 20#32
  let c1_i32_1299 : BitVec 32 := 1#32
  let v3165 : BitVec 32 := Scalar.muli c20_i32_1298 c1_i32_1299
  let v3166 : BitVec 32 := Scalar.addi c0_i32_1300 v3165
  v3166.toNat
def k0_cond22 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v67 : BitVec 1 := Scalar.cmpi .ne v2 c21_i32
  let v68 : BitVec 32 := Scalar.extui v67
  let c0_i32_22 : BitVec 32 := 0#32
  let v69 : BitVec 1 := Scalar.cmpi .ne v68 c0_i32_22
  v69

def k0_dev22 : Nat :=
  let c0_i32_1300 : BitVec 32 := 0#32
  let c21_i32_1298 : BitVec 32 := 21#32
  let c1_i32_1299 : BitVec 32 := 1#32
  let v3165 : BitVec 32 := Scalar.muli c21_i32_1298 c1_i32_1299
  let v3166 : BitVec 32 := Scalar.addi c0_i32_1300 v3165
  v3166.toNat
def k0_cond23 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v70 : BitVec 1 := Scalar.cmpi .ne v2 c22_i32
  let v71 : BitVec 32 := Scalar.extui v70
  let c0_i32_23 : BitVec 32 := 0#32
  let v72 : BitVec 1 := Scalar.cmpi .ne v71 c0_i32_23
  v72

def k0_dev23 : Nat :=
  let c0_i32_1300 : BitVec 32 := 0#32
  let c22_i32_1298 : BitVec 32 := 22#32
  let c1_i32_1299 : BitVec 32 := 1#32
  let v3165 : BitVec 32 := Scalar.muli c22_i32_1298 c1_i32_1299
  let v3166 : BitVec 32 := Scalar.addi c0_i32_1300 v3165
  v3166.toNat
def k0_cond24 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v73 : BitVec 1 := Scalar.cmpi .ne v2 c23_i32
  let v74 : BitVec 32 := Scalar.extui v73
  let c0_i32_24 : BitVec 32 := 0#32
  let v75 : BitVec 1 := Scalar.cmpi .ne v74 c0_i32_24
  v75

def k0_dev24 : Nat :=
  let c0_i32_1300 : BitVec 32 := 0#32
  let c23_i32_1298 : BitVec 32 := 23#32
  let c1_i32_1299 : BitVec 32 := 1#32
  let v3165 : BitVec 32 := Scalar.muli c23_i32_1298 c1_i32_1299
  let v3166 : BitVec 32 := Scalar.addi c0_i32_1300 v3165
  v3166.toNat
def k0_cond25 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v76 : BitVec 1 := Scalar.cmpi .ne v2 c24_i32
  let v77 : BitVec 32 := Scalar.extui v76
  let c0_i32_25 : BitVec 32 := 0#32
  let v78 : BitVec 1 := Scalar.cmpi .ne v77 c0_i32_25
  v78

def k0_dev25 : Nat :=
  let c0_i32_1300 : BitVec 32 := 0#32
  let c24_i32_1298 : BitVec 32 := 24#32
  let c1_i32_1299 : BitVec 32 := 1#32
  let v3165 : BitVec 32 := Scalar.muli c24_i32_1298 c1_i32_1299
  let v3166 : BitVec 32 := Scalar.addi c0_i32_1300 v3165
  v3166.toNat
def k0_cond26 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v79 : BitVec 1 := Scalar.cmpi .ne v2 c25_i32
  let v80 : BitVec 32 := Scalar.extui v79
  let c0_i32_26 : BitVec 32 := 0#32
  let v81 : BitVec 1 := Scalar.cmpi .ne v80 c0_i32_26
  v81

def k0_dev26 : Nat :=
  let c0_i32_1300 : BitVec 32 := 0#32
  let c25_i32_1298 : BitVec 32 := 25#32
  let c1_i32_1299 : BitVec 32 := 1#32
  let v3165 : BitVec 32 := Scalar.muli c25_i32_1298 c1_i32_1299
  let v3166 : BitVec 32 := Scalar.addi c0_i32_1300 v3165
  v3166.toNat
def k0_cond27 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v82 : BitVec 1 := Scalar.cmpi .ne v2 c26_i32
  let v83 : BitVec 32 := Scalar.extui v82
  let c0_i32_27 : BitVec 32 := 0#32
  let v84 : BitVec 1 := Scalar.cmpi .ne v83 c0_i32_27
  v84

def k0_dev27 : Nat :=
  let c0_i32_1300 : BitVec 32 := 0#32
  let c26_i32_1298 : BitVec 32 := 26#32
  let c1_i32_1299 : BitVec 32 := 1#32
  let v3165 : BitVec 32 := Scalar.muli c26_i32_1298 c1_i32_1299
  let v3166 : BitVec 32 := Scalar.addi c0_i32_1300 v3165
  v3166.toNat
def k0_cond28 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v85 : BitVec 1 := Scalar.cmpi .ne v2 c27_i32
  let v86 : BitVec 32 := Scalar.extui v85
  let c0_i32_28 : BitVec 32 := 0#32
  let v87 : BitVec 1 := Scalar.cmpi .ne v86 c0_i32_28
  v87

def k0_dev28 : Nat :=
  let c0_i32_1300 : BitVec 32 := 0#32
  let c27_i32_1298 : BitVec 32 := 27#32
  let c1_i32_1299 : BitVec 32 := 1#32
  let v3165 : BitVec 32 := Scalar.muli c27_i32_1298 c1_i32_1299
  let v3166 : BitVec 32 := Scalar.addi c0_i32_1300 v3165
  v3166.toNat
def k0_cond29 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v88 : BitVec 1 := Scalar.cmpi .ne v2 c28_i32
  let v89 : BitVec 32 := Scalar.extui v88
  let c0_i32_29 : BitVec 32 := 0#32
  let v90 : BitVec 1 := Scalar.cmpi .ne v89 c0_i32_29
  v90

def k0_dev29 : Nat :=
  let c0_i32_1300 : BitVec 32 := 0#32
  let c28_i32_1298 : BitVec 32 := 28#32
  let c1_i32_1299 : BitVec 32 := 1#32
  let v3165 : BitVec 32 := Scalar.muli c28_i32_1298 c1_i32_1299
  let v3166 : BitVec 32 := Scalar.addi c0_i32_1300 v3165
  v3166.toNat
def k0_cond30 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v91 : BitVec 1 := Scalar.cmpi .ne v2 c29_i32
  let v92 : BitVec 32 := Scalar.extui v91
  let c0_i32_30 : BitVec 32 := 0#32
  let v93 : BitVec 1 := Scalar.cmpi .ne v92 c0_i32_30
  v93

def k0_dev30 : Nat :=
  let c0_i32_1300 : BitVec 32 := 0#32
  let c29_i32_1298 : BitVec 32 := 29#32
  let c1_i32_1299 : BitVec 32 := 1#32
  let v3165 : BitVec 32 := Scalar.muli c29_i32_1298 c1_i32_1299
  let v3166 : BitVec 32 := Scalar.addi c0_i32_1300 v3165
  v3166.toNat
def k0_cond31 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v94 : BitVec 1 := Scalar.cmpi .ne v2 c30_i32
  let v95 : BitVec 32 := Scalar.extui v94
  let c0_i32_31 : BitVec 32 := 0#32
  let v96 : BitVec 1 := Scalar.cmpi .ne v95 c0_i32_31
  v96

def k0_dev31 : Nat :=
  let c0_i32_1300 : BitVec 32 := 0#32
  let c30_i32_1298 : BitVec 32 := 30#32
  let c1_i32_1299 : BitVec 32 := 1#32
  let v3165 : BitVec 32 := Scalar.muli c30_i32_1298 c1_i32_1299
  let v3166 : BitVec 32 := Scalar.addi c0_i32_1300 v3165
  v3166.toNat
def k0_cond32 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v97 : BitVec 1 := Scalar.cmpi .ne v2 c31_i32
  let v98 : BitVec 32 := Scalar.extui v97
  let c0_i32_32 : BitVec 32 := 0#32
  let v99 : BitVec 1 := Scalar.cmpi .ne v98 c0_i32_32
  v99

def k0_dev32 : Nat :=
  let c0_i32_1300 : BitVec 32 := 0#32
  let c31_i32_1298 : BitVec 32 := 31#32
  let c1_i32_1299 : BitVec 32 := 1#32
  let v3165 : BitVec 32 := Scalar.muli c31_i32_1298 c1_i32_1299
  let v3166 : BitVec 32 := Scalar.addi c0_i32_1300 v3165
  v3166.toNat
def k0_cond33 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_223 : BitVec 32 := 0#32
  let v515 : BitVec 1 := Scalar.cmpi .ne v2 c0_i32_223
  let v516 : BitVec 32 := Scalar.extui v515
  let c0_i32_224 : BitVec 32 := 0#32
  let v517 : BitVec 1 := Scalar.cmpi .ne v516 c0_i32_224
  v517

def k0_off1 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off2 (d0 : Dev nD) : Fin 2 → Nat :=
  let c0_i32_1303 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c512_i32_1297 : BitVec 32 := 512#32
  let v3165 : BitVec 32 := Scalar.muli v2 c512_i32_1297
  ![0, v3165.toNat]
def k0_dev33 : Nat :=
  let c0_i32_1302 : BitVec 32 := 0#32
  let c0_i32_1300 : BitVec 32 := 0#32
  let c1_i32_1301 : BitVec 32 := 1#32
  let v3167 : BitVec 32 := Scalar.muli c0_i32_1300 c1_i32_1301
  let v3168 : BitVec 32 := Scalar.addi c0_i32_1302 v3167
  v3168.toNat
def k0_off3 (d0 : Dev nD) : Fin 2 → Nat :=
  let c0_i32_1310 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_1298 : BitVec 32 := 128#32
  let v3166 : BitVec 32 := Scalar.muli v2 c128_i32_1298
  ![0, v3166.toNat]
def k0_dev34 : Nat :=
  let c0_i32_1309 : BitVec 32 := 0#32
  let c0_i32_1307 : BitVec 32 := 0#32
  let c1_i32_1308 : BitVec 32 := 1#32
  let v3175 : BitVec 32 := Scalar.muli c0_i32_1307 c1_i32_1308
  let v3176 : BitVec 32 := Scalar.addi c0_i32_1309 v3175
  v3176.toNat
def k0_cond34 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_225 : BitVec 32 := 1#32
  let v518 : BitVec 1 := Scalar.cmpi .ne v2 c1_i32_225
  let v519 : BitVec 32 := Scalar.extui v518
  let c0_i32_226 : BitVec 32 := 0#32
  let v520 : BitVec 1 := Scalar.cmpi .ne v519 c0_i32_226
  v520

def k0_off4 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off5 (d0 : Dev nD) : Fin 2 → Nat :=
  let c0_i32_1303 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c512_i32_1297 : BitVec 32 := 512#32
  let v3165 : BitVec 32 := Scalar.muli v2 c512_i32_1297
  ![0, v3165.toNat]
def k0_dev35 : Nat :=
  let c0_i32_1302 : BitVec 32 := 0#32
  let c1_i32_1300 : BitVec 32 := 1#32
  let c1_i32_1301 : BitVec 32 := 1#32
  let v3167 : BitVec 32 := Scalar.muli c1_i32_1300 c1_i32_1301
  let v3168 : BitVec 32 := Scalar.addi c0_i32_1302 v3167
  v3168.toNat
def k0_off6 (d0 : Dev nD) : Fin 2 → Nat :=
  let c0_i32_1310 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_1298 : BitVec 32 := 128#32
  let v3166 : BitVec 32 := Scalar.muli v2 c128_i32_1298
  ![0, v3166.toNat]
def k0_dev36 : Nat :=
  let c0_i32_1309 : BitVec 32 := 0#32
  let c1_i32_1307 : BitVec 32 := 1#32
  let c1_i32_1308 : BitVec 32 := 1#32
  let v3175 : BitVec 32 := Scalar.muli c1_i32_1307 c1_i32_1308
  let v3176 : BitVec 32 := Scalar.addi c0_i32_1309 v3175
  v3176.toNat
def k0_cond35 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_227 : BitVec 32 := 2#32
  let v521 : BitVec 1 := Scalar.cmpi .ne v2 c2_i32_227
  let v522 : BitVec 32 := Scalar.extui v521
  let c0_i32_228 : BitVec 32 := 0#32
  let v523 : BitVec 1 := Scalar.cmpi .ne v522 c0_i32_228
  v523

def k0_off7 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off8 (d0 : Dev nD) : Fin 2 → Nat :=
  let c0_i32_1303 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c512_i32_1297 : BitVec 32 := 512#32
  let v3165 : BitVec 32 := Scalar.muli v2 c512_i32_1297
  ![0, v3165.toNat]
def k0_dev37 : Nat :=
  let c0_i32_1302 : BitVec 32 := 0#32
  let c2_i32_1300 : BitVec 32 := 2#32
  let c1_i32_1301 : BitVec 32 := 1#32
  let v3167 : BitVec 32 := Scalar.muli c2_i32_1300 c1_i32_1301
  let v3168 : BitVec 32 := Scalar.addi c0_i32_1302 v3167
  v3168.toNat
def k0_off9 (d0 : Dev nD) : Fin 2 → Nat :=
  let c0_i32_1309 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_1298 : BitVec 32 := 128#32
  let v3166 : BitVec 32 := Scalar.muli v2 c128_i32_1298
  ![0, v3166.toNat]
def k0_dev38 : Nat :=
  let c0_i32_1308 : BitVec 32 := 0#32
  let c2_i32_1306 : BitVec 32 := 2#32
  let c1_i32_1307 : BitVec 32 := 1#32
  let v3175 : BitVec 32 := Scalar.muli c2_i32_1306 c1_i32_1307
  let v3176 : BitVec 32 := Scalar.addi c0_i32_1308 v3175
  v3176.toNat
def k0_cond36 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_229 : BitVec 32 := 3#32
  let v524 : BitVec 1 := Scalar.cmpi .ne v2 c3_i32_229
  let v525 : BitVec 32 := Scalar.extui v524
  let c0_i32_230 : BitVec 32 := 0#32
  let v526 : BitVec 1 := Scalar.cmpi .ne v525 c0_i32_230
  v526

def k0_off10 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off11 (d0 : Dev nD) : Fin 2 → Nat :=
  let c0_i32_1303 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c512_i32_1297 : BitVec 32 := 512#32
  let v3165 : BitVec 32 := Scalar.muli v2 c512_i32_1297
  ![0, v3165.toNat]
def k0_dev39 : Nat :=
  let c0_i32_1302 : BitVec 32 := 0#32
  let c3_i32_1300 : BitVec 32 := 3#32
  let c1_i32_1301 : BitVec 32 := 1#32
  let v3167 : BitVec 32 := Scalar.muli c3_i32_1300 c1_i32_1301
  let v3168 : BitVec 32 := Scalar.addi c0_i32_1302 v3167
  v3168.toNat
def k0_off12 (d0 : Dev nD) : Fin 2 → Nat :=
  let c0_i32_1309 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_1298 : BitVec 32 := 128#32
  let v3166 : BitVec 32 := Scalar.muli v2 c128_i32_1298
  ![0, v3166.toNat]
def k0_dev40 : Nat :=
  let c0_i32_1308 : BitVec 32 := 0#32
  let c3_i32_1306 : BitVec 32 := 3#32
  let c1_i32_1307 : BitVec 32 := 1#32
  let v3175 : BitVec 32 := Scalar.muli c3_i32_1306 c1_i32_1307
  let v3176 : BitVec 32 := Scalar.addi c0_i32_1308 v3175
  v3176.toNat
def k0_cond37 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_231 : BitVec 32 := 4#32
  let v527 : BitVec 1 := Scalar.cmpi .ne v2 c4_i32_231
  let v528 : BitVec 32 := Scalar.extui v527
  let c0_i32_232 : BitVec 32 := 0#32
  let v529 : BitVec 1 := Scalar.cmpi .ne v528 c0_i32_232
  v529

def k0_off13 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off14 (d0 : Dev nD) : Fin 2 → Nat :=
  let c0_i32_1303 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c512_i32_1297 : BitVec 32 := 512#32
  let v3165 : BitVec 32 := Scalar.muli v2 c512_i32_1297
  ![0, v3165.toNat]
def k0_dev41 : Nat :=
  let c0_i32_1302 : BitVec 32 := 0#32
  let c4_i32_1300 : BitVec 32 := 4#32
  let c1_i32_1301 : BitVec 32 := 1#32
  let v3167 : BitVec 32 := Scalar.muli c4_i32_1300 c1_i32_1301
  let v3168 : BitVec 32 := Scalar.addi c0_i32_1302 v3167
  v3168.toNat
def k0_off15 (d0 : Dev nD) : Fin 2 → Nat :=
  let c0_i32_1309 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_1298 : BitVec 32 := 128#32
  let v3166 : BitVec 32 := Scalar.muli v2 c128_i32_1298
  ![0, v3166.toNat]
def k0_dev42 : Nat :=
  let c0_i32_1308 : BitVec 32 := 0#32
  let c4_i32_1306 : BitVec 32 := 4#32
  let c1_i32_1307 : BitVec 32 := 1#32
  let v3175 : BitVec 32 := Scalar.muli c4_i32_1306 c1_i32_1307
  let v3176 : BitVec 32 := Scalar.addi c0_i32_1308 v3175
  v3176.toNat
def k0_cond38 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_233 : BitVec 32 := 5#32
  let v530 : BitVec 1 := Scalar.cmpi .ne v2 c5_i32_233
  let v531 : BitVec 32 := Scalar.extui v530
  let c0_i32_234 : BitVec 32 := 0#32
  let v532 : BitVec 1 := Scalar.cmpi .ne v531 c0_i32_234
  v532

def k0_off16 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off17 (d0 : Dev nD) : Fin 2 → Nat :=
  let c0_i32_1303 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c512_i32_1297 : BitVec 32 := 512#32
  let v3165 : BitVec 32 := Scalar.muli v2 c512_i32_1297
  ![0, v3165.toNat]
def k0_dev43 : Nat :=
  let c0_i32_1302 : BitVec 32 := 0#32
  let c5_i32_1300 : BitVec 32 := 5#32
  let c1_i32_1301 : BitVec 32 := 1#32
  let v3167 : BitVec 32 := Scalar.muli c5_i32_1300 c1_i32_1301
  let v3168 : BitVec 32 := Scalar.addi c0_i32_1302 v3167
  v3168.toNat
def k0_off18 (d0 : Dev nD) : Fin 2 → Nat :=
  let c0_i32_1309 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_1298 : BitVec 32 := 128#32
  let v3166 : BitVec 32 := Scalar.muli v2 c128_i32_1298
  ![0, v3166.toNat]
def k0_dev44 : Nat :=
  let c0_i32_1308 : BitVec 32 := 0#32
  let c5_i32_1306 : BitVec 32 := 5#32
  let c1_i32_1307 : BitVec 32 := 1#32
  let v3175 : BitVec 32 := Scalar.muli c5_i32_1306 c1_i32_1307
  let v3176 : BitVec 32 := Scalar.addi c0_i32_1308 v3175
  v3176.toNat
def k0_cond39 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_235 : BitVec 32 := 6#32
  let v533 : BitVec 1 := Scalar.cmpi .ne v2 c6_i32_235
  let v534 : BitVec 32 := Scalar.extui v533
  let c0_i32_236 : BitVec 32 := 0#32
  let v535 : BitVec 1 := Scalar.cmpi .ne v534 c0_i32_236
  v535

def k0_off19 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off20 (d0 : Dev nD) : Fin 2 → Nat :=
  let c0_i32_1303 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c512_i32_1297 : BitVec 32 := 512#32
  let v3165 : BitVec 32 := Scalar.muli v2 c512_i32_1297
  ![0, v3165.toNat]
def k0_dev45 : Nat :=
  let c0_i32_1302 : BitVec 32 := 0#32
  let c6_i32_1300 : BitVec 32 := 6#32
  let c1_i32_1301 : BitVec 32 := 1#32
  let v3167 : BitVec 32 := Scalar.muli c6_i32_1300 c1_i32_1301
  let v3168 : BitVec 32 := Scalar.addi c0_i32_1302 v3167
  v3168.toNat
def k0_off21 (d0 : Dev nD) : Fin 2 → Nat :=
  let c0_i32_1309 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_1298 : BitVec 32 := 128#32
  let v3166 : BitVec 32 := Scalar.muli v2 c128_i32_1298
  ![0, v3166.toNat]
def k0_dev46 : Nat :=
  let c0_i32_1308 : BitVec 32 := 0#32
  let c6_i32_1306 : BitVec 32 := 6#32
  let c1_i32_1307 : BitVec 32 := 1#32
  let v3175 : BitVec 32 := Scalar.muli c6_i32_1306 c1_i32_1307
  let v3176 : BitVec 32 := Scalar.addi c0_i32_1308 v3175
  v3176.toNat
def k0_cond40 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_237 : BitVec 32 := 7#32
  let v536 : BitVec 1 := Scalar.cmpi .ne v2 c7_i32_237
  let v537 : BitVec 32 := Scalar.extui v536
  let c0_i32_238 : BitVec 32 := 0#32
  let v538 : BitVec 1 := Scalar.cmpi .ne v537 c0_i32_238
  v538

def k0_off22 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off23 (d0 : Dev nD) : Fin 2 → Nat :=
  let c0_i32_1303 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c512_i32_1297 : BitVec 32 := 512#32
  let v3165 : BitVec 32 := Scalar.muli v2 c512_i32_1297
  ![0, v3165.toNat]
def k0_dev47 : Nat :=
  let c0_i32_1302 : BitVec 32 := 0#32
  let c7_i32_1300 : BitVec 32 := 7#32
  let c1_i32_1301 : BitVec 32 := 1#32
  let v3167 : BitVec 32 := Scalar.muli c7_i32_1300 c1_i32_1301
  let v3168 : BitVec 32 := Scalar.addi c0_i32_1302 v3167
  v3168.toNat
def k0_off24 (d0 : Dev nD) : Fin 2 → Nat :=
  let c0_i32_1309 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_1298 : BitVec 32 := 128#32
  let v3166 : BitVec 32 := Scalar.muli v2 c128_i32_1298
  ![0, v3166.toNat]
def k0_dev48 : Nat :=
  let c0_i32_1308 : BitVec 32 := 0#32
  let c7_i32_1306 : BitVec 32 := 7#32
  let c1_i32_1307 : BitVec 32 := 1#32
  let v3175 : BitVec 32 := Scalar.muli c7_i32_1306 c1_i32_1307
  let v3176 : BitVec 32 := Scalar.addi c0_i32_1308 v3175
  v3176.toNat
def k0_cond41 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_441 : BitVec 32 := 8#32
  let v951 : BitVec 1 := Scalar.cmpi .ne v2 c8_i32_441
  let v952 : BitVec 32 := Scalar.extui v951
  let c0_i32_442 : BitVec 32 := 0#32
  let v953 : BitVec 1 := Scalar.cmpi .ne v952 c0_i32_442
  v953

def k0_off25 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off26 (d0 : Dev nD) : Fin 2 → Nat :=
  let c0_i32_1303 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c512_i32_1297 : BitVec 32 := 512#32
  let v3165 : BitVec 32 := Scalar.muli v2 c512_i32_1297
  ![0, v3165.toNat]
def k0_dev49 : Nat :=
  let c0_i32_1302 : BitVec 32 := 0#32
  let c8_i32_1300 : BitVec 32 := 8#32
  let c1_i32_1301 : BitVec 32 := 1#32
  let v3167 : BitVec 32 := Scalar.muli c8_i32_1300 c1_i32_1301
  let v3168 : BitVec 32 := Scalar.addi c0_i32_1302 v3167
  v3168.toNat
def k0_off27 (d0 : Dev nD) : Fin 2 → Nat :=
  let c0_i32_1309 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_1298 : BitVec 32 := 128#32
  let v3166 : BitVec 32 := Scalar.muli v2 c128_i32_1298
  ![0, v3166.toNat]
def k0_dev50 : Nat :=
  let c0_i32_1308 : BitVec 32 := 0#32
  let c8_i32_1306 : BitVec 32 := 8#32
  let c1_i32_1307 : BitVec 32 := 1#32
  let v3175 : BitVec 32 := Scalar.muli c8_i32_1306 c1_i32_1307
  let v3176 : BitVec 32 := Scalar.addi c0_i32_1308 v3175
  v3176.toNat
def k0_cond42 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_443 : BitVec 32 := 9#32
  let v954 : BitVec 1 := Scalar.cmpi .ne v2 c9_i32_443
  let v955 : BitVec 32 := Scalar.extui v954
  let c0_i32_444 : BitVec 32 := 0#32
  let v956 : BitVec 1 := Scalar.cmpi .ne v955 c0_i32_444
  v956

def k0_off28 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off29 (d0 : Dev nD) : Fin 2 → Nat :=
  let c0_i32_1303 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c512_i32_1297 : BitVec 32 := 512#32
  let v3165 : BitVec 32 := Scalar.muli v2 c512_i32_1297
  ![0, v3165.toNat]
def k0_dev51 : Nat :=
  let c0_i32_1302 : BitVec 32 := 0#32
  let c9_i32_1300 : BitVec 32 := 9#32
  let c1_i32_1301 : BitVec 32 := 1#32
  let v3167 : BitVec 32 := Scalar.muli c9_i32_1300 c1_i32_1301
  let v3168 : BitVec 32 := Scalar.addi c0_i32_1302 v3167
  v3168.toNat
def k0_off30 (d0 : Dev nD) : Fin 2 → Nat :=
  let c0_i32_1309 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_1298 : BitVec 32 := 128#32
  let v3166 : BitVec 32 := Scalar.muli v2 c128_i32_1298
  ![0, v3166.toNat]
def k0_dev52 : Nat :=
  let c0_i32_1308 : BitVec 32 := 0#32
  let c9_i32_1306 : BitVec 32 := 9#32
  let c1_i32_1307 : BitVec 32 := 1#32
  let v3175 : BitVec 32 := Scalar.muli c9_i32_1306 c1_i32_1307
  let v3176 : BitVec 32 := Scalar.addi c0_i32_1308 v3175
  v3176.toNat
def k0_cond43 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_445 : BitVec 32 := 10#32
  let v957 : BitVec 1 := Scalar.cmpi .ne v2 c10_i32_445
  let v958 : BitVec 32 := Scalar.extui v957
  let c0_i32_446 : BitVec 32 := 0#32
  let v959 : BitVec 1 := Scalar.cmpi .ne v958 c0_i32_446
  v959

def k0_off31 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off32 (d0 : Dev nD) : Fin 2 → Nat :=
  let c0_i32_1303 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c512_i32_1297 : BitVec 32 := 512#32
  let v3165 : BitVec 32 := Scalar.muli v2 c512_i32_1297
  ![0, v3165.toNat]
def k0_dev53 : Nat :=
  let c0_i32_1302 : BitVec 32 := 0#32
  let c10_i32_1300 : BitVec 32 := 10#32
  let c1_i32_1301 : BitVec 32 := 1#32
  let v3167 : BitVec 32 := Scalar.muli c10_i32_1300 c1_i32_1301
  let v3168 : BitVec 32 := Scalar.addi c0_i32_1302 v3167
  v3168.toNat
def k0_off33 (d0 : Dev nD) : Fin 2 → Nat :=
  let c0_i32_1309 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_1298 : BitVec 32 := 128#32
  let v3166 : BitVec 32 := Scalar.muli v2 c128_i32_1298
  ![0, v3166.toNat]
def k0_dev54 : Nat :=
  let c0_i32_1308 : BitVec 32 := 0#32
  let c10_i32_1306 : BitVec 32 := 10#32
  let c1_i32_1307 : BitVec 32 := 1#32
  let v3175 : BitVec 32 := Scalar.muli c10_i32_1306 c1_i32_1307
  let v3176 : BitVec 32 := Scalar.addi c0_i32_1308 v3175
  v3176.toNat
def k0_cond44 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_447 : BitVec 32 := 11#32
  let v960 : BitVec 1 := Scalar.cmpi .ne v2 c11_i32_447
  let v961 : BitVec 32 := Scalar.extui v960
  let c0_i32_448 : BitVec 32 := 0#32
  let v962 : BitVec 1 := Scalar.cmpi .ne v961 c0_i32_448
  v962

def k0_off34 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off35 (d0 : Dev nD) : Fin 2 → Nat :=
  let c0_i32_1303 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c512_i32_1297 : BitVec 32 := 512#32
  let v3165 : BitVec 32 := Scalar.muli v2 c512_i32_1297
  ![0, v3165.toNat]
def k0_dev55 : Nat :=
  let c0_i32_1302 : BitVec 32 := 0#32
  let c11_i32_1300 : BitVec 32 := 11#32
  let c1_i32_1301 : BitVec 32 := 1#32
  let v3167 : BitVec 32 := Scalar.muli c11_i32_1300 c1_i32_1301
  let v3168 : BitVec 32 := Scalar.addi c0_i32_1302 v3167
  v3168.toNat
def k0_off36 (d0 : Dev nD) : Fin 2 → Nat :=
  let c0_i32_1309 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_1298 : BitVec 32 := 128#32
  let v3166 : BitVec 32 := Scalar.muli v2 c128_i32_1298
  ![0, v3166.toNat]
def k0_dev56 : Nat :=
  let c0_i32_1308 : BitVec 32 := 0#32
  let c11_i32_1306 : BitVec 32 := 11#32
  let c1_i32_1307 : BitVec 32 := 1#32
  let v3175 : BitVec 32 := Scalar.muli c11_i32_1306 c1_i32_1307
  let v3176 : BitVec 32 := Scalar.addi c0_i32_1308 v3175
  v3176.toNat
def k0_cond45 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_449 : BitVec 32 := 12#32
  let v963 : BitVec 1 := Scalar.cmpi .ne v2 c12_i32_449
  let v964 : BitVec 32 := Scalar.extui v963
  let c0_i32_450 : BitVec 32 := 0#32
  let v965 : BitVec 1 := Scalar.cmpi .ne v964 c0_i32_450
  v965

def k0_off37 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off38 (d0 : Dev nD) : Fin 2 → Nat :=
  let c0_i32_1303 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c512_i32_1297 : BitVec 32 := 512#32
  let v3165 : BitVec 32 := Scalar.muli v2 c512_i32_1297
  ![0, v3165.toNat]
def k0_dev57 : Nat :=
  let c0_i32_1302 : BitVec 32 := 0#32
  let c12_i32_1300 : BitVec 32 := 12#32
  let c1_i32_1301 : BitVec 32 := 1#32
  let v3167 : BitVec 32 := Scalar.muli c12_i32_1300 c1_i32_1301
  let v3168 : BitVec 32 := Scalar.addi c0_i32_1302 v3167
  v3168.toNat
def k0_off39 (d0 : Dev nD) : Fin 2 → Nat :=
  let c0_i32_1309 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_1298 : BitVec 32 := 128#32
  let v3166 : BitVec 32 := Scalar.muli v2 c128_i32_1298
  ![0, v3166.toNat]
def k0_dev58 : Nat :=
  let c0_i32_1308 : BitVec 32 := 0#32
  let c12_i32_1306 : BitVec 32 := 12#32
  let c1_i32_1307 : BitVec 32 := 1#32
  let v3175 : BitVec 32 := Scalar.muli c12_i32_1306 c1_i32_1307
  let v3176 : BitVec 32 := Scalar.addi c0_i32_1308 v3175
  v3176.toNat
def k0_cond46 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_451 : BitVec 32 := 13#32
  let v966 : BitVec 1 := Scalar.cmpi .ne v2 c13_i32_451
  let v967 : BitVec 32 := Scalar.extui v966
  let c0_i32_452 : BitVec 32 := 0#32
  let v968 : BitVec 1 := Scalar.cmpi .ne v967 c0_i32_452
  v968

def k0_off40 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off41 (d0 : Dev nD) : Fin 2 → Nat :=
  let c0_i32_1303 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c512_i32_1297 : BitVec 32 := 512#32
  let v3165 : BitVec 32 := Scalar.muli v2 c512_i32_1297
  ![0, v3165.toNat]
def k0_dev59 : Nat :=
  let c0_i32_1302 : BitVec 32 := 0#32
  let c13_i32_1300 : BitVec 32 := 13#32
  let c1_i32_1301 : BitVec 32 := 1#32
  let v3167 : BitVec 32 := Scalar.muli c13_i32_1300 c1_i32_1301
  let v3168 : BitVec 32 := Scalar.addi c0_i32_1302 v3167
  v3168.toNat
def k0_off42 (d0 : Dev nD) : Fin 2 → Nat :=
  let c0_i32_1309 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_1298 : BitVec 32 := 128#32
  let v3166 : BitVec 32 := Scalar.muli v2 c128_i32_1298
  ![0, v3166.toNat]
def k0_dev60 : Nat :=
  let c0_i32_1308 : BitVec 32 := 0#32
  let c13_i32_1306 : BitVec 32 := 13#32
  let c1_i32_1307 : BitVec 32 := 1#32
  let v3175 : BitVec 32 := Scalar.muli c13_i32_1306 c1_i32_1307
  let v3176 : BitVec 32 := Scalar.addi c0_i32_1308 v3175
  v3176.toNat
def k0_cond47 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_453 : BitVec 32 := 14#32
  let v969 : BitVec 1 := Scalar.cmpi .ne v2 c14_i32_453
  let v970 : BitVec 32 := Scalar.extui v969
  let c0_i32_454 : BitVec 32 := 0#32
  let v971 : BitVec 1 := Scalar.cmpi .ne v970 c0_i32_454
  v971

def k0_off43 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off44 (d0 : Dev nD) : Fin 2 → Nat :=
  let c0_i32_1303 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c512_i32_1297 : BitVec 32 := 512#32
  let v3165 : BitVec 32 := Scalar.muli v2 c512_i32_1297
  ![0, v3165.toNat]
def k0_dev61 : Nat :=
  let c0_i32_1302 : BitVec 32 := 0#32
  let c14_i32_1300 : BitVec 32 := 14#32
  let c1_i32_1301 : BitVec 32 := 1#32
  let v3167 : BitVec 32 := Scalar.muli c14_i32_1300 c1_i32_1301
  let v3168 : BitVec 32 := Scalar.addi c0_i32_1302 v3167
  v3168.toNat
def k0_off45 (d0 : Dev nD) : Fin 2 → Nat :=
  let c0_i32_1309 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_1298 : BitVec 32 := 128#32
  let v3166 : BitVec 32 := Scalar.muli v2 c128_i32_1298
  ![0, v3166.toNat]
def k0_dev62 : Nat :=
  let c0_i32_1308 : BitVec 32 := 0#32
  let c14_i32_1306 : BitVec 32 := 14#32
  let c1_i32_1307 : BitVec 32 := 1#32
  let v3175 : BitVec 32 := Scalar.muli c14_i32_1306 c1_i32_1307
  let v3176 : BitVec 32 := Scalar.addi c0_i32_1308 v3175
  v3176.toNat
def k0_cond48 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_455 : BitVec 32 := 15#32
  let v972 : BitVec 1 := Scalar.cmpi .ne v2 c15_i32_455
  let v973 : BitVec 32 := Scalar.extui v972
  let c0_i32_456 : BitVec 32 := 0#32
  let v974 : BitVec 1 := Scalar.cmpi .ne v973 c0_i32_456
  v974

def k0_off46 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off47 (d0 : Dev nD) : Fin 2 → Nat :=
  let c0_i32_1303 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c512_i32_1297 : BitVec 32 := 512#32
  let v3165 : BitVec 32 := Scalar.muli v2 c512_i32_1297
  ![0, v3165.toNat]
def k0_dev63 : Nat :=
  let c0_i32_1302 : BitVec 32 := 0#32
  let c15_i32_1300 : BitVec 32 := 15#32
  let c1_i32_1301 : BitVec 32 := 1#32
  let v3167 : BitVec 32 := Scalar.muli c15_i32_1300 c1_i32_1301
  let v3168 : BitVec 32 := Scalar.addi c0_i32_1302 v3167
  v3168.toNat
def k0_off48 (d0 : Dev nD) : Fin 2 → Nat :=
  let c0_i32_1309 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_1298 : BitVec 32 := 128#32
  let v3166 : BitVec 32 := Scalar.muli v2 c128_i32_1298
  ![0, v3166.toNat]
def k0_dev64 : Nat :=
  let c0_i32_1308 : BitVec 32 := 0#32
  let c15_i32_1306 : BitVec 32 := 15#32
  let c1_i32_1307 : BitVec 32 := 1#32
  let v3175 : BitVec 32 := Scalar.muli c15_i32_1306 c1_i32_1307
  let v3176 : BitVec 32 := Scalar.addi c0_i32_1308 v3175
  v3176.toNat
def k0_cond49 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_660 : BitVec 32 := 16#32
  let v1387 : BitVec 1 := Scalar.cmpi .ne v2 c16_i32_660
  let v1388 : BitVec 32 := Scalar.extui v1387
  let c0_i32_661 : BitVec 32 := 0#32
  let v1389 : BitVec 1 := Scalar.cmpi .ne v1388 c0_i32_661
  v1389

def k0_off49 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off50 (d0 : Dev nD) : Fin 2 → Nat :=
  let c0_i32_1303 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c512_i32_1297 : BitVec 32 := 512#32
  let v3165 : BitVec 32 := Scalar.muli v2 c512_i32_1297
  ![0, v3165.toNat]
def k0_dev65 : Nat :=
  let c0_i32_1302 : BitVec 32 := 0#32
  let c16_i32_1300 : BitVec 32 := 16#32
  let c1_i32_1301 : BitVec 32 := 1#32
  let v3167 : BitVec 32 := Scalar.muli c16_i32_1300 c1_i32_1301
  let v3168 : BitVec 32 := Scalar.addi c0_i32_1302 v3167
  v3168.toNat
def k0_off51 (d0 : Dev nD) : Fin 2 → Nat :=
  let c0_i32_1309 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_1298 : BitVec 32 := 128#32
  let v3166 : BitVec 32 := Scalar.muli v2 c128_i32_1298
  ![0, v3166.toNat]
def k0_dev66 : Nat :=
  let c0_i32_1308 : BitVec 32 := 0#32
  let c16_i32_1306 : BitVec 32 := 16#32
  let c1_i32_1307 : BitVec 32 := 1#32
  let v3175 : BitVec 32 := Scalar.muli c16_i32_1306 c1_i32_1307
  let v3176 : BitVec 32 := Scalar.addi c0_i32_1308 v3175
  v3176.toNat
def k0_cond50 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_662 : BitVec 32 := 17#32
  let v1390 : BitVec 1 := Scalar.cmpi .ne v2 c17_i32_662
  let v1391 : BitVec 32 := Scalar.extui v1390
  let c0_i32_663 : BitVec 32 := 0#32
  let v1392 : BitVec 1 := Scalar.cmpi .ne v1391 c0_i32_663
  v1392

def k0_off52 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off53 (d0 : Dev nD) : Fin 2 → Nat :=
  let c0_i32_1303 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c512_i32_1297 : BitVec 32 := 512#32
  let v3165 : BitVec 32 := Scalar.muli v2 c512_i32_1297
  ![0, v3165.toNat]
def k0_dev67 : Nat :=
  let c0_i32_1302 : BitVec 32 := 0#32
  let c17_i32_1300 : BitVec 32 := 17#32
  let c1_i32_1301 : BitVec 32 := 1#32
  let v3167 : BitVec 32 := Scalar.muli c17_i32_1300 c1_i32_1301
  let v3168 : BitVec 32 := Scalar.addi c0_i32_1302 v3167
  v3168.toNat
def k0_off54 (d0 : Dev nD) : Fin 2 → Nat :=
  let c0_i32_1309 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_1298 : BitVec 32 := 128#32
  let v3166 : BitVec 32 := Scalar.muli v2 c128_i32_1298
  ![0, v3166.toNat]
def k0_dev68 : Nat :=
  let c0_i32_1308 : BitVec 32 := 0#32
  let c17_i32_1306 : BitVec 32 := 17#32
  let c1_i32_1307 : BitVec 32 := 1#32
  let v3175 : BitVec 32 := Scalar.muli c17_i32_1306 c1_i32_1307
  let v3176 : BitVec 32 := Scalar.addi c0_i32_1308 v3175
  v3176.toNat
def k0_cond51 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_664 : BitVec 32 := 18#32
  let v1393 : BitVec 1 := Scalar.cmpi .ne v2 c18_i32_664
  let v1394 : BitVec 32 := Scalar.extui v1393
  let c0_i32_665 : BitVec 32 := 0#32
  let v1395 : BitVec 1 := Scalar.cmpi .ne v1394 c0_i32_665
  v1395

def k0_off55 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off56 (d0 : Dev nD) : Fin 2 → Nat :=
  let c0_i32_1303 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c512_i32_1297 : BitVec 32 := 512#32
  let v3165 : BitVec 32 := Scalar.muli v2 c512_i32_1297
  ![0, v3165.toNat]
def k0_dev69 : Nat :=
  let c0_i32_1302 : BitVec 32 := 0#32
  let c18_i32_1300 : BitVec 32 := 18#32
  let c1_i32_1301 : BitVec 32 := 1#32
  let v3167 : BitVec 32 := Scalar.muli c18_i32_1300 c1_i32_1301
  let v3168 : BitVec 32 := Scalar.addi c0_i32_1302 v3167
  v3168.toNat
def k0_off57 (d0 : Dev nD) : Fin 2 → Nat :=
  let c0_i32_1309 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_1298 : BitVec 32 := 128#32
  let v3166 : BitVec 32 := Scalar.muli v2 c128_i32_1298
  ![0, v3166.toNat]
def k0_dev70 : Nat :=
  let c0_i32_1308 : BitVec 32 := 0#32
  let c18_i32_1306 : BitVec 32 := 18#32
  let c1_i32_1307 : BitVec 32 := 1#32
  let v3175 : BitVec 32 := Scalar.muli c18_i32_1306 c1_i32_1307
  let v3176 : BitVec 32 := Scalar.addi c0_i32_1308 v3175
  v3176.toNat
def k0_cond52 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_666 : BitVec 32 := 19#32
  let v1396 : BitVec 1 := Scalar.cmpi .ne v2 c19_i32_666
  let v1397 : BitVec 32 := Scalar.extui v1396
  let c0_i32_667 : BitVec 32 := 0#32
  let v1398 : BitVec 1 := Scalar.cmpi .ne v1397 c0_i32_667
  v1398

def k0_off58 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off59 (d0 : Dev nD) : Fin 2 → Nat :=
  let c0_i32_1303 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c512_i32_1297 : BitVec 32 := 512#32
  let v3165 : BitVec 32 := Scalar.muli v2 c512_i32_1297
  ![0, v3165.toNat]
def k0_dev71 : Nat :=
  let c0_i32_1302 : BitVec 32 := 0#32
  let c19_i32_1300 : BitVec 32 := 19#32
  let c1_i32_1301 : BitVec 32 := 1#32
  let v3167 : BitVec 32 := Scalar.muli c19_i32_1300 c1_i32_1301
  let v3168 : BitVec 32 := Scalar.addi c0_i32_1302 v3167
  v3168.toNat
def k0_off60 (d0 : Dev nD) : Fin 2 → Nat :=
  let c0_i32_1309 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_1298 : BitVec 32 := 128#32
  let v3166 : BitVec 32 := Scalar.muli v2 c128_i32_1298
  ![0, v3166.toNat]
def k0_dev72 : Nat :=
  let c0_i32_1308 : BitVec 32 := 0#32
  let c19_i32_1306 : BitVec 32 := 19#32
  let c1_i32_1307 : BitVec 32 := 1#32
  let v3175 : BitVec 32 := Scalar.muli c19_i32_1306 c1_i32_1307
  let v3176 : BitVec 32 := Scalar.addi c0_i32_1308 v3175
  v3176.toNat
def k0_cond53 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_668 : BitVec 32 := 20#32
  let v1399 : BitVec 1 := Scalar.cmpi .ne v2 c20_i32_668
  let v1400 : BitVec 32 := Scalar.extui v1399
  let c0_i32_669 : BitVec 32 := 0#32
  let v1401 : BitVec 1 := Scalar.cmpi .ne v1400 c0_i32_669
  v1401

def k0_off61 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off62 (d0 : Dev nD) : Fin 2 → Nat :=
  let c0_i32_1303 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c512_i32_1297 : BitVec 32 := 512#32
  let v3165 : BitVec 32 := Scalar.muli v2 c512_i32_1297
  ![0, v3165.toNat]
def k0_dev73 : Nat :=
  let c0_i32_1302 : BitVec 32 := 0#32
  let c20_i32_1300 : BitVec 32 := 20#32
  let c1_i32_1301 : BitVec 32 := 1#32
  let v3167 : BitVec 32 := Scalar.muli c20_i32_1300 c1_i32_1301
  let v3168 : BitVec 32 := Scalar.addi c0_i32_1302 v3167
  v3168.toNat
def k0_off63 (d0 : Dev nD) : Fin 2 → Nat :=
  let c0_i32_1309 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_1298 : BitVec 32 := 128#32
  let v3166 : BitVec 32 := Scalar.muli v2 c128_i32_1298
  ![0, v3166.toNat]
def k0_dev74 : Nat :=
  let c0_i32_1308 : BitVec 32 := 0#32
  let c20_i32_1306 : BitVec 32 := 20#32
  let c1_i32_1307 : BitVec 32 := 1#32
  let v3175 : BitVec 32 := Scalar.muli c20_i32_1306 c1_i32_1307
  let v3176 : BitVec 32 := Scalar.addi c0_i32_1308 v3175
  v3176.toNat
def k0_cond54 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_670 : BitVec 32 := 21#32
  let v1402 : BitVec 1 := Scalar.cmpi .ne v2 c21_i32_670
  let v1403 : BitVec 32 := Scalar.extui v1402
  let c0_i32_671 : BitVec 32 := 0#32
  let v1404 : BitVec 1 := Scalar.cmpi .ne v1403 c0_i32_671
  v1404

def k0_off64 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off65 (d0 : Dev nD) : Fin 2 → Nat :=
  let c0_i32_1303 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c512_i32_1297 : BitVec 32 := 512#32
  let v3165 : BitVec 32 := Scalar.muli v2 c512_i32_1297
  ![0, v3165.toNat]
def k0_dev75 : Nat :=
  let c0_i32_1302 : BitVec 32 := 0#32
  let c21_i32_1300 : BitVec 32 := 21#32
  let c1_i32_1301 : BitVec 32 := 1#32
  let v3167 : BitVec 32 := Scalar.muli c21_i32_1300 c1_i32_1301
  let v3168 : BitVec 32 := Scalar.addi c0_i32_1302 v3167
  v3168.toNat
def k0_off66 (d0 : Dev nD) : Fin 2 → Nat :=
  let c0_i32_1309 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_1298 : BitVec 32 := 128#32
  let v3166 : BitVec 32 := Scalar.muli v2 c128_i32_1298
  ![0, v3166.toNat]
def k0_dev76 : Nat :=
  let c0_i32_1308 : BitVec 32 := 0#32
  let c21_i32_1306 : BitVec 32 := 21#32
  let c1_i32_1307 : BitVec 32 := 1#32
  let v3175 : BitVec 32 := Scalar.muli c21_i32_1306 c1_i32_1307
  let v3176 : BitVec 32 := Scalar.addi c0_i32_1308 v3175
  v3176.toNat
def k0_cond55 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_672 : BitVec 32 := 22#32
  let v1405 : BitVec 1 := Scalar.cmpi .ne v2 c22_i32_672
  let v1406 : BitVec 32 := Scalar.extui v1405
  let c0_i32_673 : BitVec 32 := 0#32
  let v1407 : BitVec 1 := Scalar.cmpi .ne v1406 c0_i32_673
  v1407

def k0_off67 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off68 (d0 : Dev nD) : Fin 2 → Nat :=
  let c0_i32_1303 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c512_i32_1297 : BitVec 32 := 512#32
  let v3165 : BitVec 32 := Scalar.muli v2 c512_i32_1297
  ![0, v3165.toNat]
def k0_dev77 : Nat :=
  let c0_i32_1302 : BitVec 32 := 0#32
  let c22_i32_1300 : BitVec 32 := 22#32
  let c1_i32_1301 : BitVec 32 := 1#32
  let v3167 : BitVec 32 := Scalar.muli c22_i32_1300 c1_i32_1301
  let v3168 : BitVec 32 := Scalar.addi c0_i32_1302 v3167
  v3168.toNat
def k0_off69 (d0 : Dev nD) : Fin 2 → Nat :=
  let c0_i32_1309 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_1298 : BitVec 32 := 128#32
  let v3166 : BitVec 32 := Scalar.muli v2 c128_i32_1298
  ![0, v3166.toNat]
def k0_dev78 : Nat :=
  let c0_i32_1308 : BitVec 32 := 0#32
  let c22_i32_1306 : BitVec 32 := 22#32
  let c1_i32_1307 : BitVec 32 := 1#32
  let v3175 : BitVec 32 := Scalar.muli c22_i32_1306 c1_i32_1307
  let v3176 : BitVec 32 := Scalar.addi c0_i32_1308 v3175
  v3176.toNat
def k0_cond56 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_674 : BitVec 32 := 23#32
  let v1408 : BitVec 1 := Scalar.cmpi .ne v2 c23_i32_674
  let v1409 : BitVec 32 := Scalar.extui v1408
  let c0_i32_675 : BitVec 32 := 0#32
  let v1410 : BitVec 1 := Scalar.cmpi .ne v1409 c0_i32_675
  v1410

def k0_off70 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off71 (d0 : Dev nD) : Fin 2 → Nat :=
  let c0_i32_1303 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c512_i32_1297 : BitVec 32 := 512#32
  let v3165 : BitVec 32 := Scalar.muli v2 c512_i32_1297
  ![0, v3165.toNat]
def k0_dev79 : Nat :=
  let c0_i32_1302 : BitVec 32 := 0#32
  let c23_i32_1300 : BitVec 32 := 23#32
  let c1_i32_1301 : BitVec 32 := 1#32
  let v3167 : BitVec 32 := Scalar.muli c23_i32_1300 c1_i32_1301
  let v3168 : BitVec 32 := Scalar.addi c0_i32_1302 v3167
  v3168.toNat
def k0_off72 (d0 : Dev nD) : Fin 2 → Nat :=
  let c0_i32_1309 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_1298 : BitVec 32 := 128#32
  let v3166 : BitVec 32 := Scalar.muli v2 c128_i32_1298
  ![0, v3166.toNat]
def k0_dev80 : Nat :=
  let c0_i32_1308 : BitVec 32 := 0#32
  let c23_i32_1306 : BitVec 32 := 23#32
  let c1_i32_1307 : BitVec 32 := 1#32
  let v3175 : BitVec 32 := Scalar.muli c23_i32_1306 c1_i32_1307
  let v3176 : BitVec 32 := Scalar.addi c0_i32_1308 v3175
  v3176.toNat
def k0_cond57 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_878 : BitVec 32 := 24#32
  let v1823 : BitVec 1 := Scalar.cmpi .ne v2 c24_i32_878
  let v1824 : BitVec 32 := Scalar.extui v1823
  let c0_i32_879 : BitVec 32 := 0#32
  let v1825 : BitVec 1 := Scalar.cmpi .ne v1824 c0_i32_879
  v1825

def k0_off73 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off74 (d0 : Dev nD) : Fin 2 → Nat :=
  let c0_i32_1303 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c512_i32_1297 : BitVec 32 := 512#32
  let v3165 : BitVec 32 := Scalar.muli v2 c512_i32_1297
  ![0, v3165.toNat]
def k0_dev81 : Nat :=
  let c0_i32_1302 : BitVec 32 := 0#32
  let c24_i32_1300 : BitVec 32 := 24#32
  let c1_i32_1301 : BitVec 32 := 1#32
  let v3167 : BitVec 32 := Scalar.muli c24_i32_1300 c1_i32_1301
  let v3168 : BitVec 32 := Scalar.addi c0_i32_1302 v3167
  v3168.toNat
def k0_off75 (d0 : Dev nD) : Fin 2 → Nat :=
  let c0_i32_1309 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_1298 : BitVec 32 := 128#32
  let v3166 : BitVec 32 := Scalar.muli v2 c128_i32_1298
  ![0, v3166.toNat]
def k0_dev82 : Nat :=
  let c0_i32_1308 : BitVec 32 := 0#32
  let c24_i32_1306 : BitVec 32 := 24#32
  let c1_i32_1307 : BitVec 32 := 1#32
  let v3175 : BitVec 32 := Scalar.muli c24_i32_1306 c1_i32_1307
  let v3176 : BitVec 32 := Scalar.addi c0_i32_1308 v3175
  v3176.toNat
def k0_cond58 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_880 : BitVec 32 := 25#32
  let v1826 : BitVec 1 := Scalar.cmpi .ne v2 c25_i32_880
  let v1827 : BitVec 32 := Scalar.extui v1826
  let c0_i32_881 : BitVec 32 := 0#32
  let v1828 : BitVec 1 := Scalar.cmpi .ne v1827 c0_i32_881
  v1828

def k0_off76 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off77 (d0 : Dev nD) : Fin 2 → Nat :=
  let c0_i32_1303 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c512_i32_1297 : BitVec 32 := 512#32
  let v3165 : BitVec 32 := Scalar.muli v2 c512_i32_1297
  ![0, v3165.toNat]
def k0_dev83 : Nat :=
  let c0_i32_1302 : BitVec 32 := 0#32
  let c25_i32_1300 : BitVec 32 := 25#32
  let c1_i32_1301 : BitVec 32 := 1#32
  let v3167 : BitVec 32 := Scalar.muli c25_i32_1300 c1_i32_1301
  let v3168 : BitVec 32 := Scalar.addi c0_i32_1302 v3167
  v3168.toNat
def k0_off78 (d0 : Dev nD) : Fin 2 → Nat :=
  let c0_i32_1309 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_1298 : BitVec 32 := 128#32
  let v3166 : BitVec 32 := Scalar.muli v2 c128_i32_1298
  ![0, v3166.toNat]
def k0_dev84 : Nat :=
  let c0_i32_1308 : BitVec 32 := 0#32
  let c25_i32_1306 : BitVec 32 := 25#32
  let c1_i32_1307 : BitVec 32 := 1#32
  let v3175 : BitVec 32 := Scalar.muli c25_i32_1306 c1_i32_1307
  let v3176 : BitVec 32 := Scalar.addi c0_i32_1308 v3175
  v3176.toNat
def k0_cond59 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_882 : BitVec 32 := 26#32
  let v1829 : BitVec 1 := Scalar.cmpi .ne v2 c26_i32_882
  let v1830 : BitVec 32 := Scalar.extui v1829
  let c0_i32_883 : BitVec 32 := 0#32
  let v1831 : BitVec 1 := Scalar.cmpi .ne v1830 c0_i32_883
  v1831

def k0_off79 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off80 (d0 : Dev nD) : Fin 2 → Nat :=
  let c0_i32_1303 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c512_i32_1297 : BitVec 32 := 512#32
  let v3165 : BitVec 32 := Scalar.muli v2 c512_i32_1297
  ![0, v3165.toNat]
def k0_dev85 : Nat :=
  let c0_i32_1302 : BitVec 32 := 0#32
  let c26_i32_1300 : BitVec 32 := 26#32
  let c1_i32_1301 : BitVec 32 := 1#32
  let v3167 : BitVec 32 := Scalar.muli c26_i32_1300 c1_i32_1301
  let v3168 : BitVec 32 := Scalar.addi c0_i32_1302 v3167
  v3168.toNat
def k0_off81 (d0 : Dev nD) : Fin 2 → Nat :=
  let c0_i32_1309 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_1298 : BitVec 32 := 128#32
  let v3166 : BitVec 32 := Scalar.muli v2 c128_i32_1298
  ![0, v3166.toNat]
def k0_dev86 : Nat :=
  let c0_i32_1308 : BitVec 32 := 0#32
  let c26_i32_1306 : BitVec 32 := 26#32
  let c1_i32_1307 : BitVec 32 := 1#32
  let v3175 : BitVec 32 := Scalar.muli c26_i32_1306 c1_i32_1307
  let v3176 : BitVec 32 := Scalar.addi c0_i32_1308 v3175
  v3176.toNat
def k0_cond60 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_884 : BitVec 32 := 27#32
  let v1832 : BitVec 1 := Scalar.cmpi .ne v2 c27_i32_884
  let v1833 : BitVec 32 := Scalar.extui v1832
  let c0_i32_885 : BitVec 32 := 0#32
  let v1834 : BitVec 1 := Scalar.cmpi .ne v1833 c0_i32_885
  v1834

def k0_off82 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off83 (d0 : Dev nD) : Fin 2 → Nat :=
  let c0_i32_1303 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c512_i32_1297 : BitVec 32 := 512#32
  let v3165 : BitVec 32 := Scalar.muli v2 c512_i32_1297
  ![0, v3165.toNat]
def k0_dev87 : Nat :=
  let c0_i32_1302 : BitVec 32 := 0#32
  let c27_i32_1300 : BitVec 32 := 27#32
  let c1_i32_1301 : BitVec 32 := 1#32
  let v3167 : BitVec 32 := Scalar.muli c27_i32_1300 c1_i32_1301
  let v3168 : BitVec 32 := Scalar.addi c0_i32_1302 v3167
  v3168.toNat
def k0_off84 (d0 : Dev nD) : Fin 2 → Nat :=
  let c0_i32_1309 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_1298 : BitVec 32 := 128#32
  let v3166 : BitVec 32 := Scalar.muli v2 c128_i32_1298
  ![0, v3166.toNat]
def k0_dev88 : Nat :=
  let c0_i32_1308 : BitVec 32 := 0#32
  let c27_i32_1306 : BitVec 32 := 27#32
  let c1_i32_1307 : BitVec 32 := 1#32
  let v3175 : BitVec 32 := Scalar.muli c27_i32_1306 c1_i32_1307
  let v3176 : BitVec 32 := Scalar.addi c0_i32_1308 v3175
  v3176.toNat
def k0_cond61 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_886 : BitVec 32 := 28#32
  let v1835 : BitVec 1 := Scalar.cmpi .ne v2 c28_i32_886
  let v1836 : BitVec 32 := Scalar.extui v1835
  let c0_i32_887 : BitVec 32 := 0#32
  let v1837 : BitVec 1 := Scalar.cmpi .ne v1836 c0_i32_887
  v1837

def k0_off85 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off86 (d0 : Dev nD) : Fin 2 → Nat :=
  let c0_i32_1303 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c512_i32_1297 : BitVec 32 := 512#32
  let v3165 : BitVec 32 := Scalar.muli v2 c512_i32_1297
  ![0, v3165.toNat]
def k0_dev89 : Nat :=
  let c0_i32_1302 : BitVec 32 := 0#32
  let c28_i32_1300 : BitVec 32 := 28#32
  let c1_i32_1301 : BitVec 32 := 1#32
  let v3167 : BitVec 32 := Scalar.muli c28_i32_1300 c1_i32_1301
  let v3168 : BitVec 32 := Scalar.addi c0_i32_1302 v3167
  v3168.toNat
def k0_off87 (d0 : Dev nD) : Fin 2 → Nat :=
  let c0_i32_1309 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_1298 : BitVec 32 := 128#32
  let v3166 : BitVec 32 := Scalar.muli v2 c128_i32_1298
  ![0, v3166.toNat]
def k0_dev90 : Nat :=
  let c0_i32_1308 : BitVec 32 := 0#32
  let c28_i32_1306 : BitVec 32 := 28#32
  let c1_i32_1307 : BitVec 32 := 1#32
  let v3175 : BitVec 32 := Scalar.muli c28_i32_1306 c1_i32_1307
  let v3176 : BitVec 32 := Scalar.addi c0_i32_1308 v3175
  v3176.toNat
def k0_cond62 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_888 : BitVec 32 := 29#32
  let v1838 : BitVec 1 := Scalar.cmpi .ne v2 c29_i32_888
  let v1839 : BitVec 32 := Scalar.extui v1838
  let c0_i32_889 : BitVec 32 := 0#32
  let v1840 : BitVec 1 := Scalar.cmpi .ne v1839 c0_i32_889
  v1840

def k0_off88 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off89 (d0 : Dev nD) : Fin 2 → Nat :=
  let c0_i32_1303 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c512_i32_1297 : BitVec 32 := 512#32
  let v3165 : BitVec 32 := Scalar.muli v2 c512_i32_1297
  ![0, v3165.toNat]
def k0_dev91 : Nat :=
  let c0_i32_1302 : BitVec 32 := 0#32
  let c29_i32_1300 : BitVec 32 := 29#32
  let c1_i32_1301 : BitVec 32 := 1#32
  let v3167 : BitVec 32 := Scalar.muli c29_i32_1300 c1_i32_1301
  let v3168 : BitVec 32 := Scalar.addi c0_i32_1302 v3167
  v3168.toNat
def k0_off90 (d0 : Dev nD) : Fin 2 → Nat :=
  let c0_i32_1309 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_1298 : BitVec 32 := 128#32
  let v3166 : BitVec 32 := Scalar.muli v2 c128_i32_1298
  ![0, v3166.toNat]
def k0_dev92 : Nat :=
  let c0_i32_1308 : BitVec 32 := 0#32
  let c29_i32_1306 : BitVec 32 := 29#32
  let c1_i32_1307 : BitVec 32 := 1#32
  let v3175 : BitVec 32 := Scalar.muli c29_i32_1306 c1_i32_1307
  let v3176 : BitVec 32 := Scalar.addi c0_i32_1308 v3175
  v3176.toNat
def k0_cond63 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_890 : BitVec 32 := 30#32
  let v1841 : BitVec 1 := Scalar.cmpi .ne v2 c30_i32_890
  let v1842 : BitVec 32 := Scalar.extui v1841
  let c0_i32_891 : BitVec 32 := 0#32
  let v1843 : BitVec 1 := Scalar.cmpi .ne v1842 c0_i32_891
  v1843

def k0_off91 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off92 (d0 : Dev nD) : Fin 2 → Nat :=
  let c0_i32_1303 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c512_i32_1297 : BitVec 32 := 512#32
  let v3165 : BitVec 32 := Scalar.muli v2 c512_i32_1297
  ![0, v3165.toNat]
def k0_dev93 : Nat :=
  let c0_i32_1302 : BitVec 32 := 0#32
  let c30_i32_1300 : BitVec 32 := 30#32
  let c1_i32_1301 : BitVec 32 := 1#32
  let v3167 : BitVec 32 := Scalar.muli c30_i32_1300 c1_i32_1301
  let v3168 : BitVec 32 := Scalar.addi c0_i32_1302 v3167
  v3168.toNat
def k0_off93 (d0 : Dev nD) : Fin 2 → Nat :=
  let c0_i32_1309 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_1298 : BitVec 32 := 128#32
  let v3166 : BitVec 32 := Scalar.muli v2 c128_i32_1298
  ![0, v3166.toNat]
def k0_dev94 : Nat :=
  let c0_i32_1308 : BitVec 32 := 0#32
  let c30_i32_1306 : BitVec 32 := 30#32
  let c1_i32_1307 : BitVec 32 := 1#32
  let v3175 : BitVec 32 := Scalar.muli c30_i32_1306 c1_i32_1307
  let v3176 : BitVec 32 := Scalar.addi c0_i32_1308 v3175
  v3176.toNat
def k0_cond64 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_892 : BitVec 32 := 31#32
  let v1844 : BitVec 1 := Scalar.cmpi .ne v2 c31_i32_892
  let v1845 : BitVec 32 := Scalar.extui v1844
  let c0_i32_893 : BitVec 32 := 0#32
  let v1846 : BitVec 1 := Scalar.cmpi .ne v1845 c0_i32_893
  v1846

def k0_off94 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off95 (d0 : Dev nD) : Fin 2 → Nat :=
  let c0_i32_1303 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c512_i32_1297 : BitVec 32 := 512#32
  let v3165 : BitVec 32 := Scalar.muli v2 c512_i32_1297
  ![0, v3165.toNat]
def k0_dev95 : Nat :=
  let c0_i32_1302 : BitVec 32 := 0#32
  let c31_i32_1300 : BitVec 32 := 31#32
  let c1_i32_1301 : BitVec 32 := 1#32
  let v3167 : BitVec 32 := Scalar.muli c31_i32_1300 c1_i32_1301
  let v3168 : BitVec 32 := Scalar.addi c0_i32_1302 v3167
  v3168.toNat
def k0_off96 (d0 : Dev nD) : Fin 2 → Nat :=
  let c0_i32_1309 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_1298 : BitVec 32 := 128#32
  let v3166 : BitVec 32 := Scalar.muli v2 c128_i32_1298
  ![0, v3166.toNat]
def k0_dev96 : Nat :=
  let c0_i32_1308 : BitVec 32 := 0#32
  let c31_i32_1306 : BitVec 32 := 31#32
  let c1_i32_1307 : BitVec 32 := 1#32
  let v3175 : BitVec 32 := Scalar.muli c31_i32_1306 c1_i32_1307
  let v3176 : BitVec 32 := Scalar.addi c0_i32_1308 v3175
  v3176.toNat
def k0_off97 (d0 : Dev nD) : Fin 2 → Nat :=
  let c0_894 : Index := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c512_i32 : BitVec 32 := 512#32
  let v1847 : BitVec 32 := Scalar.muli v2 c512_i32
  let v1848 : Index := Scalar.indexCast v1847
  ![0, v1848.toNat]
def k0_off98 (d0 : Dev nD) : Fin 2 → Nat :=
  let c0_897 : Index := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32 : BitVec 32 := 128#32
  let v1855 : BitVec 32 := Scalar.muli v2 c128_i32
  let v1856 : Index := Scalar.indexCast v1855
  ![0, v1856.toNat]
def k0_cond97 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1094 : BitVec 32 := 0#32
  let v2860 : BitVec 1 := Scalar.cmpi .ne v2 c0_i32_1094
  let v2861 : BitVec 32 := Scalar.extui v2860
  let c0_i32_1095 : BitVec 32 := 0#32
  let v2862 : BitVec 1 := Scalar.cmpi .ne v2861 c0_i32_1095
  v2862

def k0_off99 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off100 (d0 : Dev nD) : Fin 2 → Nat :=
  let c0_i32_1302 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c512_i32_1297 : BitVec 32 := 512#32
  let v3165 : BitVec 32 := Scalar.muli v2 c512_i32_1297
  ![0, v3165.toNat]
def k0_dev97 : Nat :=
  let c0_i32_1301 : BitVec 32 := 0#32
  let c0_i32_1299 : BitVec 32 := 0#32
  let c1_i32_1300 : BitVec 32 := 1#32
  let v3166 : BitVec 32 := Scalar.muli c0_i32_1299 c1_i32_1300
  let v3167 : BitVec 32 := Scalar.addi c0_i32_1301 v3166
  v3167.toNat
def k0_cond98 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1096 : BitVec 32 := 1#32
  let v2863 : BitVec 1 := Scalar.cmpi .ne v2 c1_i32_1096
  let v2864 : BitVec 32 := Scalar.extui v2863
  let c0_i32_1097 : BitVec 32 := 0#32
  let v2865 : BitVec 1 := Scalar.cmpi .ne v2864 c0_i32_1097
  v2865

def k0_off101 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off102 (d0 : Dev nD) : Fin 2 → Nat :=
  let c0_i32_1302 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c512_i32_1297 : BitVec 32 := 512#32
  let v3165 : BitVec 32 := Scalar.muli v2 c512_i32_1297
  ![0, v3165.toNat]
def k0_dev98 : Nat :=
  let c0_i32_1301 : BitVec 32 := 0#32
  let c1_i32_1299 : BitVec 32 := 1#32
  let c1_i32_1300 : BitVec 32 := 1#32
  let v3166 : BitVec 32 := Scalar.muli c1_i32_1299 c1_i32_1300
  let v3167 : BitVec 32 := Scalar.addi c0_i32_1301 v3166
  v3167.toNat
def k0_cond99 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_1098 : BitVec 32 := 2#32
  let v2866 : BitVec 1 := Scalar.cmpi .ne v2 c2_i32_1098
  let v2867 : BitVec 32 := Scalar.extui v2866
  let c0_i32_1099 : BitVec 32 := 0#32
  let v2868 : BitVec 1 := Scalar.cmpi .ne v2867 c0_i32_1099
  v2868

def k0_off103 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off104 (d0 : Dev nD) : Fin 2 → Nat :=
  let c0_i32_1302 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c512_i32_1297 : BitVec 32 := 512#32
  let v3165 : BitVec 32 := Scalar.muli v2 c512_i32_1297
  ![0, v3165.toNat]
def k0_dev99 : Nat :=
  let c0_i32_1301 : BitVec 32 := 0#32
  let c2_i32_1299 : BitVec 32 := 2#32
  let c1_i32_1300 : BitVec 32 := 1#32
  let v3166 : BitVec 32 := Scalar.muli c2_i32_1299 c1_i32_1300
  let v3167 : BitVec 32 := Scalar.addi c0_i32_1301 v3166
  v3167.toNat
def k0_cond100 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_1100 : BitVec 32 := 3#32
  let v2869 : BitVec 1 := Scalar.cmpi .ne v2 c3_i32_1100
  let v2870 : BitVec 32 := Scalar.extui v2869
  let c0_i32_1101 : BitVec 32 := 0#32
  let v2871 : BitVec 1 := Scalar.cmpi .ne v2870 c0_i32_1101
  v2871

def k0_off105 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off106 (d0 : Dev nD) : Fin 2 → Nat :=
  let c0_i32_1302 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c512_i32_1297 : BitVec 32 := 512#32
  let v3165 : BitVec 32 := Scalar.muli v2 c512_i32_1297
  ![0, v3165.toNat]
def k0_dev100 : Nat :=
  let c0_i32_1301 : BitVec 32 := 0#32
  let c3_i32_1299 : BitVec 32 := 3#32
  let c1_i32_1300 : BitVec 32 := 1#32
  let v3166 : BitVec 32 := Scalar.muli c3_i32_1299 c1_i32_1300
  let v3167 : BitVec 32 := Scalar.addi c0_i32_1301 v3166
  v3167.toNat
def k0_cond101 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_1102 : BitVec 32 := 4#32
  let v2872 : BitVec 1 := Scalar.cmpi .ne v2 c4_i32_1102
  let v2873 : BitVec 32 := Scalar.extui v2872
  let c0_i32_1103 : BitVec 32 := 0#32
  let v2874 : BitVec 1 := Scalar.cmpi .ne v2873 c0_i32_1103
  v2874

def k0_off107 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off108 (d0 : Dev nD) : Fin 2 → Nat :=
  let c0_i32_1302 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c512_i32_1297 : BitVec 32 := 512#32
  let v3165 : BitVec 32 := Scalar.muli v2 c512_i32_1297
  ![0, v3165.toNat]
def k0_dev101 : Nat :=
  let c0_i32_1301 : BitVec 32 := 0#32
  let c4_i32_1299 : BitVec 32 := 4#32
  let c1_i32_1300 : BitVec 32 := 1#32
  let v3166 : BitVec 32 := Scalar.muli c4_i32_1299 c1_i32_1300
  let v3167 : BitVec 32 := Scalar.addi c0_i32_1301 v3166
  v3167.toNat
def k0_cond102 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_1104 : BitVec 32 := 5#32
  let v2875 : BitVec 1 := Scalar.cmpi .ne v2 c5_i32_1104
  let v2876 : BitVec 32 := Scalar.extui v2875
  let c0_i32_1105 : BitVec 32 := 0#32
  let v2877 : BitVec 1 := Scalar.cmpi .ne v2876 c0_i32_1105
  v2877

def k0_off109 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off110 (d0 : Dev nD) : Fin 2 → Nat :=
  let c0_i32_1302 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c512_i32_1297 : BitVec 32 := 512#32
  let v3165 : BitVec 32 := Scalar.muli v2 c512_i32_1297
  ![0, v3165.toNat]
def k0_dev102 : Nat :=
  let c0_i32_1301 : BitVec 32 := 0#32
  let c5_i32_1299 : BitVec 32 := 5#32
  let c1_i32_1300 : BitVec 32 := 1#32
  let v3166 : BitVec 32 := Scalar.muli c5_i32_1299 c1_i32_1300
  let v3167 : BitVec 32 := Scalar.addi c0_i32_1301 v3166
  v3167.toNat
def k0_cond103 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_1106 : BitVec 32 := 6#32
  let v2878 : BitVec 1 := Scalar.cmpi .ne v2 c6_i32_1106
  let v2879 : BitVec 32 := Scalar.extui v2878
  let c0_i32_1107 : BitVec 32 := 0#32
  let v2880 : BitVec 1 := Scalar.cmpi .ne v2879 c0_i32_1107
  v2880

def k0_off111 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off112 (d0 : Dev nD) : Fin 2 → Nat :=
  let c0_i32_1302 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c512_i32_1297 : BitVec 32 := 512#32
  let v3165 : BitVec 32 := Scalar.muli v2 c512_i32_1297
  ![0, v3165.toNat]
def k0_dev103 : Nat :=
  let c0_i32_1301 : BitVec 32 := 0#32
  let c6_i32_1299 : BitVec 32 := 6#32
  let c1_i32_1300 : BitVec 32 := 1#32
  let v3166 : BitVec 32 := Scalar.muli c6_i32_1299 c1_i32_1300
  let v3167 : BitVec 32 := Scalar.addi c0_i32_1301 v3166
  v3167.toNat
def k0_cond104 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_1108 : BitVec 32 := 7#32
  let v2881 : BitVec 1 := Scalar.cmpi .ne v2 c7_i32_1108
  let v2882 : BitVec 32 := Scalar.extui v2881
  let c0_i32_1109 : BitVec 32 := 0#32
  let v2883 : BitVec 1 := Scalar.cmpi .ne v2882 c0_i32_1109
  v2883

def k0_off113 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off114 (d0 : Dev nD) : Fin 2 → Nat :=
  let c0_i32_1302 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c512_i32_1297 : BitVec 32 := 512#32
  let v3165 : BitVec 32 := Scalar.muli v2 c512_i32_1297
  ![0, v3165.toNat]
def k0_dev104 : Nat :=
  let c0_i32_1301 : BitVec 32 := 0#32
  let c7_i32_1299 : BitVec 32 := 7#32
  let c1_i32_1300 : BitVec 32 := 1#32
  let v3166 : BitVec 32 := Scalar.muli c7_i32_1299 c1_i32_1300
  let v3167 : BitVec 32 := Scalar.addi c0_i32_1301 v3166
  v3167.toNat
def k0_cond105 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1110 : BitVec 32 := 8#32
  let v2884 : BitVec 1 := Scalar.cmpi .ne v2 c8_i32_1110
  let v2885 : BitVec 32 := Scalar.extui v2884
  let c0_i32_1111 : BitVec 32 := 0#32
  let v2886 : BitVec 1 := Scalar.cmpi .ne v2885 c0_i32_1111
  v2886

def k0_off115 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off116 (d0 : Dev nD) : Fin 2 → Nat :=
  let c0_i32_1302 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c512_i32_1297 : BitVec 32 := 512#32
  let v3165 : BitVec 32 := Scalar.muli v2 c512_i32_1297
  ![0, v3165.toNat]
def k0_dev105 : Nat :=
  let c0_i32_1301 : BitVec 32 := 0#32
  let c8_i32_1299 : BitVec 32 := 8#32
  let c1_i32_1300 : BitVec 32 := 1#32
  let v3166 : BitVec 32 := Scalar.muli c8_i32_1299 c1_i32_1300
  let v3167 : BitVec 32 := Scalar.addi c0_i32_1301 v3166
  v3167.toNat
def k0_cond106 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_1112 : BitVec 32 := 9#32
  let v2887 : BitVec 1 := Scalar.cmpi .ne v2 c9_i32_1112
  let v2888 : BitVec 32 := Scalar.extui v2887
  let c0_i32_1113 : BitVec 32 := 0#32
  let v2889 : BitVec 1 := Scalar.cmpi .ne v2888 c0_i32_1113
  v2889

def k0_off117 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off118 (d0 : Dev nD) : Fin 2 → Nat :=
  let c0_i32_1302 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c512_i32_1297 : BitVec 32 := 512#32
  let v3165 : BitVec 32 := Scalar.muli v2 c512_i32_1297
  ![0, v3165.toNat]
def k0_dev106 : Nat :=
  let c0_i32_1301 : BitVec 32 := 0#32
  let c9_i32_1299 : BitVec 32 := 9#32
  let c1_i32_1300 : BitVec 32 := 1#32
  let v3166 : BitVec 32 := Scalar.muli c9_i32_1299 c1_i32_1300
  let v3167 : BitVec 32 := Scalar.addi c0_i32_1301 v3166
  v3167.toNat
def k0_cond107 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_1114 : BitVec 32 := 10#32
  let v2890 : BitVec 1 := Scalar.cmpi .ne v2 c10_i32_1114
  let v2891 : BitVec 32 := Scalar.extui v2890
  let c0_i32_1115 : BitVec 32 := 0#32
  let v2892 : BitVec 1 := Scalar.cmpi .ne v2891 c0_i32_1115
  v2892

def k0_off119 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off120 (d0 : Dev nD) : Fin 2 → Nat :=
  let c0_i32_1302 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c512_i32_1297 : BitVec 32 := 512#32
  let v3165 : BitVec 32 := Scalar.muli v2 c512_i32_1297
  ![0, v3165.toNat]
def k0_dev107 : Nat :=
  let c0_i32_1301 : BitVec 32 := 0#32
  let c10_i32_1299 : BitVec 32 := 10#32
  let c1_i32_1300 : BitVec 32 := 1#32
  let v3166 : BitVec 32 := Scalar.muli c10_i32_1299 c1_i32_1300
  let v3167 : BitVec 32 := Scalar.addi c0_i32_1301 v3166
  v3167.toNat
def k0_cond108 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_1116 : BitVec 32 := 11#32
  let v2893 : BitVec 1 := Scalar.cmpi .ne v2 c11_i32_1116
  let v2894 : BitVec 32 := Scalar.extui v2893
  let c0_i32_1117 : BitVec 32 := 0#32
  let v2895 : BitVec 1 := Scalar.cmpi .ne v2894 c0_i32_1117
  v2895

def k0_off121 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off122 (d0 : Dev nD) : Fin 2 → Nat :=
  let c0_i32_1302 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c512_i32_1297 : BitVec 32 := 512#32
  let v3165 : BitVec 32 := Scalar.muli v2 c512_i32_1297
  ![0, v3165.toNat]
def k0_dev108 : Nat :=
  let c0_i32_1301 : BitVec 32 := 0#32
  let c11_i32_1299 : BitVec 32 := 11#32
  let c1_i32_1300 : BitVec 32 := 1#32
  let v3166 : BitVec 32 := Scalar.muli c11_i32_1299 c1_i32_1300
  let v3167 : BitVec 32 := Scalar.addi c0_i32_1301 v3166
  v3167.toNat
def k0_cond109 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_1118 : BitVec 32 := 12#32
  let v2896 : BitVec 1 := Scalar.cmpi .ne v2 c12_i32_1118
  let v2897 : BitVec 32 := Scalar.extui v2896
  let c0_i32_1119 : BitVec 32 := 0#32
  let v2898 : BitVec 1 := Scalar.cmpi .ne v2897 c0_i32_1119
  v2898

def k0_off123 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off124 (d0 : Dev nD) : Fin 2 → Nat :=
  let c0_i32_1302 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c512_i32_1297 : BitVec 32 := 512#32
  let v3165 : BitVec 32 := Scalar.muli v2 c512_i32_1297
  ![0, v3165.toNat]
def k0_dev109 : Nat :=
  let c0_i32_1301 : BitVec 32 := 0#32
  let c12_i32_1299 : BitVec 32 := 12#32
  let c1_i32_1300 : BitVec 32 := 1#32
  let v3166 : BitVec 32 := Scalar.muli c12_i32_1299 c1_i32_1300
  let v3167 : BitVec 32 := Scalar.addi c0_i32_1301 v3166
  v3167.toNat
def k0_cond110 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_1120 : BitVec 32 := 13#32
  let v2899 : BitVec 1 := Scalar.cmpi .ne v2 c13_i32_1120
  let v2900 : BitVec 32 := Scalar.extui v2899
  let c0_i32_1121 : BitVec 32 := 0#32
  let v2901 : BitVec 1 := Scalar.cmpi .ne v2900 c0_i32_1121
  v2901

def k0_off125 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off126 (d0 : Dev nD) : Fin 2 → Nat :=
  let c0_i32_1302 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c512_i32_1297 : BitVec 32 := 512#32
  let v3165 : BitVec 32 := Scalar.muli v2 c512_i32_1297
  ![0, v3165.toNat]
def k0_dev110 : Nat :=
  let c0_i32_1301 : BitVec 32 := 0#32
  let c13_i32_1299 : BitVec 32 := 13#32
  let c1_i32_1300 : BitVec 32 := 1#32
  let v3166 : BitVec 32 := Scalar.muli c13_i32_1299 c1_i32_1300
  let v3167 : BitVec 32 := Scalar.addi c0_i32_1301 v3166
  v3167.toNat
def k0_cond111 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_1122 : BitVec 32 := 14#32
  let v2902 : BitVec 1 := Scalar.cmpi .ne v2 c14_i32_1122
  let v2903 : BitVec 32 := Scalar.extui v2902
  let c0_i32_1123 : BitVec 32 := 0#32
  let v2904 : BitVec 1 := Scalar.cmpi .ne v2903 c0_i32_1123
  v2904

def k0_off127 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off128 (d0 : Dev nD) : Fin 2 → Nat :=
  let c0_i32_1302 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c512_i32_1297 : BitVec 32 := 512#32
  let v3165 : BitVec 32 := Scalar.muli v2 c512_i32_1297
  ![0, v3165.toNat]
def k0_dev111 : Nat :=
  let c0_i32_1301 : BitVec 32 := 0#32
  let c14_i32_1299 : BitVec 32 := 14#32
  let c1_i32_1300 : BitVec 32 := 1#32
  let v3166 : BitVec 32 := Scalar.muli c14_i32_1299 c1_i32_1300
  let v3167 : BitVec 32 := Scalar.addi c0_i32_1301 v3166
  v3167.toNat
def k0_cond112 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_1124 : BitVec 32 := 15#32
  let v2905 : BitVec 1 := Scalar.cmpi .ne v2 c15_i32_1124
  let v2906 : BitVec 32 := Scalar.extui v2905
  let c0_i32_1125 : BitVec 32 := 0#32
  let v2907 : BitVec 1 := Scalar.cmpi .ne v2906 c0_i32_1125
  v2907

def k0_off129 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off130 (d0 : Dev nD) : Fin 2 → Nat :=
  let c0_i32_1302 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c512_i32_1297 : BitVec 32 := 512#32
  let v3165 : BitVec 32 := Scalar.muli v2 c512_i32_1297
  ![0, v3165.toNat]
def k0_dev112 : Nat :=
  let c0_i32_1301 : BitVec 32 := 0#32
  let c15_i32_1299 : BitVec 32 := 15#32
  let c1_i32_1300 : BitVec 32 := 1#32
  let v3166 : BitVec 32 := Scalar.muli c15_i32_1299 c1_i32_1300
  let v3167 : BitVec 32 := Scalar.addi c0_i32_1301 v3166
  v3167.toNat
def k0_cond113 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1126 : BitVec 32 := 16#32
  let v2908 : BitVec 1 := Scalar.cmpi .ne v2 c16_i32_1126
  let v2909 : BitVec 32 := Scalar.extui v2908
  let c0_i32_1127 : BitVec 32 := 0#32
  let v2910 : BitVec 1 := Scalar.cmpi .ne v2909 c0_i32_1127
  v2910

def k0_off131 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off132 (d0 : Dev nD) : Fin 2 → Nat :=
  let c0_i32_1302 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c512_i32_1297 : BitVec 32 := 512#32
  let v3165 : BitVec 32 := Scalar.muli v2 c512_i32_1297
  ![0, v3165.toNat]
def k0_dev113 : Nat :=
  let c0_i32_1301 : BitVec 32 := 0#32
  let c16_i32_1299 : BitVec 32 := 16#32
  let c1_i32_1300 : BitVec 32 := 1#32
  let v3166 : BitVec 32 := Scalar.muli c16_i32_1299 c1_i32_1300
  let v3167 : BitVec 32 := Scalar.addi c0_i32_1301 v3166
  v3167.toNat
def k0_cond114 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_1128 : BitVec 32 := 17#32
  let v2911 : BitVec 1 := Scalar.cmpi .ne v2 c17_i32_1128
  let v2912 : BitVec 32 := Scalar.extui v2911
  let c0_i32_1129 : BitVec 32 := 0#32
  let v2913 : BitVec 1 := Scalar.cmpi .ne v2912 c0_i32_1129
  v2913

def k0_off133 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off134 (d0 : Dev nD) : Fin 2 → Nat :=
  let c0_i32_1302 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c512_i32_1297 : BitVec 32 := 512#32
  let v3165 : BitVec 32 := Scalar.muli v2 c512_i32_1297
  ![0, v3165.toNat]
def k0_dev114 : Nat :=
  let c0_i32_1301 : BitVec 32 := 0#32
  let c17_i32_1299 : BitVec 32 := 17#32
  let c1_i32_1300 : BitVec 32 := 1#32
  let v3166 : BitVec 32 := Scalar.muli c17_i32_1299 c1_i32_1300
  let v3167 : BitVec 32 := Scalar.addi c0_i32_1301 v3166
  v3167.toNat
def k0_cond115 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_1130 : BitVec 32 := 18#32
  let v2914 : BitVec 1 := Scalar.cmpi .ne v2 c18_i32_1130
  let v2915 : BitVec 32 := Scalar.extui v2914
  let c0_i32_1131 : BitVec 32 := 0#32
  let v2916 : BitVec 1 := Scalar.cmpi .ne v2915 c0_i32_1131
  v2916

def k0_off135 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off136 (d0 : Dev nD) : Fin 2 → Nat :=
  let c0_i32_1302 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c512_i32_1297 : BitVec 32 := 512#32
  let v3165 : BitVec 32 := Scalar.muli v2 c512_i32_1297
  ![0, v3165.toNat]
def k0_dev115 : Nat :=
  let c0_i32_1301 : BitVec 32 := 0#32
  let c18_i32_1299 : BitVec 32 := 18#32
  let c1_i32_1300 : BitVec 32 := 1#32
  let v3166 : BitVec 32 := Scalar.muli c18_i32_1299 c1_i32_1300
  let v3167 : BitVec 32 := Scalar.addi c0_i32_1301 v3166
  v3167.toNat
def k0_cond116 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_1132 : BitVec 32 := 19#32
  let v2917 : BitVec 1 := Scalar.cmpi .ne v2 c19_i32_1132
  let v2918 : BitVec 32 := Scalar.extui v2917
  let c0_i32_1133 : BitVec 32 := 0#32
  let v2919 : BitVec 1 := Scalar.cmpi .ne v2918 c0_i32_1133
  v2919

def k0_off137 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off138 (d0 : Dev nD) : Fin 2 → Nat :=
  let c0_i32_1302 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c512_i32_1297 : BitVec 32 := 512#32
  let v3165 : BitVec 32 := Scalar.muli v2 c512_i32_1297
  ![0, v3165.toNat]
def k0_dev116 : Nat :=
  let c0_i32_1301 : BitVec 32 := 0#32
  let c19_i32_1299 : BitVec 32 := 19#32
  let c1_i32_1300 : BitVec 32 := 1#32
  let v3166 : BitVec 32 := Scalar.muli c19_i32_1299 c1_i32_1300
  let v3167 : BitVec 32 := Scalar.addi c0_i32_1301 v3166
  v3167.toNat
def k0_cond117 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_1134 : BitVec 32 := 20#32
  let v2920 : BitVec 1 := Scalar.cmpi .ne v2 c20_i32_1134
  let v2921 : BitVec 32 := Scalar.extui v2920
  let c0_i32_1135 : BitVec 32 := 0#32
  let v2922 : BitVec 1 := Scalar.cmpi .ne v2921 c0_i32_1135
  v2922

def k0_off139 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off140 (d0 : Dev nD) : Fin 2 → Nat :=
  let c0_i32_1302 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c512_i32_1297 : BitVec 32 := 512#32
  let v3165 : BitVec 32 := Scalar.muli v2 c512_i32_1297
  ![0, v3165.toNat]
def k0_dev117 : Nat :=
  let c0_i32_1301 : BitVec 32 := 0#32
  let c20_i32_1299 : BitVec 32 := 20#32
  let c1_i32_1300 : BitVec 32 := 1#32
  let v3166 : BitVec 32 := Scalar.muli c20_i32_1299 c1_i32_1300
  let v3167 : BitVec 32 := Scalar.addi c0_i32_1301 v3166
  v3167.toNat
def k0_cond118 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_1136 : BitVec 32 := 21#32
  let v2923 : BitVec 1 := Scalar.cmpi .ne v2 c21_i32_1136
  let v2924 : BitVec 32 := Scalar.extui v2923
  let c0_i32_1137 : BitVec 32 := 0#32
  let v2925 : BitVec 1 := Scalar.cmpi .ne v2924 c0_i32_1137
  v2925

def k0_off141 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off142 (d0 : Dev nD) : Fin 2 → Nat :=
  let c0_i32_1302 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c512_i32_1297 : BitVec 32 := 512#32
  let v3165 : BitVec 32 := Scalar.muli v2 c512_i32_1297
  ![0, v3165.toNat]
def k0_dev118 : Nat :=
  let c0_i32_1301 : BitVec 32 := 0#32
  let c21_i32_1299 : BitVec 32 := 21#32
  let c1_i32_1300 : BitVec 32 := 1#32
  let v3166 : BitVec 32 := Scalar.muli c21_i32_1299 c1_i32_1300
  let v3167 : BitVec 32 := Scalar.addi c0_i32_1301 v3166
  v3167.toNat
def k0_cond119 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_1138 : BitVec 32 := 22#32
  let v2926 : BitVec 1 := Scalar.cmpi .ne v2 c22_i32_1138
  let v2927 : BitVec 32 := Scalar.extui v2926
  let c0_i32_1139 : BitVec 32 := 0#32
  let v2928 : BitVec 1 := Scalar.cmpi .ne v2927 c0_i32_1139
  v2928

def k0_off143 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off144 (d0 : Dev nD) : Fin 2 → Nat :=
  let c0_i32_1302 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c512_i32_1297 : BitVec 32 := 512#32
  let v3165 : BitVec 32 := Scalar.muli v2 c512_i32_1297
  ![0, v3165.toNat]
def k0_dev119 : Nat :=
  let c0_i32_1301 : BitVec 32 := 0#32
  let c22_i32_1299 : BitVec 32 := 22#32
  let c1_i32_1300 : BitVec 32 := 1#32
  let v3166 : BitVec 32 := Scalar.muli c22_i32_1299 c1_i32_1300
  let v3167 : BitVec 32 := Scalar.addi c0_i32_1301 v3166
  v3167.toNat
def k0_cond120 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_1140 : BitVec 32 := 23#32
  let v2929 : BitVec 1 := Scalar.cmpi .ne v2 c23_i32_1140
  let v2930 : BitVec 32 := Scalar.extui v2929
  let c0_i32_1141 : BitVec 32 := 0#32
  let v2931 : BitVec 1 := Scalar.cmpi .ne v2930 c0_i32_1141
  v2931

def k0_off145 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off146 (d0 : Dev nD) : Fin 2 → Nat :=
  let c0_i32_1302 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c512_i32_1297 : BitVec 32 := 512#32
  let v3165 : BitVec 32 := Scalar.muli v2 c512_i32_1297
  ![0, v3165.toNat]
def k0_dev120 : Nat :=
  let c0_i32_1301 : BitVec 32 := 0#32
  let c23_i32_1299 : BitVec 32 := 23#32
  let c1_i32_1300 : BitVec 32 := 1#32
  let v3166 : BitVec 32 := Scalar.muli c23_i32_1299 c1_i32_1300
  let v3167 : BitVec 32 := Scalar.addi c0_i32_1301 v3166
  v3167.toNat
def k0_cond121 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_1142 : BitVec 32 := 24#32
  let v2932 : BitVec 1 := Scalar.cmpi .ne v2 c24_i32_1142
  let v2933 : BitVec 32 := Scalar.extui v2932
  let c0_i32_1143 : BitVec 32 := 0#32
  let v2934 : BitVec 1 := Scalar.cmpi .ne v2933 c0_i32_1143
  v2934

def k0_off147 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off148 (d0 : Dev nD) : Fin 2 → Nat :=
  let c0_i32_1302 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c512_i32_1297 : BitVec 32 := 512#32
  let v3165 : BitVec 32 := Scalar.muli v2 c512_i32_1297
  ![0, v3165.toNat]
def k0_dev121 : Nat :=
  let c0_i32_1301 : BitVec 32 := 0#32
  let c24_i32_1299 : BitVec 32 := 24#32
  let c1_i32_1300 : BitVec 32 := 1#32
  let v3166 : BitVec 32 := Scalar.muli c24_i32_1299 c1_i32_1300
  let v3167 : BitVec 32 := Scalar.addi c0_i32_1301 v3166
  v3167.toNat
def k0_cond122 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_1144 : BitVec 32 := 25#32
  let v2935 : BitVec 1 := Scalar.cmpi .ne v2 c25_i32_1144
  let v2936 : BitVec 32 := Scalar.extui v2935
  let c0_i32_1145 : BitVec 32 := 0#32
  let v2937 : BitVec 1 := Scalar.cmpi .ne v2936 c0_i32_1145
  v2937

def k0_off149 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off150 (d0 : Dev nD) : Fin 2 → Nat :=
  let c0_i32_1302 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c512_i32_1297 : BitVec 32 := 512#32
  let v3165 : BitVec 32 := Scalar.muli v2 c512_i32_1297
  ![0, v3165.toNat]
def k0_dev122 : Nat :=
  let c0_i32_1301 : BitVec 32 := 0#32
  let c25_i32_1299 : BitVec 32 := 25#32
  let c1_i32_1300 : BitVec 32 := 1#32
  let v3166 : BitVec 32 := Scalar.muli c25_i32_1299 c1_i32_1300
  let v3167 : BitVec 32 := Scalar.addi c0_i32_1301 v3166
  v3167.toNat
def k0_cond123 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_1146 : BitVec 32 := 26#32
  let v2938 : BitVec 1 := Scalar.cmpi .ne v2 c26_i32_1146
  let v2939 : BitVec 32 := Scalar.extui v2938
  let c0_i32_1147 : BitVec 32 := 0#32
  let v2940 : BitVec 1 := Scalar.cmpi .ne v2939 c0_i32_1147
  v2940

def k0_off151 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off152 (d0 : Dev nD) : Fin 2 → Nat :=
  let c0_i32_1302 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c512_i32_1297 : BitVec 32 := 512#32
  let v3165 : BitVec 32 := Scalar.muli v2 c512_i32_1297
  ![0, v3165.toNat]
def k0_dev123 : Nat :=
  let c0_i32_1301 : BitVec 32 := 0#32
  let c26_i32_1299 : BitVec 32 := 26#32
  let c1_i32_1300 : BitVec 32 := 1#32
  let v3166 : BitVec 32 := Scalar.muli c26_i32_1299 c1_i32_1300
  let v3167 : BitVec 32 := Scalar.addi c0_i32_1301 v3166
  v3167.toNat
def k0_cond124 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_1148 : BitVec 32 := 27#32
  let v2941 : BitVec 1 := Scalar.cmpi .ne v2 c27_i32_1148
  let v2942 : BitVec 32 := Scalar.extui v2941
  let c0_i32_1149 : BitVec 32 := 0#32
  let v2943 : BitVec 1 := Scalar.cmpi .ne v2942 c0_i32_1149
  v2943

def k0_off153 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off154 (d0 : Dev nD) : Fin 2 → Nat :=
  let c0_i32_1302 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c512_i32_1297 : BitVec 32 := 512#32
  let v3165 : BitVec 32 := Scalar.muli v2 c512_i32_1297
  ![0, v3165.toNat]
def k0_dev124 : Nat :=
  let c0_i32_1301 : BitVec 32 := 0#32
  let c27_i32_1299 : BitVec 32 := 27#32
  let c1_i32_1300 : BitVec 32 := 1#32
  let v3166 : BitVec 32 := Scalar.muli c27_i32_1299 c1_i32_1300
  let v3167 : BitVec 32 := Scalar.addi c0_i32_1301 v3166
  v3167.toNat
def k0_cond125 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_1150 : BitVec 32 := 28#32
  let v2944 : BitVec 1 := Scalar.cmpi .ne v2 c28_i32_1150
  let v2945 : BitVec 32 := Scalar.extui v2944
  let c0_i32_1151 : BitVec 32 := 0#32
  let v2946 : BitVec 1 := Scalar.cmpi .ne v2945 c0_i32_1151
  v2946

def k0_off155 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off156 (d0 : Dev nD) : Fin 2 → Nat :=
  let c0_i32_1302 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c512_i32_1297 : BitVec 32 := 512#32
  let v3165 : BitVec 32 := Scalar.muli v2 c512_i32_1297
  ![0, v3165.toNat]
def k0_dev125 : Nat :=
  let c0_i32_1301 : BitVec 32 := 0#32
  let c28_i32_1299 : BitVec 32 := 28#32
  let c1_i32_1300 : BitVec 32 := 1#32
  let v3166 : BitVec 32 := Scalar.muli c28_i32_1299 c1_i32_1300
  let v3167 : BitVec 32 := Scalar.addi c0_i32_1301 v3166
  v3167.toNat
def k0_cond126 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_1152 : BitVec 32 := 29#32
  let v2947 : BitVec 1 := Scalar.cmpi .ne v2 c29_i32_1152
  let v2948 : BitVec 32 := Scalar.extui v2947
  let c0_i32_1153 : BitVec 32 := 0#32
  let v2949 : BitVec 1 := Scalar.cmpi .ne v2948 c0_i32_1153
  v2949

def k0_off157 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off158 (d0 : Dev nD) : Fin 2 → Nat :=
  let c0_i32_1302 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c512_i32_1297 : BitVec 32 := 512#32
  let v3165 : BitVec 32 := Scalar.muli v2 c512_i32_1297
  ![0, v3165.toNat]
def k0_dev126 : Nat :=
  let c0_i32_1301 : BitVec 32 := 0#32
  let c29_i32_1299 : BitVec 32 := 29#32
  let c1_i32_1300 : BitVec 32 := 1#32
  let v3166 : BitVec 32 := Scalar.muli c29_i32_1299 c1_i32_1300
  let v3167 : BitVec 32 := Scalar.addi c0_i32_1301 v3166
  v3167.toNat
def k0_cond127 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_1154 : BitVec 32 := 30#32
  let v2950 : BitVec 1 := Scalar.cmpi .ne v2 c30_i32_1154
  let v2951 : BitVec 32 := Scalar.extui v2950
  let c0_i32_1155 : BitVec 32 := 0#32
  let v2952 : BitVec 1 := Scalar.cmpi .ne v2951 c0_i32_1155
  v2952

def k0_off159 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off160 (d0 : Dev nD) : Fin 2 → Nat :=
  let c0_i32_1302 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c512_i32_1297 : BitVec 32 := 512#32
  let v3165 : BitVec 32 := Scalar.muli v2 c512_i32_1297
  ![0, v3165.toNat]
def k0_dev127 : Nat :=
  let c0_i32_1301 : BitVec 32 := 0#32
  let c30_i32_1299 : BitVec 32 := 30#32
  let c1_i32_1300 : BitVec 32 := 1#32
  let v3166 : BitVec 32 := Scalar.muli c30_i32_1299 c1_i32_1300
  let v3167 : BitVec 32 := Scalar.addi c0_i32_1301 v3166
  v3167.toNat
def k0_cond128 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_1156 : BitVec 32 := 31#32
  let v2953 : BitVec 1 := Scalar.cmpi .ne v2 c31_i32_1156
  let v2954 : BitVec 32 := Scalar.extui v2953
  let c0_i32_1157 : BitVec 32 := 0#32
  let v2955 : BitVec 1 := Scalar.cmpi .ne v2954 c0_i32_1157
  v2955

def k0_off161 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off162 (d0 : Dev nD) : Fin 2 → Nat :=
  let c0_i32_1302 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c512_i32_1297 : BitVec 32 := 512#32
  let v3165 : BitVec 32 := Scalar.muli v2 c512_i32_1297
  ![0, v3165.toNat]
def k0_dev128 : Nat :=
  let c0_i32_1301 : BitVec 32 := 0#32
  let c31_i32_1299 : BitVec 32 := 31#32
  let c1_i32_1300 : BitVec 32 := 1#32
  let v3166 : BitVec 32 := Scalar.muli c31_i32_1299 c1_i32_1300
  let v3167 : BitVec 32 := Scalar.addi c0_i32_1301 v3166
  v3167.toNat
def k0_off163 (d0 : Dev nD) : Fin 3 → Nat :=
  let c0_1164 : Index := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1162 : BitVec 32 := 8#32
  let v2960 : BitVec 32 := Scalar.muli v2 c8_i32_1162
  let v2963 : Index := Scalar.indexCast v2960
  let c0_1165 : Index := 0#32
  ![0, v2963.toNat, 0]
def k0_off164 (d0 : Dev nD) : Fin 3 → Nat :=
  let c1_1167 : Index := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1162 : BitVec 32 := 8#32
  let v2960 : BitVec 32 := Scalar.muli v2 c8_i32_1162
  let v2969 : Index := Scalar.indexCast v2960
  let c0_1168 : Index := 0#32
  ![1, v2969.toNat, 0]
def k0_cond161 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1233 : BitVec 32 := 0#32
  let v3069 : BitVec 1 := Scalar.cmpi .ne v2 c0_i32_1233
  let v3070 : BitVec 32 := Scalar.extui v3069
  let c0_i32_1234 : BitVec 32 := 0#32
  let v3071 : BitVec 1 := Scalar.cmpi .ne v3070 c0_i32_1234
  v3071

def k0_off165 (d0 : Dev nD) : Fin 2 → Nat :=
  let c0_i32_1304 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c512_i32_1297 : BitVec 32 := 512#32
  let v3165 : BitVec 32 := Scalar.muli v2 c512_i32_1297
  ![0, v3165.toNat]
def k0_off166 (d0 : Dev nD) : Fin 2 → Nat :=
  let c0_i32_1310 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_1298 : BitVec 32 := 128#32
  let v3166 : BitVec 32 := Scalar.muli v2 c128_i32_1298
  ![0, v3166.toNat]
def k0_cond162 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1235 : BitVec 32 := 1#32
  let v3072 : BitVec 1 := Scalar.cmpi .ne v2 c1_i32_1235
  let v3073 : BitVec 32 := Scalar.extui v3072
  let c0_i32_1236 : BitVec 32 := 0#32
  let v3074 : BitVec 1 := Scalar.cmpi .ne v3073 c0_i32_1236
  v3074

def k0_off167 (d0 : Dev nD) : Fin 2 → Nat :=
  let c0_i32_1304 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c512_i32_1297 : BitVec 32 := 512#32
  let v3165 : BitVec 32 := Scalar.muli v2 c512_i32_1297
  ![0, v3165.toNat]
def k0_off168 (d0 : Dev nD) : Fin 2 → Nat :=
  let c0_i32_1310 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_1298 : BitVec 32 := 128#32
  let v3166 : BitVec 32 := Scalar.muli v2 c128_i32_1298
  ![0, v3166.toNat]
def k0_cond163 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_1237 : BitVec 32 := 2#32
  let v3075 : BitVec 1 := Scalar.cmpi .ne v2 c2_i32_1237
  let v3076 : BitVec 32 := Scalar.extui v3075
  let c0_i32_1238 : BitVec 32 := 0#32
  let v3077 : BitVec 1 := Scalar.cmpi .ne v3076 c0_i32_1238
  v3077

def k0_off169 (d0 : Dev nD) : Fin 2 → Nat :=
  let c0_i32_1303 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c512_i32_1297 : BitVec 32 := 512#32
  let v3165 : BitVec 32 := Scalar.muli v2 c512_i32_1297
  ![0, v3165.toNat]
def k0_off170 (d0 : Dev nD) : Fin 2 → Nat :=
  let c0_i32_1308 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_1298 : BitVec 32 := 128#32
  let v3166 : BitVec 32 := Scalar.muli v2 c128_i32_1298
  ![0, v3166.toNat]
def k0_cond164 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_1239 : BitVec 32 := 3#32
  let v3078 : BitVec 1 := Scalar.cmpi .ne v2 c3_i32_1239
  let v3079 : BitVec 32 := Scalar.extui v3078
  let c0_i32_1240 : BitVec 32 := 0#32
  let v3080 : BitVec 1 := Scalar.cmpi .ne v3079 c0_i32_1240
  v3080

def k0_off171 (d0 : Dev nD) : Fin 2 → Nat :=
  let c0_i32_1303 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c512_i32_1297 : BitVec 32 := 512#32
  let v3165 : BitVec 32 := Scalar.muli v2 c512_i32_1297
  ![0, v3165.toNat]
def k0_off172 (d0 : Dev nD) : Fin 2 → Nat :=
  let c0_i32_1308 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_1298 : BitVec 32 := 128#32
  let v3166 : BitVec 32 := Scalar.muli v2 c128_i32_1298
  ![0, v3166.toNat]
def k0_cond165 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_1241 : BitVec 32 := 4#32
  let v3081 : BitVec 1 := Scalar.cmpi .ne v2 c4_i32_1241
  let v3082 : BitVec 32 := Scalar.extui v3081
  let c0_i32_1242 : BitVec 32 := 0#32
  let v3083 : BitVec 1 := Scalar.cmpi .ne v3082 c0_i32_1242
  v3083

def k0_off173 (d0 : Dev nD) : Fin 2 → Nat :=
  let c0_i32_1303 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c512_i32_1297 : BitVec 32 := 512#32
  let v3165 : BitVec 32 := Scalar.muli v2 c512_i32_1297
  ![0, v3165.toNat]
def k0_off174 (d0 : Dev nD) : Fin 2 → Nat :=
  let c0_i32_1309 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_1298 : BitVec 32 := 128#32
  let v3166 : BitVec 32 := Scalar.muli v2 c128_i32_1298
  ![0, v3166.toNat]
def k0_cond166 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_1243 : BitVec 32 := 5#32
  let v3084 : BitVec 1 := Scalar.cmpi .ne v2 c5_i32_1243
  let v3085 : BitVec 32 := Scalar.extui v3084
  let c0_i32_1244 : BitVec 32 := 0#32
  let v3086 : BitVec 1 := Scalar.cmpi .ne v3085 c0_i32_1244
  v3086

def k0_off175 (d0 : Dev nD) : Fin 2 → Nat :=
  let c0_i32_1303 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c512_i32_1297 : BitVec 32 := 512#32
  let v3165 : BitVec 32 := Scalar.muli v2 c512_i32_1297
  ![0, v3165.toNat]
def k0_off176 (d0 : Dev nD) : Fin 2 → Nat :=
  let c0_i32_1308 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_1298 : BitVec 32 := 128#32
  let v3166 : BitVec 32 := Scalar.muli v2 c128_i32_1298
  ![0, v3166.toNat]
def k0_cond167 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_1245 : BitVec 32 := 6#32
  let v3087 : BitVec 1 := Scalar.cmpi .ne v2 c6_i32_1245
  let v3088 : BitVec 32 := Scalar.extui v3087
  let c0_i32_1246 : BitVec 32 := 0#32
  let v3089 : BitVec 1 := Scalar.cmpi .ne v3088 c0_i32_1246
  v3089

def k0_off177 (d0 : Dev nD) : Fin 2 → Nat :=
  let c0_i32_1303 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c512_i32_1297 : BitVec 32 := 512#32
  let v3165 : BitVec 32 := Scalar.muli v2 c512_i32_1297
  ![0, v3165.toNat]
def k0_off178 (d0 : Dev nD) : Fin 2 → Nat :=
  let c0_i32_1308 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_1298 : BitVec 32 := 128#32
  let v3166 : BitVec 32 := Scalar.muli v2 c128_i32_1298
  ![0, v3166.toNat]
def k0_cond168 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_1247 : BitVec 32 := 7#32
  let v3090 : BitVec 1 := Scalar.cmpi .ne v2 c7_i32_1247
  let v3091 : BitVec 32 := Scalar.extui v3090
  let c0_i32_1248 : BitVec 32 := 0#32
  let v3092 : BitVec 1 := Scalar.cmpi .ne v3091 c0_i32_1248
  v3092

def k0_off179 (d0 : Dev nD) : Fin 2 → Nat :=
  let c0_i32_1303 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c512_i32_1297 : BitVec 32 := 512#32
  let v3165 : BitVec 32 := Scalar.muli v2 c512_i32_1297
  ![0, v3165.toNat]
def k0_off180 (d0 : Dev nD) : Fin 2 → Nat :=
  let c0_i32_1308 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_1298 : BitVec 32 := 128#32
  let v3166 : BitVec 32 := Scalar.muli v2 c128_i32_1298
  ![0, v3166.toNat]
def k0_cond169 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1249 : BitVec 32 := 8#32
  let v3093 : BitVec 1 := Scalar.cmpi .ne v2 c8_i32_1249
  let v3094 : BitVec 32 := Scalar.extui v3093
  let c0_i32_1250 : BitVec 32 := 0#32
  let v3095 : BitVec 1 := Scalar.cmpi .ne v3094 c0_i32_1250
  v3095

def k0_off181 (d0 : Dev nD) : Fin 2 → Nat :=
  let c0_i32_1303 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c512_i32_1297 : BitVec 32 := 512#32
  let v3165 : BitVec 32 := Scalar.muli v2 c512_i32_1297
  ![0, v3165.toNat]
def k0_off182 (d0 : Dev nD) : Fin 2 → Nat :=
  let c0_i32_1308 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_1298 : BitVec 32 := 128#32
  let v3166 : BitVec 32 := Scalar.muli v2 c128_i32_1298
  ![0, v3166.toNat]
def k0_cond170 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_1251 : BitVec 32 := 9#32
  let v3096 : BitVec 1 := Scalar.cmpi .ne v2 c9_i32_1251
  let v3097 : BitVec 32 := Scalar.extui v3096
  let c0_i32_1252 : BitVec 32 := 0#32
  let v3098 : BitVec 1 := Scalar.cmpi .ne v3097 c0_i32_1252
  v3098

def k0_off183 (d0 : Dev nD) : Fin 2 → Nat :=
  let c0_i32_1303 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c512_i32_1297 : BitVec 32 := 512#32
  let v3165 : BitVec 32 := Scalar.muli v2 c512_i32_1297
  ![0, v3165.toNat]
def k0_off184 (d0 : Dev nD) : Fin 2 → Nat :=
  let c0_i32_1308 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_1298 : BitVec 32 := 128#32
  let v3166 : BitVec 32 := Scalar.muli v2 c128_i32_1298
  ![0, v3166.toNat]
def k0_cond171 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_1253 : BitVec 32 := 10#32
  let v3099 : BitVec 1 := Scalar.cmpi .ne v2 c10_i32_1253
  let v3100 : BitVec 32 := Scalar.extui v3099
  let c0_i32_1254 : BitVec 32 := 0#32
  let v3101 : BitVec 1 := Scalar.cmpi .ne v3100 c0_i32_1254
  v3101

def k0_off185 (d0 : Dev nD) : Fin 2 → Nat :=
  let c0_i32_1303 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c512_i32_1297 : BitVec 32 := 512#32
  let v3165 : BitVec 32 := Scalar.muli v2 c512_i32_1297
  ![0, v3165.toNat]
def k0_off186 (d0 : Dev nD) : Fin 2 → Nat :=
  let c0_i32_1308 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_1298 : BitVec 32 := 128#32
  let v3166 : BitVec 32 := Scalar.muli v2 c128_i32_1298
  ![0, v3166.toNat]
def k0_cond172 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_1255 : BitVec 32 := 11#32
  let v3102 : BitVec 1 := Scalar.cmpi .ne v2 c11_i32_1255
  let v3103 : BitVec 32 := Scalar.extui v3102
  let c0_i32_1256 : BitVec 32 := 0#32
  let v3104 : BitVec 1 := Scalar.cmpi .ne v3103 c0_i32_1256
  v3104

def k0_off187 (d0 : Dev nD) : Fin 2 → Nat :=
  let c0_i32_1303 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c512_i32_1297 : BitVec 32 := 512#32
  let v3165 : BitVec 32 := Scalar.muli v2 c512_i32_1297
  ![0, v3165.toNat]
def k0_off188 (d0 : Dev nD) : Fin 2 → Nat :=
  let c0_i32_1308 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_1298 : BitVec 32 := 128#32
  let v3166 : BitVec 32 := Scalar.muli v2 c128_i32_1298
  ![0, v3166.toNat]
def k0_cond173 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_1257 : BitVec 32 := 12#32
  let v3105 : BitVec 1 := Scalar.cmpi .ne v2 c12_i32_1257
  let v3106 : BitVec 32 := Scalar.extui v3105
  let c0_i32_1258 : BitVec 32 := 0#32
  let v3107 : BitVec 1 := Scalar.cmpi .ne v3106 c0_i32_1258
  v3107

def k0_off189 (d0 : Dev nD) : Fin 2 → Nat :=
  let c0_i32_1303 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c512_i32_1297 : BitVec 32 := 512#32
  let v3165 : BitVec 32 := Scalar.muli v2 c512_i32_1297
  ![0, v3165.toNat]
def k0_off190 (d0 : Dev nD) : Fin 2 → Nat :=
  let c0_i32_1308 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_1298 : BitVec 32 := 128#32
  let v3166 : BitVec 32 := Scalar.muli v2 c128_i32_1298
  ![0, v3166.toNat]
def k0_cond174 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_1259 : BitVec 32 := 13#32
  let v3108 : BitVec 1 := Scalar.cmpi .ne v2 c13_i32_1259
  let v3109 : BitVec 32 := Scalar.extui v3108
  let c0_i32_1260 : BitVec 32 := 0#32
  let v3110 : BitVec 1 := Scalar.cmpi .ne v3109 c0_i32_1260
  v3110

def k0_off191 (d0 : Dev nD) : Fin 2 → Nat :=
  let c0_i32_1303 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c512_i32_1297 : BitVec 32 := 512#32
  let v3165 : BitVec 32 := Scalar.muli v2 c512_i32_1297
  ![0, v3165.toNat]
def k0_off192 (d0 : Dev nD) : Fin 2 → Nat :=
  let c0_i32_1308 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_1298 : BitVec 32 := 128#32
  let v3166 : BitVec 32 := Scalar.muli v2 c128_i32_1298
  ![0, v3166.toNat]
def k0_cond175 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_1261 : BitVec 32 := 14#32
  let v3111 : BitVec 1 := Scalar.cmpi .ne v2 c14_i32_1261
  let v3112 : BitVec 32 := Scalar.extui v3111
  let c0_i32_1262 : BitVec 32 := 0#32
  let v3113 : BitVec 1 := Scalar.cmpi .ne v3112 c0_i32_1262
  v3113

def k0_off193 (d0 : Dev nD) : Fin 2 → Nat :=
  let c0_i32_1303 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c512_i32_1297 : BitVec 32 := 512#32
  let v3165 : BitVec 32 := Scalar.muli v2 c512_i32_1297
  ![0, v3165.toNat]
def k0_off194 (d0 : Dev nD) : Fin 2 → Nat :=
  let c0_i32_1308 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_1298 : BitVec 32 := 128#32
  let v3166 : BitVec 32 := Scalar.muli v2 c128_i32_1298
  ![0, v3166.toNat]
def k0_cond176 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_1263 : BitVec 32 := 15#32
  let v3114 : BitVec 1 := Scalar.cmpi .ne v2 c15_i32_1263
  let v3115 : BitVec 32 := Scalar.extui v3114
  let c0_i32_1264 : BitVec 32 := 0#32
  let v3116 : BitVec 1 := Scalar.cmpi .ne v3115 c0_i32_1264
  v3116

def k0_off195 (d0 : Dev nD) : Fin 2 → Nat :=
  let c0_i32_1303 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c512_i32_1297 : BitVec 32 := 512#32
  let v3165 : BitVec 32 := Scalar.muli v2 c512_i32_1297
  ![0, v3165.toNat]
def k0_off196 (d0 : Dev nD) : Fin 2 → Nat :=
  let c0_i32_1308 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_1298 : BitVec 32 := 128#32
  let v3166 : BitVec 32 := Scalar.muli v2 c128_i32_1298
  ![0, v3166.toNat]
def k0_cond177 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1265 : BitVec 32 := 16#32
  let v3117 : BitVec 1 := Scalar.cmpi .ne v2 c16_i32_1265
  let v3118 : BitVec 32 := Scalar.extui v3117
  let c0_i32_1266 : BitVec 32 := 0#32
  let v3119 : BitVec 1 := Scalar.cmpi .ne v3118 c0_i32_1266
  v3119

def k0_off197 (d0 : Dev nD) : Fin 2 → Nat :=
  let c0_i32_1303 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c512_i32_1297 : BitVec 32 := 512#32
  let v3165 : BitVec 32 := Scalar.muli v2 c512_i32_1297
  ![0, v3165.toNat]
def k0_off198 (d0 : Dev nD) : Fin 2 → Nat :=
  let c0_i32_1308 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_1298 : BitVec 32 := 128#32
  let v3166 : BitVec 32 := Scalar.muli v2 c128_i32_1298
  ![0, v3166.toNat]
def k0_cond178 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_1267 : BitVec 32 := 17#32
  let v3120 : BitVec 1 := Scalar.cmpi .ne v2 c17_i32_1267
  let v3121 : BitVec 32 := Scalar.extui v3120
  let c0_i32_1268 : BitVec 32 := 0#32
  let v3122 : BitVec 1 := Scalar.cmpi .ne v3121 c0_i32_1268
  v3122

def k0_off199 (d0 : Dev nD) : Fin 2 → Nat :=
  let c0_i32_1303 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c512_i32_1297 : BitVec 32 := 512#32
  let v3165 : BitVec 32 := Scalar.muli v2 c512_i32_1297
  ![0, v3165.toNat]
def k0_off200 (d0 : Dev nD) : Fin 2 → Nat :=
  let c0_i32_1308 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_1298 : BitVec 32 := 128#32
  let v3166 : BitVec 32 := Scalar.muli v2 c128_i32_1298
  ![0, v3166.toNat]
def k0_cond179 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_1269 : BitVec 32 := 18#32
  let v3123 : BitVec 1 := Scalar.cmpi .ne v2 c18_i32_1269
  let v3124 : BitVec 32 := Scalar.extui v3123
  let c0_i32_1270 : BitVec 32 := 0#32
  let v3125 : BitVec 1 := Scalar.cmpi .ne v3124 c0_i32_1270
  v3125

def k0_off201 (d0 : Dev nD) : Fin 2 → Nat :=
  let c0_i32_1303 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c512_i32_1297 : BitVec 32 := 512#32
  let v3165 : BitVec 32 := Scalar.muli v2 c512_i32_1297
  ![0, v3165.toNat]
def k0_off202 (d0 : Dev nD) : Fin 2 → Nat :=
  let c0_i32_1308 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_1298 : BitVec 32 := 128#32
  let v3166 : BitVec 32 := Scalar.muli v2 c128_i32_1298
  ![0, v3166.toNat]
def k0_cond180 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_1271 : BitVec 32 := 19#32
  let v3126 : BitVec 1 := Scalar.cmpi .ne v2 c19_i32_1271
  let v3127 : BitVec 32 := Scalar.extui v3126
  let c0_i32_1272 : BitVec 32 := 0#32
  let v3128 : BitVec 1 := Scalar.cmpi .ne v3127 c0_i32_1272
  v3128

def k0_off203 (d0 : Dev nD) : Fin 2 → Nat :=
  let c0_i32_1303 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c512_i32_1297 : BitVec 32 := 512#32
  let v3165 : BitVec 32 := Scalar.muli v2 c512_i32_1297
  ![0, v3165.toNat]
def k0_off204 (d0 : Dev nD) : Fin 2 → Nat :=
  let c0_i32_1308 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_1298 : BitVec 32 := 128#32
  let v3166 : BitVec 32 := Scalar.muli v2 c128_i32_1298
  ![0, v3166.toNat]
def k0_cond181 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_1273 : BitVec 32 := 20#32
  let v3129 : BitVec 1 := Scalar.cmpi .ne v2 c20_i32_1273
  let v3130 : BitVec 32 := Scalar.extui v3129
  let c0_i32_1274 : BitVec 32 := 0#32
  let v3131 : BitVec 1 := Scalar.cmpi .ne v3130 c0_i32_1274
  v3131

def k0_off205 (d0 : Dev nD) : Fin 2 → Nat :=
  let c0_i32_1303 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c512_i32_1297 : BitVec 32 := 512#32
  let v3165 : BitVec 32 := Scalar.muli v2 c512_i32_1297
  ![0, v3165.toNat]
def k0_off206 (d0 : Dev nD) : Fin 2 → Nat :=
  let c0_i32_1308 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_1298 : BitVec 32 := 128#32
  let v3166 : BitVec 32 := Scalar.muli v2 c128_i32_1298
  ![0, v3166.toNat]
def k0_cond182 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_1275 : BitVec 32 := 21#32
  let v3132 : BitVec 1 := Scalar.cmpi .ne v2 c21_i32_1275
  let v3133 : BitVec 32 := Scalar.extui v3132
  let c0_i32_1276 : BitVec 32 := 0#32
  let v3134 : BitVec 1 := Scalar.cmpi .ne v3133 c0_i32_1276
  v3134

def k0_off207 (d0 : Dev nD) : Fin 2 → Nat :=
  let c0_i32_1303 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c512_i32_1297 : BitVec 32 := 512#32
  let v3165 : BitVec 32 := Scalar.muli v2 c512_i32_1297
  ![0, v3165.toNat]
def k0_off208 (d0 : Dev nD) : Fin 2 → Nat :=
  let c0_i32_1308 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_1298 : BitVec 32 := 128#32
  let v3166 : BitVec 32 := Scalar.muli v2 c128_i32_1298
  ![0, v3166.toNat]
def k0_cond183 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_1277 : BitVec 32 := 22#32
  let v3135 : BitVec 1 := Scalar.cmpi .ne v2 c22_i32_1277
  let v3136 : BitVec 32 := Scalar.extui v3135
  let c0_i32_1278 : BitVec 32 := 0#32
  let v3137 : BitVec 1 := Scalar.cmpi .ne v3136 c0_i32_1278
  v3137

def k0_off209 (d0 : Dev nD) : Fin 2 → Nat :=
  let c0_i32_1303 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c512_i32_1297 : BitVec 32 := 512#32
  let v3165 : BitVec 32 := Scalar.muli v2 c512_i32_1297
  ![0, v3165.toNat]
def k0_off210 (d0 : Dev nD) : Fin 2 → Nat :=
  let c0_i32_1308 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_1298 : BitVec 32 := 128#32
  let v3166 : BitVec 32 := Scalar.muli v2 c128_i32_1298
  ![0, v3166.toNat]
def k0_cond184 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_1279 : BitVec 32 := 23#32
  let v3138 : BitVec 1 := Scalar.cmpi .ne v2 c23_i32_1279
  let v3139 : BitVec 32 := Scalar.extui v3138
  let c0_i32_1280 : BitVec 32 := 0#32
  let v3140 : BitVec 1 := Scalar.cmpi .ne v3139 c0_i32_1280
  v3140

def k0_off211 (d0 : Dev nD) : Fin 2 → Nat :=
  let c0_i32_1303 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c512_i32_1297 : BitVec 32 := 512#32
  let v3165 : BitVec 32 := Scalar.muli v2 c512_i32_1297
  ![0, v3165.toNat]
def k0_off212 (d0 : Dev nD) : Fin 2 → Nat :=
  let c0_i32_1308 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_1298 : BitVec 32 := 128#32
  let v3166 : BitVec 32 := Scalar.muli v2 c128_i32_1298
  ![0, v3166.toNat]
def k0_cond185 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_1281 : BitVec 32 := 24#32
  let v3141 : BitVec 1 := Scalar.cmpi .ne v2 c24_i32_1281
  let v3142 : BitVec 32 := Scalar.extui v3141
  let c0_i32_1282 : BitVec 32 := 0#32
  let v3143 : BitVec 1 := Scalar.cmpi .ne v3142 c0_i32_1282
  v3143

def k0_off213 (d0 : Dev nD) : Fin 2 → Nat :=
  let c0_i32_1303 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c512_i32_1297 : BitVec 32 := 512#32
  let v3165 : BitVec 32 := Scalar.muli v2 c512_i32_1297
  ![0, v3165.toNat]
def k0_off214 (d0 : Dev nD) : Fin 2 → Nat :=
  let c0_i32_1308 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_1298 : BitVec 32 := 128#32
  let v3166 : BitVec 32 := Scalar.muli v2 c128_i32_1298
  ![0, v3166.toNat]
def k0_cond186 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_1283 : BitVec 32 := 25#32
  let v3144 : BitVec 1 := Scalar.cmpi .ne v2 c25_i32_1283
  let v3145 : BitVec 32 := Scalar.extui v3144
  let c0_i32_1284 : BitVec 32 := 0#32
  let v3146 : BitVec 1 := Scalar.cmpi .ne v3145 c0_i32_1284
  v3146

def k0_off215 (d0 : Dev nD) : Fin 2 → Nat :=
  let c0_i32_1303 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c512_i32_1297 : BitVec 32 := 512#32
  let v3165 : BitVec 32 := Scalar.muli v2 c512_i32_1297
  ![0, v3165.toNat]
def k0_off216 (d0 : Dev nD) : Fin 2 → Nat :=
  let c0_i32_1308 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_1298 : BitVec 32 := 128#32
  let v3166 : BitVec 32 := Scalar.muli v2 c128_i32_1298
  ![0, v3166.toNat]
def k0_cond187 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_1285 : BitVec 32 := 26#32
  let v3147 : BitVec 1 := Scalar.cmpi .ne v2 c26_i32_1285
  let v3148 : BitVec 32 := Scalar.extui v3147
  let c0_i32_1286 : BitVec 32 := 0#32
  let v3149 : BitVec 1 := Scalar.cmpi .ne v3148 c0_i32_1286
  v3149

def k0_off217 (d0 : Dev nD) : Fin 2 → Nat :=
  let c0_i32_1303 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c512_i32_1297 : BitVec 32 := 512#32
  let v3165 : BitVec 32 := Scalar.muli v2 c512_i32_1297
  ![0, v3165.toNat]
def k0_off218 (d0 : Dev nD) : Fin 2 → Nat :=
  let c0_i32_1308 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_1298 : BitVec 32 := 128#32
  let v3166 : BitVec 32 := Scalar.muli v2 c128_i32_1298
  ![0, v3166.toNat]
def k0_cond188 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_1287 : BitVec 32 := 27#32
  let v3150 : BitVec 1 := Scalar.cmpi .ne v2 c27_i32_1287
  let v3151 : BitVec 32 := Scalar.extui v3150
  let c0_i32_1288 : BitVec 32 := 0#32
  let v3152 : BitVec 1 := Scalar.cmpi .ne v3151 c0_i32_1288
  v3152

def k0_off219 (d0 : Dev nD) : Fin 2 → Nat :=
  let c0_i32_1303 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c512_i32_1297 : BitVec 32 := 512#32
  let v3165 : BitVec 32 := Scalar.muli v2 c512_i32_1297
  ![0, v3165.toNat]
def k0_off220 (d0 : Dev nD) : Fin 2 → Nat :=
  let c0_i32_1308 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_1298 : BitVec 32 := 128#32
  let v3166 : BitVec 32 := Scalar.muli v2 c128_i32_1298
  ![0, v3166.toNat]
def k0_cond189 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_1289 : BitVec 32 := 28#32
  let v3153 : BitVec 1 := Scalar.cmpi .ne v2 c28_i32_1289
  let v3154 : BitVec 32 := Scalar.extui v3153
  let c0_i32_1290 : BitVec 32 := 0#32
  let v3155 : BitVec 1 := Scalar.cmpi .ne v3154 c0_i32_1290
  v3155

def k0_off221 (d0 : Dev nD) : Fin 2 → Nat :=
  let c0_i32_1303 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c512_i32_1297 : BitVec 32 := 512#32
  let v3165 : BitVec 32 := Scalar.muli v2 c512_i32_1297
  ![0, v3165.toNat]
def k0_off222 (d0 : Dev nD) : Fin 2 → Nat :=
  let c0_i32_1308 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_1298 : BitVec 32 := 128#32
  let v3166 : BitVec 32 := Scalar.muli v2 c128_i32_1298
  ![0, v3166.toNat]
def k0_cond190 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_1291 : BitVec 32 := 29#32
  let v3156 : BitVec 1 := Scalar.cmpi .ne v2 c29_i32_1291
  let v3157 : BitVec 32 := Scalar.extui v3156
  let c0_i32_1292 : BitVec 32 := 0#32
  let v3158 : BitVec 1 := Scalar.cmpi .ne v3157 c0_i32_1292
  v3158

def k0_off223 (d0 : Dev nD) : Fin 2 → Nat :=
  let c0_i32_1303 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c512_i32_1297 : BitVec 32 := 512#32
  let v3165 : BitVec 32 := Scalar.muli v2 c512_i32_1297
  ![0, v3165.toNat]
def k0_off224 (d0 : Dev nD) : Fin 2 → Nat :=
  let c0_i32_1308 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_1298 : BitVec 32 := 128#32
  let v3166 : BitVec 32 := Scalar.muli v2 c128_i32_1298
  ![0, v3166.toNat]
def k0_cond191 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_1293 : BitVec 32 := 30#32
  let v3159 : BitVec 1 := Scalar.cmpi .ne v2 c30_i32_1293
  let v3160 : BitVec 32 := Scalar.extui v3159
  let c0_i32_1294 : BitVec 32 := 0#32
  let v3161 : BitVec 1 := Scalar.cmpi .ne v3160 c0_i32_1294
  v3161

def k0_off225 (d0 : Dev nD) : Fin 2 → Nat :=
  let c0_i32_1303 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c512_i32_1297 : BitVec 32 := 512#32
  let v3165 : BitVec 32 := Scalar.muli v2 c512_i32_1297
  ![0, v3165.toNat]
def k0_off226 (d0 : Dev nD) : Fin 2 → Nat :=
  let c0_i32_1308 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_1298 : BitVec 32 := 128#32
  let v3166 : BitVec 32 := Scalar.muli v2 c128_i32_1298
  ![0, v3166.toNat]
def k0_cond192 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_1295 : BitVec 32 := 31#32
  let v3162 : BitVec 1 := Scalar.cmpi .ne v2 c31_i32_1295
  let v3163 : BitVec 32 := Scalar.extui v3162
  let c0_i32_1296 : BitVec 32 := 0#32
  let v3164 : BitVec 1 := Scalar.cmpi .ne v3163 c0_i32_1296
  v3164

def k0_off227 (d0 : Dev nD) : Fin 2 → Nat :=
  let c0_i32_1303 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c512_i32_1297 : BitVec 32 := 512#32
  let v3165 : BitVec 32 := Scalar.muli v2 c512_i32_1297
  ![0, v3165.toNat]
def k0_off228 (d0 : Dev nD) : Fin 2 → Nat :=
  let c0_i32_1308 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_1298 : BitVec 32 := 128#32
  let v3166 : BitVec 32 := Scalar.muli v2 c128_i32_1298
  ![0, v3166.toNat]
abbrev stage0_0 : Fin 1 → Memref sig .tc .vmem S2x256x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x64x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x512x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x256x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x256x768 : Shape := ⟨3, ![2, 256, 768]⟩
abbrev S768x512 : Shape := ⟨2, ![768, 512]⟩
abbrev S512x768 : Shape := ⟨2, ![512, 768]⟩
abbrev S2x16384x8x64 : Shape := ⟨4, ![2, 16384, 8, 64]⟩
abbrev S2x256x512 : Shape := ⟨3, ![2, 256, 512]⟩
abbrev S2x256x8x64 : Shape := ⟨4, ![2, 256, 8, 64]⟩
abbrev S_ : Shape := ⟨0, ![]⟩
abbrev S2x8x256x1 : Shape := ⟨4, ![2, 8, 256, 1]⟩
abbrev S2x1024x8x64 : Shape := ⟨4, ![2, 1024, 8, 64]⟩
abbrev S2x8x256x1024 : Shape := ⟨4, ![2, 8, 256, 1024]⟩
abbrev S2x8x256 : Shape := ⟨3, ![2, 8, 256]⟩
abbrev S2x256x8x1 : Shape := ⟨4, ![2, 256, 8, 1]⟩
abbrev S2x8x64x256 : Shape := ⟨4, ![2, 8, 64, 256]⟩

abbrev nBuf : Space → Nat
  | .hbm => 434
  | .vmem => 0
  | .smem => 0
  | _ => 0

abbrev hbmTy0_0 (i : Nat) : BufTy := match i % 128 with
  | 0 => ⟨S2x256x768, .f32⟩
  | 1 => ⟨S768x512, .f32⟩
  | 2 => ⟨S512x768, .f32⟩
  | 3 => ⟨S2x16384x8x64, .f32⟩
  | 4 => ⟨S2x16384x8x64, .f32⟩
  | 5 => ⟨S2x256x512, .f32⟩
  | 6 => ⟨S2x256x8x64, .f32⟩
  | 7 => ⟨S_, .f32⟩
  | 8 => ⟨S2x256x8x64, .f32⟩
  | 9 => ⟨S_, .f32⟩
  | 10 => ⟨S2x8x256x1, .f32⟩
  | 11 => ⟨S_, .f32⟩
  | 12 => ⟨S2x8x256x1, .f32⟩
  | 13 => ⟨S2x1024x8x64, .f32⟩
  | 14 => ⟨S2x1024x8x64, .f32⟩
  | 15 => ⟨S2x8x256x1024, .f32⟩
  | 16 => ⟨S_, .f32⟩
  | 17 => ⟨S2x8x256x1024, .f32⟩
  | 18 => ⟨S2x8x256x1024, .f32⟩
  | 19 => ⟨S_, .f32⟩
  | 20 => ⟨S2x8x256, .f32⟩
  | 21 => ⟨S2x8x256x1, .f32⟩
  | 22 => ⟨S2x8x256x1, .f32⟩
  | 23 => ⟨S2x8x256x1, .f32⟩
  | 24 => ⟨S2x8x256x1, .f32⟩
  | 25 => ⟨S2x8x256x1024, .f32⟩
  | 26 => ⟨S2x8x256x1024, .f32⟩
  | 27 => ⟨S2x8x256x1024, .f32⟩
  | 28 => ⟨S2x8x256x1, .f32⟩
  | 29 => ⟨S_, .f32⟩
  | 30 => ⟨S2x8x256, .f32⟩
  | 31 => ⟨S2x8x256x1, .f32⟩
  | 32 => ⟨S2x8x256x1, .f32⟩
  | 33 => ⟨S2x256x8x1, .f32⟩
  | 34 => ⟨S2x256x8x64, .f32⟩
  | 35 => ⟨S2x256x8x64, .f32⟩
  | 36 => ⟨S2x8x64x256, .f32⟩
  | 37 => ⟨S2x256x8x64, .f32⟩
  | 38 => ⟨S2x256x8x64, .f32⟩
  | 39 => ⟨S2x1024x8x64, .f32⟩
  | 40 => ⟨S2x1024x8x64, .f32⟩
  | 41 => ⟨S2x8x256x1024, .f32⟩
  | 42 => ⟨S_, .f32⟩
  | 43 => ⟨S2x8x256x1024, .f32⟩
  | 44 => ⟨S2x8x256x1024, .f32⟩
  | 45 => ⟨S_, .f32⟩
  | 46 => ⟨S2x8x256, .f32⟩
  | 47 => ⟨S2x8x256x1, .f32⟩
  | 48 => ⟨S2x8x256x1, .f32⟩
  | 49 => ⟨S2x8x256x1, .f32⟩
  | 50 => ⟨S2x8x256x1, .f32⟩
  | 51 => ⟨S2x8x256x1024, .f32⟩
  | 52 => ⟨S2x8x256x1024, .f32⟩
  | 53 => ⟨S2x8x256x1024, .f32⟩
  | 54 => ⟨S2x8x256x1, .f32⟩
  | 55 => ⟨S_, .f32⟩
  | 56 => ⟨S2x8x256, .f32⟩
  | 57 => ⟨S2x8x256x1, .f32⟩
  | 58 => ⟨S2x8x256x1, .f32⟩
  | 59 => ⟨S2x256x8x1, .f32⟩
  | 60 => ⟨S2x256x8x64, .f32⟩
  | 61 => ⟨S2x256x8x64, .f32⟩
  | 62 => ⟨S2x8x64x256, .f32⟩
  | 63 => ⟨S2x256x8x64, .f32⟩
  | 64 => ⟨S2x256x8x64, .f32⟩
  | 65 => ⟨S2x1024x8x64, .f32⟩
  | 66 => ⟨S2x1024x8x64, .f32⟩
  | 67 => ⟨S2x8x256x1024, .f32⟩
  | 68 => ⟨S_, .f32⟩
  | 69 => ⟨S2x8x256x1024, .f32⟩
  | 70 => ⟨S2x8x256x1024, .f32⟩
  | 71 => ⟨S_, .f32⟩
  | 72 => ⟨S2x8x256, .f32⟩
  | 73 => ⟨S2x8x256x1, .f32⟩
  | 74 => ⟨S2x8x256x1, .f32⟩
  | 75 => ⟨S2x8x256x1, .f32⟩
  | 76 => ⟨S2x8x256x1, .f32⟩
  | 77 => ⟨S2x8x256x1024, .f32⟩
  | 78 => ⟨S2x8x256x1024, .f32⟩
  | 79 => ⟨S2x8x256x1024, .f32⟩
  | 80 => ⟨S2x8x256x1, .f32⟩
  | 81 => ⟨S_, .f32⟩
  | 82 => ⟨S2x8x256, .f32⟩
  | 83 => ⟨S2x8x256x1, .f32⟩
  | 84 => ⟨S2x8x256x1, .f32⟩
  | 85 => ⟨S2x256x8x1, .f32⟩
  | 86 => ⟨S2x256x8x64, .f32⟩
  | 87 => ⟨S2x256x8x64, .f32⟩
  | 88 => ⟨S2x8x64x256, .f32⟩
  | 89 => ⟨S2x256x8x64, .f32⟩
  | 90 => ⟨S2x256x8x64, .f32⟩
  | 91 => ⟨S2x1024x8x64, .f32⟩
  | 92 => ⟨S2x1024x8x64, .f32⟩
  | 93 => ⟨S2x8x256x1024, .f32⟩
  | 94 => ⟨S_, .f32⟩
  | 95 => ⟨S2x8x256x1024, .f32⟩
  | 96 => ⟨S2x8x256x1024, .f32⟩
  | 97 => ⟨S_, .f32⟩
  | 98 => ⟨S2x8x256, .f32⟩
  | 99 => ⟨S2x8x256x1, .f32⟩
  | 100 => ⟨S2x8x256x1, .f32⟩
  | 101 => ⟨S2x8x256x1, .f32⟩
  | 102 => ⟨S2x8x256x1, .f32⟩
  | 103 => ⟨S2x8x256x1024, .f32⟩
  | 104 => ⟨S2x8x256x1024, .f32⟩
  | 105 => ⟨S2x8x256x1024, .f32⟩
  | 106 => ⟨S2x8x256x1, .f32⟩
  | 107 => ⟨S_, .f32⟩
  | 108 => ⟨S2x8x256, .f32⟩
  | 109 => ⟨S2x8x256x1, .f32⟩
  | 110 => ⟨S2x8x256x1, .f32⟩
  | 111 => ⟨S2x256x8x1, .f32⟩
  | 112 => ⟨S2x256x8x64, .f32⟩
  | 113 => ⟨S2x256x8x64, .f32⟩
  | 114 => ⟨S2x8x64x256, .f32⟩
  | 115 => ⟨S2x256x8x64, .f32⟩
  | 116 => ⟨S2x256x8x64, .f32⟩
  | 117 => ⟨S2x1024x8x64, .f32⟩
  | 118 => ⟨S2x1024x8x64, .f32⟩
  | 119 => ⟨S2x8x256x1024, .f32⟩
  | 120 => ⟨S_, .f32⟩
  | 121 => ⟨S2x8x256x1024, .f32⟩
  | 122 => ⟨S2x8x256x1024, .f32⟩
  | 123 => ⟨S_, .f32⟩
  | 124 => ⟨S2x8x256, .f32⟩
  | 125 => ⟨S2x8x256x1, .f32⟩
  | 126 => ⟨S2x8x256x1, .f32⟩
  | 127 => ⟨S2x8x256x1, .f32⟩
  | _ => ⟨S2x256x768, .f32⟩

abbrev hbmTy0_1 (i : Nat) : BufTy := match i % 128 with
  | 0 => ⟨S2x8x256x1, .f32⟩
  | 1 => ⟨S2x8x256x1024, .f32⟩
  | 2 => ⟨S2x8x256x1024, .f32⟩
  | 3 => ⟨S2x8x256x1024, .f32⟩
  | 4 => ⟨S2x8x256x1, .f32⟩
  | 5 => ⟨S_, .f32⟩
  | 6 => ⟨S2x8x256, .f32⟩
  | 7 => ⟨S2x8x256x1, .f32⟩
  | 8 => ⟨S2x8x256x1, .f32⟩
  | 9 => ⟨S2x256x8x1, .f32⟩
  | 10 => ⟨S2x256x8x64, .f32⟩
  | 11 => ⟨S2x256x8x64, .f32⟩
  | 12 => ⟨S2x8x64x256, .f32⟩
  | 13 => ⟨S2x256x8x64, .f32⟩
  | 14 => ⟨S2x256x8x64, .f32⟩
  | 15 => ⟨S2x1024x8x64, .f32⟩
  | 16 => ⟨S2x1024x8x64, .f32⟩
  | 17 => ⟨S2x8x256x1024, .f32⟩
  | 18 => ⟨S_, .f32⟩
  | 19 => ⟨S2x8x256x1024, .f32⟩
  | 20 => ⟨S2x8x256x1024, .f32⟩
  | 21 => ⟨S_, .f32⟩
  | 22 => ⟨S2x8x256, .f32⟩
  | 23 => ⟨S2x8x256x1, .f32⟩
  | 24 => ⟨S2x8x256x1, .f32⟩
  | 25 => ⟨S2x8x256x1, .f32⟩
  | 26 => ⟨S2x8x256x1, .f32⟩
  | 27 => ⟨S2x8x256x1024, .f32⟩
  | 28 => ⟨S2x8x256x1024, .f32⟩
  | 29 => ⟨S2x8x256x1024, .f32⟩
  | 30 => ⟨S2x8x256x1, .f32⟩
  | 31 => ⟨S_, .f32⟩
  | 32 => ⟨S2x8x256, .f32⟩
  | 33 => ⟨S2x8x256x1, .f32⟩
  | 34 => ⟨S2x8x256x1, .f32⟩
  | 35 => ⟨S2x256x8x1, .f32⟩
  | 36 => ⟨S2x256x8x64, .f32⟩
  | 37 => ⟨S2x256x8x64, .f32⟩
  | 38 => ⟨S2x8x64x256, .f32⟩
  | 39 => ⟨S2x256x8x64, .f32⟩
  | 40 => ⟨S2x256x8x64, .f32⟩
  | 41 => ⟨S2x1024x8x64, .f32⟩
  | 42 => ⟨S2x1024x8x64, .f32⟩
  | 43 => ⟨S2x8x256x1024, .f32⟩
  | 44 => ⟨S_, .f32⟩
  | 45 => ⟨S2x8x256x1024, .f32⟩
  | 46 => ⟨S2x8x256x1024, .f32⟩
  | 47 => ⟨S_, .f32⟩
  | 48 => ⟨S2x8x256, .f32⟩
  | 49 => ⟨S2x8x256x1, .f32⟩
  | 50 => ⟨S2x8x256x1, .f32⟩
  | 51 => ⟨S2x8x256x1, .f32⟩
  | 52 => ⟨S2x8x256x1, .f32⟩
  | 53 => ⟨S2x8x256x1024, .f32⟩
  | 54 => ⟨S2x8x256x1024, .f32⟩
  | 55 => ⟨S2x8x256x1024, .f32⟩
  | 56 => ⟨S2x8x256x1, .f32⟩
  | 57 => ⟨S_, .f32⟩
  | 58 => ⟨S2x8x256, .f32⟩
  | 59 => ⟨S2x8x256x1, .f32⟩
  | 60 => ⟨S2x8x256x1, .f32⟩
  | 61 => ⟨S2x256x8x1, .f32⟩
  | 62 => ⟨S2x256x8x64, .f32⟩
  | 63 => ⟨S2x256x8x64, .f32⟩
  | 64 => ⟨S2x8x64x256, .f32⟩
  | 65 => ⟨S2x256x8x64, .f32⟩
  | 66 => ⟨S2x256x8x64, .f32⟩
  | 67 => ⟨S2x1024x8x64, .f32⟩
  | 68 => ⟨S2x1024x8x64, .f32⟩
  | 69 => ⟨S2x8x256x1024, .f32⟩
  | 70 => ⟨S_, .f32⟩
  | 71 => ⟨S2x8x256x1024, .f32⟩
  | 72 => ⟨S2x8x256x1024, .f32⟩
  | 73 => ⟨S_, .f32⟩
  | 74 => ⟨S2x8x256, .f32⟩
  | 75 => ⟨S2x8x256x1, .f32⟩
  | 76 => ⟨S2x8x256x1, .f32⟩
  | 77 => ⟨S2x8x256x1, .f32⟩
  | 78 => ⟨S2x8x256x1, .f32⟩
  | 79 => ⟨S2x8x256x1024, .f32⟩
  | 80 => ⟨S2x8x256x1024, .f32⟩
  | 81 => ⟨S2x8x256x1024, .f32⟩
  | 82 => ⟨S2x8x256x1, .f32⟩
  | 83 => ⟨S_, .f32⟩
  | 84 => ⟨S2x8x256, .f32⟩
  | 85 => ⟨S2x8x256x1, .f32⟩
  | 86 => ⟨S2x8x256x1, .f32⟩
  | 87 => ⟨S2x256x8x1, .f32⟩
  | 88 => ⟨S2x256x8x64, .f32⟩
  | 89 => ⟨S2x256x8x64, .f32⟩
  | 90 => ⟨S2x8x64x256, .f32⟩
  | 91 => ⟨S2x256x8x64, .f32⟩
  | 92 => ⟨S2x256x8x64, .f32⟩
  | 93 => ⟨S2x1024x8x64, .f32⟩
  | 94 => ⟨S2x1024x8x64, .f32⟩
  | 95 => ⟨S2x8x256x1024, .f32⟩
  | 96 => ⟨S_, .f32⟩
  | 97 => ⟨S2x8x256x1024, .f32⟩
  | 98 => ⟨S2x8x256x1024, .f32⟩
  | 99 => ⟨S_, .f32⟩
  | 100 => ⟨S2x8x256, .f32⟩
  | 101 => ⟨S2x8x256x1, .f32⟩
  | 102 => ⟨S2x8x256x1, .f32⟩
  | 103 => ⟨S2x8x256x1, .f32⟩
  | 104 => ⟨S2x8x256x1, .f32⟩
  | 105 => ⟨S2x8x256x1024, .f32⟩
  | 106 => ⟨S2x8x256x1024, .f32⟩
  | 107 => ⟨S2x8x256x1024, .f32⟩
  | 108 => ⟨S2x8x256x1, .f32⟩
  | 109 => ⟨S_, .f32⟩
  | 110 => ⟨S2x8x256, .f32⟩
  | 111 => ⟨S2x8x256x1, .f32⟩
  | 112 => ⟨S2x8x256x1, .f32⟩
  | 113 => ⟨S2x256x8x1, .f32⟩
  | 114 => ⟨S2x256x8x64, .f32⟩
  | 115 => ⟨S2x256x8x64, .f32⟩
  | 116 => ⟨S2x8x64x256, .f32⟩
  | 117 => ⟨S2x256x8x64, .f32⟩
  | 118 => ⟨S2x256x8x64, .f32⟩
  | 119 => ⟨S2x1024x8x64, .f32⟩
  | 120 => ⟨S2x1024x8x64, .f32⟩
  | 121 => ⟨S2x8x256x1024, .f32⟩
  | 122 => ⟨S_, .f32⟩
  | 123 => ⟨S2x8x256x1024, .f32⟩
  | 124 => ⟨S2x8x256x1024, .f32⟩
  | 125 => ⟨S_, .f32⟩
  | 126 => ⟨S2x8x256, .f32⟩
  | 127 => ⟨S2x8x256x1, .f32⟩
  | _ => ⟨S2x256x768, .f32⟩

abbrev hbmTy0_2 (i : Nat) : BufTy := match i % 128 with
  | 0 => ⟨S2x8x256x1, .f32⟩
  | 1 => ⟨S2x8x256x1, .f32⟩
  | 2 => ⟨S2x8x256x1, .f32⟩
  | 3 => ⟨S2x8x256x1024, .f32⟩
  | 4 => ⟨S2x8x256x1024, .f32⟩
  | 5 => ⟨S2x8x256x1024, .f32⟩
  | 6 => ⟨S2x8x256x1, .f32⟩
  | 7 => ⟨S_, .f32⟩
  | 8 => ⟨S2x8x256, .f32⟩
  | 9 => ⟨S2x8x256x1, .f32⟩
  | 10 => ⟨S2x8x256x1, .f32⟩
  | 11 => ⟨S2x256x8x1, .f32⟩
  | 12 => ⟨S2x256x8x64, .f32⟩
  | 13 => ⟨S2x256x8x64, .f32⟩
  | 14 => ⟨S2x8x64x256, .f32⟩
  | 15 => ⟨S2x256x8x64, .f32⟩
  | 16 => ⟨S2x256x8x64, .f32⟩
  | 17 => ⟨S2x1024x8x64, .f32⟩
  | 18 => ⟨S2x1024x8x64, .f32⟩
  | 19 => ⟨S2x8x256x1024, .f32⟩
  | 20 => ⟨S_, .f32⟩
  | 21 => ⟨S2x8x256x1024, .f32⟩
  | 22 => ⟨S2x8x256x1024, .f32⟩
  | 23 => ⟨S_, .f32⟩
  | 24 => ⟨S2x8x256, .f32⟩
  | 25 => ⟨S2x8x256x1, .f32⟩
  | 26 => ⟨S2x8x256x1, .f32⟩
  | 27 => ⟨S2x8x256x1, .f32⟩
  | 28 => ⟨S2x8x256x1, .f32⟩
  | 29 => ⟨S2x8x256x1024, .f32⟩
  | 30 => ⟨S2x8x256x1024, .f32⟩
  | 31 => ⟨S2x8x256x1024, .f32⟩
  | 32 => ⟨S2x8x256x1, .f32⟩
  | 33 => ⟨S_, .f32⟩
  | 34 => ⟨S2x8x256, .f32⟩
  | 35 => ⟨S2x8x256x1, .f32⟩
  | 36 => ⟨S2x8x256x1, .f32⟩
  | 37 => ⟨S2x256x8x1, .f32⟩
  | 38 => ⟨S2x256x8x64, .f32⟩
  | 39 => ⟨S2x256x8x64, .f32⟩
  | 40 => ⟨S2x8x64x256, .f32⟩
  | 41 => ⟨S2x256x8x64, .f32⟩
  | 42 => ⟨S2x256x8x64, .f32⟩
  | 43 => ⟨S2x1024x8x64, .f32⟩
  | 44 => ⟨S2x1024x8x64, .f32⟩
  | 45 => ⟨S2x8x256x1024, .f32⟩
  | 46 => ⟨S_, .f32⟩
  | 47 => ⟨S2x8x256x1024, .f32⟩
  | 48 => ⟨S2x8x256x1024, .f32⟩
  | 49 => ⟨S_, .f32⟩
  | 50 => ⟨S2x8x256, .f32⟩
  | 51 => ⟨S2x8x256x1, .f32⟩
  | 52 => ⟨S2x8x256x1, .f32⟩
  | 53 => ⟨S2x8x256x1, .f32⟩
  | 54 => ⟨S2x8x256x1, .f32⟩
  | 55 => ⟨S2x8x256x1024, .f32⟩
  | 56 => ⟨S2x8x256x1024, .f32⟩
  | 57 => ⟨S2x8x256x1024, .f32⟩
  | 58 => ⟨S2x8x256x1, .f32⟩
  | 59 => ⟨S_, .f32⟩
  | 60 => ⟨S2x8x256, .f32⟩
  | 61 => ⟨S2x8x256x1, .f32⟩
  | 62 => ⟨S2x8x256x1, .f32⟩
  | 63 => ⟨S2x256x8x1, .f32⟩
  | 64 => ⟨S2x256x8x64, .f32⟩
  | 65 => ⟨S2x256x8x64, .f32⟩
  | 66 => ⟨S2x8x64x256, .f32⟩
  | 67 => ⟨S2x256x8x64, .f32⟩
  | 68 => ⟨S2x256x8x64, .f32⟩
  | 69 => ⟨S2x1024x8x64, .f32⟩
  | 70 => ⟨S2x1024x8x64, .f32⟩
  | 71 => ⟨S2x8x256x1024, .f32⟩
  | 72 => ⟨S_, .f32⟩
  | 73 => ⟨S2x8x256x1024, .f32⟩
  | 74 => ⟨S2x8x256x1024, .f32⟩
  | 75 => ⟨S_, .f32⟩
  | 76 => ⟨S2x8x256, .f32⟩
  | 77 => ⟨S2x8x256x1, .f32⟩
  | 78 => ⟨S2x8x256x1, .f32⟩
  | 79 => ⟨S2x8x256x1, .f32⟩
  | 80 => ⟨S2x8x256x1, .f32⟩
  | 81 => ⟨S2x8x256x1024, .f32⟩
  | 82 => ⟨S2x8x256x1024, .f32⟩
  | 83 => ⟨S2x8x256x1024, .f32⟩
  | 84 => ⟨S2x8x256x1, .f32⟩
  | 85 => ⟨S_, .f32⟩
  | 86 => ⟨S2x8x256, .f32⟩
  | 87 => ⟨S2x8x256x1, .f32⟩
  | 88 => ⟨S2x8x256x1, .f32⟩
  | 89 => ⟨S2x256x8x1, .f32⟩
  | 90 => ⟨S2x256x8x64, .f32⟩
  | 91 => ⟨S2x256x8x64, .f32⟩
  | 92 => ⟨S2x8x64x256, .f32⟩
  | 93 => ⟨S2x256x8x64, .f32⟩
  | 94 => ⟨S2x256x8x64, .f32⟩
  | 95 => ⟨S2x1024x8x64, .f32⟩
  | 96 => ⟨S2x1024x8x64, .f32⟩
  | 97 => ⟨S2x8x256x1024, .f32⟩
  | 98 => ⟨S_, .f32⟩
  | 99 => ⟨S2x8x256x1024, .f32⟩
  | 100 => ⟨S2x8x256x1024, .f32⟩
  | 101 => ⟨S_, .f32⟩
  | 102 => ⟨S2x8x256, .f32⟩
  | 103 => ⟨S2x8x256x1, .f32⟩
  | 104 => ⟨S2x8x256x1, .f32⟩
  | 105 => ⟨S2x8x256x1, .f32⟩
  | 106 => ⟨S2x8x256x1, .f32⟩
  | 107 => ⟨S2x8x256x1024, .f32⟩
  | 108 => ⟨S2x8x256x1024, .f32⟩
  | 109 => ⟨S2x8x256x1024, .f32⟩
  | 110 => ⟨S2x8x256x1, .f32⟩
  | 111 => ⟨S_, .f32⟩
  | 112 => ⟨S2x8x256, .f32⟩
  | 113 => ⟨S2x8x256x1, .f32⟩
  | 114 => ⟨S2x8x256x1, .f32⟩
  | 115 => ⟨S2x256x8x1, .f32⟩
  | 116 => ⟨S2x256x8x64, .f32⟩
  | 117 => ⟨S2x256x8x64, .f32⟩
  | 118 => ⟨S2x8x64x256, .f32⟩
  | 119 => ⟨S2x256x8x64, .f32⟩
  | 120 => ⟨S2x256x8x64, .f32⟩
  | 121 => ⟨S2x1024x8x64, .f32⟩
  | 122 => ⟨S2x1024x8x64, .f32⟩
  | 123 => ⟨S2x8x256x1024, .f32⟩
  | 124 => ⟨S_, .f32⟩
  | 125 => ⟨S2x8x256x1024, .f32⟩
  | 126 => ⟨S2x8x256x1024, .f32⟩
  | 127 => ⟨S_, .f32⟩
  | _ => ⟨S2x256x768, .f32⟩

abbrev hbmTy0_3 (i : Nat) : BufTy := match i % 128 with
  | 0 => ⟨S2x8x256, .f32⟩
  | 1 => ⟨S2x8x256x1, .f32⟩
  | 2 => ⟨S2x8x256x1, .f32⟩
  | 3 => ⟨S2x8x256x1, .f32⟩
  | 4 => ⟨S2x8x256x1, .f32⟩
  | 5 => ⟨S2x8x256x1024, .f32⟩
  | 6 => ⟨S2x8x256x1024, .f32⟩
  | 7 => ⟨S2x8x256x1024, .f32⟩
  | 8 => ⟨S2x8x256x1, .f32⟩
  | 9 => ⟨S_, .f32⟩
  | 10 => ⟨S2x8x256, .f32⟩
  | 11 => ⟨S2x8x256x1, .f32⟩
  | 12 => ⟨S2x8x256x1, .f32⟩
  | 13 => ⟨S2x256x8x1, .f32⟩
  | 14 => ⟨S2x256x8x64, .f32⟩
  | 15 => ⟨S2x256x8x64, .f32⟩
  | 16 => ⟨S2x8x64x256, .f32⟩
  | 17 => ⟨S2x256x8x64, .f32⟩
  | 18 => ⟨S2x256x8x64, .f32⟩
  | 19 => ⟨S2x1024x8x64, .f32⟩
  | 20 => ⟨S2x1024x8x64, .f32⟩
  | 21 => ⟨S2x8x256x1024, .f32⟩
  | 22 => ⟨S_, .f32⟩
  | 23 => ⟨S2x8x256x1024, .f32⟩
  | 24 => ⟨S2x8x256x1024, .f32⟩
  | 25 => ⟨S_, .f32⟩
  | 26 => ⟨S2x8x256, .f32⟩
  | 27 => ⟨S2x8x256x1, .f32⟩
  | 28 => ⟨S2x8x256x1, .f32⟩
  | 29 => ⟨S2x8x256x1, .f32⟩
  | 30 => ⟨S2x8x256x1, .f32⟩
  | 31 => ⟨S2x8x256x1024, .f32⟩
  | 32 => ⟨S2x8x256x1024, .f32⟩
  | 33 => ⟨S2x8x256x1024, .f32⟩
  | 34 => ⟨S2x8x256x1, .f32⟩
  | 35 => ⟨S_, .f32⟩
  | 36 => ⟨S2x8x256, .f32⟩
  | 37 => ⟨S2x8x256x1, .f32⟩
  | 38 => ⟨S2x8x256x1, .f32⟩
  | 39 => ⟨S2x256x8x1, .f32⟩
  | 40 => ⟨S2x256x8x64, .f32⟩
  | 41 => ⟨S2x256x8x64, .f32⟩
  | 42 => ⟨S2x8x64x256, .f32⟩
  | 43 => ⟨S2x256x8x64, .f32⟩
  | 44 => ⟨S2x256x8x64, .f32⟩
  | 45 => ⟨S2x256x8x1, .f32⟩
  | 46 => ⟨S2x256x8x64, .f32⟩
  | 47 => ⟨S2x256x8x64, .f32⟩
  | 48 => ⟨S2x256x512, .f32⟩
  | 49 => ⟨S2x256x768, .f32⟩
  | _ => ⟨S2x256x768, .f32⟩

abbrev hbmTy (i : Nat) : BufTy := match i / 128 with
  | 0 => hbmTy0_0 i
  | 1 => hbmTy0_1 i
  | 2 => hbmTy0_2 i
  | 3 => hbmTy0_3 i
  | _ => ⟨S2x256x768, .f32⟩

abbrev bufTy : (tb : Table) → Fin (tcTables nBuf tb) → BufTy
  | .hbm, ⟨i, _⟩ => hbmTy i
  | _, _ => ⟨S2x256x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_7 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_cst_8 : Ref sig .tc := ⟨.hbm, 68, rfl⟩
abbrev main_v54 : Ref sig .tc := ⟨.hbm, 69, rfl⟩
abbrev main_v55 : Ref sig .tc := ⟨.hbm, 70, rfl⟩
abbrev main_cst_9 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_cst_10 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_cst_11 : Ref sig .tc := ⟨.hbm, 94, rfl⟩
abbrev main_v77 : Ref sig .tc := ⟨.hbm, 95, rfl⟩
abbrev main_v78 : Ref sig .tc := ⟨.hbm, 96, rfl⟩
abbrev main_cst_12 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_cst_13 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_cst_14 : Ref sig .tc := ⟨.hbm, 120, rfl⟩
abbrev main_v100 : Ref sig .tc := ⟨.hbm, 121, rfl⟩
abbrev main_v101 : Ref sig .tc := ⟨.hbm, 122, rfl⟩
abbrev main_cst_15 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev main_cst_16 : Ref sig .tc := ⟨.hbm, 133, rfl⟩
abbrev main_v111 : Ref sig .tc := ⟨.hbm, 134, rfl⟩
abbrev main_v112 : Ref sig .tc := ⟨.hbm, 135, rfl⟩
abbrev main_v113 : Ref sig .tc := ⟨.hbm, 136, rfl⟩
abbrev main_v114 : Ref sig .tc := ⟨.hbm, 137, rfl⟩
abbrev main_v115 : Ref sig .tc := ⟨.hbm, 138, rfl⟩
abbrev main_v116 : Ref sig .tc := ⟨.hbm, 139, rfl⟩
abbrev main_v117 : Ref sig .tc := ⟨.hbm, 140, rfl⟩
abbrev main_v118 : Ref sig .tc := ⟨.hbm, 141, rfl⟩
abbrev main_v119 : Ref sig .tc := ⟨.hbm, 142, rfl⟩
abbrev main_v120 : Ref sig .tc := ⟨.hbm, 143, rfl⟩
abbrev main_v121 : Ref sig .tc := ⟨.hbm, 144, rfl⟩
abbrev main_v122 : Ref sig .tc := ⟨.hbm, 145, rfl⟩
abbrev main_cst_17 : Ref sig .tc := ⟨.hbm, 146, rfl⟩
abbrev main_v123 : Ref sig .tc := ⟨.hbm, 147, rfl⟩
abbrev main_v124 : Ref sig .tc := ⟨.hbm, 148, rfl⟩
abbrev main_cst_18 : Ref sig .tc := ⟨.hbm, 149, rfl⟩
abbrev main_v125 : Ref sig .tc := ⟨.hbm, 150, rfl⟩
abbrev main_v126 : Ref sig .tc := ⟨.hbm, 151, rfl⟩
abbrev main_v127 : Ref sig .tc := ⟨.hbm, 152, rfl⟩
abbrev main_v128 : Ref sig .tc := ⟨.hbm, 153, rfl⟩
abbrev main_v129 : Ref sig .tc := ⟨.hbm, 154, rfl⟩
abbrev main_v130 : Ref sig .tc := ⟨.hbm, 155, rfl⟩
abbrev main_v131 : Ref sig .tc := ⟨.hbm, 156, rfl⟩
abbrev main_v132 : Ref sig .tc := ⟨.hbm, 157, rfl⟩
abbrev main_v133 : Ref sig .tc := ⟨.hbm, 158, rfl⟩
abbrev main_cst_19 : Ref sig .tc := ⟨.hbm, 159, rfl⟩
abbrev main_v134 : Ref sig .tc := ⟨.hbm, 160, rfl⟩
abbrev main_v135 : Ref sig .tc := ⟨.hbm, 161, rfl⟩
abbrev main_v136 : Ref sig .tc := ⟨.hbm, 162, rfl⟩
abbrev main_v137 : Ref sig .tc := ⟨.hbm, 163, rfl⟩
abbrev main_v138 : Ref sig .tc := ⟨.hbm, 164, rfl⟩
abbrev main_v139 : Ref sig .tc := ⟨.hbm, 165, rfl⟩
abbrev main_v140 : Ref sig .tc := ⟨.hbm, 166, rfl⟩
abbrev main_v141 : Ref sig .tc := ⟨.hbm, 167, rfl⟩
abbrev main_v142 : Ref sig .tc := ⟨.hbm, 168, rfl⟩
abbrev main_v143 : Ref sig .tc := ⟨.hbm, 169, rfl⟩
abbrev main_v144 : Ref sig .tc := ⟨.hbm, 170, rfl⟩
abbrev main_v145 : Ref sig .tc := ⟨.hbm, 171, rfl⟩
abbrev main_cst_20 : Ref sig .tc := ⟨.hbm, 172, rfl⟩
abbrev main_v146 : Ref sig .tc := ⟨.hbm, 173, rfl⟩
abbrev main_v147 : Ref sig .tc := ⟨.hbm, 174, rfl⟩
abbrev main_cst_21 : Ref sig .tc := ⟨.hbm, 175, rfl⟩
abbrev main_v148 : Ref sig .tc := ⟨.hbm, 176, rfl⟩
abbrev main_v149 : Ref sig .tc := ⟨.hbm, 177, rfl⟩
abbrev main_v150 : Ref sig .tc := ⟨.hbm, 178, rfl⟩
abbrev main_v151 : Ref sig .tc := ⟨.hbm, 179, rfl⟩
abbrev main_v152 : Ref sig .tc := ⟨.hbm, 180, rfl⟩
abbrev main_v153 : Ref sig .tc := ⟨.hbm, 181, rfl⟩
abbrev main_v154 : Ref sig .tc := ⟨.hbm, 182, rfl⟩
abbrev main_v155 : Ref sig .tc := ⟨.hbm, 183, rfl⟩
abbrev main_v156 : Ref sig .tc := ⟨.hbm, 184, rfl⟩
abbrev main_cst_22 : Ref sig .tc := ⟨.hbm, 185, rfl⟩
abbrev main_v157 : Ref sig .tc := ⟨.hbm, 186, rfl⟩
abbrev main_v158 : Ref sig .tc := ⟨.hbm, 187, rfl⟩
abbrev main_v159 : Ref sig .tc := ⟨.hbm, 188, rfl⟩
abbrev main_v160 : Ref sig .tc := ⟨.hbm, 189, rfl⟩
abbrev main_v161 : Ref sig .tc := ⟨.hbm, 190, rfl⟩
abbrev main_v162 : Ref sig .tc := ⟨.hbm, 191, rfl⟩
abbrev main_v163 : Ref sig .tc := ⟨.hbm, 192, rfl⟩
abbrev main_v164 : Ref sig .tc := ⟨.hbm, 193, rfl⟩
abbrev main_v165 : Ref sig .tc := ⟨.hbm, 194, rfl⟩
abbrev main_v166 : Ref sig .tc := ⟨.hbm, 195, rfl⟩
abbrev main_v167 : Ref sig .tc := ⟨.hbm, 196, rfl⟩
abbrev main_v168 : Ref sig .tc := ⟨.hbm, 197, rfl⟩
abbrev main_cst_23 : Ref sig .tc := ⟨.hbm, 198, rfl⟩
abbrev main_v169 : Ref sig .tc := ⟨.hbm, 199, rfl⟩
abbrev main_v170 : Ref sig .tc := ⟨.hbm, 200, rfl⟩
abbrev main_cst_24 : Ref sig .tc := ⟨.hbm, 201, rfl⟩
abbrev main_v171 : Ref sig .tc := ⟨.hbm, 202, rfl⟩
abbrev main_v172 : Ref sig .tc := ⟨.hbm, 203, rfl⟩
abbrev main_v173 : Ref sig .tc := ⟨.hbm, 204, rfl⟩
abbrev main_v174 : Ref sig .tc := ⟨.hbm, 205, rfl⟩
abbrev main_v175 : Ref sig .tc := ⟨.hbm, 206, rfl⟩
abbrev main_v176 : Ref sig .tc := ⟨.hbm, 207, rfl⟩
abbrev main_v177 : Ref sig .tc := ⟨.hbm, 208, rfl⟩
abbrev main_v178 : Ref sig .tc := ⟨.hbm, 209, rfl⟩
abbrev main_v179 : Ref sig .tc := ⟨.hbm, 210, rfl⟩
abbrev main_cst_25 : Ref sig .tc := ⟨.hbm, 211, rfl⟩
abbrev main_v180 : Ref sig .tc := ⟨.hbm, 212, rfl⟩
abbrev main_v181 : Ref sig .tc := ⟨.hbm, 213, rfl⟩
abbrev main_v182 : Ref sig .tc := ⟨.hbm, 214, rfl⟩
abbrev main_v183 : Ref sig .tc := ⟨.hbm, 215, rfl⟩
abbrev main_v184 : Ref sig .tc := ⟨.hbm, 216, rfl⟩
abbrev main_v185 : Ref sig .tc := ⟨.hbm, 217, rfl⟩
abbrev main_v186 : Ref sig .tc := ⟨.hbm, 218, rfl⟩
abbrev main_v187 : Ref sig .tc := ⟨.hbm, 219, rfl⟩
abbrev main_v188 : Ref sig .tc := ⟨.hbm, 220, rfl⟩
abbrev main_v189 : Ref sig .tc := ⟨.hbm, 221, rfl⟩
abbrev main_v190 : Ref sig .tc := ⟨.hbm, 222, rfl⟩
abbrev main_v191 : Ref sig .tc := ⟨.hbm, 223, rfl⟩
abbrev main_cst_26 : Ref sig .tc := ⟨.hbm, 224, rfl⟩
abbrev main_v192 : Ref sig .tc := ⟨.hbm, 225, rfl⟩
abbrev main_v193 : Ref sig .tc := ⟨.hbm, 226, rfl⟩
abbrev main_cst_27 : Ref sig .tc := ⟨.hbm, 227, rfl⟩
abbrev main_v194 : Ref sig .tc := ⟨.hbm, 228, rfl⟩
abbrev main_v195 : Ref sig .tc := ⟨.hbm, 229, rfl⟩
abbrev main_v196 : Ref sig .tc := ⟨.hbm, 230, rfl⟩
abbrev main_v197 : Ref sig .tc := ⟨.hbm, 231, rfl⟩
abbrev main_v198 : Ref sig .tc := ⟨.hbm, 232, rfl⟩
abbrev main_v199 : Ref sig .tc := ⟨.hbm, 233, rfl⟩
abbrev main_v200 : Ref sig .tc := ⟨.hbm, 234, rfl⟩
abbrev main_v201 : Ref sig .tc := ⟨.hbm, 235, rfl⟩
abbrev main_v202 : Ref sig .tc := ⟨.hbm, 236, rfl⟩
abbrev main_cst_28 : Ref sig .tc := ⟨.hbm, 237, rfl⟩
abbrev main_v203 : Ref sig .tc := ⟨.hbm, 238, rfl⟩
abbrev main_v204 : Ref sig .tc := ⟨.hbm, 239, rfl⟩
abbrev main_v205 : Ref sig .tc := ⟨.hbm, 240, rfl⟩
abbrev main_v206 : Ref sig .tc := ⟨.hbm, 241, rfl⟩
abbrev main_v207 : Ref sig .tc := ⟨.hbm, 242, rfl⟩
abbrev main_v208 : Ref sig .tc := ⟨.hbm, 243, rfl⟩
abbrev main_v209 : Ref sig .tc := ⟨.hbm, 244, rfl⟩
abbrev main_v210 : Ref sig .tc := ⟨.hbm, 245, rfl⟩
abbrev main_v211 : Ref sig .tc := ⟨.hbm, 246, rfl⟩
abbrev main_v212 : Ref sig .tc := ⟨.hbm, 247, rfl⟩
abbrev main_v213 : Ref sig .tc := ⟨.hbm, 248, rfl⟩
abbrev main_v214 : Ref sig .tc := ⟨.hbm, 249, rfl⟩
abbrev main_cst_29 : Ref sig .tc := ⟨.hbm, 250, rfl⟩
abbrev main_v215 : Ref sig .tc := ⟨.hbm, 251, rfl⟩
abbrev main_v216 : Ref sig .tc := ⟨.hbm, 252, rfl⟩
abbrev main_cst_30 : Ref sig .tc := ⟨.hbm, 253, rfl⟩
abbrev main_v217 : Ref sig .tc := ⟨.hbm, 254, rfl⟩
abbrev main_v218 : Ref sig .tc := ⟨.hbm, 255, rfl⟩
abbrev main_v219 : Ref sig .tc := ⟨.hbm, 256, rfl⟩
abbrev main_v220 : Ref sig .tc := ⟨.hbm, 257, rfl⟩
abbrev main_v221 : Ref sig .tc := ⟨.hbm, 258, rfl⟩
abbrev main_v222 : Ref sig .tc := ⟨.hbm, 259, rfl⟩
abbrev main_v223 : Ref sig .tc := ⟨.hbm, 260, rfl⟩
abbrev main_v224 : Ref sig .tc := ⟨.hbm, 261, rfl⟩
abbrev main_v225 : Ref sig .tc := ⟨.hbm, 262, rfl⟩
abbrev main_cst_31 : Ref sig .tc := ⟨.hbm, 263, rfl⟩
abbrev main_v226 : Ref sig .tc := ⟨.hbm, 264, rfl⟩
abbrev main_v227 : Ref sig .tc := ⟨.hbm, 265, rfl⟩
abbrev main_v228 : Ref sig .tc := ⟨.hbm, 266, rfl⟩
abbrev main_v229 : Ref sig .tc := ⟨.hbm, 267, rfl⟩
abbrev main_v230 : Ref sig .tc := ⟨.hbm, 268, rfl⟩
abbrev main_v231 : Ref sig .tc := ⟨.hbm, 269, rfl⟩
abbrev main_v232 : Ref sig .tc := ⟨.hbm, 270, rfl⟩
abbrev main_v233 : Ref sig .tc := ⟨.hbm, 271, rfl⟩
abbrev main_v234 : Ref sig .tc := ⟨.hbm, 272, rfl⟩
abbrev main_v235 : Ref sig .tc := ⟨.hbm, 273, rfl⟩
abbrev main_v236 : Ref sig .tc := ⟨.hbm, 274, rfl⟩
abbrev main_v237 : Ref sig .tc := ⟨.hbm, 275, rfl⟩
abbrev main_cst_32 : Ref sig .tc := ⟨.hbm, 276, rfl⟩
abbrev main_v238 : Ref sig .tc := ⟨.hbm, 277, rfl⟩
abbrev main_v239 : Ref sig .tc := ⟨.hbm, 278, rfl⟩
abbrev main_cst_33 : Ref sig .tc := ⟨.hbm, 279, rfl⟩
abbrev main_v240 : Ref sig .tc := ⟨.hbm, 280, rfl⟩
abbrev main_v241 : Ref sig .tc := ⟨.hbm, 281, rfl⟩
abbrev main_v242 : Ref sig .tc := ⟨.hbm, 282, rfl⟩
abbrev main_v243 : Ref sig .tc := ⟨.hbm, 283, rfl⟩
abbrev main_v244 : Ref sig .tc := ⟨.hbm, 284, rfl⟩
abbrev main_v245 : Ref sig .tc := ⟨.hbm, 285, rfl⟩
abbrev main_v246 : Ref sig .tc := ⟨.hbm, 286, rfl⟩
abbrev main_v247 : Ref sig .tc := ⟨.hbm, 287, rfl⟩
abbrev main_v248 : Ref sig .tc := ⟨.hbm, 288, rfl⟩
abbrev main_cst_34 : Ref sig .tc := ⟨.hbm, 289, rfl⟩
abbrev main_v249 : Ref sig .tc := ⟨.hbm, 290, rfl⟩
abbrev main_v250 : Ref sig .tc := ⟨.hbm, 291, rfl⟩
abbrev main_v251 : Ref sig .tc := ⟨.hbm, 292, rfl⟩
abbrev main_v252 : Ref sig .tc := ⟨.hbm, 293, rfl⟩
abbrev main_v253 : Ref sig .tc := ⟨.hbm, 294, rfl⟩
abbrev main_v254 : Ref sig .tc := ⟨.hbm, 295, rfl⟩
abbrev main_v255 : Ref sig .tc := ⟨.hbm, 296, rfl⟩
abbrev main_v256 : Ref sig .tc := ⟨.hbm, 297, rfl⟩
abbrev main_v257 : Ref sig .tc := ⟨.hbm, 298, rfl⟩
abbrev main_v258 : Ref sig .tc := ⟨.hbm, 299, rfl⟩
abbrev main_v259 : Ref sig .tc := ⟨.hbm, 300, rfl⟩
abbrev main_v260 : Ref sig .tc := ⟨.hbm, 301, rfl⟩
abbrev main_cst_35 : Ref sig .tc := ⟨.hbm, 302, rfl⟩
abbrev main_v261 : Ref sig .tc := ⟨.hbm, 303, rfl⟩
abbrev main_v262 : Ref sig .tc := ⟨.hbm, 304, rfl⟩
abbrev main_cst_36 : Ref sig .tc := ⟨.hbm, 305, rfl⟩
abbrev main_v263 : Ref sig .tc := ⟨.hbm, 306, rfl⟩
abbrev main_v264 : Ref sig .tc := ⟨.hbm, 307, rfl⟩
abbrev main_v265 : Ref sig .tc := ⟨.hbm, 308, rfl⟩
abbrev main_v266 : Ref sig .tc := ⟨.hbm, 309, rfl⟩
abbrev main_v267 : Ref sig .tc := ⟨.hbm, 310, rfl⟩
abbrev main_v268 : Ref sig .tc := ⟨.hbm, 311, rfl⟩
abbrev main_v269 : Ref sig .tc := ⟨.hbm, 312, rfl⟩
abbrev main_v270 : Ref sig .tc := ⟨.hbm, 313, rfl⟩
abbrev main_v271 : Ref sig .tc := ⟨.hbm, 314, rfl⟩
abbrev main_cst_37 : Ref sig .tc := ⟨.hbm, 315, rfl⟩
abbrev main_v272 : Ref sig .tc := ⟨.hbm, 316, rfl⟩
abbrev main_v273 : Ref sig .tc := ⟨.hbm, 317, rfl⟩
abbrev main_v274 : Ref sig .tc := ⟨.hbm, 318, rfl⟩
abbrev main_v275 : Ref sig .tc := ⟨.hbm, 319, rfl⟩
abbrev main_v276 : Ref sig .tc := ⟨.hbm, 320, rfl⟩
abbrev main_v277 : Ref sig .tc := ⟨.hbm, 321, rfl⟩
abbrev main_v278 : Ref sig .tc := ⟨.hbm, 322, rfl⟩
abbrev main_v279 : Ref sig .tc := ⟨.hbm, 323, rfl⟩
abbrev main_v280 : Ref sig .tc := ⟨.hbm, 324, rfl⟩
abbrev main_v281 : Ref sig .tc := ⟨.hbm, 325, rfl⟩
abbrev main_v282 : Ref sig .tc := ⟨.hbm, 326, rfl⟩
abbrev main_v283 : Ref sig .tc := ⟨.hbm, 327, rfl⟩
abbrev main_cst_38 : Ref sig .tc := ⟨.hbm, 328, rfl⟩
abbrev main_v284 : Ref sig .tc := ⟨.hbm, 329, rfl⟩
abbrev main_v285 : Ref sig .tc := ⟨.hbm, 330, rfl⟩
abbrev main_cst_39 : Ref sig .tc := ⟨.hbm, 331, rfl⟩
abbrev main_v286 : Ref sig .tc := ⟨.hbm, 332, rfl⟩
abbrev main_v287 : Ref sig .tc := ⟨.hbm, 333, rfl⟩
abbrev main_v288 : Ref sig .tc := ⟨.hbm, 334, rfl⟩
abbrev main_v289 : Ref sig .tc := ⟨.hbm, 335, rfl⟩
abbrev main_v290 : Ref sig .tc := ⟨.hbm, 336, rfl⟩
abbrev main_v291 : Ref sig .tc := ⟨.hbm, 337, rfl⟩
abbrev main_v292 : Ref sig .tc := ⟨.hbm, 338, rfl⟩
abbrev main_v293 : Ref sig .tc := ⟨.hbm, 339, rfl⟩
abbrev main_v294 : Ref sig .tc := ⟨.hbm, 340, rfl⟩
abbrev main_cst_40 : Ref sig .tc := ⟨.hbm, 341, rfl⟩
abbrev main_v295 : Ref sig .tc := ⟨.hbm, 342, rfl⟩
abbrev main_v296 : Ref sig .tc := ⟨.hbm, 343, rfl⟩
abbrev main_v297 : Ref sig .tc := ⟨.hbm, 344, rfl⟩
abbrev main_v298 : Ref sig .tc := ⟨.hbm, 345, rfl⟩
abbrev main_v299 : Ref sig .tc := ⟨.hbm, 346, rfl⟩
abbrev main_v300 : Ref sig .tc := ⟨.hbm, 347, rfl⟩
abbrev main_v301 : Ref sig .tc := ⟨.hbm, 348, rfl⟩
abbrev main_v302 : Ref sig .tc := ⟨.hbm, 349, rfl⟩
abbrev main_v303 : Ref sig .tc := ⟨.hbm, 350, rfl⟩
abbrev main_v304 : Ref sig .tc := ⟨.hbm, 351, rfl⟩
abbrev main_v305 : Ref sig .tc := ⟨.hbm, 352, rfl⟩
abbrev main_v306 : Ref sig .tc := ⟨.hbm, 353, rfl⟩
abbrev main_cst_41 : Ref sig .tc := ⟨.hbm, 354, rfl⟩
abbrev main_v307 : Ref sig .tc := ⟨.hbm, 355, rfl⟩
abbrev main_v308 : Ref sig .tc := ⟨.hbm, 356, rfl⟩
abbrev main_cst_42 : Ref sig .tc := ⟨.hbm, 357, rfl⟩
abbrev main_v309 : Ref sig .tc := ⟨.hbm, 358, rfl⟩
abbrev main_v310 : Ref sig .tc := ⟨.hbm, 359, rfl⟩
abbrev main_v311 : Ref sig .tc := ⟨.hbm, 360, rfl⟩
abbrev main_v312 : Ref sig .tc := ⟨.hbm, 361, rfl⟩
abbrev main_v313 : Ref sig .tc := ⟨.hbm, 362, rfl⟩
abbrev main_v314 : Ref sig .tc := ⟨.hbm, 363, rfl⟩
abbrev main_v315 : Ref sig .tc := ⟨.hbm, 364, rfl⟩
abbrev main_v316 : Ref sig .tc := ⟨.hbm, 365, rfl⟩
abbrev main_v317 : Ref sig .tc := ⟨.hbm, 366, rfl⟩
abbrev main_cst_43 : Ref sig .tc := ⟨.hbm, 367, rfl⟩
abbrev main_v318 : Ref sig .tc := ⟨.hbm, 368, rfl⟩
abbrev main_v319 : Ref sig .tc := ⟨.hbm, 369, rfl⟩
abbrev main_v320 : Ref sig .tc := ⟨.hbm, 370, rfl⟩
abbrev main_v321 : Ref sig .tc := ⟨.hbm, 371, rfl⟩
abbrev main_v322 : Ref sig .tc := ⟨.hbm, 372, rfl⟩
abbrev main_v323 : Ref sig .tc := ⟨.hbm, 373, rfl⟩
abbrev main_v324 : Ref sig .tc := ⟨.hbm, 374, rfl⟩
abbrev main_v325 : Ref sig .tc := ⟨.hbm, 375, rfl⟩
abbrev main_v326 : Ref sig .tc := ⟨.hbm, 376, rfl⟩
abbrev main_v327 : Ref sig .tc := ⟨.hbm, 377, rfl⟩
abbrev main_v328 : Ref sig .tc := ⟨.hbm, 378, rfl⟩
abbrev main_v329 : Ref sig .tc := ⟨.hbm, 379, rfl⟩
abbrev main_cst_44 : Ref sig .tc := ⟨.hbm, 380, rfl⟩
abbrev main_v330 : Ref sig .tc := ⟨.hbm, 381, rfl⟩
abbrev main_v331 : Ref sig .tc := ⟨.hbm, 382, rfl⟩
abbrev main_cst_45 : Ref sig .tc := ⟨.hbm, 383, rfl⟩
abbrev main_v332 : Ref sig .tc := ⟨.hbm, 384, rfl⟩
abbrev main_v333 : Ref sig .tc := ⟨.hbm, 385, rfl⟩
abbrev main_v334 : Ref sig .tc := ⟨.hbm, 386, rfl⟩
abbrev main_v335 : Ref sig .tc := ⟨.hbm, 387, rfl⟩
abbrev main_v336 : Ref sig .tc := ⟨.hbm, 388, rfl⟩
abbrev main_v337 : Ref sig .tc := ⟨.hbm, 389, rfl⟩
abbrev main_v338 : Ref sig .tc := ⟨.hbm, 390, rfl⟩
abbrev main_v339 : Ref sig .tc := ⟨.hbm, 391, rfl⟩
abbrev main_v340 : Ref sig .tc := ⟨.hbm, 392, rfl⟩
abbrev main_cst_46 : Ref sig .tc := ⟨.hbm, 393, rfl⟩
abbrev main_v341 : Ref sig .tc := ⟨.hbm, 394, rfl⟩
abbrev main_v342 : Ref sig .tc := ⟨.hbm, 395, rfl⟩
abbrev main_v343 : Ref sig .tc := ⟨.hbm, 396, rfl⟩
abbrev main_v344 : Ref sig .tc := ⟨.hbm, 397, rfl⟩
abbrev main_v345 : Ref sig .tc := ⟨.hbm, 398, rfl⟩
abbrev main_v346 : Ref sig .tc := ⟨.hbm, 399, rfl⟩
abbrev main_v347 : Ref sig .tc := ⟨.hbm, 400, rfl⟩
abbrev main_v348 : Ref sig .tc := ⟨.hbm, 401, rfl⟩
abbrev main_v349 : Ref sig .tc := ⟨.hbm, 402, rfl⟩
abbrev main_v350 : Ref sig .tc := ⟨.hbm, 403, rfl⟩
abbrev main_v351 : Ref sig .tc := ⟨.hbm, 404, rfl⟩
abbrev main_v352 : Ref sig .tc := ⟨.hbm, 405, rfl⟩
abbrev main_cst_47 : Ref sig .tc := ⟨.hbm, 406, rfl⟩
abbrev main_v353 : Ref sig .tc := ⟨.hbm, 407, rfl⟩
abbrev main_v354 : Ref sig .tc := ⟨.hbm, 408, rfl⟩
abbrev main_cst_48 : Ref sig .tc := ⟨.hbm, 409, rfl⟩
abbrev main_v355 : Ref sig .tc := ⟨.hbm, 410, rfl⟩
abbrev main_v356 : Ref sig .tc := ⟨.hbm, 411, rfl⟩
abbrev main_v357 : Ref sig .tc := ⟨.hbm, 412, rfl⟩
abbrev main_v358 : Ref sig .tc := ⟨.hbm, 413, rfl⟩
abbrev main_v359 : Ref sig .tc := ⟨.hbm, 414, rfl⟩
abbrev main_v360 : Ref sig .tc := ⟨.hbm, 415, rfl⟩
abbrev main_v361 : Ref sig .tc := ⟨.hbm, 416, rfl⟩
abbrev main_v362 : Ref sig .tc := ⟨.hbm, 417, rfl⟩
abbrev main_v363 : Ref sig .tc := ⟨.hbm, 418, rfl⟩
abbrev main_cst_49 : Ref sig .tc := ⟨.hbm, 419, rfl⟩
abbrev main_v364 : Ref sig .tc := ⟨.hbm, 420, rfl⟩
abbrev main_v365 : Ref sig .tc := ⟨.hbm, 421, rfl⟩
abbrev main_v366 : Ref sig .tc := ⟨.hbm, 422, rfl⟩
abbrev main_v367 : Ref sig .tc := ⟨.hbm, 423, rfl⟩
abbrev main_v368 : Ref sig .tc := ⟨.hbm, 424, rfl⟩
abbrev main_v369 : Ref sig .tc := ⟨.hbm, 425, rfl⟩
abbrev main_v370 : Ref sig .tc := ⟨.hbm, 426, rfl⟩
abbrev main_v371 : Ref sig .tc := ⟨.hbm, 427, rfl⟩
abbrev main_v372 : Ref sig .tc := ⟨.hbm, 428, rfl⟩
abbrev main_v373 : Ref sig .tc := ⟨.hbm, 429, rfl⟩
abbrev main_v374 : Ref sig .tc := ⟨.hbm, 430, rfl⟩
abbrev main_v375 : Ref sig .tc := ⟨.hbm, 431, rfl⟩
abbrev main_v376 : Ref sig .tc := ⟨.hbm, 432, rfl⟩
abbrev main_v377 : Ref sig .tc := ⟨.hbm, 433, rfl⟩

abbrev nD : Nat := 1
abbrev τ : Topo := Topo.v7x

variable {F : FTy → Type} [FloatOps F]
-- ==== Proof.Proto.lean ====
module
public import proofs.«01_k».proof.Proof.Gen.KernelIdeal.Skeleton
public import proofs.«01_k».proof.Proof.Gen.KernelIdeal.Launch
public import Idealize.ShloMosaic.Lib.Pipeline.Kit
public import Idealize.ShloMosaic.Lib.Rounds
public import Idealize.ShloMosaic.Lib.Memref
public import Idealize.ShloMosaic.Lib.Tactic
public import Idealize.ShloMosaic.PureOps
public import Idealize.ShloMosaic.Lib.Pipeline.RegionTalk

/-!
# The protocol of the exchange

Buffers, blocks, semaphore cells, the schedule of duties and payloads, levels, and the state a device is in.
-/

@[expose] public section

noncomputable section

namespace Cert.KernelIdeal.Att

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-- Two copies of the resource of rounds: the pipeline's and this protocol's. -/
abbrev UU : Type := UR sig nD τ × URounds (GSem nD τ sig) (Dev nD)
abbrev MM (F : FTy → Type) := MT nD τ sig Unit (Elt F) ℕ UU ℕ
abbrev EP : Emb (UR sig nD τ) (MM F) := embL
abbrev ER : Emb (URounds (GSem nD τ sig) (Dev nD)) (MM F) := embR
abbrev 𝒱₀ : Variants := Variants.none

/-! ## Buffers and blocks -/

abbrev mX : Memref sig .tc .vmem S2x256x768 .f32 := Memref.whole cc0_stg0_0
abbrev mWq : Memref sig .tc .vmem S768x512 .f32 := Memref.whole cc0_stg1_0
abbrev mWo : Memref sig .tc .vmem S512x768 .f32 := Memref.whole cc0_stg2_0
abbrev mK : Memref sig .tc .vmem S16x64x512 .bf16 := Memref.whole cc0_stg3_0
abbrev mV : Memref sig .tc .vmem S16x512x64 .bf16 := Memref.whole cc0_stg4_0
abbrev mOut : Memref sig .tc .vmem S2x256x768 .f32 := Memref.whole cc0_stg5_0
abbrev mCo : Memref sig .tc .vmem S16x16384 .bf16 := Memref.whole cc0_scratch0
abbrev mCs : Memref sig .tc .vmem S8x4096 .f32 := Memref.whole cc0_scratch1
abbrev mRo : Memref sig .tc .vmem S16x16384 .bf16 := Memref.whole cc0_scratch2
abbrev mRs : Memref sig .tc .vmem S8x4096 .f32 := Memref.whole cc0_scratch3
abbrev mFin : Memref sig .tc .vmem S16x512 .bf16 := Memref.whole cc0_scratch4
abbrev mAg : Memref sig .tc .vmem S16x16384 .bf16 := Memref.whole cc0_scratch5

theorem inbO (j : Dev nD) : ∀ a, (![0, 512 * j.val] : Fin 2 → ℕ) a + S16x512.size a ≤ S16x16384.size a := by
  revert j; decide
theorem inbS (j : Dev nD) : ∀ a, (![0, 128 * j.val] : Fin 2 → ℕ) a + S8x128.size a ≤ S8x4096.size a := by
  revert j; decide
theorem inbR (b : Fin 2) (j : Dev nD) : ∀ a, (![b.val, 8 * j.val, 0] : Fin 3 → ℕ) a + S1x8x768.size a ≤ S2x256x768.size a := by
  revert b j; decide

/-- Column block `j` of a 16 by 16384 buffer, of an 8 by 4096 one, and rows `8 j .. 8 j + 7` of batch `b` of the result. -/
abbrev rO (j : Dev nD) : Rect S16x16384 := Rect.unit (s := S16x16384) ![0, 512 * j.val] S16x512.size (inbO j)
abbrev rS (j : Dev nD) : Rect S8x4096 := Rect.unit (s := S8x4096) ![0, 128 * j.val] S8x128.size (inbS j)
abbrev rR (b : Fin 2) (j : Dev nD) : Rect S2x256x768 := Rect.unit (s := S2x256x768) ![b.val, 8 * j.val, 0] S1x8x768.size (inbR b j)

abbrev bO (m : Memref sig .tc .vmem S16x16384 .bf16) (j : Dev nD) : Memref sig .tc .vmem S16x512 .bf16 := m.slice (rO j) (fun _ => rfl)
abbrev bS (m : Memref sig .tc .vmem S8x4096 .f32) (j : Dev nD) : Memref sig .tc .vmem S8x128 .f32 := m.slice (rS j) (fun _ => rfl)
abbrev bR (b : Fin 2) (j : Dev nD) : Memref sig .tc .vmem S1x8x768 .f32 := mOut.slice (rR b j) (fun _ => rfl)

/-! ## Cells -/

abbrev barS : Sem sig := ⟨0, by decide⟩
abbrev bar (d : Dev nD) : GSem nD τ sig := ((d : Thread nD τ), .reg barS)

/-- Semaphore `j` of array `k`: 0 and 2 the senders' of the two partials, 1 and 3 the receivers', 4 and 5 those of the second exchange. -/
abbrev dsem (k : Fin 6) (j : Dev nD) : DmaSem sig := ⟨6 + 32 * k.val + j.val, by have := k.isLt; have h : j.val < 32 := j.isLt; show _ < 198; omega⟩
abbrev cell (d : Dev nD) (k : Fin 6) (j : Dev nD) : GSem nD τ sig := ((d : Thread nD τ), .dma (dsem k j))

def kindOf (s : DmaSem sig) : Fin 6 := ⟨(s.val - 6) / 32 % 6, Nat.mod_lt _ (by decide)⟩
def peerOf (s : DmaSem sig) : Dev nD := ⟨(s.val - 6) % 32, Nat.mod_lt _ (by decide)⟩
theorem kindOf_dsem : ∀ (k : Fin 6) (j : Dev nD), kindOf (dsem k j) = k := by decide
theorem peerOf_dsem : ∀ (k : Fin 6) (j : Dev nD), peerOf (dsem k j) = j := by decide

abbrev No : ℕ := (bO mRo 0).view.dmaCredit
abbrev Ns : ℕ := (bS mRs 0).view.dmaCredit
theorem No_pos : 0 < No := View.dmaCredit_pos _ (by decide)
theorem Ns_pos : 0 < Ns := View.dmaCredit_pos _ (by decide)
def amt (k : Fin 6) : ℕ := if k = 2 ∨ k = 3 then Ns else No

/-! ## The values that are handed over -/

/-- What every device holds and computes: its inputs, its 32 blocks of partial outputs and statistics, its 8 finished
    rows, and the rows of the result. -/
structure Vals (F : FTy → Type) where
  x : Dev nD → Vec F S2x256x768 .f32
  wq : Dev nD → Vec F S768x512 .f32
  wo : Dev nD → Vec F S512x768 .f32
  k : Dev nD → Vec F S16x64x512 .bf16
  v : Dev nD → Vec F S16x512x64 .bf16
  co : Dev nD → Dev nD → Vec F S16x512 .bf16
  cs : Dev nD → Dev nD → Vec F S8x128 .f32
  fin : Dev nD → Vec F S16x512 .bf16
  row : Dev nD → Fin 2 → Dev nD → Vec F S1x8x768 .f32

variable (V : Vals F)

/-- Block of a buffer at some contents. -/
abbrev anyO (d : Dev nD) (m : Memref sig .tc .vmem S16x16384 .bf16) (j : Dev nD) : sProp (MM F) :=
  iprop(∃ X, owns (d : Thread nD τ) (bO m j) fullShare X)
abbrev anyS (d : Dev nD) (m : Memref sig .tc .vmem S8x4096 .f32) (j : Dev nD) : sProp (MM F) :=
  iprop(∃ X, owns (d : Thread nD τ) (bS m j) fullShare X)
abbrev tok (j : Dev nD) : PosShare TreeShare := Transfers.shareTok fullShare 32 j

/-- Device `d`'s landing blocks for device `j`. -/
def slots (d j : Dev nD) : sProp (MM F) := iprop(anyO d mRo j ∗ anyS d mRs j ∗ anyO d mAg j)
/-- What device `s` hands device `d` with its unit of the barrier. -/
def barPay (d s : Dev nD) : sProp (MM F) :=
  iprop(slots s d ∗ reached ER (cell s 1 d) 0 ∗ reached ER (cell s 3 d) 0 ∗ reached ER (cell s 5 d) 0)
/-- What cell `(k, j)` of device `d` is paid with. -/
def pay (k : Fin 6) (d j : Dev nD) : sProp (MM F) :=
  if k = 0 then owns (d : Thread nD τ) (bO mCo j) fullShare (V.co d j)
  else if k = 1 then owns (d : Thread nD τ) (bO mRo j) fullShare (V.co j d)
  else if k = 2 then owns (d : Thread nD τ) (bS mCs j) fullShare (V.cs d j)
  else if k = 3 then owns (d : Thread nD τ) (bS mRs j) fullShare (V.cs j d)
  else if k = 4 then owns (d : Thread nD τ) mFin (tok j) (V.fin d)
  else owns (d : Thread nD τ) (bO mAg j) fullShare (V.fin j)

/-! ## The schedule: one round per cell -/

def dutiesOf (g : GSem nD τ sig) : Finset (Dev nD) :=
  if g.1.2 = .tc then
    match g.2 with
    | .reg _ => Finset.univ.erase g.1.1
    | .dma s => if 6 ≤ s.val ∧ peerOf s ≠ g.1.1 then {0} else ∅
  else ∅

def payOf (g : GSem nD τ sig) (s : Dev nD) : sProp (MM F) :=
  match g.2 with
  | .reg _ => barPay g.1.1 s
  | .dma t => pay V (kindOf t) g.1.1 (peerOf t)

def amtOf (g : GSem nD τ sig) : ℕ :=
  match g.2 with
  | .reg _ => 1
  | .dma t => amt (kindOf t)

theorem amt_pos (k : Fin 6) : 0 < amt k := by
  unfold amt; split
  · exact Ns_pos
  · exact No_pos

def Rd : Rounds.Schedule (GSem nD τ sig) (Dev nD) (MM F) where
  duties g r := if r = 0 then dutiesOf g else ∅
  unitless _ := False
  amount g _ _ := amtOf g
  payload g _ s := payOf V g s
  amount_pos g _ _ _ := by
    unfold amtOf; split
    · exact Nat.one_pos
    · exact amt_pos _

instance barPay_storable (d s : Dev nD) : BI.Storable (upEmb : UEmb _ (MM F)) (barPay (F := F) d s) := by
  unfold barPay slots; infer_instance
instance pay_storable (k : Fin 6) (d j : Dev nD) : BI.Storable (upEmb : UEmb _ (MM F)) (pay V k d j) := by
  unfold pay; (repeat' split) <;> infer_instance
instance Rd_payload_storable (g : GSem nD τ sig) (r : ℕ) (s : Dev nD) :
    BI.Storable (upEmb : UEmb _ (MM F)) ((Rd V).payload g r s) := by
  show BI.Storable upEmb (payOf V g s)
  unfold payOf; split <;> infer_instance

section Sched

theorem duties_bar (d : Dev nD) : (Rd V).duties (bar d) 0 = Finset.univ.erase d := by
  simp only [Rd, dutiesOf, if_true]
theorem duties_cell (d j : Dev nD) (k : Fin 6) (h : j ≠ d) : (Rd V).duties (cell d k j) 0 = {0} := by
  have h6 : 6 ≤ (dsem k j).val := by show 6 ≤ 6 + 32 * k.val + j.val; omega
  simp only [Rd, dutiesOf, if_true]
  rw [if_pos]; exact ⟨h6, by rw [peerOf_dsem]; exact h⟩
theorem duties_own (d : Dev nD) (k : Fin 6) : (Rd V).duties (cell d k d) 0 = ∅ := by
  simp only [Rd, dutiesOf, if_true]
  rw [if_neg]; rw [peerOf_dsem]; exact fun h => h.2 rfl
theorem duties_later (g : GSem nD τ sig) : ∀ r, 1 ≤ r → (Rd V).duties g r = ∅ := by
  intro r hr; simp only [Rd]; rw [if_neg (by omega)]
theorem duties_own_all (d : Dev nD) (k : Fin 6) : ∀ r, 0 ≤ r → (Rd V).duties (cell d k d) r = ∅ := by
  intro r _
  rcases Nat.eq_zero_or_pos r with h | h
  · rw [h, duties_own]
  · exact duties_later V _ r h

theorem amount_bar (d s : Dev nD) : (Rd V).amount (bar d) 0 s = 1 := rfl
theorem amount_cell (d j s : Dev nD) (k : Fin 6) : (Rd V).amount (cell d k j) 0 s = amt k := by
  show amt (kindOf (dsem k j)) = _; rw [kindOf_dsem]
theorem expect_bar (d : Dev nD) : (Rd V).expect (bar d) 0 = 31 := by
  unfold Schedule.expect Schedule.amountOf; rw [duties_bar]
  simp only [amount_bar, Finset.sum_const, smul_eq_mul, mul_one]
  rw [Finset.card_erase_of_mem (Finset.mem_univ _), Finset.card_univ, Fintype.card_fin]; rfl
theorem expect_cell (d j : Dev nD) (k : Fin 6) (h : j ≠ d) : (Rd V).expect (cell d k j) 0 = amt k := by
  unfold Schedule.expect Schedule.amountOf; rw [duties_cell V d j k h, Finset.sum_singleton, amount_cell]
theorem payload_bar (d s : Dev nD) : (Rd V).payload (bar d) 0 s = barPay d s := rfl
theorem payload_cell (d j s : Dev nD) (k : Fin 6) : (Rd V).payload (cell d k j) 0 s = pay V k d j := by
  show pay V (kindOf (dsem k j)) d (peerOf (dsem k j)) = _; rw [kindOf_dsem, peerOf_dsem]
theorem rest_bar (d : Dev nD) :
    bigSep ((Rd V).duties (bar d) 0 \ ∅) (fun s => (Rd V).payload (bar d) 0 s) = bigSep (Finset.univ.erase d) fun s => barPay d s := by
  rw [Finset.sdiff_empty, duties_bar]; rfl
theorem rest_cell (d j : Dev nD) (k : Fin 6) (h : j ≠ d) :
    bigSep ((Rd V).duties (cell d k j) 0 \ ∅) (fun s => (Rd V).payload (cell d k j) 0 s) = pay V k d j := by
  rw [Finset.sdiff_empty, duties_cell V d j k h, bigSep_singleton, payload_cell]

end Sched

/-! ## Levels -/

def L (g : GSem nD τ sig) : Finset Unit := if g.1.2 = .tc then {()} else ∅
def lv (g : GSem nD τ sig) (_ : Unit) : ℕ :=
  match g.2 with
  | .reg _ => 1
  | .dma s => if s.val < 6 then 0 else if kindOf s = 1 ∨ kindOf s = 3 then 2 else if kindOf s = 5 then 3 else 0
theorem L_of_ne (g : GSem nD τ sig) (h : g.1.2 ≠ .tc) : L g = ∅ := if_neg h
theorem L_tc (c : Dev nD) (sm : SemLoc sig) : L ((c : Thread nD τ), sm) = {()} := if_pos rfl

/-- What is still to be paid to device `j`. -/
def Oj (c : Dev nD) (nsig nsd np2 : ℕ) (j : Dev nD) : CellTallies nD τ sig Unit :=
  (if j.val < nsig then 0 else tallyAt (bar j) () 1)
    + (if j.val < nsd then 0 else tallyAt (cell j 1 c) () (amt 1) + tallyAt (cell j 3 c) () (amt 3))
    + (if j.val < np2 then 0 else tallyAt (cell j 5 c) () (amt 5))
def Owed (c : Dev nD) (nsig nsd np2 : ℕ) : CellTallies nD τ sig Unit :=
  ∑ j ∈ Finset.univ.erase c, Oj c nsig nsd np2 j

/-! ## Where a device stands -/

/-- How many of each kind of step are done. -/
structure St where
  nsig : ℕ := 0
  nsto : ℕ := 0
  nsts : ℕ := 0
  bar : ℕ := 0
  nsd : ℕ := 0
  nlo : ℕ := 0
  nls : ℕ := 0
  nrv : ℕ := 0
  fst : ℕ := 0
  np2 : ℕ := 0
  w0 : ℕ := 0
  w1 : ℕ := 0
  nr2 : ℕ := 0
  nf : ℕ := 0

section State

variable (c : Dev nD)

/-- What goes with the unit for `j`: its token and the landing blocks. -/
def A1 (nsig : ℕ) (j : Dev nD) : sProp (MM F) :=
  if j.val < nsig then iprop(emp) else iprop(dutyTok ER (bar j) 0 c ∗ slots c j)
/-- Block `j` of the partial outputs. -/
def A2 (nsto nsd nf : ℕ) (j : Dev nD) : sProp (MM F) :=
  if j.val < nsto then (if j ≠ c ∧ j.val < nsd ∧ ¬ j.val < nf then iprop(emp) else owns (c : Thread nD τ) (bO mCo j) fullShare (V.co c j))
  else anyO c mCo j
def A3 (nsts nsd nf : ℕ) (j : Dev nD) : sProp (MM F) :=
  if j.val < nsts then (if j ≠ c ∧ j.val < nsd ∧ ¬ j.val < nf then iprop(emp) else owns (c : Thread nD τ) (bS mCs j) fullShare (V.cs c j))
  else anyS c mCs j
/-- The landing blocks on `j`, held from the barrier until written. -/
def A4 (br nsd : ℕ) (j : Dev nD) : sProp (MM F) :=
  if br = 0 then iprop(emp) else if j.val < nsd then iprop(emp) else
    iprop(anyO j mRo c ∗ anyS j mRs c ∗ reached ER (cell j 1 c) 0 ∗ reached ER (cell j 3 c) 0)
def A5 (br np2 : ℕ) (j : Dev nD) : sProp (MM F) :=
  if br = 0 then iprop(emp) else if j.val < np2 then iprop(emp) else iprop(anyO j mAg c ∗ reached ER (cell j 5 c) 0)
/-- Tokens of the two exchanges. -/
def T1 (nsd : ℕ) (j : Dev nD) : sProp (MM F) :=
  if j.val < nsd then iprop(emp) else
    iprop(dutyTok ER (cell c 0 j) 0 0 ∗ dutyTok ER (cell j 1 c) 0 0 ∗ dutyTok ER (cell c 2 j) 0 0 ∗ dutyTok ER (cell j 3 c) 0 0)
def T2 (np2 : ℕ) (j : Dev nD) : sProp (MM F) :=
  if j.val < np2 then iprop(emp) else iprop(dutyTok ER (cell c 4 j) 0 0 ∗ dutyTok ER (cell j 5 c) 0 0)
/-- A sender's cell: the credit from the copy on, the round over from the last wait on. -/
def SC (k : Fin 6) (ns nf : ℕ) (j : Dev nD) : sProp (MM F) :=
  if j.val < nf then atPos ER (cell c k j) 1 ∅ 0
  else iprop(atPos ER (cell c k j) 0 ∅ 0 ∗ if j.val < ns then cred (tallyAt (cell c k j) () (amt k)) else iprop(emp))
/-- A receiver's cell. -/
def RC (k : Fin 6) (nr : ℕ) (j : Dev nD) : sProp (MM F) :=
  if j.val < nr then iprop(atPos ER (cell c k j) 1 ∅ 0 ∗ pay V k c j)
  else iprop(atPos ER (cell c k j) 0 ∅ 0 ∗ cred (tallyAt (cell c k j) () (amt k)))
/-- Rows `8 j ..` of the result, batch `b`. -/
def A8 (b : Fin 2) (w nr2 : ℕ) (j : Dev nD) : sProp (MM F) :=
  if (if j = c then 0 < w else j.val < nr2) then owns (c : Thread nD τ) (bR b j) fullShare (V.row c b j)
  else iprop(∃ X, owns (c : Thread nD τ) (bR b j) fullShare X)
/-- Share `j` of the finished rows. -/
def A9 (fst np2 nf : ℕ) (j : Dev nD) : sProp (MM F) :=
  if fst = 0 then iprop(emp) else if j ≠ c ∧ j.val < np2 ∧ ¬ j.val < nf then iprop(emp)
  else owns (c : Thread nD τ) mFin (tok j) (V.fin c)
def OwnFin (fst : ℕ) : sProp (MM F) :=
  if fst = 0 then iprop(∃ X, owns (c : Thread nD τ) mFin fullShare X)
  else owns (c : Thread nD τ) mFin (Transfers.shareDrop fullShare 32) (V.fin c)
def OwnBar (br : ℕ) : sProp (MM F) :=
  if br = 0 then iprop(atPos ER (bar c) 0 ∅ 0 ∗ cred (tallyAt (bar c) () 31)) else atPos ER (bar c) 1 ∅ 0
def OwnRo (n : ℕ) : sProp (MM F) :=
  if n = 0 then anyO c mRo c else owns (c : Thread nD τ) (bO mRo c) fullShare (V.co c c)
def OwnRs (n : ℕ) : sProp (MM F) :=
  if n = 0 then anyS c mRs c else owns (c : Thread nD τ) (bS mRs c) fullShare (V.cs c c)

/-- The device's inputs. -/
def Ins : sProp (MM F) :=
  iprop(owns (c : Thread nD τ) mX fullShare (V.x c) ∗ owns (c : Thread nD τ) mWq fullShare (V.wq c) ∗ owns (c : Thread nD τ) mWo fullShare (V.wo c)
    ∗ owns (c : Thread nD τ) mK fullShare (V.k c) ∗ owns (c : Thread nD τ) mV fullShare (V.v c))

/-- The invariants of all cells, the levels, and that every own cell and every barrier is open. -/
def Ctx (N : GSem nD τ sig → ℕ) : sProp (MM F) :=
  iprop((∀ d : Dev nD, cellInv ER (Rd V) (N (bar d)) (bar d))
    ∗ (∀ d : Dev nD, ∀ k : Fin 6, ∀ j : Dev nD, cellInv ER (Rd V) (N (cell d k j)) (cell d k j))
    ∗ (∀ d : Dev nD, reached ER (bar d) 0) ∗ (∀ k : Fin 6, ∀ j : Dev nD, reached ER (cell c k j) 0) ∗ levAts L lv)

instance Ctx_persistent (N : GSem nD τ sig → ℕ) : BI.Persistent (Ctx V c N) := by unfold Ctx; infer_instance

abbrev allD (Φ : Dev nD → sProp (MM F)) : sProp (MM F) := bigSep Finset.univ Φ
abbrev others (Φ : Dev nD → sProp (MM F)) : sProp (MM F) := bigSep (Finset.univ.erase c) Φ

/-- All a device holds at state `s`. -/
def Inv (N : GSem nD τ sig → ℕ) (s : St) : sProp (MM F) :=
  iprop(Ctx V c N ∗ Ins V c ∗ (∃ W, owes (c : Thread nD τ) (Owed c s.nsig s.nsd s.np2) W)
    ∗ others c (A1 c s.nsig)
    ∗ allD (A2 V c s.nsto s.nsd s.nf) ∗ allD (A3 V c s.nsts s.nsd s.nf)
    ∗ others c (A4 c s.bar s.nsd) ∗ others c (A5 c s.bar s.np2)
    ∗ others c (T1 c s.nsd) ∗ others c (T2 c s.np2)
    ∗ others c (SC c 0 s.nsd s.nf) ∗ others c (SC c 2 s.nsd s.nf) ∗ others c (SC c 4 s.np2 s.nf)
    ∗ others c (RC V c 1 s.nrv) ∗ others c (RC V c 3 s.nrv) ∗ others c (RC V c 5 s.nr2)
    ∗ allD (A8 V c 0 s.w0 s.nr2) ∗ allD (A8 V c 1 s.w1 s.nr2)
    ∗ allD (A9 V c s.fst s.np2 s.nf) ∗ OwnFin V c s.fst ∗ OwnBar c s.bar ∗ OwnRo V c s.nlo ∗ OwnRs V c s.nls)

end State

end Cert.KernelIdeal.Att
-- ==== Proof.Ops.lean ====
module
public import proofs.«01_k».proof.Proof.Proto

/-!
# Single operations on owned blocks

Loads, stores and copies, each over what a block is owned at; the families over the devices, one device taken out; what is owed.
-/

@[expose] public section

noncomputable section

namespace Cert.KernelIdeal.Att

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- Programs of a device. -/
abbrev PP (F : FTy → Type) (α : Type) := Prog (TpuEff nD τ sig (Elt F) Λ₀ .tc) α
abbrev WP {α : Type} (c : Dev nD) (p : PP F α) (Q : α → sProp (MM F)) : sProp (MM F) :=
  wp frame (wpE (defs₀ (F := F)) 𝒱₀ (c : Thread nD τ) none) Set.univ p Q

section Mem

variable {α : Type} (c : Dev nD) {s : Shape} {e : EltTy} (Q : α → sProp (MM F))

/-- A load of a block that is owned. -/
theorem wp_load_block (m : Memref sig .tc .vmem s e) (r : Rect s) (h1 : ∀ a, r.stride a = 1) (hl : m.view.LoadsAt r.toLoadRect)
    (q : PosShare TreeShare) (X : r.shape.Idx → Elt F e) (k : (r.shape.Idx → Elt F e) → PP F α) :
    owns (c : Thread nD τ) (m.slice r h1) q X
      ⊢ iprop((owns (c : Thread nD τ) (m.slice r h1) q X -∗ WP c (k X) Q) -∗ WP c (.op (.load m r.toLoadRect hl) k) Q) := by
  unfold owns
  iintro ⟨%f, %hf, H⟩ Hk
  iapply (wp_load_rect 𝒱₀ (c : Thread nD τ) none Set.univ (m := m) (r := r) (hl := hl) (k := k) (q := q) (f := f)
    (S := (m.slice r h1).view.set) (Finset.Subset.refl _)) $$ [H]
  · iexact H
  iintro H
  rw [show (m.access r).read (Elt F) f = X from hf]
  iapply Hk
  iexists f
  isplitr
  · ipureintro; exact hf
  iexact H

/-- A load of part of what is owned. -/
theorem wp_load_part (m : Memref sig .tc .vmem s e) (r : Rect s) (hl : m.view.LoadsAt r.toLoadRect)
    (q : PosShare TreeShare) (X : s.Idx → Elt F e) (k : (r.shape.Idx → Elt F e) → PP F α) :
    owns (c : Thread nD τ) m q X
      ⊢ iprop((owns (c : Thread nD τ) m q X -∗ WP c (k fun i => X (r.emb i)) Q) -∗ WP c (.op (.load m r.toLoadRect hl) k) Q) := by
  unfold owns
  iintro ⟨%f, %hf, H⟩ Hk
  iapply (wp_load_rect 𝒱₀ (c : Thread nD τ) none Set.univ (m := m) (r := r) (hl := hl) (k := k) (q := q) (f := f)
    (S := m.view.set) (View.set_slice_subset _ _)) $$ [H]
  · iexact H
  iintro H
  rw [show (m.access r).read (Elt F) f = (fun i => X (r.emb i)) from by rw [← hf]; rfl]
  iapply Hk
  iexists f
  isplitr
  · ipureintro; exact hf
  iexact H

/-- A store over a block that is owned. -/
theorem wp_store_block (m : Memref sig .tc .vmem s e) (r : Rect s) (h1 : ∀ a, r.stride a = 1) (w : r.shape.Idx → Elt F e)
    (hx : (m.access r).Stores Finset.univ) (hm : (Finset.univ : Finset r.shape.Idx) = Finset.univ ∨ ∀ a, r.stride a = 1)
    (X : r.shape.Idx → Elt F e) (k : PUnit → PP F α) :
    owns (c : Thread nD τ) (m.slice r h1) fullShare X
      ⊢ iprop((owns (c : Thread nD τ) (m.slice r h1) fullShare w -∗ WP c (k ⟨⟩) Q) -∗ WP c (.op (.store m r w Finset.univ hx hm) k) Q) := by
  unfold owns
  iintro ⟨%f, %hf, H⟩ Hk
  iapply (wp_store 𝒱₀ (c : Thread nD τ) none Set.univ (m := m) (r := r) (w := w) (hx := hx) (hm := hm) (k := k) (f := f)
    (S := (m.slice r h1).view.set) (Finset.Subset.refl _)) $$ [H]
  · iexact H
  iintro H
  iapply Hk
  iexists _
  isplitr
  swap
  · iexact H
  · ipureintro; exact View.read_write_univ _ _

end Mem

/-- A copy to another device, over what the source and the destination are owned at. -/
theorem wp_send_block {α : Type} (V : Vals F) (c j : Dev nD) {s : Shape} {e : EltTy} (Q : α → sProp (MM F))
    (src dst : Memref sig .tc .vmem s e) {hsc : dst.view.ref.isScScratch = false} (k₁ k₂ : Fin 6) (hjc : j ≠ c)
    {hsrc : src.view.WordExact} {hdst : dst.view.WordExact}
    {hsem : DmaTarget.Typed .vmem (.dma (dsem k₂ c)) (.remote (p := Proc.tc) (Dev.tc j) dst (.dma (dsem k₁ j)) hsc)}
    (N : GSem nD τ sig → ℕ)
    (q : PosShare TreeShare) (X Y : s.Idx → Elt F e) (k : PUnit → PP F α)
    (hN : dst.view.dmaCredit = amt k₁) (hk : amt k₁ = amt k₂)
    {O₀ O : CellTallies nD τ sig Unit} (hO : O₀ = O + tallyAt (cell j k₂ c) () (amt k₂)) {W : Waits sig Unit}
    (hp₁ : owns (c : Thread nD τ) src q X ⊢ pay V k₁ c j) (hp₂ : owns (j : Thread nD τ) dst fullShare X ⊢ pay V k₂ j c) :
    iprop(cellInv ER (Rd V) (N (cell c k₁ j)) (cell c k₁ j) ∗ cellInv ER (Rd V) (N (cell j k₂ c)) (cell j k₂ c)
        ∗ owns (c : Thread nD τ) src q X ∗ owns (j : Thread nD τ) dst fullShare Y ∗ owes (c : Thread nD τ) O₀ W
        ∗ dutyTok ER (cell c k₁ j) 0 0 ∗ reached ER (cell c k₁ j) 0 ∗ dutyTok ER (cell j k₂ c) 0 0 ∗ reached ER (cell j k₂ c) 0)
      ⊢ iprop(((cred (tallyAt (cell c k₁ j) () (amt k₁)) ∗ owes (c : Thread nD τ) O W) -∗ WP c (k ⟨⟩) Q)
          -∗ WP c (.op (.enqueueDma src (.remote (Dev.tc j) dst (.dma (dsem k₁ j)) hsc) (.dma (dsem k₂ c)) hsrc hdst hsem) k) Q) := by
  iintro ⟨H1, H2, Hs, Hd, HO, Ht1, Hr1, Ht2, Hr2⟩ Hk
  unfold owns
  icases Hs with ⟨%fs, %hfs, Hs⟩
  icases Hd with ⟨%fd, %hfd, Hd⟩
  iapply (Rounds.wp_send_pointsTo 𝒱₀ ER (Rd V) (c : Thread nD τ) none (c' := (j : Thread nD τ)) (src := src) (dst := dst) (hsc := hsc)
      (sS := .dma (dsem k₁ j)) (sem := .dma (dsem k₂ c)) (q := q) (fs := fs) (κ₁ := N (cell c k₁ j)) (κ₂ := N (cell j k₂ c))
      (r₁ := 0) (r₂ := 0) (d₁ := 0) (d₂ := 0) (fd := fd) (O₀ := O₀)
      (by rw [duties_cell V c j k₁ hjc]; exact Finset.mem_singleton_self _)
      (by rw [duties_cell V j c k₂ hjc.symm]; exact Finset.mem_singleton_self _)
      () () (amt k₁) hN (amount_cell V c j 0 k₁) ((amount_cell V j c 0 k₂).trans hk.symm) O (by rw [hO, hk]) (W := W)
      (by
        rw [payload_cell V c j 0 k₁]; rw [← hfs] at hp₁; exact (owns_intro _ _ _ _).trans hp₁)
      (by
        rw [payload_cell V j c 0 k₂]; rw [← View.read_write_univ (v := dst.view) fd X] at hp₂
        rw [hfs]; exact (owns_intro _ _ _ _).trans hp₂)) $$ [H1 H2 Hs Hd HO Ht1 Hr1 Ht2 Hr2]
  · isplitl [H1]; · iexact H1
    isplitl [H2]; · iexact H2
    isplitl [Hs]; · iexact Hs
    isplitl [Hd]; · iexact Hd
    isplitl [HO]; · iexact HO
    isplitl [Ht1]; · iexact Ht1
    isplitl [Hr1]; · iexact Hr1
    isplitl [Ht2]; · iexact Ht2
    iexact Hr2
  iexact Hk

/-- A wait on a DMA cell for the whole of its round. -/
theorem wp_wait_block {α : Type} (V : Vals F) (c j : Dev nD) {s s' : Shape} {e e' : EltTy} (Q : α → sProp (MM F)) (kk : Fin 6) (hjc : j ≠ c)
    (src : Memref sig .tc .vmem s e) (dst : Memref sig .tc .vmem s' e') {h₁ : src.view.WordExact} {h₂ : dst.view.WordExact}
    (N : GSem nD τ sig → ℕ) (k : PUnit → PP F α) (hN : dst.view.dmaCredit = amt kk)
    {O : CellTallies nD τ sig Unit} :
    iprop(cellInv ER (Rd V) (N (cell c kk j)) (cell c kk j) ∗ cred (tallyAt (cell c kk j) () (amt kk)) ∗ (∃ W, owes (c : Thread nD τ) O W)
        ∗ MayWait (c : Thread nD τ) (.dma (dsem kk j)) () O ∗ atPos ER (cell c kk j) 0 ∅ 0)
      ⊢ iprop((((∃ W, owes (c : Thread nD τ) O W) ∗ atPos ER (cell c kk j) 1 ∅ 0 ∗ pay V kk c j) -∗ WP c (k ⟨⟩) Q)
          -∗ WP c (.op (.waitDma2 (dsem kk j) src dst h₁ h₂) k) Q) := by
  iintro ⟨H1, Hc, ⟨%W, HO⟩, HM, Ha⟩ Hk
  iapply (Rounds.wp_wait_rest_token 𝒱₀ ER (Rd V) (c : Thread nD τ) none (κ := N (cell c kk j))
      (wpE_waitDma2_eq 𝒱₀ (c : Thread nD τ) none Set.univ) (Set.mem_univ _) () (O := O) (W := W) (R := 0) (m := 0) (T := ∅)
      (by rw [Nat.zero_add, hN]; exact (expect_cell V c j kk hjc).symm)) $$ [H1 Hc HO HM Ha]
  · isplitl [H1]; · iexact H1
    isplitl [Hc]; · rw [hN]; iexact Hc
    isplitl [HO]; · iexact HO
    isplitl [HM]; · iexact HM
    iexact Ha
  iintro ⟨HO, Ha, -, Hp⟩
  iapply Hk
  isplitl [HO]; · iexists _; iexact HO
  isplitl [Ha]; · iexact Ha
  ihave Hp := (Entails.of_eq (rest_cell V c j kk hjc)) $$ Hp
  iexact Hp

end Cert.KernelIdeal.Att
-- ==== Proof.Steps.lean ====
module
public import proofs.«01_k».proof.Proof.Ops

/-!
# The steps of the kernel

One lemma per kind of step, each read from the state it starts in to the state it leaves.
-/

@[expose] public section

noncomputable section

namespace Cert.KernelIdeal.Att

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Families over the devices -/

section Fam
omit [FloatOps F]

theorem take_dev {t : Finset (Dev nD)} {j : Dev nD} (h : j ∈ t) {Φ : Dev nD → sProp (MM F)} :
    bigSep t Φ = iprop(Φ j ∗ bigSep (t.erase j) Φ) := bigSep_erase h

theorem fam_all {Φ Ψ : Dev nD → sProp (MM F)} (j : Dev nD) (h : ∀ i, i ≠ j → Φ i = Ψ i) :
    allD Φ ⊢ iprop(Φ j ∗ (Ψ j -∗ allD Ψ)) := by
  unfold allD
  rw [take_dev (Finset.mem_univ j) (Φ := Φ), take_dev (Finset.mem_univ j) (Φ := Ψ),
    bigSep_congr (fun i hi => h i (Finset.ne_of_mem_erase hi))]
  iintro ⟨H, Hr⟩
  iframe
  iintro H
  iframe

theorem fam_oth {c : Dev nD} {Φ Ψ : Dev nD → sProp (MM F)} (j : Dev nD) (hj : j ≠ c) (h : ∀ i, i ≠ j → Φ i = Ψ i) :
    others c Φ ⊢ iprop(Φ j ∗ (Ψ j -∗ others c Ψ)) := by
  have hm : j ∈ Finset.univ.erase c := Finset.mem_erase.mpr ⟨hj, Finset.mem_univ _⟩
  unfold others
  rw [take_dev hm (Φ := Φ), take_dev hm (Φ := Ψ), bigSep_congr (fun i hi => h i (Finset.ne_of_mem_erase hi))]
  iintro ⟨H, Hr⟩
  iframe
  iintro H
  iframe

theorem oth_same {c : Dev nD} {Φ Ψ : Dev nD → sProp (MM F)} (h : ∀ i, i ≠ c → Φ i = Ψ i) : others c Φ = others c Ψ :=
  bigSep_congr fun i hi => h i (Finset.ne_of_mem_erase hi)

theorem all_same {Φ Ψ : Dev nD → sProp (MM F)} (h : ∀ i, Φ i = Ψ i) : allD Φ = allD Ψ :=
  bigSep_congr fun i _ => h i

end Fam

/-- Counting device `j` in changes nothing for another device. -/
theorem lt_next {i j : Dev nD} (h : i ≠ j) : (i.val < j.val + 1) = (i.val < j.val) := by
  have : i.val ≠ j.val := fun e => h (Fin.ext e)
  exact propext ⟨fun _ => by omega, fun _ => by omega⟩

/-! ## What is owed -/

theorem Owed_take {c j : Dev nD} (hj : j ≠ c) {a b d a' b' d' : ℕ} {t : CellTallies nD τ sig Unit}
    (h : ∀ i, i ≠ j → Oj c a b d i = Oj c a' b' d' i) (ht : Oj c a b d j = Oj c a' b' d' j + t) :
    Owed c a b d = Owed c a' b' d' + t := by
  have hm : j ∈ Finset.univ.erase c := Finset.mem_erase.mpr ⟨hj, Finset.mem_univ _⟩
  unfold Owed
  rw [← Finset.add_sum_erase _ _ hm, ← Finset.add_sum_erase _ (fun i => Oj c a' b' d' i) hm, ht,
    Finset.sum_congr rfl (fun i hi => h i (Finset.ne_of_mem_erase hi)), add_right_comm]

theorem Owed_same {c : Dev nD} {a b d a' b' d' : ℕ} (h : ∀ i, i ≠ c → Oj c a b d i = Oj c a' b' d' i) :
    Owed c a b d = Owed c a' b' d' :=
  Finset.sum_congr rfl fun i hi => h i (Finset.ne_of_mem_erase hi)

theorem Owed_done (c : Dev nD) {a b d : ℕ} (ha : 32 ≤ a) (hb : 32 ≤ b) (hd : 32 ≤ d) : Owed c a b d = 0 := by
  unfold Owed
  refine Finset.sum_eq_zero fun i _ => ?_
  have : i.val < 32 := i.isLt
  unfold Oj
  rw [if_pos (by omega), if_pos (by omega), if_pos (by omega)]; simp

/-- A tally that is owed lies at a level above the cut, once the lower ones are paid. -/
theorem Owed_pos (c : Dev nD) {a b d : ℕ} (n : ℕ) (ha : 32 ≤ a) (hn : n ≤ 1 ∨ (n ≤ 2 ∧ 32 ≤ b)) {g : GSem nD τ sig} {u : Unit}
    (hg : 0 < Owed c a b d g u) : g.1.2 = .tc ∧ n < lv g u := by
  unfold Owed at hg
  rw [Finset.sum_apply, Finsupp.finsetSum_apply] at hg
  obtain ⟨j, -, hj⟩ := Finset.exists_ne_zero_of_sum_ne_zero (Nat.pos_iff_ne_zero.mp hg)
  have hjl : j.val < 32 := j.isLt
  unfold Oj at hj
  rw [if_pos (show j.val < a by omega)] at hj
  have key : ∀ (k : Fin 6) (m : ℕ), tallyAt (cell j k c) () m g u ≠ 0 → g = cell j k c := by
    intro k m h
    rw [tallyAt_apply] at h
    by_contra hne
    exact h (if_neg fun e => hne e.1)
  have l1 : lv (cell j 1 c) u = 2 := by
    unfold lv; simp only [kindOf_dsem]; rw [if_neg (by omega), if_pos (by decide)]
  have l3 : lv (cell j 3 c) u = 2 := by
    unfold lv; simp only [kindOf_dsem]; rw [if_neg (by omega), if_pos (by decide)]
  have l5 : lv (cell j 5 c) u = 3 := by
    unfold lv; simp only [kindOf_dsem]; rw [if_neg (by omega), if_neg (by decide), if_pos trivial]
  by_cases hb : j.val < b
  · rw [if_pos hb] at hj
    by_cases hd : j.val < d
    · rw [if_pos hd] at hj; exact absurd rfl hj
    · rw [if_neg hd] at hj
      have := key 5 (amt 5) (by simpa using hj)
      rw [this]; exact ⟨rfl, by rw [l5]; omega⟩
  · rw [if_neg hb] at hj
    have hn1 : n ≤ 1 := by omega
    have h3 : tallyAt (cell j 1 c) () (amt 1) g u ≠ 0 ∨ tallyAt (cell j 3 c) () (amt 3) g u ≠ 0 ∨ ¬ j.val < d ∧ tallyAt (cell j 5 c) () (amt 5) g u ≠ 0 := by
      by_contra hcon
      push Not at hcon
      obtain ⟨e1, e2, e3⟩ := hcon
      apply hj
      by_cases hd : j.val < d
      · rw [if_pos hd]; simp [e1, e2]
      · rw [if_neg hd]; simp [e1, e2, e3 (not_lt.mp hd)]
    rcases h3 with h | h | ⟨-, h⟩
    · rw [key 1 _ h]; exact ⟨rfl, by rw [l1]; omega⟩
    · rw [key 3 _ h]; exact ⟨rfl, by rw [l3]; omega⟩
    · rw [key 5 _ h]; exact ⟨rfl, by rw [l5]; omega⟩

omit [FloatOps F] in
theorem mayWait_low (c : Dev nD) (sm : SemLoc sig) {a b d : ℕ} (n : ℕ) (ha : 32 ≤ a) (hn : n ≤ 1 ∨ (n ≤ 2 ∧ 32 ≤ b))
    (hl : lv ((c : Thread nD τ), sm) () ≤ n) :
    (levAts L lv : sProp (MM F)) ⊢ MayWait (c : Thread nD τ) sm () (Owed c a b d) :=
  MayOwe.of_cut (L := L) (lev := lv) n (fun p hp => by rw [Finset.mem_singleton.mp hp, L_tc]; exact Finset.mem_singleton_self _)
    (fun g u hg => by unfold L; rw [if_pos (Owed_pos c n ha hn hg).1]; exact Finset.mem_singleton_self _)
    (fun p hp => by rw [Finset.mem_singleton.mp hp]; exact hl)
    (fun g u hg => (Owed_pos c n ha hn hg).2)

/-! ## Runs -/

variable (V : Vals F) (N : GSem nD τ sig → ℕ) (c : Dev nD)

/-- From state `s` the program runs to a result and a state of which `Q` holds. -/
def Exec {α : Type} (s : St) (p : PP F α) (Q : α → St → Prop) : Prop :=
  Inv V c N s ⊢ WP c p (fun r => iprop(∃ s', ⌜Q r s'⌝ ∗ Inv V c N s'))

variable {V N c}

theorem Exec.bind {α β : Type} {s : St} {p : PP F α} {k : α → PP F β} {Q : β → St → Prop}
    (h : Exec V N c s p fun a s' => Exec V N c s' (k a) Q) : Exec V N c s (p >>= k) Q := by
  unfold Exec at *
  refine BIBase.Entails.trans ?_ (Entails.of_eq (wp_bind _ _ _ _ _ _).symm)
  refine BIBase.Entails.trans h (wp_mono _ _ _ fun r => ?_)
  iintro ⟨%s', %h', H⟩
  iapply h'
  iexact H

/-- The continuation of a part is put away while the part runs. -/
theorem Exec.cut {α β : Type} {s : St} {p : PP F α} {k : α → PP F β} {Q : β → St → Prop}
    (h : ∀ R : α → St → Prop, R = (fun a s' => Exec V N c s' (k a) Q) → Exec V N c s p R) : Exec V N c s (p >>= k) Q :=
  Exec.bind (h _ rfl)

theorem Exec.ret {α : Type} {s : St} {a : α} {Q : α → St → Prop} (q : Q a s) : Exec V N c s (pure a) Q := by
  unfold Exec
  refine BIBase.Entails.trans ?_ (Entails.of_eq (wp_pure _ _ _ _ _).symm)
  iintro H
  iapply fupd_intro
  iexists s
  iframe
  ipureintro; exact q

/-- The same with the result and the state named. -/
theorem Exec.ret' {α : Type} {s : St} {a : α} {Q : α → St → Prop} (a' : α) (s' : St) (q : Q a' s') (h : a = a' := by rfl) (hs : s = s' := by rfl) :
    Exec V N c s (pure a) Q := by
  subst h; subst hs; exact Exec.ret q

theorem Exec.of {α : Type} {s s' : St} {p p' : PP F α} {R : α → St → Prop}
    (h : ∀ Q : α → sProp (MM F), Inv V c N s ⊢ iprop((Inv V c N s' -∗ WP c p' Q) -∗ WP c p Q))
    (hk : Exec V N c s' p' R) : Exec V N c s p R := by
  unfold Exec at *
  iintro H
  iapply (h _) $$ H
  iintro H
  iapply hk $$ H

theorem Exec.devId {α : Type} {s : St} {k : Dev nD → PP F α} {Q : α → St → Prop} (hk : Exec V N c s (k c) Q) :
    Exec V N c s (Prog.lift .deviceId >>= k) Q := by
  unfold Exec at *
  refine hk.trans ?_
  exact Entails.of_eq (wp_deviceId _ _ _ _).symm

/-- The device's number as a word, and whether it differs from `j`. -/
def v2w (c : Dev nD) : BitVec 32 := Scalar.remsi (Scalar.divsi (Dev.word c) 1#32) 32#32
def condJ (c : Dev nD) (j : Dev nD) : BitVec 1 :=
  Scalar.cmpi .ne (Scalar.extui (Scalar.cmpi .ne (v2w c) (BitVec.ofNat 32 j.val)) : BitVec 32) 0#32
theorem condJ_iff : ∀ (c j : Dev nD), condJ c j = 1#1 ↔ j ≠ c := by decide +kernel
abbrev dv (n : ℕ) : Dev nD := Fin.ofNat 32 n
theorem dv_val {n : ℕ} (h : n < 32) : (dv n).val = n := Nat.mod_eq_of_lt h

/-! ## Loads and stores -/

/-- The part of `X` that a rectangle picks. -/
def part {s : Shape} {e : EltTy} (X : s.Idx → Elt F e) (r : Rect s) : r.shape.Idx → Elt F e := fun i => X (r.emb i)

section Mem
variable {α : Type} {s s₁ : St} {Q : α → St → Prop} {sh : Shape} {e : EltTy}

theorem Exec.load_any {m : Memref sig .tc .vmem sh e} {r : Rect sh} {hl : m.view.LoadsAt r.toLoadRect} {k : (r.shape.Idx → Elt F e) → PP F α}
    (h1 : ∀ a, r.stride a = 1)
    (acc : Inv V c N s ⊢ iprop((∃ X, owns (c : Thread nD τ) (m.slice r h1) fullShare X) ∗ ((∃ X, owns (c : Thread nD τ) (m.slice r h1) fullShare X) -∗ Inv V c N s)))
    (hk : ∀ x, Exec V N c s (k x) Q) : Exec V N c s (Prog.lift (.load m r.toLoadRect hl) >>= k) Q := by
  unfold Exec at *
  iintro H
  ihave ⟨⟨%X, HX⟩, HR⟩ := acc $$ H
  iapply (wp_load_block c _ m r h1 hl fullShare X k) $$ HX
  iintro HX
  iapply (hk X)
  iapply HR
  iexists X; iexact HX

theorem Exec.load_val {m : Memref sig .tc .vmem sh e} {r : Rect sh} {hl : m.view.LoadsAt r.toLoadRect} {k : (r.shape.Idx → Elt F e) → PP F α}
    (h1 : ∀ a, r.stride a = 1) (q : PosShare TreeShare) (X : r.shape.Idx → Elt F e)
    (acc : Inv V c N s ⊢ iprop(owns (c : Thread nD τ) (m.slice r h1) q X ∗ (owns (c : Thread nD τ) (m.slice r h1) q X -∗ Inv V c N s)))
    (hk : Exec V N c s (k X) Q) : Exec V N c s (Prog.lift (.load m r.toLoadRect hl) >>= k) Q := by
  unfold Exec at *
  iintro H
  ihave ⟨HX, HR⟩ := acc $$ H
  iapply (wp_load_block c _ m r h1 hl q X k) $$ HX
  iintro HX
  iapply hk
  iapply HR
  iexact HX

theorem Exec.load_part {m : Memref sig .tc .vmem sh e} {r : Rect sh} {hl : m.view.LoadsAt r.toLoadRect} {k : (r.shape.Idx → Elt F e) → PP F α}
    (q : PosShare TreeShare) (X : sh.Idx → Elt F e)
    (acc : Inv V c N s ⊢ iprop(owns (c : Thread nD τ) m q X ∗ (owns (c : Thread nD τ) m q X -∗ Inv V c N s)))
    (hk : Exec V N c s (k (part X r)) Q) : Exec V N c s (Prog.lift (.load m r.toLoadRect hl) >>= k) Q := by
  unfold Exec at *
  iintro H
  ihave ⟨HX, HR⟩ := acc $$ H
  iapply (wp_load_part c _ m r hl q X k) $$ HX
  iintro HX
  iapply hk
  iapply HR
  iexact HX

theorem Exec.store {m : Memref sig .tc .vmem sh e} {r : Rect sh} {w : r.shape.Idx → Elt F e} {hx : (m.access r).Stores Finset.univ}
    {hm : (Finset.univ : Finset r.shape.Idx) = Finset.univ ∨ ∀ a, r.stride a = 1} {k : PUnit → PP F α}
    (h1 : ∀ a, r.stride a = 1)
    (acc : Inv V c N s ⊢ iprop((∃ X, owns (c : Thread nD τ) (m.slice r h1) fullShare X) ∗ (owns (c : Thread nD τ) (m.slice r h1) fullShare w -∗ Inv V c N s₁)))
    (hk : Exec V N c s₁ (k ⟨⟩) Q) : Exec V N c s (Prog.lift (.store m r w Finset.univ hx hm) >>= k) Q := by
  unfold Exec at *
  iintro H
  ihave ⟨⟨%X, HX⟩, HR⟩ := acc $$ H
  iapply (wp_store_block c _ m r h1 w hx hm X k) $$ HX
  iintro HX
  iapply hk
  iapply HR
  iexact HX

end Mem

/-! ## The signal to device `j` -/

theorem sig_core {α : Type} {s : St} {j : Dev nD} (hj : j ≠ c) (h : s.nsig = j.val) (k : PUnit → PP F α) (Q : α → sProp (MM F)) :
    Inv V c N s ⊢ iprop((Inv V c N { s with nsig := s.nsig + 1 } -∗ WP c (k ⟨⟩) Q)
      -∗ WP c (.op (.semSignal (Dev.tc j) barS 1) k) Q) := by
  unfold Inv Ctx
  dsimp only
  iintro ⟨⟨#HI, #HIc, #Hrb, #Hrc, #Hlev⟩, HIn, ⟨%W, HO⟩, H1, H2, H3, H4, H5, HT1, HT2, HS0, HS2, HS4, HR1, HR3, HR5, H80, H81, H9, HF, HB, HRo, HRs⟩ Hk
  ihave ⟨Hj, Hrest⟩ := (fam_oth j hj (Φ := A1 c s.nsig) (Ψ := A1 c (s.nsig + 1)) (fun i hi => by simp only [A1, h, lt_next hi])) $$ H1
  ihave ⟨Ht, Hs⟩ := (Entails.of_eq (show A1 c s.nsig j = iprop(dutyTok ER (bar j) 0 c ∗ slots c j) by unfold A1; rw [h, if_neg (lt_irrefl _)])) $$ Hj
  have hO : Owed c s.nsig s.nsd s.np2 = Owed c (s.nsig + 1) s.nsd s.np2 + tallyAt (bar j) () 1 :=
    Owed_take hj (fun i hi => by simp only [Oj, h, lt_next hi]) (by unfold Oj; rw [h, if_neg (lt_irrefl _), if_pos (Nat.lt_succ_self _), zero_add, add_assoc, add_comm])
  iapply (Rounds.wp_signal 𝒱₀ ER (Rd V) (c : Thread nD τ) none (dst := (j : Thread nD τ)) (sem := barS) (r := 0) (d := c) (κ := N (bar j)) (k' := 1) (W := W)
      (by rw [duties_bar]; exact Finset.mem_erase.mpr ⟨hj.symm, Finset.mem_univ _⟩) (amount_bar V j c) () (Owed c (s.nsig + 1) s.nsd s.np2) hO)
    $$ [HO Ht Hs]
  · isplitr; · iapply HI
    isplitl [HO]; · iexact HO
    isplitl [Ht]; · iexact Ht
    isplitl [Hs]
    · rw [payload_bar]; unfold barPay
      isplitl [Hs]; · iexact Hs
      isplitr; · iapply Hrc
      isplitr; · iapply Hrc
      iapply Hrc
    · iapply Hrb
  iintro HO
  iapply Hk
  ihave Hd := Hrest $$ []
  · unfold A1; rw [h, if_pos (Nat.lt_succ_self _)]; iempintro
  iframe HI HIc Hrb Hrc Hlev
  iframe
  iexists W
  iexact HO

/-! ## Parts of what a device holds -/

section Acc
omit [FloatOps F]
variable {s : St}

theorem Inv_co (n : ℕ) : Inv V c N s ⊢ iprop((allD (A2 V c s.nsto s.nsd s.nf)) ∗ ((allD (A2 V c n s.nsd s.nf)) -∗ Inv V c N { s with nsto := n })) := by
  unfold Inv
  dsimp only
  iintro ⟨HC, HIn, HO, H1, H2, H3, H4, H5, HT1, HT2, HS0, HS2, HS4, HR1, HR3, HR5, H80, H81, H9, HF, HB, HRo, HRs⟩
  iframe
  iintro H2
  iframe

theorem Inv_cs (n : ℕ) : Inv V c N s ⊢ iprop((allD (A3 V c s.nsts s.nsd s.nf)) ∗ ((allD (A3 V c n s.nsd s.nf)) -∗ Inv V c N { s with nsts := n })) := by
  unfold Inv
  dsimp only
  iintro ⟨HC, HIn, HO, H1, H2, H3, H4, H5, HT1, HT2, HS0, HS2, HS4, HR1, HR3, HR5, H80, H81, H9, HF, HB, HRo, HRs⟩
  iframe
  iintro H3
  iframe

theorem Inv_ro (n : ℕ) : Inv V c N s ⊢ iprop((OwnRo V c s.nlo) ∗ ((OwnRo V c n) -∗ Inv V c N { s with nlo := n })) := by
  unfold Inv
  dsimp only
  iintro ⟨HC, HIn, HO, H1, H2, H3, H4, H5, HT1, HT2, HS0, HS2, HS4, HR1, HR3, HR5, H80, H81, H9, HF, HB, HRo, HRs⟩
  iframe
  iintro HRo
  iframe

theorem Inv_rs (n : ℕ) : Inv V c N s ⊢ iprop((OwnRs V c s.nls) ∗ ((OwnRs V c n) -∗ Inv V c N { s with nls := n })) := by
  unfold Inv
  dsimp only
  iintro ⟨HC, HIn, HO, H1, H2, H3, H4, H5, HT1, HT2, HS0, HS2, HS4, HR1, HR3, HR5, H80, H81, H9, HF, HB, HRo, HRs⟩
  iframe
  iintro HRs
  iframe

theorem Inv_w0 (n : ℕ) : Inv V c N s ⊢ iprop((allD (A8 V c 0 s.w0 s.nr2)) ∗ ((allD (A8 V c 0 n s.nr2)) -∗ Inv V c N { s with w0 := n })) := by
  unfold Inv
  dsimp only
  iintro ⟨HC, HIn, HO, H1, H2, H3, H4, H5, HT1, HT2, HS0, HS2, HS4, HR1, HR3, HR5, H80, H81, H9, HF, HB, HRo, HRs⟩
  iframe
  iintro H80
  iframe

theorem Inv_w1 (n : ℕ) : Inv V c N s ⊢ iprop((allD (A8 V c 1 s.w1 s.nr2)) ∗ ((allD (A8 V c 1 n s.nr2)) -∗ Inv V c N { s with w1 := n })) := by
  unfold Inv
  dsimp only
  iintro ⟨HC, HIn, HO, H1, H2, H3, H4, H5, HT1, HT2, HS0, HS2, HS4, HR1, HR3, HR5, H80, H81, H9, HF, HB, HRo, HRs⟩
  iframe
  iintro H81
  iframe

theorem Inv_fin (n : ℕ) : Inv V c N s ⊢ iprop((allD (A9 V c s.fst s.np2 s.nf) ∗ OwnFin V c s.fst) ∗ ((allD (A9 V c n s.np2 s.nf) ∗ OwnFin V c n) -∗ Inv V c N { s with fst := n })) := by
  unfold Inv
  dsimp only
  iintro ⟨HC, HIn, HO, H1, H2, H3, H4, H5, HT1, HT2, HS0, HS2, HS4, HR1, HR3, HR5, H80, H81, H9, HF, HB, HRo, HRs⟩
  iframe
  iintro ⟨H9, HF⟩
  iframe

theorem Inv_ins  : Inv V c N s ⊢ iprop((Ins V c) ∗ ((Ins V c) -∗ Inv V c N s)) := by
  unfold Inv
  iintro ⟨HC, HIn, HO, H1, H2, H3, H4, H5, HT1, HT2, HS0, HS2, HS4, HR1, HR3, HR5, H80, H81, H9, HF, HB, HRo, HRs⟩
  iframe
  iintro HIn
  iframe

theorem Inv_rc1  : Inv V c N s ⊢ iprop((others c (RC V c 1 s.nrv)) ∗ ((others c (RC V c 1 s.nrv)) -∗ Inv V c N s)) := by
  unfold Inv
  iintro ⟨HC, HIn, HO, H1, H2, H3, H4, H5, HT1, HT2, HS0, HS2, HS4, HR1, HR3, HR5, H80, H81, H9, HF, HB, HRo, HRs⟩
  iframe
  iintro HR1
  iframe

theorem Inv_rc3  : Inv V c N s ⊢ iprop((others c (RC V c 3 s.nrv)) ∗ ((others c (RC V c 3 s.nrv)) -∗ Inv V c N s)) := by
  unfold Inv
  iintro ⟨HC, HIn, HO, H1, H2, H3, H4, H5, HT1, HT2, HS0, HS2, HS4, HR1, HR3, HR5, H80, H81, H9, HF, HB, HRo, HRs⟩
  iframe
  iintro HR3
  iframe

end Acc

end Cert.KernelIdeal.Att
-- ==== Proof.Local.lean ====
module
public import proofs.«01_k».proof.Proof.Steps

/-!
# The local steps

Stores of the chunks, the device's own copy of its chunk, loads of what has landed, the finished rows and the result's own rows.
-/

@[expose] public section

noncomputable section

namespace Cert.KernelIdeal.Att

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable {V : Vals F} {N : GSem nD τ sig → ℕ} {c : Dev nD} {α : Type} {s : St} {Q : α → St → Prop}

/-! ## Blocks by their offsets -/

section Offs
omit [FloatOps F]

theorem slice_O (m : Memref sig .tc .vmem S16x16384 .bf16) {o : Fin 2 → ℕ} {hi : ∀ a, o a + S16x512.size a ≤ S16x16384.size a} {j : Dev nD}
    (ho : o = ![0, 512 * j.val]) : m.slice (Rect.unit (s := S16x16384) o S16x512.size hi) (fun _ => rfl) = bO m j := by subst ho; rfl
theorem slice_S (m : Memref sig .tc .vmem S8x4096 .f32) {o : Fin 2 → ℕ} {hi : ∀ a, o a + S8x128.size a ≤ S8x4096.size a} {j : Dev nD}
    (ho : o = ![0, 128 * j.val]) : m.slice (Rect.unit (s := S8x4096) o S8x128.size hi) (fun _ => rfl) = bS m j := by subst ho; rfl
theorem slice_R {o : Fin 3 → ℕ} {hi : ∀ a, o a + S1x8x768.size a ≤ S2x256x768.size a} {b : Fin 2} {j : Dev nD}
    (ho : o = ![b.val, 8 * j.val, 0]) : mOut.slice (Rect.unit (s := S2x256x768) o S1x8x768.size hi) (fun _ => rfl) = bR b j := by subst ho; rfl

theorem dv_mul (n k : ℕ) (h : n < 32) : (![0, k * n] : Fin 2 → ℕ) = ![0, k * (dv n).val] := by rw [dv_val h]

end Offs

/-! ## The chunks -/

section Chunks
omit [FloatOps F]

theorem acc_co_any {j : Dev nD} (h : s.nsto = j.val) :
    Inv V c N s ⊢ iprop(anyO c mCo j ∗ (anyO c mCo j -∗ Inv V c N s)) := by
  iintro H
  ihave ⟨Hf, Hr⟩ := Inv_co s.nsto $$ H
  ihave ⟨Hj, Hb⟩ := (fam_all j (Φ := A2 V c s.nsto s.nsd s.nf) (fun _ _ => rfl)) $$ Hf
  ihave Hj := (Entails.of_eq (show A2 V c s.nsto s.nsd s.nf j = anyO c mCo j by unfold A2; rw [h, if_neg (lt_irrefl _)])) $$ Hj
  iframe Hj
  iintro Hj
  iapply Hr
  iapply Hb
  unfold A2; rw [h, if_neg (lt_irrefl _)]
  iexact Hj

theorem acc_co {j : Dev nD} (h : s.nsto = j.val) (hd : s.nsd ≤ s.nsto) :
    Inv V c N s ⊢ iprop(anyO c mCo j ∗ (owns (c : Thread nD τ) (bO mCo j) fullShare (V.co c j) -∗ Inv V c N { s with nsto := s.nsto + 1 })) := by
  iintro H
  ihave ⟨Hf, Hr⟩ := Inv_co (s.nsto + 1) $$ H
  ihave ⟨Hj, Hb⟩ := (fam_all j (Φ := A2 V c s.nsto s.nsd s.nf) (Ψ := A2 V c (s.nsto + 1) s.nsd s.nf)
    (fun i hi => by simp only [A2, h, lt_next hi])) $$ Hf
  ihave Hj := (Entails.of_eq (show A2 V c s.nsto s.nsd s.nf j = anyO c mCo j by unfold A2; rw [h, if_neg (lt_irrefl _)])) $$ Hj
  iframe Hj
  iintro Hj
  iapply Hr
  iapply Hb
  unfold A2; rw [if_pos (by omega), if_neg (by omega)]
  iexact Hj

theorem acc_cs_any {j : Dev nD} (h : s.nsts = j.val) :
    Inv V c N s ⊢ iprop(anyS c mCs j ∗ (anyS c mCs j -∗ Inv V c N s)) := by
  iintro H
  ihave ⟨Hf, Hr⟩ := Inv_cs s.nsts $$ H
  ihave ⟨Hj, Hb⟩ := (fam_all j (Φ := A3 V c s.nsts s.nsd s.nf) (fun _ _ => rfl)) $$ Hf
  ihave Hj := (Entails.of_eq (show A3 V c s.nsts s.nsd s.nf j = anyS c mCs j by unfold A3; rw [h, if_neg (lt_irrefl _)])) $$ Hj
  iframe Hj
  iintro Hj
  iapply Hr
  iapply Hb
  unfold A3; rw [h, if_neg (lt_irrefl _)]
  iexact Hj

theorem acc_cs {j : Dev nD} (h : s.nsts = j.val) (hd : s.nsd ≤ s.nsts) :
    Inv V c N s ⊢ iprop(anyS c mCs j ∗ (owns (c : Thread nD τ) (bS mCs j) fullShare (V.cs c j) -∗ Inv V c N { s with nsts := s.nsts + 1 })) := by
  iintro H
  ihave ⟨Hf, Hr⟩ := Inv_cs (s.nsts + 1) $$ H
  ihave ⟨Hj, Hb⟩ := (fam_all j (Φ := A3 V c s.nsts s.nsd s.nf) (Ψ := A3 V c (s.nsts + 1) s.nsd s.nf)
    (fun i hi => by simp only [A3, h, lt_next hi])) $$ Hf
  ihave Hj := (Entails.of_eq (show A3 V c s.nsts s.nsd s.nf j = anyS c mCs j by unfold A3; rw [h, if_neg (lt_irrefl _)])) $$ Hj
  iframe Hj
  iintro Hj
  iapply Hr
  iapply Hb
  unfold A3; rw [if_pos (by omega), if_neg (by omega)]
  iexact Hj

/-- The device's own chunk is never away. -/
theorem acc_co_own (h : c.val < s.nsto) :
    Inv V c N s ⊢ iprop(owns (c : Thread nD τ) (bO mCo c) fullShare (V.co c c) ∗ (owns (c : Thread nD τ) (bO mCo c) fullShare (V.co c c) -∗ Inv V c N s)) := by
  iintro H
  ihave ⟨Hf, Hr⟩ := Inv_co s.nsto $$ H
  ihave ⟨Hj, Hb⟩ := (fam_all c (Φ := A2 V c s.nsto s.nsd s.nf) (fun _ _ => rfl)) $$ Hf
  have e : A2 V c s.nsto s.nsd s.nf c = owns (c : Thread nD τ) (bO mCo c) fullShare (V.co c c) := by
    unfold A2; rw [if_pos h, if_neg (fun h => h.1 rfl)]
  ihave Hj := (Entails.of_eq e) $$ Hj
  iframe Hj
  iintro Hj
  iapply Hr
  iapply Hb
  rw [e]
  iexact Hj

theorem acc_cs_own (h : c.val < s.nsts) :
    Inv V c N s ⊢ iprop(owns (c : Thread nD τ) (bS mCs c) fullShare (V.cs c c) ∗ (owns (c : Thread nD τ) (bS mCs c) fullShare (V.cs c c) -∗ Inv V c N s)) := by
  iintro H
  ihave ⟨Hf, Hr⟩ := Inv_cs s.nsts $$ H
  ihave ⟨Hj, Hb⟩ := (fam_all c (Φ := A3 V c s.nsts s.nsd s.nf) (fun _ _ => rfl)) $$ Hf
  have e : A3 V c s.nsts s.nsd s.nf c = owns (c : Thread nD τ) (bS mCs c) fullShare (V.cs c c) := by
    unfold A3; rw [if_pos h, if_neg (fun h => h.1 rfl)]
  ihave Hj := (Entails.of_eq e) $$ Hj
  iframe Hj
  iintro Hj
  iapply Hr
  iapply Hb
  rw [e]
  iexact Hj

theorem acc_ro_any (h : s.nlo = 0) : Inv V c N s ⊢ iprop(anyO c mRo c ∗ (anyO c mRo c -∗ Inv V c N s)) := by
  iintro H
  ihave ⟨Hf, Hr⟩ := Inv_ro s.nlo $$ H
  have e : OwnRo V c s.nlo = anyO c mRo c := if_pos h
  ihave Hf := (Entails.of_eq e) $$ Hf
  iframe Hf
  iintro Hf
  iapply Hr
  rw [e]
  iexact Hf

theorem acc_ro_own (h : s.nlo = 0) :
    Inv V c N s ⊢ iprop(anyO c mRo c ∗ (owns (c : Thread nD τ) (bO mRo c) fullShare (V.co c c) -∗ Inv V c N { s with nlo := 1 })) := by
  iintro H
  ihave ⟨Hf, Hr⟩ := Inv_ro 1 $$ H
  have e : OwnRo V c s.nlo = anyO c mRo c := if_pos h
  ihave Hf := (Entails.of_eq e) $$ Hf
  iframe Hf
  iintro Hf
  iapply Hr
  iapply (Entails.of_eq (show owns (c : Thread nD τ) (bO mRo c) fullShare (V.co c c) = OwnRo V c 1 from (if_neg (by decide)).symm))
  iexact Hf

theorem acc_rs_any (h : s.nls = 0) : Inv V c N s ⊢ iprop(anyS c mRs c ∗ (anyS c mRs c -∗ Inv V c N s)) := by
  iintro H
  ihave ⟨Hf, Hr⟩ := Inv_rs s.nls $$ H
  have e : OwnRs V c s.nls = anyS c mRs c := if_pos h
  ihave Hf := (Entails.of_eq e) $$ Hf
  iframe Hf
  iintro Hf
  iapply Hr
  rw [e]
  iexact Hf

theorem acc_rs_own (h : s.nls = 0) :
    Inv V c N s ⊢ iprop(anyS c mRs c ∗ (owns (c : Thread nD τ) (bS mRs c) fullShare (V.cs c c) -∗ Inv V c N { s with nls := 1 })) := by
  iintro H
  ihave ⟨Hf, Hr⟩ := Inv_rs 1 $$ H
  have e : OwnRs V c s.nls = anyS c mRs c := if_pos h
  ihave Hf := (Entails.of_eq e) $$ Hf
  iframe Hf
  iintro Hf
  iapply Hr
  iapply (Entails.of_eq (show owns (c : Thread nD τ) (bS mRs c) fullShare (V.cs c c) = OwnRs V c 1 from (if_neg (by decide)).symm))
  iexact Hf

/-- What has landed from `j`, the own chunk included. -/
theorem acc_ro {j : Dev nD} (h : j.val < s.nrv) (h1 : s.nlo = 1) :
    Inv V c N s ⊢ iprop(owns (c : Thread nD τ) (bO mRo j) fullShare (V.co j c) ∗ (owns (c : Thread nD τ) (bO mRo j) fullShare (V.co j c) -∗ Inv V c N s)) := by
  by_cases hj : j = c
  · subst hj
    iintro H
    ihave ⟨Hf, Hr⟩ := Inv_ro s.nlo $$ H
    have e : OwnRo V j s.nlo = owns (j : Thread nD τ) (bO mRo j) fullShare (V.co j j) := if_neg (by omega)
    ihave Hf := (Entails.of_eq e) $$ Hf
    iframe Hf
    iintro Hf
    iapply Hr
    rw [e]
    iexact Hf
  · iintro H
    ihave ⟨Hf, Hr⟩ := Inv_rc1 $$ H
    ihave ⟨Hj, Hb⟩ := (fam_oth j hj (Φ := RC V c 1 s.nrv) (fun _ _ => rfl)) $$ Hf
    have e : RC V c 1 s.nrv j = iprop(atPos ER (cell c 1 j) 1 ∅ 0 ∗ owns (c : Thread nD τ) (bO mRo j) fullShare (V.co j c)) := by
      unfold RC pay; rw [if_pos h, if_neg (by decide), if_pos rfl]
    ihave ⟨Ha, Hj⟩ := (Entails.of_eq e) $$ Hj
    iframe Hj
    iintro Hj
    iapply Hr
    iapply Hb
    rw [e]
    iframe

theorem acc_rs {j : Dev nD} (h : j.val < s.nrv) (h1 : s.nls = 1) :
    Inv V c N s ⊢ iprop(owns (c : Thread nD τ) (bS mRs j) fullShare (V.cs j c) ∗ (owns (c : Thread nD τ) (bS mRs j) fullShare (V.cs j c) -∗ Inv V c N s)) := by
  by_cases hj : j = c
  · subst hj
    iintro H
    ihave ⟨Hf, Hr⟩ := Inv_rs s.nls $$ H
    have e : OwnRs V j s.nls = owns (j : Thread nD τ) (bS mRs j) fullShare (V.cs j j) := if_neg (by omega)
    ihave Hf := (Entails.of_eq e) $$ Hf
    iframe Hf
    iintro Hf
    iapply Hr
    rw [e]
    iexact Hf
  · iintro H
    ihave ⟨Hf, Hr⟩ := Inv_rc3 $$ H
    ihave ⟨Hj, Hb⟩ := (fam_oth j hj (Φ := RC V c 3 s.nrv) (fun _ _ => rfl)) $$ Hf
    have e : RC V c 3 s.nrv j = iprop(atPos ER (cell c 3 j) 1 ∅ 0 ∗ owns (c : Thread nD τ) (bS mRs j) fullShare (V.cs j c)) := by
      unfold RC pay; rw [if_pos h, if_neg (by decide), if_neg (by decide), if_neg (by decide), if_pos rfl]
    ihave ⟨Ha, Hj⟩ := (Entails.of_eq e) $$ Hj
    iframe Hj
    iintro Hj
    iapply Hr
    iapply Hb
    rw [e]
    iframe

end Chunks

/-! ## The finished rows and the result's own rows -/

section Fin

omit [FloatOps F] in
theorem emb_full {sh : Shape} {o : Fin sh.rank → ℕ} (hi : ∀ a, o a + sh.size a ≤ sh.size a) (z : sh.Idx) :
    (Rect.unit o sh.size hi).emb z = z :=
  funext fun a => Fin.ext (by
    show o a + 1 * (z a).val = (z a).val
    have := hi a; omega)

omit [FloatOps F] in
theorem part_full {sh : Shape} {e : EltTy} (X : sh.Idx → Elt F e) {o : Fin sh.rank → ℕ} (hi : ∀ a, o a + sh.size a ≤ sh.size a) :
    part X (Rect.unit o sh.size hi) = X := funext fun i => congrArg X (emb_full hi i)

/-- A slice by a rectangle of all the sizes is the memref. -/
theorem owns_full {sh : Shape} {e : EltTy} (m : Memref sig .tc .vmem sh e) {o : Fin sh.rank → ℕ} (hi : ∀ a, o a + sh.size a ≤ sh.size a)
    (q : PosShare TreeShare) (X : sh.Idx → Elt F e) :
    (owns (c : Thread nD τ) (m.slice (Rect.unit o sh.size hi) (fun _ => rfl)) q X : sProp (MM F)) = owns (c : Thread nD τ) m q X := by
  have hc : (Finset.univ : Finset Unit).biUnion (fun _ => (Rect.unit o sh.size hi).set) = Finset.univ := by
    ext i
    simp only [Finset.mem_biUnion, Finset.mem_univ, true_and, iff_true]
    exact ⟨(), by
      rw [← Rect.map_emb_univ, Finset.mem_map]; exact ⟨i, Finset.mem_univ _, emb_full hi i⟩⟩
  have hX : (fun i => X ((Rect.unit o sh.size hi).emb i)) = X := part_full X hi
  have hb : (bigSep Finset.univ fun _ : Unit => owns (c : Thread nD τ) (m.slice (Rect.unit o sh.size hi) (fun _ => rfl)) q
      (fun i => X ((Rect.unit o sh.size hi).emb i)) : sProp (MM F)) = owns (c : Thread nD τ) (m.slice (Rect.unit o sh.size hi) (fun _ => rfl)) q X := by
    rw [Finset.univ_unique, bigSep_singleton, hX]
  haveI : ∀ e, Nonempty (Elt F e) := inferInstance
  refine BI.equiv_iff.mp ⟨?_, ?_⟩
  · rw [← hb]
    exact owns_of_rects (c : Thread nD τ) m q (fun _ : Unit => Rect.unit o sh.size hi) (fun _ _ => rfl) (fun t t' h => absurd rfl h) hc X
  · rw [← hb]
    exact owns_rects (c : Thread nD τ) m q (fun _ : Unit => Rect.unit o sh.size hi) (fun _ _ => rfl) (fun t t' h => absurd rfl h) hc X

omit [FloatOps F] in
theorem acc_fin_any (h : s.fst = 0) :
    Inv V c N s ⊢ iprop((∃ X, owns (c : Thread nD τ) mFin fullShare X) ∗ ((∃ X, owns (c : Thread nD τ) mFin fullShare X) -∗ Inv V c N s)) := by
  iintro H
  ihave ⟨⟨H9, Hf⟩, Hr⟩ := Inv_fin s.fst $$ H
  have e : OwnFin V c s.fst = iprop(∃ X, owns (c : Thread nD τ) mFin fullShare X) := if_pos h
  ihave Hf := (Entails.of_eq e) $$ Hf
  iframe Hf
  iintro Hf
  iapply Hr
  rw [e]
  iframe

omit [FloatOps F] in
/-- The finished rows are stored whole and then held in shares, one for each device and the rest. -/
theorem acc_fin (h : s.fst = 0) (h2 : s.np2 = 0) :
    Inv V c N s ⊢ iprop((∃ X, owns (c : Thread nD τ) mFin fullShare X)
      ∗ (owns (c : Thread nD τ) mFin fullShare (V.fin c) -∗ Inv V c N { s with fst := 1 })) := by
  iintro H
  ihave ⟨⟨H9, Hf⟩, Hr⟩ := Inv_fin 1 $$ H
  have e : OwnFin V c s.fst = iprop(∃ X, owns (c : Thread nD τ) mFin fullShare X) := if_pos h
  ihave Hf := (Entails.of_eq e) $$ Hf
  iframe Hf
  iintro Hf
  iapply Hr
  have e9 : allD (A9 V c 1 s.np2 s.nf) = bigSep Finset.univ fun i : Fin 32 => owns (c : Thread nD τ) mFin (tok i) (V.fin c) :=
    bigSep_congr fun i _ => by unfold A9; rw [if_neg (by decide), if_neg (fun hh => absurd hh.2.1 (by omega))]
  have eF : OwnFin V c 1 = owns (c : Thread nD τ) mFin (Transfers.shareDrop fullShare 32) (V.fin c) := if_neg (by decide)
  rw [e9, eF]
  simp only [owns_whole]
  ihave ⟨Hd, Ht⟩ := (Transfers.pointsTo_toks_split fullShare 32) $$ Hf
  iframe

omit [FloatOps F] in
theorem acc_fin_any' (P : (S16x512.Idx → Elt F .bf16) → sProp (MM F)) (hP : P = fun X => owns (c : Thread nD τ) mFin fullShare X) (h : s.fst = 0) :
    Inv V c N s ⊢ iprop((∃ X, P X) ∗ ((∃ X, P X) -∗ Inv V c N s)) := by
  subst hP; exact acc_fin_any h
omit [FloatOps F] in
theorem acc_fin' (P : (S16x512.Idx → Elt F .bf16) → sProp (MM F)) (hP : P = fun X => owns (c : Thread nD τ) mFin fullShare X) (h : s.fst = 0) (h2 : s.np2 = 0) :
    Inv V c N s ⊢ iprop((∃ X, P X) ∗ (P (V.fin c) -∗ Inv V c N { s with fst := 1 })) := by
  subst hP; exact acc_fin h h2

omit [FloatOps F] in
theorem acc_fin_own (h : s.fst = 1) :
    Inv V c N s ⊢ iprop(owns (c : Thread nD τ) mFin (Transfers.shareDrop fullShare 32) (V.fin c)
      ∗ (owns (c : Thread nD τ) mFin (Transfers.shareDrop fullShare 32) (V.fin c) -∗ Inv V c N s)) := by
  iintro H
  ihave ⟨⟨H9, Hf⟩, Hr⟩ := Inv_fin s.fst $$ H
  have e : OwnFin V c s.fst = owns (c : Thread nD τ) mFin (Transfers.shareDrop fullShare 32) (V.fin c) := if_neg (by omega)
  ihave Hf := (Entails.of_eq e) $$ Hf
  iframe Hf
  iintro Hf
  iapply Hr
  rw [e]
  iframe

section Rows
omit [FloatOps F]

theorem A8_own_any (b : Fin 2) (n : ℕ) : A8 V c b 0 n c = iprop(∃ X, owns (c : Thread nD τ) (bR b c) fullShare X) := by
  unfold A8; simp
theorem A8_own (b : Fin 2) (n : ℕ) : A8 V c b 1 n c = owns (c : Thread nD τ) (bR b c) fullShare (V.row c b c) := by
  unfold A8; simp
theorem A8_other (b : Fin 2) (w w' n : ℕ) {i : Dev nD} (h : i ≠ c) : A8 V c b w n i = A8 V c b w' n i := by
  unfold A8; simp only [if_neg h]

theorem acc_row0 (h : s.w0 = 0) :
    Inv V c N s ⊢ iprop((∃ X, owns (c : Thread nD τ) (bR 0 c) fullShare X)
      ∗ (owns (c : Thread nD τ) (bR 0 c) fullShare (V.row c 0 c) -∗ Inv V c N { s with w0 := 1 })) := by
  iintro H
  ihave ⟨Hf, Hr⟩ := Inv_w0 1 $$ H
  ihave ⟨Hj, Hb⟩ := (fam_all c (Φ := A8 V c 0 s.w0 s.nr2) (Ψ := A8 V c 0 1 s.nr2) (fun i hi => A8_other 0 _ _ _ hi)) $$ Hf
  have e : A8 V c 0 s.w0 s.nr2 c = iprop(∃ X, owns (c : Thread nD τ) (bR 0 c) fullShare X) := by rw [h, A8_own_any]
  ihave Hj := (Entails.of_eq e) $$ Hj
  iframe Hj
  iintro Hj
  iapply Hr
  iapply Hb
  rw [A8_own]
  iexact Hj

theorem acc_row1 (h : s.w1 = 0) :
    Inv V c N s ⊢ iprop((∃ X, owns (c : Thread nD τ) (bR 1 c) fullShare X)
      ∗ (owns (c : Thread nD τ) (bR 1 c) fullShare (V.row c 1 c) -∗ Inv V c N { s with w1 := 1 })) := by
  iintro H
  ihave ⟨Hf, Hr⟩ := Inv_w1 1 $$ H
  ihave ⟨Hj, Hb⟩ := (fam_all c (Φ := A8 V c 1 s.w1 s.nr2) (Ψ := A8 V c 1 1 s.nr2) (fun i hi => A8_other 1 _ _ _ hi)) $$ Hf
  have e : A8 V c 1 s.w1 s.nr2 c = iprop(∃ X, owns (c : Thread nD τ) (bR 1 c) fullShare X) := by rw [h, A8_own_any]
  ihave Hj := (Entails.of_eq e) $$ Hj
  iframe Hj
  iintro Hj
  iapply Hr
  iapply Hb
  rw [A8_own]
  iexact Hj

theorem acc_row0_any (h : s.w0 = 0) :
    Inv V c N s ⊢ iprop((∃ X, owns (c : Thread nD τ) (bR 0 c) fullShare X) ∗ ((∃ X, owns (c : Thread nD τ) (bR 0 c) fullShare X) -∗ Inv V c N s)) := by
  iintro H
  ihave ⟨Hf, Hr⟩ := Inv_w0 s.w0 $$ H
  ihave ⟨Hj, Hb⟩ := (fam_all c (Φ := A8 V c 0 s.w0 s.nr2) (fun i hi => rfl)) $$ Hf
  have e : A8 V c 0 s.w0 s.nr2 c = iprop(∃ X, owns (c : Thread nD τ) (bR 0 c) fullShare X) := by rw [h, A8_own_any]
  ihave Hj := (Entails.of_eq e) $$ Hj
  iframe Hj
  iintro Hj
  iapply Hr
  iapply Hb
  rw [e]
  iexact Hj

theorem acc_row1_any (h : s.w1 = 0) :
    Inv V c N s ⊢ iprop((∃ X, owns (c : Thread nD τ) (bR 1 c) fullShare X) ∗ ((∃ X, owns (c : Thread nD τ) (bR 1 c) fullShare X) -∗ Inv V c N s)) := by
  iintro H
  ihave ⟨Hf, Hr⟩ := Inv_w1 s.w1 $$ H
  ihave ⟨Hj, Hb⟩ := (fam_all c (Φ := A8 V c 1 s.w1 s.nr2) (fun i hi => rfl)) $$ Hf
  have e : A8 V c 1 s.w1 s.nr2 c = iprop(∃ X, owns (c : Thread nD τ) (bR 1 c) fullShare X) := by rw [h, A8_own_any]
  ihave Hj := (Entails.of_eq e) $$ Hj
  iframe Hj
  iintro Hj
  iapply Hr
  iapply Hb
  rw [e]
  iexact Hj

theorem acc_x : Inv V c N s ⊢ iprop(owns (c : Thread nD τ) mX fullShare (V.x c) ∗ (owns (c : Thread nD τ) mX fullShare (V.x c) -∗ Inv V c N s)) := by
  iintro H
  ihave ⟨Hf, Hr⟩ := Inv_ins $$ H
  unfold Ins
  icases Hf with ⟨H1, H2, H3, H4, H5⟩
  iframe H1
  iintro H1
  iapply Hr
  iframe
theorem acc_wq : Inv V c N s ⊢ iprop(owns (c : Thread nD τ) mWq fullShare (V.wq c) ∗ (owns (c : Thread nD τ) mWq fullShare (V.wq c) -∗ Inv V c N s)) := by
  iintro H
  ihave ⟨Hf, Hr⟩ := Inv_ins $$ H
  unfold Ins
  icases Hf with ⟨H1, H2, H3, H4, H5⟩
  iframe H2
  iintro H2
  iapply Hr
  iframe
theorem acc_wo : Inv V c N s ⊢ iprop(owns (c : Thread nD τ) mWo fullShare (V.wo c) ∗ (owns (c : Thread nD τ) mWo fullShare (V.wo c) -∗ Inv V c N s)) := by
  iintro H
  ihave ⟨Hf, Hr⟩ := Inv_ins $$ H
  unfold Ins
  icases Hf with ⟨H1, H2, H3, H4, H5⟩
  iframe H3
  iintro H3
  iapply Hr
  iframe
theorem acc_k : Inv V c N s ⊢ iprop(owns (c : Thread nD τ) mK fullShare (V.k c) ∗ (owns (c : Thread nD τ) mK fullShare (V.k c) -∗ Inv V c N s)) := by
  iintro H
  ihave ⟨Hf, Hr⟩ := Inv_ins $$ H
  unfold Ins
  icases Hf with ⟨H1, H2, H3, H4, H5⟩
  iframe H4
  iintro H4
  iapply Hr
  iframe
theorem acc_v : Inv V c N s ⊢ iprop(owns (c : Thread nD τ) mV fullShare (V.v c) ∗ (owns (c : Thread nD τ) mV fullShare (V.v c) -∗ Inv V c N s)) := by
  iintro H
  ihave ⟨Hf, Hr⟩ := Inv_ins $$ H
  unfold Ins
  icases Hf with ⟨H1, H2, H3, H4, H5⟩
  iframe H5
  iintro H5
  iapply Hr
  iframe

end Rows

end Fin

/-! ## The steps -/

section Steps

theorem Exec.ldX {r : Rect S2x256x768} {hl} {k : (r.shape.Idx → Elt F .f32) → PP F α} (hk : Exec V N c s (k (part (V.x c) r)) Q) :
    Exec V N c s (Prog.lift (.load mX r.toLoadRect hl) >>= k) Q := Exec.load_part _ _ acc_x hk
theorem Exec.ldWq {r : Rect S768x512} {hl} {k : (r.shape.Idx → Elt F .f32) → PP F α} (hk : Exec V N c s (k (part (V.wq c) r)) Q) :
    Exec V N c s (Prog.lift (.load mWq r.toLoadRect hl) >>= k) Q := Exec.load_part _ _ acc_wq hk
theorem Exec.ldWo {r : Rect S512x768} {hl} {k : (r.shape.Idx → Elt F .f32) → PP F α} (hk : Exec V N c s (k (part (V.wo c) r)) Q) :
    Exec V N c s (Prog.lift (.load mWo r.toLoadRect hl) >>= k) Q := Exec.load_part _ _ acc_wo hk
theorem Exec.ldK {r : Rect S16x64x512} {hl} {k : (r.shape.Idx → Elt F .bf16) → PP F α} (hk : Exec V N c s (k (part (V.k c) r)) Q) :
    Exec V N c s (Prog.lift (.load mK r.toLoadRect hl) >>= k) Q := Exec.load_part _ _ acc_k hk
theorem Exec.ldV {r : Rect S16x512x64} {hl} {k : (r.shape.Idx → Elt F .bf16) → PP F α} (hk : Exec V N c s (k (part (V.v c) r)) Q) :
    Exec V N c s (Prog.lift (.load mV r.toLoadRect hl) >>= k) Q := Exec.load_part _ _ acc_v hk

/-- The chunk for device `s.nsto` is read before it is stored, and the value is not used. -/
theorem Exec.ldCo {o : Fin 2 → ℕ} {hi : ∀ a, o a + S16x512.size a ≤ S16x16384.size a} {hl} {k : (S16x512.Idx → Elt F .bf16) → PP F α}
    (hk : ∀ x, Exec V N c s (k x) Q) (ho : o = ![0, 512 * s.nsto] := by rfl) (h : s.nsto < 32 := by decide) :
    Exec V N c s (Prog.lift (.load mCo (Rect.unit (s := S16x16384) o S16x512.size hi).toLoadRect hl) >>= k) Q := by
  refine Exec.load_any (fun _ => rfl) ?_ hk
  rw [slice_O mCo (ho.trans (dv_mul _ _ h))]
  exact acc_co_any (dv_val h).symm
theorem Exec.stCo {o : Fin 2 → ℕ} {hi : ∀ a, o a + S16x512.size a ≤ S16x16384.size a} {w : S16x512.Idx → Elt F .bf16} {hx hm} {k : PUnit → PP F α}
    (hk : Exec V N c { s with nsto := s.nsto + 1 } (k ⟨⟩) Q) (hw : w = V.co c (dv s.nsto)) (ho : o = ![0, 512 * s.nsto] := by rfl)
    (h : s.nsto < 32 := by decide) (hd : s.nsd ≤ s.nsto := by decide) :
    Exec V N c s (Prog.lift (.store mCo (Rect.unit (s := S16x16384) o S16x512.size hi) w Finset.univ hx hm) >>= k) Q := by
  refine Exec.store (fun _ => rfl) ?_ hk
  rw [slice_O mCo (ho.trans (dv_mul _ _ h)), hw]
  exact acc_co (dv_val h).symm hd
theorem Exec.ldCs {o : Fin 2 → ℕ} {hi : ∀ a, o a + S8x128.size a ≤ S8x4096.size a} {hl} {k : (S8x128.Idx → Elt F .f32) → PP F α}
    (hk : ∀ x, Exec V N c s (k x) Q) (ho : o = ![0, 128 * s.nsts] := by rfl) (h : s.nsts < 32 := by decide) :
    Exec V N c s (Prog.lift (.load mCs (Rect.unit (s := S8x4096) o S8x128.size hi).toLoadRect hl) >>= k) Q := by
  refine Exec.load_any (fun _ => rfl) ?_ hk
  rw [slice_S mCs (ho.trans (dv_mul _ _ h))]
  exact acc_cs_any (dv_val h).symm
theorem Exec.stCs {o : Fin 2 → ℕ} {hi : ∀ a, o a + S8x128.size a ≤ S8x4096.size a} {w : S8x128.Idx → Elt F .f32} {hx hm} {k : PUnit → PP F α}
    (hk : Exec V N c { s with nsts := s.nsts + 1 } (k ⟨⟩) Q) (hw : w = V.cs c (dv s.nsts)) (ho : o = ![0, 128 * s.nsts] := by rfl)
    (h : s.nsts < 32 := by decide) (hd : s.nsd ≤ s.nsts := by decide) :
    Exec V N c s (Prog.lift (.store mCs (Rect.unit (s := S8x4096) o S8x128.size hi) w Finset.univ hx hm) >>= k) Q := by
  refine Exec.store (fun _ => rfl) ?_ hk
  rw [slice_S mCs (ho.trans (dv_mul _ _ h)), hw]
  exact acc_cs (dv_val h).symm hd

theorem off97 (c : Dev nD) : k0_off97 c = ![0, 512 * c.val] := by revert c; decide +kernel
theorem off98 (c : Dev nD) : k0_off98 c = ![0, 128 * c.val] := by revert c; decide +kernel
theorem off163 (c : Dev nD) : k0_off163 c = ![0, 8 * c.val, 0] := by revert c; decide +kernel
theorem off164 (c : Dev nD) : k0_off164 c = ![1, 8 * c.val, 0] := by revert c; decide +kernel

/-- The device's own chunk goes to its own landing block. -/
theorem Exec.ldMyCo {hi hl} {k : (S16x512.Idx → Elt F .bf16) → PP F α} (hk : Exec V N c s (k (V.co c c)) Q) (h : s.nsto = 32 := by rfl) :
    Exec V N c s (Prog.lift (.load mCo (Rect.unit (s := S16x16384) (k0_off97 c) S16x512.size hi).toLoadRect hl) >>= k) Q := by
  refine Exec.load_val (fun _ => rfl) fullShare (V.co c c) ?_ hk
  rw [slice_O mCo (off97 c)]
  exact acc_co_own (by rw [h]; exact c.isLt)
theorem Exec.ldMyCs {hi hl} {k : (S8x128.Idx → Elt F .f32) → PP F α} (hk : Exec V N c s (k (V.cs c c)) Q) (h : s.nsts = 32 := by rfl) :
    Exec V N c s (Prog.lift (.load mCs (Rect.unit (s := S8x4096) (k0_off98 c) S8x128.size hi).toLoadRect hl) >>= k) Q := by
  refine Exec.load_val (fun _ => rfl) fullShare (V.cs c c) ?_ hk
  rw [slice_S mCs (off98 c)]
  exact acc_cs_own (by rw [h]; exact c.isLt)
theorem Exec.ldMyRo {hi hl} {k : (S16x512.Idx → Elt F .bf16) → PP F α} (hk : ∀ x, Exec V N c s (k x) Q) (h : s.nlo = 0 := by rfl) :
    Exec V N c s (Prog.lift (.load mRo (Rect.unit (s := S16x16384) (k0_off97 c) S16x512.size hi).toLoadRect hl) >>= k) Q := by
  refine Exec.load_any (fun _ => rfl) ?_ hk
  rw [slice_O mRo (off97 c)]
  exact acc_ro_any h
theorem Exec.ldMyRs {hi hl} {k : (S8x128.Idx → Elt F .f32) → PP F α} (hk : ∀ x, Exec V N c s (k x) Q) (h : s.nls = 0 := by rfl) :
    Exec V N c s (Prog.lift (.load mRs (Rect.unit (s := S8x4096) (k0_off98 c) S8x128.size hi).toLoadRect hl) >>= k) Q := by
  refine Exec.load_any (fun _ => rfl) ?_ hk
  rw [slice_S mRs (off98 c)]
  exact acc_rs_any h
theorem Exec.stMyRo {hi hx hm} {w : S16x512.Idx → Elt F .bf16} {k : PUnit → PP F α} (hk : Exec V N c { s with nlo := 1 } (k ⟨⟩) Q)
    (hw : w = V.co c c) (h : s.nlo = 0 := by rfl) :
    Exec V N c s (Prog.lift (.store mRo (Rect.unit (s := S16x16384) (k0_off97 c) S16x512.size hi) w Finset.univ hx hm) >>= k) Q := by
  refine Exec.store (fun _ => rfl) ?_ hk
  rw [slice_O mRo (off97 c), hw]
  exact acc_ro_own h
theorem Exec.stMyRs {hi hx hm} {w : S8x128.Idx → Elt F .f32} {k : PUnit → PP F α} (hk : Exec V N c { s with nls := 1 } (k ⟨⟩) Q)
    (hw : w = V.cs c c) (h : s.nls = 0 := by rfl) :
    Exec V N c s (Prog.lift (.store mRs (Rect.unit (s := S8x4096) (k0_off98 c) S8x128.size hi) w Finset.univ hx hm) >>= k) Q := by
  refine Exec.store (fun _ => rfl) ?_ hk
  rw [slice_S mRs (off98 c), hw]
  exact acc_rs_own h

/-- What has landed from device `j`. -/
theorem Exec.ldRo (j : Dev nD) {o : Fin 2 → ℕ} {hi : ∀ a, o a + S16x512.size a ≤ S16x16384.size a} {hl} {k : (S16x512.Idx → Elt F .bf16) → PP F α}
    (hk : Exec V N c s (k (V.co j c)) Q) (ho : o = ![0, 512 * j.val]) (h : s.nrv = 32 := by rfl) (h1 : s.nlo = 1 := by rfl) :
    Exec V N c s (Prog.lift (.load mRo (Rect.unit (s := S16x16384) o S16x512.size hi).toLoadRect hl) >>= k) Q := by
  refine Exec.load_val (fun _ => rfl) fullShare (V.co j c) ?_ hk
  rw [slice_O mRo ho]
  exact acc_ro (by rw [h]; exact j.isLt) h1
theorem Exec.ldRs (j : Dev nD) {o : Fin 2 → ℕ} {hi : ∀ a, o a + S8x128.size a ≤ S8x4096.size a} {hl} {k : (S8x128.Idx → Elt F .f32) → PP F α}
    (hk : Exec V N c s (k (V.cs j c)) Q) (ho : o = ![0, 128 * j.val]) (h : s.nrv = 32 := by rfl) (h1 : s.nls = 1 := by rfl) :
    Exec V N c s (Prog.lift (.load mRs (Rect.unit (s := S8x4096) o S8x128.size hi).toLoadRect hl) >>= k) Q := by
  refine Exec.load_val (fun _ => rfl) fullShare (V.cs j c) ?_ hk
  rw [slice_S mRs ho]
  exact acc_rs (by rw [h]; exact j.isLt) h1

theorem Exec.ldFin {o : Fin 2 → ℕ} {hi : ∀ a, o a + S16x512.size a ≤ S16x512.size a} {hl} {k : (S16x512.Idx → Elt F .bf16) → PP F α}
    (hk : ∀ x, Exec V N c s (k x) Q) (h : s.fst = 0 := by rfl) :
    Exec V N c s (Prog.lift (.load mFin (Rect.unit (s := S16x512) o S16x512.size hi).toLoadRect hl) >>= k) Q := by
  refine Exec.load_any (fun _ => rfl) ?_ hk
  have e : (fun X : S16x512.Idx → Elt F .bf16 => owns (c : Thread nD τ) (mFin.slice (Rect.unit (s := S16x512) o S16x512.size hi) (fun _ => rfl)) fullShare X)
      = fun X => owns (c : Thread nD τ) mFin fullShare X := funext fun X => owns_full mFin hi fullShare X
  exact acc_fin_any' _ e h
theorem Exec.stFin {o : Fin 2 → ℕ} {hi : ∀ a, o a + S16x512.size a ≤ S16x512.size a} {hx hm} {w : S16x512.Idx → Elt F .bf16} {k : PUnit → PP F α}
    (hk : Exec V N c { s with fst := 1 } (k ⟨⟩) Q) (hw : w = V.fin c) (h : s.fst = 0 := by rfl) (h2 : s.np2 = 0 := by rfl) :
    Exec V N c s (Prog.lift (.store mFin (Rect.unit (s := S16x512) o S16x512.size hi) w Finset.univ hx hm) >>= k) Q := by
  refine Exec.store (fun _ => rfl) ?_ hk
  subst hw
  have e : (fun X : S16x512.Idx → Elt F .bf16 => owns (c : Thread nD τ) (mFin.slice (Rect.unit (s := S16x512) o S16x512.size hi) (fun _ => rfl)) fullShare X)
      = fun X => owns (c : Thread nD τ) mFin fullShare X := funext fun X => owns_full mFin hi fullShare X
  exact acc_fin' _ e h h2
theorem Exec.ldMyFin {o : Fin 2 → ℕ} {hi : ∀ a, o a + S16x512.size a ≤ S16x512.size a} {hl} {k : (S16x512.Idx → Elt F .bf16) → PP F α}
    (hk : Exec V N c s (k (V.fin c)) Q) (h : s.fst = 1 := by rfl) :
    Exec V N c s (Prog.lift (.load mFin (Rect.unit (s := S16x512) o S16x512.size hi).toLoadRect hl) >>= k) Q := by
  refine Exec.load_part _ _ (acc_fin_own h) ?_
  rw [part_full]; exact hk

theorem Exec.ldMyR0 {hi hl} {k : (S1x8x768.Idx → Elt F .f32) → PP F α} (hk : ∀ x, Exec V N c s (k x) Q) (h : s.w0 = 0 := by rfl) :
    Exec V N c s (Prog.lift (.load mOut (Rect.unit (s := S2x256x768) (k0_off163 c) S1x8x768.size hi).toLoadRect hl) >>= k) Q := by
  refine Exec.load_any (fun _ => rfl) ?_ hk
  rw [slice_R (b := 0) (off163 c)]
  exact acc_row0_any h
theorem Exec.stMyR0 {hi hx hm} {w : S1x8x768.Idx → Elt F .f32} {k : PUnit → PP F α} (hk : Exec V N c { s with w0 := 1 } (k ⟨⟩) Q)
    (hw : w = V.row c 0 c) (h : s.w0 = 0 := by rfl) :
    Exec V N c s (Prog.lift (.store mOut (Rect.unit (s := S2x256x768) (k0_off163 c) S1x8x768.size hi) w Finset.univ hx hm) >>= k) Q := by
  refine Exec.store (fun _ => rfl) ?_ hk
  rw [slice_R (b := 0) (off163 c), hw]
  exact acc_row0 h
theorem Exec.ldMyR1 {hi hl} {k : (S1x8x768.Idx → Elt F .f32) → PP F α} (hk : ∀ x, Exec V N c s (k x) Q) (h : s.w1 = 0 := by rfl) :
    Exec V N c s (Prog.lift (.load mOut (Rect.unit (s := S2x256x768) (k0_off164 c) S1x8x768.size hi).toLoadRect hl) >>= k) Q := by
  refine Exec.load_any (fun _ => rfl) ?_ hk
  rw [slice_R (b := 1) (off164 c)]
  exact acc_row1_any h
theorem Exec.stMyR1 {hi hx hm} {w : S1x8x768.Idx → Elt F .f32} {k : PUnit → PP F α} (hk : Exec V N c { s with w1 := 1 } (k ⟨⟩) Q)
    (hw : w = V.row c 1 c) (h : s.w1 = 0 := by rfl) :
    Exec V N c s (Prog.lift (.store mOut (Rect.unit (s := S2x256x768) (k0_off164 c) S1x8x768.size hi) w Finset.univ hx hm) >>= k) Q := by
  refine Exec.store (fun _ => rfl) ?_ hk
  rw [slice_R (b := 1) (off164 c), hw]
  exact acc_row1 h

end Steps

end Cert.KernelIdeal.Att
-- ==== Proof.Moves.lean ====
module
public import proofs.«01_k».proof.Proof.Local

/-!
# Signals, copies and waits

Each block of the kernel that concerns one other device is one step: for the device itself nothing happens.
-/

@[expose] public section

noncomputable section

namespace Cert.KernelIdeal.Att

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable {V : Vals F} {N : GSem nD τ sig → ℕ} {c : Dev nD} {α : Type} {s s₁ : St} {Q : α → St → Prop}

theorem Exec.cond {cond : BitVec 1} {p : cond = 1#1 → PP F α} {q : PP F α} {j : Dev nD} (hc : cond = condJ c j)
    (hskip : j = c → Inv V c N s ⊢ Inv V c N s₁) (hq : Exec V N c s₁ q Q) (hp : cond = 1#1 → j ≠ c → ∀ h, Exec V N c s (p h) Q) :
    Exec V N c s (if h : cond = 1#1 then p h else q) Q := by
  by_cases h : cond = 1#1
  · rw [dif_pos h]; exact hp h ((condJ_iff c j).mp (hc ▸ h)) h
  · rw [dif_neg h]
    have hj : j = c := by by_contra hne; exact h (hc ▸ (condJ_iff c j).mpr hne)
    unfold Exec at *
    exact (hskip hj).trans hq

/-! ## Semaphores of the arrays -/

def arr (k : Fin 6) : DmaSems sig S32 :=
  match k with
  | 0 => cc0_scratch6
  | 1 => cc0_scratch7
  | 2 => cc0_scratch8
  | 3 => cc0_scratch9
  | 4 => cc0_scratch10
  | 5 => cc0_scratch11

theorem inbSem (j : Dev nD) : ∀ a, (![j.val] : Fin 1 → ℕ) a + S1.size a ≤ S32.size a := by revert j; decide
theorem sem_arr : ∀ (k : Fin 6) (j : Dev nD),
    (((arr k).slice (Rect.unit (s := S32) ![j.val] S1.size (inbSem j))).squeeze S_ squeezes_S1_S_).sem = dsem k j := by decide +kernel
theorem sem_at (k : Fin 6) (j : Dev nD) {o : Fin 1 → ℕ} {hi : ∀ a, o a + S1.size a ≤ S32.size a} (ho : o = ![j.val]) :
    (((arr k).slice (Rect.unit (s := S32) o S1.size hi)).squeeze S_ squeezes_S1_S_).sem = dsem k j := by
  subst ho; exact sem_arr k j

/-! ## Nothing happens for the device itself -/

section Skip
omit [FloatOps F]

theorem skip_sig (h : s.nsig = c.val) : Inv V c N s ⊢ Inv V c N { s with nsig := s.nsig + 1 } := by
  refine Entails.of_eq ?_
  unfold Inv
  dsimp only
  rw [Owed_same (a' := s.nsig + 1) (b' := s.nsd) (d' := s.np2) (fun i hi => by simp only [Oj, h, lt_next hi]),
    oth_same (Ψ := A1 c (s.nsig + 1)) (fun i hi => by simp only [A1, h, lt_next hi])]

theorem skip_snd (h : s.nsd = c.val) : Inv V c N s ⊢ Inv V c N { s with nsd := s.nsd + 1 } := by
  refine Entails.of_eq ?_
  unfold Inv
  dsimp only
  rw [Owed_same (a' := s.nsig) (b' := s.nsd + 1) (d' := s.np2) (fun i hi => by simp only [Oj, h, lt_next hi]),
    all_same (Φ := A2 V c s.nsto s.nsd s.nf) (Ψ := A2 V c s.nsto (s.nsd + 1) s.nf) (fun i => by
      by_cases hi : i = c
      · simp [A2, hi]
      · simp only [A2, h, lt_next hi]),
    all_same (Φ := A3 V c s.nsts s.nsd s.nf) (Ψ := A3 V c s.nsts (s.nsd + 1) s.nf) (fun i => by
      by_cases hi : i = c
      · simp [A3, hi]
      · simp only [A3, h, lt_next hi]),
    oth_same (Φ := A4 c s.bar s.nsd) (Ψ := A4 c s.bar (s.nsd + 1)) (fun i hi => by simp only [A4, h, lt_next hi]),
    oth_same (Φ := T1 c s.nsd) (Ψ := T1 c (s.nsd + 1)) (fun i hi => by simp only [T1, h, lt_next hi]),
    oth_same (Φ := SC c 0 s.nsd s.nf) (Ψ := SC c 0 (s.nsd + 1) s.nf) (fun i hi => by simp only [SC, h, lt_next hi]),
    oth_same (Φ := SC c 2 s.nsd s.nf) (Ψ := SC c 2 (s.nsd + 1) s.nf) (fun i hi => by simp only [SC, h, lt_next hi])]

theorem skip_rcv (h : s.nrv = c.val) : Inv V c N s ⊢ Inv V c N { s with nrv := s.nrv + 1 } := by
  refine Entails.of_eq ?_
  unfold Inv
  dsimp only
  rw [oth_same (Φ := RC V c 1 s.nrv) (Ψ := RC V c 1 (s.nrv + 1)) (fun i hi => by simp only [RC, h, lt_next hi]),
    oth_same (Φ := RC V c 3 s.nrv) (Ψ := RC V c 3 (s.nrv + 1)) (fun i hi => by simp only [RC, h, lt_next hi])]

theorem skip_snd2 (h : s.np2 = c.val) : Inv V c N s ⊢ Inv V c N { s with np2 := s.np2 + 1 } := by
  refine Entails.of_eq ?_
  unfold Inv
  dsimp only
  rw [Owed_same (a' := s.nsig) (b' := s.nsd) (d' := s.np2 + 1) (fun i hi => by simp only [Oj, h, lt_next hi]),
    oth_same (Φ := A5 c s.bar s.np2) (Ψ := A5 c s.bar (s.np2 + 1)) (fun i hi => by simp only [A5, h, lt_next hi]),
    oth_same (Φ := T2 c s.np2) (Ψ := T2 c (s.np2 + 1)) (fun i hi => by simp only [T2, h, lt_next hi]),
    oth_same (Φ := SC c 4 s.np2 s.nf) (Ψ := SC c 4 (s.np2 + 1) s.nf) (fun i hi => by simp only [SC, h, lt_next hi]),
    all_same (Φ := A9 V c s.fst s.np2 s.nf) (Ψ := A9 V c s.fst (s.np2 + 1) s.nf) (fun i => by
      by_cases hi : i = c
      · simp [A9, hi]
      · simp only [A9, h, lt_next hi])]

theorem skip_rcv2 (h : s.nr2 = c.val) : Inv V c N s ⊢ Inv V c N { s with nr2 := s.nr2 + 1 } := by
  refine Entails.of_eq ?_
  unfold Inv
  dsimp only
  rw [oth_same (Φ := RC V c 5 s.nr2) (Ψ := RC V c 5 (s.nr2 + 1)) (fun i hi => by simp only [RC, h, lt_next hi]),
    all_same (Φ := A8 V c 0 s.w0 s.nr2) (Ψ := A8 V c 0 s.w0 (s.nr2 + 1)) (fun i => by
      by_cases hi : i = c
      · simp [A8, hi]
      · simp only [A8, h, lt_next hi]),
    all_same (Φ := A8 V c 1 s.w1 s.nr2) (Ψ := A8 V c 1 s.w1 (s.nr2 + 1)) (fun i => by
      by_cases hi : i = c
      · simp [A8, hi]
      · simp only [A8, h, lt_next hi])]

theorem skip_fin (h : s.nf = c.val) : Inv V c N s ⊢ Inv V c N { s with nf := s.nf + 1 } := by
  refine Entails.of_eq ?_
  unfold Inv
  dsimp only
  rw [all_same (Φ := A2 V c s.nsto s.nsd s.nf) (Ψ := A2 V c s.nsto s.nsd (s.nf + 1)) (fun i => by
      by_cases hi : i = c
      · simp [A2, hi]
      · simp only [A2, h, lt_next hi]),
    all_same (Φ := A3 V c s.nsts s.nsd s.nf) (Ψ := A3 V c s.nsts s.nsd (s.nf + 1)) (fun i => by
      by_cases hi : i = c
      · simp [A3, hi]
      · simp only [A3, h, lt_next hi]),
    oth_same (Φ := SC c 0 s.nsd s.nf) (Ψ := SC c 0 s.nsd (s.nf + 1)) (fun i hi => by simp only [SC, h, lt_next hi]),
    oth_same (Φ := SC c 2 s.nsd s.nf) (Ψ := SC c 2 s.nsd (s.nf + 1)) (fun i hi => by simp only [SC, h, lt_next hi]),
    oth_same (Φ := SC c 4 s.np2 s.nf) (Ψ := SC c 4 s.np2 (s.nf + 1)) (fun i hi => by simp only [SC, h, lt_next hi]),
    all_same (Φ := A9 V c s.fst s.np2 s.nf) (Ψ := A9 V c s.fst s.np2 (s.nf + 1)) (fun i => by
      by_cases hi : i = c
      · simp [A9, hi]
      · simp only [A9, h, lt_next hi])]

end Skip

/-! ## The barrier -/

theorem Exec.signal {cond : BitVec 1} {n : ℕ} {hlt : cond = 1#1 → n < nD} {sm : Sem sig} {k : PUnit → PP F α}
    (hk : Exec V N c { s with nsig := s.nsig + 1 } (k ⟨⟩) Q)
    (hc : cond = condJ c (dv s.nsig) := by rfl) (hn : n = s.nsig := by rfl) (h : s.nsig < 32 := by decide) (hs : sm = barS := by rfl) :
    Exec V N c s (if h : cond = 1#1 then semSignalWord (⟨n, hlt h⟩ : Dev nD) sm 1#32 >>= fun _ => k ⟨⟩ else k ⟨⟩) Q := by
  refine Exec.cond hc (fun e => skip_sig (by rw [← e]; exact (dv_val h).symm)) hk fun _ hne hh => ?_
  have ed : (⟨n, hlt hh⟩ : Dev nD) = dv s.nsig := Fin.ext (hn.trans (dv_val h).symm)
  rw [ed, hs]
  exact Exec.of (fun Q => sig_core hne (dv_val h).symm (fun _ => k ⟨⟩) Q) hk

omit [FloatOps F] in
theorem oth_sep {Φ Ψ : Dev nD → sProp (MM F)} :
    (bigSep (Finset.univ.erase c) fun j => iprop(Φ j ∗ Ψ j)) ⊢ iprop(others c Φ ∗ others c Ψ) := by
  unfold others
  exact Entails.of_eq (bigSep_sep _ Φ Ψ)

theorem bar_core (h : s.bar = 0) (hsig : s.nsig = 32) (hsd : s.nsd = 0) (hp2 : s.np2 = 0) (k : PUnit → PP F α) (Q : α → sProp (MM F)) :
    Inv V c N s ⊢ iprop((Inv V c N { s with bar := 1 } -∗ WP c (k ⟨⟩) Q) -∗ WP c (.op (.semWait barS 31) k) Q) := by
  unfold Inv Ctx
  dsimp only
  iintro ⟨⟨#HI, #HIc, #Hrb, #Hrc, #Hlev⟩, HIn, ⟨%W, HO⟩, H1, H2, H3, -, -, HT1, HT2, HS0, HS2, HS4, HR1, HR3, HR5, H80, H81, H9, HF, HB, HRo, HRs⟩ Hk
  ihave ⟨Ha, Hc⟩ := (Entails.of_eq (show OwnBar c s.bar = iprop(atPos ER (bar c) 0 ∅ 0 ∗ cred (tallyAt (bar c) () 31)) from by unfold OwnBar; rw [if_pos h])) $$ HB
  ihave HM := (mayWait_low c (.reg barS) (a := s.nsig) (b := s.nsd) (d := s.np2) 1 (by omega) (Or.inl le_rfl) (le_refl 1)) $$ Hlev
  iapply (Rounds.wp_wait_rest_token 𝒱₀ ER (Rd V) (c : Thread nD τ) none (κ := N (bar c))
      (wpE_semWait_eq 𝒱₀ (c : Thread nD τ) none Set.univ) (Set.mem_univ _) () (O := Owed c s.nsig s.nsd s.np2) (W := W) (R := 0) (m := 0) (T := ∅)
      (by rw [Nat.zero_add]; exact (expect_bar V c).symm)) $$ [HO HM Ha Hc]
  · isplitr; · iapply HI
    isplitl [Hc]; · iexact Hc
    isplitl [HO]; · iexact HO
    isplitl [HM]; · iexact HM
    iexact Ha
  iintro ⟨HO, Ha, -, Hp⟩
  ihave Hp := (Entails.of_eq (rest_bar V c)) $$ Hp
  have e : (bigSep (Finset.univ.erase c) fun j => barPay (F := F) c j) ⊢ iprop(others c (A4 (F := F) c 1 s.nsd) ∗ others c (A5 c 1 s.np2)) := by
    rw [hsd, hp2]
    have key : ∀ j : Dev nD, (barPay c j : sProp (MM F)) ⊢ iprop(A4 c 1 0 j ∗ A5 c 1 0 j) := fun j => by
      unfold barPay slots A4 A5
      simp only [if_neg one_ne_zero, if_neg (Nat.not_lt_zero j.val)]
      iintro ⟨⟨G1, G2, G3⟩, G4, G5, G6⟩
      iframe
    exact BIBase.Entails.trans (bigSep_mono fun j _ => key j) oth_sep
  ihave ⟨H4, H5⟩ := e $$ Hp
  iapply Hk
  have eB : OwnBar (F := F) c 1 = atPos ER (bar c) 1 ∅ 0 := if_neg (by decide)
  rw [eB]
  iframe HI HIc Hrb Hrc Hlev
  iframe
  iexists _
  iexact HO

theorem Exec.barrier {sm : Sem sig} {k : PUnit → PP F α} (hk : Exec V N c { s with bar := 1 } (k ⟨⟩) Q) (hs : sm = barS := by rfl)
    (h : s.bar = 0 := by rfl) (hsig : s.nsig = 32 := by rfl) (hsd : s.nsd = 0 := by rfl) (hp2 : s.np2 = 0 := by rfl) :
    Exec V N c s (semWaitWord sm 31#32 >>= k) Q := by
  subst hs
  exact Exec.of (fun Q => bar_core h hsig hsd hp2 k Q) hk

/-! ## The first exchange -/

/-- The two copies to device `j`: its chunk of partial outputs and its chunk of statistics. -/
theorem send_core {j : Dev nD} (hj : j ≠ c) (h : s.nsd = j.val) (hto : j.val < s.nsto) (hts : j.val < s.nsts) (hb : s.bar = 1) (hf : s.nf = 0)
    {dA dB : Dev nD} {m₁ m₂ : Memref sig .tc .vmem S16x512 .bf16} {m₃ m₄ : Memref sig .tc .vmem S8x128 .f32} {t₁ t₂ t₃ t₄ : DmaSem sig}
    (hdA : dA = j) (hdB : dB = j) (e₁ : m₁ = bO mCo j) (e₂ : m₂ = bO mRo c) (e₃ : m₃ = bS mCs j) (e₄ : m₄ = bS mRs c)
    (u₁ : t₁ = dsem 0 j) (u₂ : t₂ = dsem 1 c) (u₃ : t₃ = dsem 2 j) (u₄ : t₄ = dsem 3 c)
    {hsc₁ : m₂.view.ref.isScScratch = false} {hsc₂ : m₄.view.ref.isScScratch = false}
    {w₁ : m₁.view.WordExact} {w₂ : m₂.view.WordExact} {w₃ : m₃.view.WordExact} {w₄ : m₄.view.WordExact}
    {y₁ : DmaTarget.Typed .vmem (.dma t₂) (.remote (p := Proc.tc) (Dev.tc dA) m₂ (.dma t₁) hsc₁)}
    {y₂ : DmaTarget.Typed .vmem (.dma t₄) (.remote (p := Proc.tc) (Dev.tc dB) m₄ (.dma t₃) hsc₂)}
    (k : PUnit → PP F α) (Q : α → sProp (MM F)) :
    Inv V c N s ⊢ iprop((Inv V c N { s with nsd := s.nsd + 1 } -∗ WP c (k ⟨⟩) Q)
      -∗ WP c (.op (.enqueueDma m₁ (.remote (Dev.tc dA) m₂ (.dma t₁) hsc₁) (.dma t₂) w₁ w₂ y₁) fun _ =>
          .op (.enqueueDma m₃ (.remote (Dev.tc dB) m₄ (.dma t₃) hsc₂) (.dma t₄) w₃ w₄ y₂) k) Q) := by
  subst hdA e₁ e₂ e₃ e₄ u₁ u₂ u₃ u₄
  subst hdB
  unfold Inv Ctx
  dsimp only
  iintro ⟨⟨#HI, #HIc, #Hrb, #Hrc, #Hlev⟩, HIn, ⟨%W, HO⟩, H1, H2, H3, H4, H5, HT1, HT2, HS0, HS2, HS4, HR1, HR3, HR5, H80, H81, H9, HF, HB, HRo, HRs⟩ Hk
  have nlt : ¬ dB.val < s.nsd := by omega
  have nlf : ¬ dB.val < s.nf := by omega
  have lts : dB.val < s.nsd + 1 := by omega
  ihave ⟨G2, H2⟩ := (fam_all dB (Φ := A2 V c s.nsto s.nsd s.nf) (Ψ := A2 V c s.nsto (s.nsd + 1) s.nf) (fun i hi => by simp only [A2, h, lt_next hi])) $$ H2
  ihave ⟨G3, H3⟩ := (fam_all dB (Φ := A3 V c s.nsts s.nsd s.nf) (Ψ := A3 V c s.nsts (s.nsd + 1) s.nf) (fun i hi => by simp only [A3, h, lt_next hi])) $$ H3
  ihave ⟨G4, H4⟩ := (fam_oth dB hj (Φ := A4 c s.bar s.nsd) (Ψ := A4 c s.bar (s.nsd + 1)) (fun i hi => by simp only [A4, h, lt_next hi])) $$ H4
  ihave ⟨GT, HT1⟩ := (fam_oth dB hj (Φ := T1 c s.nsd) (Ψ := T1 c (s.nsd + 1)) (fun i hi => by simp only [T1, h, lt_next hi])) $$ HT1
  ihave ⟨GS0, HS0⟩ := (fam_oth dB hj (Φ := SC c 0 s.nsd s.nf) (Ψ := SC c 0 (s.nsd + 1) s.nf) (fun i hi => by simp only [SC, h, lt_next hi])) $$ HS0
  ihave ⟨GS2, HS2⟩ := (fam_oth dB hj (Φ := SC c 2 s.nsd s.nf) (Ψ := SC c 2 (s.nsd + 1) s.nf) (fun i hi => by simp only [SC, h, lt_next hi])) $$ HS2
  have a2 : A2 V c s.nsto s.nsd s.nf dB = owns (c : Thread nD τ) (bO mCo dB) fullShare (V.co c dB) := by unfold A2; rw [if_pos hto, if_neg (fun q => nlt q.2.1)]
  have a2' : A2 V c s.nsto (s.nsd + 1) s.nf dB = iprop(emp) := by unfold A2; rw [if_pos hto, if_pos ⟨hj, lts, nlf⟩]
  have a3 : A3 V c s.nsts s.nsd s.nf dB = owns (c : Thread nD τ) (bS mCs dB) fullShare (V.cs c dB) := by unfold A3; rw [if_pos hts, if_neg (fun q => nlt q.2.1)]
  have a3' : A3 V c s.nsts (s.nsd + 1) s.nf dB = iprop(emp) := by unfold A3; rw [if_pos hts, if_pos ⟨hj, lts, nlf⟩]
  have a4 : A4 (F := F) c s.bar s.nsd dB = iprop(anyO dB mRo c ∗ anyS dB mRs c ∗ reached ER (cell dB 1 c) 0 ∗ reached ER (cell dB 3 c) 0) := by
    unfold A4; rw [if_neg (by omega), if_neg nlt]
  have a4' : A4 (F := F) c s.bar (s.nsd + 1) dB = iprop(emp) := by unfold A4; rw [if_neg (by omega), if_pos lts]
  have at1 : T1 (F := F) c s.nsd dB = iprop(dutyTok ER (cell c 0 dB) 0 0 ∗ dutyTok ER (cell dB 1 c) 0 0 ∗ dutyTok ER (cell c 2 dB) 0 0 ∗ dutyTok ER (cell dB 3 c) 0 0) := by
    unfold T1; rw [if_neg nlt]
  have at1' : T1 (F := F) c (s.nsd + 1) dB = iprop(emp) := by unfold T1; rw [if_pos lts]
  have asc : ∀ k, SC (F := F) c k s.nsd s.nf dB = iprop(atPos ER (cell c k dB) 0 ∅ 0 ∗ emp) := by intro k; unfold SC; rw [if_neg nlf, if_neg nlt]
  have asc' : ∀ k, SC (F := F) c k (s.nsd + 1) s.nf dB = iprop(atPos ER (cell c k dB) 0 ∅ 0 ∗ cred (tallyAt (cell c k dB) () (amt k))) := by
    intro k; unfold SC; rw [if_neg nlf, if_pos lts]
  ihave G2 := (Entails.of_eq a2) $$ G2
  ihave G3 := (Entails.of_eq a3) $$ G3
  ihave ⟨⟨%X₄, G4a⟩, ⟨%X₅, G4b⟩, Gr1, Gr3⟩ := (Entails.of_eq a4) $$ G4
  ihave ⟨Gt0, Gt1, Gt2, Gt3⟩ := (Entails.of_eq at1) $$ GT
  ihave ⟨Ga0, -⟩ := (Entails.of_eq (asc 0)) $$ GS0
  ihave ⟨Ga2, -⟩ := (Entails.of_eq (asc 2)) $$ GS2
  have hO : Owed c s.nsig s.nsd s.np2 = (Owed c s.nsig (s.nsd + 1) s.np2 + tallyAt (cell dB 3 c) () (amt 3)) + tallyAt (cell dB 1 c) () (amt 1) := by
    rw [Owed_take (a' := s.nsig) (b' := s.nsd + 1) (d' := s.np2) (t := tallyAt (cell dB 3 c) () (amt 3) + tallyAt (cell dB 1 c) () (amt 1)) hj
      (fun i hi => by simp only [Oj, h, lt_next hi]) (by
        unfold Oj; rw [if_neg nlt, if_pos lts, add_zero, add_comm (tallyAt (cell dB 1 c) () (amt 1)), add_right_comm]), add_assoc]
  iapply (wp_send_block V c dB Q (bO mCo dB) (bO mRo c) 0 1 hj N fullShare (V.co c dB) X₄ _ rfl rfl hO
      (by unfold pay; rw [if_pos rfl]) (by unfold pay; rw [if_neg (by decide), if_pos rfl])) $$ [G2 G4a HO Gt0 Gt1 Gr1]
  · isplitr; · iapply HIc
    isplitr; · iapply HIc
    isplitl [G2]; · iexact G2
    isplitl [G4a]; · iexact G4a
    isplitl [HO]; · iexact HO
    isplitl [Gt0]; · iexact Gt0
    isplitr; · iapply Hrc
    isplitl [Gt1]; · iexact Gt1
    iexact Gr1
  iintro ⟨Gc0, HO⟩
  iapply (wp_send_block V c dB Q (bS mCs dB) (bS mRs c) 2 3 hj N fullShare (V.cs c dB) X₅ _ rfl rfl rfl
      (by unfold pay; rw [if_neg (by decide), if_neg (by decide), if_pos rfl])
      (by unfold pay; rw [if_neg (by decide), if_neg (by decide), if_neg (by decide), if_pos rfl])) $$ [G3 G4b HO Gt2 Gt3 Gr3]
  · isplitr; · iapply HIc
    isplitr; · iapply HIc
    isplitl [G3]; · iexact G3
    isplitl [G4b]; · iexact G4b
    isplitl [HO]; · iexact HO
    isplitl [Gt2]; · iexact Gt2
    isplitr; · iapply Hrc
    isplitl [Gt3]; · iexact Gt3
    iexact Gr3
  iintro ⟨Gc2, HO⟩
  iapply Hk
  ihave H2 := H2 $$ []
  · rw [a2']; iempintro
  ihave H3 := H3 $$ []
  · rw [a3']; iempintro
  ihave H4 := H4 $$ []
  · rw [a4']; iempintro
  ihave HT1 := HT1 $$ []
  · rw [at1']; iempintro
  ihave HS0 := HS0 $$ [Ga0 Gc0]
  · rw [asc']; iframe
  ihave HS2 := HS2 $$ [Ga2 Gc2]
  · rw [asc']; iframe
  iframe HI HIc Hrb Hrc Hlev
  iframe
  iexists W
  iexact HO

theorem Exec.send {cond : BitVec 1} {nA nB : ℕ} {hA : cond = 1#1 → nA < nD} {hB : cond = 1#1 → nB < nD}
    {o₁ o₂ : Fin 1 → ℕ} {p₁ p₂ p₃ p₄ : Fin 2 → ℕ} {i₁ i₁' : ∀ a, o₁ a + S1.size a ≤ S32.size a} {i₂ i₂' : cond = 1#1 → ∀ a, o₂ a + S1.size a ≤ S32.size a}
    {q₁ : ∀ a, p₁ a + S16x512.size a ≤ S16x16384.size a} {q₂ : cond = 1#1 → ∀ a, p₂ a + S16x512.size a ≤ S16x16384.size a}
    {q₃ : ∀ a, p₃ a + S8x128.size a ≤ S8x4096.size a} {q₄ : cond = 1#1 → ∀ a, p₄ a + S8x128.size a ≤ S8x4096.size a}
    {w₁ : (mCo.slice (Rect.unit (s := S16x16384) p₁ S16x512.size q₁) (fun _ => rfl)).view.WordExact}
    {w₂ : ∀ h : cond = 1#1, (mRo.slice (Rect.unit (s := S16x16384) p₂ S16x512.size (q₂ h)) (fun _ => rfl)).view.WordExact}
    {w₃ : (mCs.slice (Rect.unit (s := S8x4096) p₃ S8x128.size q₃) (fun _ => rfl)).view.WordExact}
    {w₄ : ∀ h : cond = 1#1, (mRs.slice (Rect.unit (s := S8x4096) p₄ S8x128.size (q₄ h)) (fun _ => rfl)).view.WordExact}
    {y₁ : ∀ h : cond = 1#1, (mRo.slice (Rect.unit (s := S16x16384) p₂ S16x512.size (q₂ h)) (fun _ => rfl)).view.ref.isScScratch = false}
    {y₂ : ∀ h : cond = 1#1, (mRs.slice (Rect.unit (s := S8x4096) p₄ S8x128.size (q₄ h)) (fun _ => rfl)).view.ref.isScScratch = false}
    {z₁ : ∀ h : cond = 1#1, DmaTarget.Typed .vmem (.dma ((cc0_scratch7.slice (Rect.unit (s := S32) o₂ S1.size (i₂ h))).squeeze S_ squeezes_S1_S_).sem)
      (.remote (p := Proc.tc) (Dev.tc (⟨nA, hA h⟩ : Dev nD)) (mRo.slice (Rect.unit (s := S16x16384) p₂ S16x512.size (q₂ h)) (fun _ => rfl))
        (.dma ((cc0_scratch6.slice (Rect.unit (s := S32) o₁ S1.size i₁)).squeeze S_ squeezes_S1_S_).sem) (y₁ h))}
    {z₂ : ∀ h : cond = 1#1, DmaTarget.Typed .vmem (.dma ((cc0_scratch9.slice (Rect.unit (s := S32) o₂ S1.size (i₂' h))).squeeze S_ squeezes_S1_S_).sem)
      (.remote (p := Proc.tc) (Dev.tc (⟨nB, hB h⟩ : Dev nD)) (mRs.slice (Rect.unit (s := S8x4096) p₄ S8x128.size (q₄ h)) (fun _ => rfl))
        (.dma ((cc0_scratch8.slice (Rect.unit (s := S32) o₁ S1.size i₁')).squeeze S_ squeezes_S1_S_).sem) (y₂ h))}
    {k : PUnit → PP F α}
    (hk : Exec V N c { s with nsd := s.nsd + 1 } (k ⟨⟩) Q)
    (hc : cond = condJ c (dv s.nsd) := by rfl) (hnA : nA = s.nsd := by rfl) (hnB : nB = s.nsd := by rfl)
    (ho₁ : o₁ = ![s.nsd] := by rfl) (ho₂ : o₂ = ![c.val] := by (clear * -; revert c; decide +kernel))
    (hp₁ : p₁ = ![0, 512 * s.nsd] := by rfl) (hp₂ : p₂ = ![0, 512 * c.val] := by (clear * -; revert c; decide +kernel))
    (hp₃ : p₃ = ![0, 128 * s.nsd] := by rfl) (hp₄ : p₄ = ![0, 128 * c.val] := by (clear * -; revert c; decide +kernel))
    (h : s.nsd < 32 := by decide) (hto : s.nsd < s.nsto := by decide) (hts : s.nsd < s.nsts := by decide) (hb : s.bar = 1 := by rfl) (hf : s.nf = 0 := by rfl) :
    Exec V N c s (if h : cond = 1#1 then
        Prog.lift (.enqueueDma (mCo.slice (Rect.unit (s := S16x16384) p₁ S16x512.size q₁) (fun _ => rfl))
            (.remote (Dev.tc (⟨nA, hA h⟩ : Dev nD)) (mRo.slice (Rect.unit (s := S16x16384) p₂ S16x512.size (q₂ h)) (fun _ => rfl))
              (.dma ((cc0_scratch6.slice (Rect.unit (s := S32) o₁ S1.size i₁)).squeeze S_ squeezes_S1_S_).sem) (y₁ h))
            (.dma ((cc0_scratch7.slice (Rect.unit (s := S32) o₂ S1.size (i₂ h))).squeeze S_ squeezes_S1_S_).sem) w₁ (w₂ h) (z₁ h)) >>= fun _ =>
        Prog.lift (.enqueueDma (mCs.slice (Rect.unit (s := S8x4096) p₃ S8x128.size q₃) (fun _ => rfl))
            (.remote (Dev.tc (⟨nB, hB h⟩ : Dev nD)) (mRs.slice (Rect.unit (s := S8x4096) p₄ S8x128.size (q₄ h)) (fun _ => rfl))
              (.dma ((cc0_scratch8.slice (Rect.unit (s := S32) o₁ S1.size i₁')).squeeze S_ squeezes_S1_S_).sem) (y₂ h))
            (.dma ((cc0_scratch9.slice (Rect.unit (s := S32) o₂ S1.size (i₂' h))).squeeze S_ squeezes_S1_S_).sem) w₃ (w₄ h) (z₂ h)) >>= fun _ => k ⟨⟩
      else k ⟨⟩) Q := by
  have hv := dv_val h
  refine Exec.cond hc (fun e => skip_snd (by rw [← e]; exact hv.symm)) hk fun _ hne hh => ?_
  exact Exec.of (fun Q => send_core (j := dv s.nsd) hne hv.symm (by omega) (by omega) hb hf (Fin.ext (hnA.trans hv.symm)) (Fin.ext (hnB.trans hv.symm))
    (slice_O mCo (hp₁.trans (dv_mul _ _ h))) (slice_O mRo hp₂) (slice_S mCs (hp₃.trans (dv_mul _ _ h))) (slice_S mRs hp₄)
    (sem_at 0 _ (ho₁.trans (by rw [hv]))) (sem_at 1 c ho₂) (sem_at 2 _ (ho₁.trans (by rw [hv]))) (sem_at 3 c ho₂) (fun _ => k ⟨⟩) Q) hk

/-- The two waits for what device `j` sends. -/
theorem recv_core {j : Dev nD} (hj : j ≠ c) (h : s.nrv = j.val) (hsig : s.nsig = 32) (hsd : s.nsd = 32)
    {m₁ m₂ : Memref sig .tc .vmem S16x512 .bf16} {m₃ m₄ : Memref sig .tc .vmem S8x128 .f32} {t₁ t₂ : DmaSem sig}
    (e₂ : m₂ = bO mRo j) (e₄ : m₄ = bS mRs j)
    (u₁ : t₁ = dsem 1 j) (u₂ : t₂ = dsem 3 j)
    {w₁ : m₁.view.WordExact} {w₂ : m₂.view.WordExact} {w₃ : m₃.view.WordExact} {w₄ : m₄.view.WordExact}
    (k : PUnit → PP F α) (Q : α → sProp (MM F)) :
    Inv V c N s ⊢ iprop((Inv V c N { s with nrv := s.nrv + 1 } -∗ WP c (k ⟨⟩) Q)
      -∗ WP c (.op (.waitDma2 t₁ m₁ m₂ w₁ w₂) fun _ => .op (.waitDma2 t₂ m₃ m₄ w₃ w₄) k) Q) := by
  subst e₂ e₄ u₁ u₂
  unfold Inv Ctx
  dsimp only
  iintro ⟨⟨#HI, #HIc, #Hrb, #Hrc, #Hlev⟩, HIn, HO, H1, H2, H3, H4, H5, HT1, HT2, HS0, HS2, HS4, HR1, HR3, HR5, H80, H81, H9, HF, HB, HRo, HRs⟩ Hk
  have nlt : ¬ j.val < s.nrv := by omega
  have lts : j.val < s.nrv + 1 := by omega
  ihave ⟨G1, HR1⟩ := (fam_oth j hj (Φ := RC V c 1 s.nrv) (Ψ := RC V c 1 (s.nrv + 1)) (fun i hi => by simp only [RC, h, lt_next hi])) $$ HR1
  ihave ⟨G3, HR3⟩ := (fam_oth j hj (Φ := RC V c 3 s.nrv) (Ψ := RC V c 3 (s.nrv + 1)) (fun i hi => by simp only [RC, h, lt_next hi])) $$ HR3
  have arc : ∀ k, RC V c k s.nrv j = iprop(atPos ER (cell c k j) 0 ∅ 0 ∗ cred (tallyAt (cell c k j) () (amt k))) := by intro k; unfold RC; rw [if_neg nlt]
  have arc' : ∀ k, RC V c k (s.nrv + 1) j = iprop(atPos ER (cell c k j) 1 ∅ 0 ∗ pay V k c j) := by intro k; unfold RC; rw [if_pos lts]
  ihave ⟨Ga1, Gc1⟩ := (Entails.of_eq (arc 1)) $$ G1
  ihave ⟨Ga3, Gc3⟩ := (Entails.of_eq (arc 3)) $$ G3
  have l1 : lv (cell c 1 j) () ≤ 2 := by
    unfold lv; simp only [kindOf_dsem]; rw [if_neg (by omega), if_pos (by decide)]
  have l3 : lv (cell c 3 j) () ≤ 2 := by
    unfold lv; simp only [kindOf_dsem]; rw [if_neg (by omega), if_pos (by decide)]
  ihave HM := (mayWait_low c (.dma (dsem 1 j)) (a := s.nsig) (b := s.nsd) (d := s.np2) 2 (by omega) (Or.inr ⟨le_rfl, by omega⟩) l1) $$ Hlev
  iapply (wp_wait_block V c j Q 1 hj m₁ (bO mRo j) N _ rfl) $$ [Gc1 HO HM Ga1]
  · isplitr; · iapply HIc
    isplitl [Gc1]; · iexact Gc1
    isplitl [HO]; · iexact HO
    isplitl [HM]; · iexact HM
    iexact Ga1
  iintro ⟨HO, Ga1, Gp1⟩
  ihave HM := (mayWait_low c (.dma (dsem 3 j)) (a := s.nsig) (b := s.nsd) (d := s.np2) 2 (by omega) (Or.inr ⟨le_rfl, by omega⟩) l3) $$ Hlev
  iapply (wp_wait_block V c j Q 3 hj m₃ (bS mRs j) N _ rfl) $$ [Gc3 HO HM Ga3]
  · isplitr; · iapply HIc
    isplitl [Gc3]; · iexact Gc3
    isplitl [HO]; · iexact HO
    isplitl [HM]; · iexact HM
    iexact Ga3
  iintro ⟨HO, Ga3, Gp3⟩
  iapply Hk
  ihave HR1 := HR1 $$ [Ga1 Gp1]
  · rw [arc']; iframe
  ihave HR3 := HR3 $$ [Ga3 Gp3]
  · rw [arc']; iframe
  iframe HI HIc Hrb Hrc Hlev
  iframe

theorem Exec.recv {cond : BitVec 1} {o : Fin 1 → ℕ} {p₂ p₄ : Fin 2 → ℕ} {i₁ i₁' : ∀ a, o a + S1.size a ≤ S32.size a}
    {q₂ : ∀ a, p₂ a + S16x512.size a ≤ S16x16384.size a} {q₄ : ∀ a, p₄ a + S8x128.size a ≤ S8x4096.size a}
    {m₁ : Memref sig .tc .vmem S16x512 .bf16} {m₃ : Memref sig .tc .vmem S8x128 .f32} {w₁ w₂ w₃ w₄} {k : PUnit → PP F α}
    (hk : Exec V N c { s with nrv := s.nrv + 1 } (k ⟨⟩) Q)
    (hc : cond = condJ c (dv s.nrv) := by rfl)
    (ho : o = ![s.nrv] := by rfl) (hp₂ : p₂ = ![0, 512 * s.nrv] := by rfl) (hp₄ : p₄ = ![0, 128 * s.nrv] := by rfl)
    (h : s.nrv < 32 := by decide) (hsig : s.nsig = 32 := by rfl) (hsd : s.nsd = 32 := by rfl) :
    Exec V N c s (if _h : cond = 1#1 then
        Prog.lift (.waitDma2 ((cc0_scratch7.slice (Rect.unit (s := S32) o S1.size i₁)).squeeze S_ squeezes_S1_S_).sem m₁
          (mRo.slice (Rect.unit (s := S16x16384) p₂ S16x512.size q₂) (fun _ => rfl)) w₁ w₂) >>= fun _ =>
        Prog.lift (.waitDma2 ((cc0_scratch9.slice (Rect.unit (s := S32) o S1.size i₁')).squeeze S_ squeezes_S1_S_).sem m₃
          (mRs.slice (Rect.unit (s := S8x4096) p₄ S8x128.size q₄) (fun _ => rfl)) w₃ w₄) >>= fun _ => k ⟨⟩
      else k ⟨⟩) Q := by
  have hv := dv_val h
  refine Exec.cond hc (fun e => skip_rcv (by rw [← e]; exact hv.symm)) hk fun _ hne hh => ?_
  exact Exec.of (fun Q => recv_core (j := dv s.nrv) hne hv.symm hsig hsd
    (slice_O mRo (hp₂.trans (dv_mul _ _ h))) (slice_S mRs (hp₄.trans (dv_mul _ _ h)))
    (sem_at 1 _ (ho.trans (by rw [hv]))) (sem_at 3 _ (ho.trans (by rw [hv]))) (fun _ => k ⟨⟩) Q) hk

end Cert.KernelIdeal.Att
-- ==== Proof.Moves2.lean ====
module
public import proofs.«01_k».proof.Proof.Moves

/-!
# The second exchange

The finished rows go to every other device, theirs are projected as they arrive, and the copies sent are waited for.
-/

@[expose] public section

noncomputable section

namespace Cert.KernelIdeal.Att

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable {V : Vals F} {N : GSem nD τ sig → ℕ} {c : Dev nD} {α : Type} {s s₁ : St} {Q : α → St → Prop}

/-- The copy of the finished rows to device `j`. -/
theorem send2_core {j : Dev nD} (hj : j ≠ c) (h : s.np2 = j.val) (hst : s.fst = 1) (hb : s.bar = 1) (hf : s.nf = 0)
    {d : Dev nD} {m₂ : Memref sig .tc .vmem S16x512 .bf16} {t₁ t₂ : DmaSem sig}
    (hd : d = j) (e₂ : m₂ = bO mAg c) (u₁ : t₁ = dsem 4 j) (u₂ : t₂ = dsem 5 c)
    {hsc : m₂.view.ref.isScScratch = false} {w₁ : mFin.view.WordExact} {w₂ : m₂.view.WordExact}
    {y : DmaTarget.Typed .vmem (.dma t₂) (.remote (p := Proc.tc) (Dev.tc d) m₂ (.dma t₁) hsc)}
    (k : PUnit → PP F α) (Q : α → sProp (MM F)) :
    Inv V c N s ⊢ iprop((Inv V c N { s with np2 := s.np2 + 1 } -∗ WP c (k ⟨⟩) Q)
      -∗ WP c (.op (.enqueueDma mFin (.remote (Dev.tc d) m₂ (.dma t₁) hsc) (.dma t₂) w₁ w₂ y) k) Q) := by
  subst hd e₂ u₁ u₂
  unfold Inv Ctx
  dsimp only
  iintro ⟨⟨#HI, #HIc, #Hrb, #Hrc, #Hlev⟩, HIn, ⟨%W, HO⟩, H1, H2, H3, H4, H5, HT1, HT2, HS0, HS2, HS4, HR1, HR3, HR5, H80, H81, H9, HF, HB, HRo, HRs⟩ Hk
  have nlt : ¬ d.val < s.np2 := by omega
  have nlf : ¬ d.val < s.nf := by omega
  have lts : d.val < s.np2 + 1 := by omega
  ihave ⟨G9, H9⟩ := (fam_all d (Φ := A9 V c s.fst s.np2 s.nf) (Ψ := A9 V c s.fst (s.np2 + 1) s.nf) (fun i hi => by simp only [A9, h, lt_next hi])) $$ H9
  ihave ⟨G5, H5⟩ := (fam_oth d hj (Φ := A5 c s.bar s.np2) (Ψ := A5 c s.bar (s.np2 + 1)) (fun i hi => by simp only [A5, h, lt_next hi])) $$ H5
  ihave ⟨GT, HT2⟩ := (fam_oth d hj (Φ := T2 c s.np2) (Ψ := T2 c (s.np2 + 1)) (fun i hi => by simp only [T2, h, lt_next hi])) $$ HT2
  ihave ⟨GS4, HS4⟩ := (fam_oth d hj (Φ := SC c 4 s.np2 s.nf) (Ψ := SC c 4 (s.np2 + 1) s.nf) (fun i hi => by simp only [SC, h, lt_next hi])) $$ HS4
  have hst0 : ¬ s.fst = 0 := by omega
  have hb0 : ¬ s.bar = 0 := by omega
  have a9 : A9 V c s.fst s.np2 s.nf d = owns (c : Thread nD τ) mFin (tok d) (V.fin c) := by unfold A9; rw [if_neg hst0, if_neg (fun q => nlt q.2.1)]
  have a9' : A9 V c s.fst (s.np2 + 1) s.nf d = iprop(emp) := by unfold A9; rw [if_neg hst0, if_pos ⟨hj, lts, nlf⟩]
  have a5 : A5 (F := F) c s.bar s.np2 d = iprop(anyO d mAg c ∗ reached ER (cell d 5 c) 0) := by unfold A5; rw [if_neg hb0, if_neg nlt]
  have a5' : A5 (F := F) c s.bar (s.np2 + 1) d = iprop(emp) := by unfold A5; rw [if_neg hb0, if_pos lts]
  have at2 : T2 (F := F) c s.np2 d = iprop(dutyTok ER (cell c 4 d) 0 0 ∗ dutyTok ER (cell d 5 c) 0 0) := by unfold T2; rw [if_neg nlt]
  have at2' : T2 (F := F) c (s.np2 + 1) d = iprop(emp) := by unfold T2; rw [if_pos lts]
  have asc : SC (F := F) c 4 s.np2 s.nf d = iprop(atPos ER (cell c 4 d) 0 ∅ 0 ∗ emp) := by unfold SC; rw [if_neg nlf, if_neg nlt]
  have asc' : SC (F := F) c 4 (s.np2 + 1) s.nf d = iprop(atPos ER (cell c 4 d) 0 ∅ 0 ∗ cred (tallyAt (cell c 4 d) () (amt 4))) := by
    unfold SC; rw [if_neg nlf, if_pos lts]
  ihave G9 := (Entails.of_eq a9) $$ G9
  ihave ⟨⟨%X₅, G5⟩, Gr⟩ := (Entails.of_eq a5) $$ G5
  ihave ⟨Gt4, Gt5⟩ := (Entails.of_eq at2) $$ GT
  ihave ⟨Ga, -⟩ := (Entails.of_eq asc) $$ GS4
  have hO : Owed c s.nsig s.nsd s.np2 = Owed c s.nsig s.nsd (s.np2 + 1) + tallyAt (cell d 5 c) () (amt 5) :=
    Owed_take hj (fun i hi => by simp only [Oj, h, lt_next hi]) (by unfold Oj; rw [if_neg nlt, if_pos lts, add_zero])
  iapply (wp_send_block V c d Q mFin (bO mAg c) 4 5 hj N (tok d) (V.fin c) X₅ _ rfl rfl hO
      (by unfold pay; rw [if_neg (by decide), if_neg (by decide), if_neg (by decide), if_neg (by decide), if_pos rfl])
      (by unfold pay; rw [if_neg (by decide), if_neg (by decide), if_neg (by decide), if_neg (by decide), if_neg (by decide)])) $$ [G9 G5 HO Gt4 Gt5 Gr]
  · isplitr; · iapply HIc
    isplitr; · iapply HIc
    isplitl [G9]; · iexact G9
    isplitl [G5]; · iexact G5
    isplitl [HO]; · iexact HO
    isplitl [Gt4]; · iexact Gt4
    isplitr; · iapply Hrc
    isplitl [Gt5]; · iexact Gt5
    iexact Gr
  iintro ⟨Gc, HO⟩
  iapply Hk
  ihave H9 := H9 $$ []
  · rw [a9']; iempintro
  ihave H5 := H5 $$ []
  · rw [a5']; iempintro
  ihave HT2 := HT2 $$ []
  · rw [at2']; iempintro
  ihave HS4 := HS4 $$ [Ga Gc]
  · rw [asc']; iframe
  iframe HI HIc Hrb Hrc Hlev
  iframe
  iexists W
  iexact HO

theorem Exec.send2 {cond : BitVec 1} {n : ℕ} {hA : cond = 1#1 → n < nD}
    {o₁ o₂ : Fin 1 → ℕ} {p₂ : Fin 2 → ℕ} {i₁ : ∀ a, o₁ a + S1.size a ≤ S32.size a} {i₂ : cond = 1#1 → ∀ a, o₂ a + S1.size a ≤ S32.size a}
    {q₂ : cond = 1#1 → ∀ a, p₂ a + S16x512.size a ≤ S16x16384.size a}
    {w₁ : mFin.view.WordExact}
    {w₂ : ∀ h : cond = 1#1, (mAg.slice (Rect.unit (s := S16x16384) p₂ S16x512.size (q₂ h)) (fun _ => rfl)).view.WordExact}
    {y : ∀ h : cond = 1#1, (mAg.slice (Rect.unit (s := S16x16384) p₂ S16x512.size (q₂ h)) (fun _ => rfl)).view.ref.isScScratch = false}
    {z : ∀ h : cond = 1#1, DmaTarget.Typed .vmem (.dma ((cc0_scratch11.slice (Rect.unit (s := S32) o₂ S1.size (i₂ h))).squeeze S_ squeezes_S1_S_).sem)
      (.remote (p := Proc.tc) (Dev.tc (⟨n, hA h⟩ : Dev nD)) (mAg.slice (Rect.unit (s := S16x16384) p₂ S16x512.size (q₂ h)) (fun _ => rfl))
        (.dma ((cc0_scratch10.slice (Rect.unit (s := S32) o₁ S1.size i₁)).squeeze S_ squeezes_S1_S_).sem) (y h))}
    {k : PUnit → PP F α}
    (hk : Exec V N c { s with np2 := s.np2 + 1 } (k ⟨⟩) Q)
    (hc : cond = condJ c (dv s.np2) := by rfl) (hn : n = s.np2 := by rfl)
    (ho₁ : o₁ = ![s.np2] := by rfl) (ho₂ : o₂ = ![c.val] := by (clear * -; revert c; decide +kernel))
    (hp₂ : p₂ = ![0, 512 * c.val] := by (clear * -; revert c; decide +kernel))
    (h : s.np2 < 32 := by decide) (hst : s.fst = 1 := by rfl) (hb : s.bar = 1 := by rfl) (hf : s.nf = 0 := by rfl) :
    Exec V N c s (if h : cond = 1#1 then
        Prog.lift (.enqueueDma mFin
            (.remote (Dev.tc (⟨n, hA h⟩ : Dev nD)) (mAg.slice (Rect.unit (s := S16x16384) p₂ S16x512.size (q₂ h)) (fun _ => rfl))
              (.dma ((cc0_scratch10.slice (Rect.unit (s := S32) o₁ S1.size i₁)).squeeze S_ squeezes_S1_S_).sem) (y h))
            (.dma ((cc0_scratch11.slice (Rect.unit (s := S32) o₂ S1.size (i₂ h))).squeeze S_ squeezes_S1_S_).sem) w₁ (w₂ h) (z h)) >>= fun _ => k ⟨⟩
      else k ⟨⟩) Q := by
  have hv := dv_val h
  refine Exec.cond hc (fun e => skip_snd2 (by rw [← e]; exact hv.symm)) hk fun _ hne hh => ?_
  exact Exec.of (fun Q => send2_core (j := dv s.np2) hne hv.symm hst hb hf (Fin.ext (hn.trans hv.symm)) (slice_O mAg hp₂)
    (sem_at 4 _ (ho₁.trans (by rw [hv]))) (sem_at 5 c ho₂) (fun _ => k ⟨⟩) Q) hk

/-- The wait for device `j`'s finished rows, and their two projections stored. -/
theorem recv2_core {j : Dev nD} (hj : j ≠ c) (h : s.nr2 = j.val) (hsig : s.nsig = 32) (hsd : s.nsd = 32) (hp2 : s.np2 = 32)
    {m₁ : Memref sig .tc .vmem S16x512 .bf16} {t : DmaSem sig} (u : t = dsem 5 j)
    {f₀ f₁ : (S16x512.Idx → Elt F .bf16) → S1x8x768.Idx → Elt F .f32} (v₀ : f₀ (V.fin j) = V.row c 0 j) (v₁ : f₁ (V.fin j) = V.row c 1 j)
    {w₁ : m₁.view.WordExact} {w₂ : (bO mAg j).view.WordExact}
    {l₁ : mAg.view.LoadsAt (rO j).toLoadRect} {l₂ : mOut.view.LoadsAt (rR 0 j).toLoadRect} {l₃ : mOut.view.LoadsAt (rR 1 j).toLoadRect}
    {x₁ : (mOut.access (rR 0 j)).Stores Finset.univ} {x₂ : (mOut.access (rR 1 j)).Stores Finset.univ}
    {y₁ : (Finset.univ : Finset (rR 0 j).shape.Idx) = Finset.univ ∨ ∀ a, (rR 0 j).stride a = 1}
    {y₂ : (Finset.univ : Finset (rR 1 j).shape.Idx) = Finset.univ ∨ ∀ a, (rR 1 j).stride a = 1}
    (k : PUnit → PP F α) (Q : α → sProp (MM F)) :
    Inv V c N s ⊢ iprop((Inv V c N { s with nr2 := s.nr2 + 1 } -∗ WP c (k ⟨⟩) Q)
      -∗ WP c (.op (.waitDma2 t m₁ (bO mAg j) w₁ w₂) fun _ => .op (.load mAg (rO j).toLoadRect l₁) fun X =>
          .op (.load mOut (rR 0 j).toLoadRect l₂) fun _ => .op (.store mOut (rR 0 j) (f₀ X) Finset.univ x₁ y₁) fun _ =>
          .op (.load mOut (rR 1 j).toLoadRect l₃) fun _ => .op (.store mOut (rR 1 j) (f₁ X) Finset.univ x₂ y₂) k) Q) := by
  subst u
  unfold Inv Ctx
  dsimp only
  iintro ⟨⟨#HI, #HIc, #Hrb, #Hrc, #Hlev⟩, HIn, HO, H1, H2, H3, H4, H5, HT1, HT2, HS0, HS2, HS4, HR1, HR3, HR5, H80, H81, H9, HF, HB, HRo, HRs⟩ Hk
  have nlt : ¬ j.val < s.nr2 := by omega
  have lts : j.val < s.nr2 + 1 := by omega
  ihave ⟨G5, HR5⟩ := (fam_oth j hj (Φ := RC V c 5 s.nr2) (Ψ := RC V c 5 (s.nr2 + 1)) (fun i hi => by simp only [RC, h, lt_next hi])) $$ HR5
  ihave ⟨G80, H80⟩ := (fam_all j (Φ := A8 V c 0 s.w0 s.nr2) (Ψ := A8 V c 0 s.w0 (s.nr2 + 1)) (fun i hi => by simp only [A8, h, lt_next hi])) $$ H80
  ihave ⟨G81, H81⟩ := (fam_all j (Φ := A8 V c 1 s.w1 s.nr2) (Ψ := A8 V c 1 s.w1 (s.nr2 + 1)) (fun i hi => by simp only [A8, h, lt_next hi])) $$ H81
  have arc : RC V c 5 s.nr2 j = iprop(atPos ER (cell c 5 j) 0 ∅ 0 ∗ cred (tallyAt (cell c 5 j) () (amt 5))) := by unfold RC; rw [if_neg nlt]
  have arc' : RC V c 5 (s.nr2 + 1) j = iprop(atPos ER (cell c 5 j) 1 ∅ 0 ∗ pay V 5 c j) := by unfold RC; rw [if_pos lts]
  have ep : pay V 5 c j = owns (c : Thread nD τ) (mAg.slice (rO j) (fun _ => rfl)) fullShare (V.fin j) := by
    unfold pay; rw [if_neg (by decide), if_neg (by decide), if_neg (by decide), if_neg (by decide), if_neg (by decide)]
  have a8 : ∀ b w, A8 V c b w s.nr2 j = iprop(∃ X, owns (c : Thread nD τ) (mOut.slice (rR b j) (fun _ => rfl)) fullShare X) := by
    intro b w; unfold A8; simp only [if_neg hj, if_neg nlt]; rfl
  have a8' : ∀ b w, A8 V c b w (s.nr2 + 1) j = owns (c : Thread nD τ) (mOut.slice (rR b j) (fun _ => rfl)) fullShare (V.row c b j) := by
    intro b w; unfold A8; simp only [if_neg hj, if_pos lts]
  ihave ⟨Ga, Gc⟩ := (Entails.of_eq arc) $$ G5
  ihave ⟨%Y₀, G80⟩ := (Entails.of_eq (a8 0 _)) $$ G80
  ihave ⟨%Y₁, G81⟩ := (Entails.of_eq (a8 1 _)) $$ G81
  have l1 : lv (cell c 5 j) () = 3 := by
    unfold lv; simp only [kindOf_dsem]; rw [if_neg (by omega), if_neg (by decide), if_pos trivial]
  have hz : Owed c s.nsig s.nsd s.np2 = 0 := Owed_done c (by omega) (by omega) (by omega)
  rw [hz]
  ihave HM := (Entails.of_eq (MayWait_zero (c : Thread nD τ) (.dma (dsem 5 j)) ()).symm) $$ []
  · iempintro
  iapply (wp_wait_block V c j Q 5 hj m₁ (bO mAg j) N _ rfl) $$ [Gc HO HM Ga]
  · isplitr; · iapply HIc
    isplitl [Gc]; · iexact Gc
    isplitl [HO]; · iexact HO
    isplitl [HM]; · iexact HM
    iexact Ga
  iintro ⟨HO, Ga, Gp⟩
  ihave Gp := (Entails.of_eq ep) $$ Gp
  iapply (wp_load_block c Q mAg (rO j) (fun _ => rfl) l₁ fullShare (V.fin j) _) $$ Gp
  iintro Gp
  iapply (wp_load_block c Q mOut (rR 0 j) (fun _ => rfl) l₂ fullShare Y₀ _) $$ G80
  iintro G80
  iapply (wp_store_block c Q mOut (rR 0 j) (fun _ => rfl) (f₀ (V.fin j)) x₁ y₁ Y₀ _) $$ G80
  iintro G80
  iapply (wp_load_block c Q mOut (rR 1 j) (fun _ => rfl) l₃ fullShare Y₁ _) $$ G81
  iintro G81
  iapply (wp_store_block c Q mOut (rR 1 j) (fun _ => rfl) (f₁ (V.fin j)) x₂ y₂ Y₁ _) $$ G81
  iintro G81
  iapply Hk
  ihave HR5 := HR5 $$ [Ga Gp]
  · rw [arc', ep]; iframe
  ihave H80 := H80 $$ [G80]
  · rw [a8', ← v₀]; iexact G80
  ihave H81 := H81 $$ [G81]
  · rw [a8', ← v₁]; iexact G81
  iframe HI HIc Hrb Hrc Hlev
  iframe

theorem Exec.recv2 {cond : BitVec 1} {o : Fin 1 → ℕ} {p : Fin 2 → ℕ} {r₀ r₁ : Fin 3 → ℕ} {i : ∀ a, o a + S1.size a ≤ S32.size a}
    {q q' : ∀ a, p a + S16x512.size a ≤ S16x16384.size a} {g₀ g₀' : ∀ a, r₀ a + S1x8x768.size a ≤ S2x256x768.size a} {g₁ g₁' : ∀ a, r₁ a + S1x8x768.size a ≤ S2x256x768.size a}
    {m₁ : Memref sig .tc .vmem S16x512 .bf16} {f₀ f₁ : (S16x512.Idx → Elt F .bf16) → S1x8x768.Idx → Elt F .f32}
    {w₁ w₂ l₁ l₂ l₃ x₁ x₂ y₁ y₂} {k : PUnit → PP F α}
    (hk : Exec V N c { s with nr2 := s.nr2 + 1 } (k ⟨⟩) Q)
    (v₀ : f₀ (V.fin (dv s.nr2)) = V.row c 0 (dv s.nr2)) (v₁ : f₁ (V.fin (dv s.nr2)) = V.row c 1 (dv s.nr2))
    (hc : cond = condJ c (dv s.nr2) := by rfl)
    (ho : o = ![s.nr2] := by rfl) (hp : p = ![0, 512 * s.nr2] := by rfl)
    (hr₀ : r₀ = ![0, 8 * s.nr2, 0] := by rfl) (hr₁ : r₁ = ![1, 8 * s.nr2, 0] := by rfl)
    (h : s.nr2 < 32 := by decide) (hsig : s.nsig = 32 := by rfl) (hsd : s.nsd = 32 := by rfl) (hp2 : s.np2 = 32 := by rfl) :
    Exec V N c s (if _h : cond = 1#1 then
        Prog.lift (.waitDma2 ((cc0_scratch11.slice (Rect.unit (s := S32) o S1.size i)).squeeze S_ squeezes_S1_S_).sem m₁
          (mAg.slice (Rect.unit (s := S16x16384) p S16x512.size q) (fun _ => rfl)) w₁ w₂) >>= fun _ =>
        Prog.lift (.load mAg (Rect.unit (s := S16x16384) p S16x512.size q').toLoadRect l₁) >>= fun X =>
        Prog.lift (.load mOut (Rect.unit (s := S2x256x768) r₀ S1x8x768.size g₀).toLoadRect l₂) >>= fun _ =>
        Prog.lift (.store mOut (Rect.unit (s := S2x256x768) r₀ S1x8x768.size g₀') (f₀ X) Finset.univ x₁ y₁) >>= fun _ =>
        Prog.lift (.load mOut (Rect.unit (s := S2x256x768) r₁ S1x8x768.size g₁).toLoadRect l₃) >>= fun _ =>
        Prog.lift (.store mOut (Rect.unit (s := S2x256x768) r₁ S1x8x768.size g₁') (f₁ X) Finset.univ x₂ y₂) >>= fun _ => k ⟨⟩
      else k ⟨⟩) Q := by
  have hv := dv_val h
  have ep : p = ![0, 512 * (dv s.nr2).val] := by rw [hp, hv]
  have e0 : r₀ = ![(0 : Fin 2).val, 8 * (dv s.nr2).val, 0] := by rw [hr₀, hv]; rfl
  have e1 : r₁ = ![(1 : Fin 2).val, 8 * (dv s.nr2).val, 0] := by rw [hr₁, hv]; rfl
  subst ep e0 e1
  refine Exec.cond hc (fun e => skip_rcv2 (by rw [← e]; exact hv.symm)) hk fun _ hne hh => ?_
  exact Exec.of (fun Q => recv2_core (j := dv s.nr2) hne hv.symm hsig hsd hp2 (sem_at 5 _ (ho.trans (by rw [hv]))) v₀ v₁ (fun _ => k ⟨⟩) Q) hk

/-- The three waits for the copies sent to device `j`. -/
theorem done_core {j : Dev nD} (hj : j ≠ c) (h : s.nf = j.val) (hsig : s.nsig = 32) (hsd : s.nsd = 32) (hp2 : s.np2 = 32)
    (hto : s.nsto = 32) (hts : s.nsts = 32) (hst : s.fst = 1)
    {m₁ m₂ m₅ m₆ : Memref sig .tc .vmem S16x512 .bf16} {m₃ m₄ : Memref sig .tc .vmem S8x128 .f32} {t₁ t₂ t₃ : DmaSem sig}
    (u₁ : t₁ = dsem 0 j) (u₂ : t₂ = dsem 2 j) (u₃ : t₃ = dsem 4 j)
    (n₁ : m₂.view.dmaCredit = amt 0) (n₂ : m₄.view.dmaCredit = amt 2) (n₃ : m₆.view.dmaCredit = amt 4)
    {w₁ : m₁.view.WordExact} {w₂ : m₂.view.WordExact} {w₃ : m₃.view.WordExact} {w₄ : m₄.view.WordExact} {w₅ : m₅.view.WordExact} {w₆ : m₆.view.WordExact}
    (k : PUnit → PP F α) (Q : α → sProp (MM F)) :
    Inv V c N s ⊢ iprop((Inv V c N { s with nf := s.nf + 1 } -∗ WP c (k ⟨⟩) Q)
      -∗ WP c (.op (.waitDma2 t₁ m₁ m₂ w₁ w₂) fun _ => .op (.waitDma2 t₂ m₃ m₄ w₃ w₄) fun _ => .op (.waitDma2 t₃ m₅ m₆ w₅ w₆) k) Q) := by
  subst u₁ u₂ u₃
  unfold Inv Ctx
  dsimp only
  iintro ⟨⟨#HI, #HIc, #Hrb, #Hrc, #Hlev⟩, HIn, HO, H1, H2, H3, H4, H5, HT1, HT2, HS0, HS2, HS4, HR1, HR3, HR5, H80, H81, H9, HF, HB, HRo, HRs⟩ Hk
  have nlt : ¬ j.val < s.nf := by omega
  have lts : j.val < s.nf + 1 := by omega
  have hjl : j.val < 32 := j.isLt
  ihave ⟨G2, H2⟩ := (fam_all j (Φ := A2 V c s.nsto s.nsd s.nf) (Ψ := A2 V c s.nsto s.nsd (s.nf + 1)) (fun i hi => by simp only [A2, h, lt_next hi])) $$ H2
  ihave ⟨G3, H3⟩ := (fam_all j (Φ := A3 V c s.nsts s.nsd s.nf) (Ψ := A3 V c s.nsts s.nsd (s.nf + 1)) (fun i hi => by simp only [A3, h, lt_next hi])) $$ H3
  ihave ⟨G9, H9⟩ := (fam_all j (Φ := A9 V c s.fst s.np2 s.nf) (Ψ := A9 V c s.fst s.np2 (s.nf + 1)) (fun i hi => by simp only [A9, h, lt_next hi])) $$ H9
  ihave ⟨GS0, HS0⟩ := (fam_oth j hj (Φ := SC c 0 s.nsd s.nf) (Ψ := SC c 0 s.nsd (s.nf + 1)) (fun i hi => by simp only [SC, h, lt_next hi])) $$ HS0
  ihave ⟨GS2, HS2⟩ := (fam_oth j hj (Φ := SC c 2 s.nsd s.nf) (Ψ := SC c 2 s.nsd (s.nf + 1)) (fun i hi => by simp only [SC, h, lt_next hi])) $$ HS2
  ihave ⟨GS4, HS4⟩ := (fam_oth j hj (Φ := SC c 4 s.np2 s.nf) (Ψ := SC c 4 s.np2 (s.nf + 1)) (fun i hi => by simp only [SC, h, lt_next hi])) $$ HS4
  have asc : ∀ k n, j.val < n → SC (F := F) c k n s.nf j = iprop(atPos ER (cell c k j) 0 ∅ 0 ∗ cred (tallyAt (cell c k j) () (amt k))) := by
    intro k n hn; unfold SC; rw [if_neg nlt, if_pos hn]
  have asc' : ∀ k n, SC (F := F) c k n (s.nf + 1) j = atPos ER (cell c k j) 1 ∅ 0 := by intro k n; unfold SC; rw [if_pos lts]
  have a2' : A2 V c s.nsto s.nsd (s.nf + 1) j = pay V 0 c j := by
    unfold A2 pay; rw [if_pos (by omega), if_neg (fun q => q.2.2 lts), if_pos rfl]
  have a3' : A3 V c s.nsts s.nsd (s.nf + 1) j = pay V 2 c j := by
    unfold A3 pay; rw [if_pos (by omega), if_neg (fun q => q.2.2 lts), if_neg (by decide), if_neg (by decide), if_pos rfl]
  have a9' : A9 V c s.fst s.np2 (s.nf + 1) j = pay V 4 c j := by
    unfold A9 pay; rw [if_neg (by omega), if_neg (fun q => q.2.2 lts), if_neg (by decide), if_neg (by decide), if_neg (by decide), if_neg (by decide), if_pos rfl]
  ihave ⟨Ga0, Gc0⟩ := (Entails.of_eq (asc 0 _ (by omega))) $$ GS0
  ihave ⟨Ga2, Gc2⟩ := (Entails.of_eq (asc 2 _ (by omega))) $$ GS2
  ihave ⟨Ga4, Gc4⟩ := (Entails.of_eq (asc 4 _ (by omega))) $$ GS4
  have hz : Owed c s.nsig s.nsd s.np2 = 0 := Owed_done c (by omega) (by omega) (by omega)
  rw [hz]
  ihave HM := (Entails.of_eq (MayWait_zero (c : Thread nD τ) (.dma (dsem 0 j)) ()).symm) $$ []
  · iempintro
  iapply (wp_wait_block V c j Q 0 hj m₁ m₂ N _ n₁) $$ [Gc0 HO HM Ga0]
  · isplitr; · iapply HIc
    isplitl [Gc0]; · iexact Gc0
    isplitl [HO]; · iexact HO
    isplitl [HM]; · iexact HM
    iexact Ga0
  iintro ⟨HO, Ga0, Gp0⟩
  ihave HM := (Entails.of_eq (MayWait_zero (c : Thread nD τ) (.dma (dsem 2 j)) ()).symm) $$ []
  · iempintro
  iapply (wp_wait_block V c j Q 2 hj m₃ m₄ N _ n₂) $$ [Gc2 HO HM Ga2]
  · isplitr; · iapply HIc
    isplitl [Gc2]; · iexact Gc2
    isplitl [HO]; · iexact HO
    isplitl [HM]; · iexact HM
    iexact Ga2
  iintro ⟨HO, Ga2, Gp2⟩
  ihave HM := (Entails.of_eq (MayWait_zero (c : Thread nD τ) (.dma (dsem 4 j)) ()).symm) $$ []
  · iempintro
  iapply (wp_wait_block V c j Q 4 hj m₅ m₆ N _ n₃) $$ [Gc4 HO HM Ga4]
  · isplitr; · iapply HIc
    isplitl [Gc4]; · iexact Gc4
    isplitl [HO]; · iexact HO
    isplitl [HM]; · iexact HM
    iexact Ga4
  iintro ⟨HO, Ga4, Gp4⟩
  iapply Hk
  ihave H2 := H2 $$ [Gp0]
  · rw [a2']; iexact Gp0
  ihave H3 := H3 $$ [Gp2]
  · rw [a3']; iexact Gp2
  ihave H9 := H9 $$ [Gp4]
  · rw [a9']; iexact Gp4
  ihave HS0 := HS0 $$ [Ga0]
  · rw [asc']; iexact Ga0
  ihave HS2 := HS2 $$ [Ga2]
  · rw [asc']; iexact Ga2
  ihave HS4 := HS4 $$ [Ga4]
  · rw [asc']; iexact Ga4
  iframe HI HIc Hrb Hrc Hlev
  iframe

theorem creditO {o : Fin 2 → ℕ} (hi : ∀ a, o a + S16x512.size a ≤ S16x16384.size a) :
    (mCo.slice (Rect.unit (s := S16x16384) o S16x512.size hi) (fun _ => rfl)).view.dmaCredit = amt 0 := rfl
theorem creditS {o : Fin 2 → ℕ} (hi : ∀ a, o a + S8x128.size a ≤ S8x4096.size a) :
    (mCs.slice (Rect.unit (s := S8x4096) o S8x128.size hi) (fun _ => rfl)).view.dmaCredit = amt 2 := rfl
theorem creditF : mFin.view.dmaCredit = amt 4 := rfl

theorem Exec.done {cond : BitVec 1} {o : Fin 1 → ℕ} {i₁ i₂ i₃ : ∀ a, o a + S1.size a ≤ S32.size a}
    {p₁ p₂ p₃ p₄ p₆ : Fin 2 → ℕ}
    {q₁ : ∀ a, p₁ a + S16x512.size a ≤ S16x16384.size a} {q₃ : ∀ a, p₃ a + S8x128.size a ≤ S8x4096.size a}
    {q₂ : cond = 1#1 → ∀ a, p₂ a + S16x512.size a ≤ S16x16384.size a} {q₄ : cond = 1#1 → ∀ a, p₄ a + S8x128.size a ≤ S8x4096.size a}
    {q₆ : cond = 1#1 → ∀ a, p₆ a + S16x512.size a ≤ S16x16384.size a}
    {w₁ : (mCo.slice (Rect.unit (s := S16x16384) p₁ S16x512.size q₁) (fun _ => rfl)).view.WordExact}
    {w₃ : (mCs.slice (Rect.unit (s := S8x4096) p₃ S8x128.size q₃) (fun _ => rfl)).view.WordExact} {w₅ : mFin.view.WordExact}
    {w₂ : ∀ h : cond = 1#1, (mRo.slice (Rect.unit (s := S16x16384) p₂ S16x512.size (q₂ h)) (fun _ => rfl)).view.WordExact}
    {w₄ : ∀ h : cond = 1#1, (mRs.slice (Rect.unit (s := S8x4096) p₄ S8x128.size (q₄ h)) (fun _ => rfl)).view.WordExact}
    {w₆ : ∀ h : cond = 1#1, (mAg.slice (Rect.unit (s := S16x16384) p₆ S16x512.size (q₆ h)) (fun _ => rfl)).view.WordExact}
    {k : PUnit → PP F α}
    (hk : Exec V N c { s with nf := s.nf + 1 } (k ⟨⟩) Q)
    (hc : cond = condJ c (dv s.nf) := by rfl) (ho : o = ![s.nf] := by rfl)
    (h : s.nf < 32 := by decide) (hsig : s.nsig = 32 := by rfl) (hsd : s.nsd = 32 := by rfl) (hp2 : s.np2 = 32 := by rfl)
    (hto : s.nsto = 32 := by rfl) (hts : s.nsts = 32 := by rfl) (hst : s.fst = 1 := by rfl) :
    Exec V N c s (if h : cond = 1#1 then
        Prog.lift (.waitDma2 ((cc0_scratch6.slice (Rect.unit (s := S32) o S1.size i₁)).squeeze S_ squeezes_S1_S_).sem
          (mRo.slice (Rect.unit (s := S16x16384) p₂ S16x512.size (q₂ h)) (fun _ => rfl))
          (mCo.slice (Rect.unit (s := S16x16384) p₁ S16x512.size q₁) (fun _ => rfl)) (w₂ h) w₁) >>= fun _ =>
        Prog.lift (.waitDma2 ((cc0_scratch8.slice (Rect.unit (s := S32) o S1.size i₂)).squeeze S_ squeezes_S1_S_).sem
          (mRs.slice (Rect.unit (s := S8x4096) p₄ S8x128.size (q₄ h)) (fun _ => rfl))
          (mCs.slice (Rect.unit (s := S8x4096) p₃ S8x128.size q₃) (fun _ => rfl)) (w₄ h) w₃) >>= fun _ =>
        Prog.lift (.waitDma2 ((cc0_scratch10.slice (Rect.unit (s := S32) o S1.size i₃)).squeeze S_ squeezes_S1_S_).sem
          (mAg.slice (Rect.unit (s := S16x16384) p₆ S16x512.size (q₆ h)) (fun _ => rfl)) mFin (w₆ h) w₅) >>= fun _ => k ⟨⟩
      else k ⟨⟩) Q := by
  have hv := dv_val h
  refine Exec.cond hc (fun e => skip_fin (by rw [← e]; exact hv.symm)) hk fun _ hne hh => ?_
  exact Exec.of (fun Q => done_core (j := dv s.nf) hne hv.symm hsig hsd hp2 hto hts hst
    (sem_at 0 _ (ho.trans (by rw [hv]))) (sem_at 2 _ (ho.trans (by rw [hv]))) (sem_at 4 _ (ho.trans (by rw [hv]))) (creditO _) (creditS _) creditF (fun _ => k ⟨⟩) Q) hk

end Cert.KernelIdeal.Att
-- ==== Proof.Spec.lean ====
module
public import proofs.«01_k».proof.Proof.Moves2
public import Idealize.ShloMosaic.Lib.Pipeline.Value

/-!
# What the devices compute

The partial attention of a device over its own keys and values, the chunks it hands out, the merge of the 32 chunks a
device receives, and the projection.
-/

@[expose] public section

noncomputable section

namespace Cert.KernelIdeal.Att

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
section Spec

/-! ## Parts of the inputs -/

theorem inbX (b : Fin 2) (g : Fin 4) : ∀ a, (![b.val, 64 * g.val, 0] : Fin 3 → ℕ) a + S1x64x768.size a ≤ S2x256x768.size a := by
  revert b g; decide
theorem inbK (i : Fin 16) : ∀ a, (![i.val, 0, 0] : Fin 3 → ℕ) a + S1x64x512.size a ≤ S16x64x512.size a := by revert i; decide
theorem inbV (i : Fin 16) : ∀ a, (![i.val, 0, 0] : Fin 3 → ℕ) a + S1x512x64.size a ≤ S16x512x64.size a := by revert i; decide
theorem inbWq : ∀ a, (![0, 0] : Fin 2 → ℕ) a + S768x512.size a ≤ S768x512.size a := by decide
theorem inbWo : ∀ a, (![0, 0] : Fin 2 → ℕ) a + S512x768.size a ≤ S512x768.size a := by decide

variable (x : Vec F S2x256x768 .f32) (wq : Vec F S768x512 .f32) (wo : Vec F S512x768 .f32) (k : Vec F S16x64x512 .bf16) (v : Vec F S16x512x64 .bf16)

def xPart (b : Fin 2) (g : Fin 4) : Vec F S1x64x768 .f32 := part x (Rect.unit (s := S2x256x768) ![b.val, 64 * g.val, 0] S1x64x768.size (inbX b g))
def kPart (i : Fin 16) : Vec F S1x64x512 .bf16 := part k (Rect.unit (s := S16x64x512) ![i.val, 0, 0] S1x64x512.size (inbK i))
def vPart (i : Fin 16) : Vec F S1x512x64 .bf16 := part v (Rect.unit (s := S16x512x64) ![i.val, 0, 0] S1x512x64.size (inbV i))
def wqPart : Vec F S768x512 .f32 := part wq (Rect.unit (s := S768x512) ![0, 0] S768x512.size inbWq)
def woPart : Vec F S512x768 .f32 := part wo (Rect.unit (s := S512x768) ![0, 0] S512x768.size inbWo)

/-! ## A device's own attention: batch and head `i`, rows `64 g ..` -/

def wqB : FVec F S768x512 .bf16 := truncf .bf16 (shapeCast S768x512 (wqPart wq) shapeCasts_S768x512_S768x512) bitsLt_bf16_f32
def qG (b : Fin 2) (g : Fin 4) : FVec F S64x512 .f32 :=
  matmul dot_S64x768_S768x512_S64x512_1_0_0_1_n_n none (truncf .bf16 (shapeCast S64x768 (xPart x b g) shapeCasts_S1x64x768_S64x768) bitsLt_bf16_f32)
    (wqB wq) (constant S64x512 .f32 0x00000000#32)
theorem slQ (h : Fin 8) : S64x512.Slices ![0, 64 * h.val] S64x64 := by revert h; decide
def bOf (i : Fin 16) : Fin 2 := ⟨i.val / 8, by have := i.isLt; omega⟩
def hOf (i : Fin 16) : Fin 8 := ⟨i.val % 8, Nat.mod_lt _ (by decide)⟩
def qS (g : Fin 4) (i : Fin 16) : FVec F S64x64 .f32 := extractStridedSlice S64x64 ![0, 64 * (hOf i).val] (qG x wq (bOf i) g) (slQ (hOf i))
def qH (g : Fin 4) (i : Fin 16) : FVec F S64x64 .bf16 := truncf .bf16 (qS x wq g i) bitsLt_bf16_f32
def scHd (g : Fin 4) (i : Fin 16) : FVec F S64x512 .f32 :=
  mulf (matmul dot_S64x64_S64x512_S64x512_1_0_0_1_n_n none (qH x wq g i) (shapeCast S64x512 (kPart k i) shapeCasts_S1x64x512_S64x512)
    (constant S64x512 .f32 0x00000000#32)) (broadcast S64x512 (Scalar.ofBits .f32 0x3E000000#32))
def mHd (g : Fin 4) (i : Fin 16) : FVec F S64x1 .f32 :=
  shapeCast S64x1 (multiReduction .maximumf [1] S64 (scHd x wq k g i) 0xFF800000#32 reduces_S64x512_S64 (.inl rfl) rfl) shapeCasts_S64_S64x1
def dHd (g : Fin 4) (i : Fin 16) : FVec F S64x512 .f32 :=
  subf (scHd x wq k g i) (broadcastTo S64x512 (mHd x wq k g i) broadcasts_S64x1_S64x512)
def pHd (g : Fin 4) (i : Fin 16) : FVec F S64x512 .f32 := exp (dHd x wq k g i)
def pB (g : Fin 4) (i : Fin 16) : FVec F S64x512 .bf16 := truncf .bf16 (pHd x wq k g i) bitsLt_bf16_f32
def vB (i : Fin 16) : FVec F S512x64 .bf16 := shapeCast S512x64 (vPart v i) shapeCasts_S1x512x64_S512x64
def lHd (g : Fin 4) (i : Fin 16) : FVec F S64x1 .f32 :=
  shapeCast S64x1 (multiReduction .add [1] S64 (pHd x wq k g i) 0x00000000#32 reduces_S64x512_S64 (.inl rfl) rfl) shapeCasts_S64_S64x1
def oHd (g : Fin 4) (i : Fin 16) : FVec F S64x64 .f32 :=
  matmul dot_S64x512_S512x64_S64x64_1_0_0_1_n_n none (pB x wq k g i) (vB v i) (constant S64x64 .f32 0x00000000#32)

theorem catO : Shape.Concatenates [S64x64, S64x64, S64x64, S64x64, S64x64, S64x64, S64x64, S64x64, S64x64, S64x64, S64x64, S64x64, S64x64, S64x64, S64x64, S64x64] S64x1024 1 := by decide
theorem catM : Shape.Concatenates [S64x1, S64x1, S64x1, S64x1, S64x1, S64x1, S64x1, S64x1, S64x1, S64x1, S64x1, S64x1, S64x1, S64x1, S64x1, S64x1] S64x16 1 := by decide
def oG (g : Fin 4) : FVec F S64x1024 .f32 :=
  concatenate S64x1024 1 [⟨S64x64, oHd x wq k v g 0⟩, ⟨S64x64, oHd x wq k v g 1⟩, ⟨S64x64, oHd x wq k v g 2⟩, ⟨S64x64, oHd x wq k v g 3⟩, ⟨S64x64, oHd x wq k v g 4⟩, ⟨S64x64, oHd x wq k v g 5⟩, ⟨S64x64, oHd x wq k v g 6⟩, ⟨S64x64, oHd x wq k v g 7⟩, ⟨S64x64, oHd x wq k v g 8⟩, ⟨S64x64, oHd x wq k v g 9⟩, ⟨S64x64, oHd x wq k v g 10⟩, ⟨S64x64, oHd x wq k v g 11⟩, ⟨S64x64, oHd x wq k v g 12⟩, ⟨S64x64, oHd x wq k v g 13⟩, ⟨S64x64, oHd x wq k v g 14⟩, ⟨S64x64, oHd x wq k v g 15⟩] catO
def mG (g : Fin 4) : FVec F S64x16 .f32 :=
  concatenate S64x16 1 [⟨S64x1, mHd x wq k g 0⟩, ⟨S64x1, mHd x wq k g 1⟩, ⟨S64x1, mHd x wq k g 2⟩, ⟨S64x1, mHd x wq k g 3⟩, ⟨S64x1, mHd x wq k g 4⟩, ⟨S64x1, mHd x wq k g 5⟩, ⟨S64x1, mHd x wq k g 6⟩, ⟨S64x1, mHd x wq k g 7⟩, ⟨S64x1, mHd x wq k g 8⟩, ⟨S64x1, mHd x wq k g 9⟩, ⟨S64x1, mHd x wq k g 10⟩, ⟨S64x1, mHd x wq k g 11⟩, ⟨S64x1, mHd x wq k g 12⟩, ⟨S64x1, mHd x wq k g 13⟩, ⟨S64x1, mHd x wq k g 14⟩, ⟨S64x1, mHd x wq k g 15⟩] catM
def lG (g : Fin 4) : FVec F S64x16 .f32 :=
  concatenate S64x16 1 [⟨S64x1, lHd x wq k g 0⟩, ⟨S64x1, lHd x wq k g 1⟩, ⟨S64x1, lHd x wq k g 2⟩, ⟨S64x1, lHd x wq k g 3⟩, ⟨S64x1, lHd x wq k g 4⟩, ⟨S64x1, lHd x wq k g 5⟩, ⟨S64x1, lHd x wq k g 6⟩, ⟨S64x1, lHd x wq k g 7⟩, ⟨S64x1, lHd x wq k g 8⟩, ⟨S64x1, lHd x wq k g 9⟩, ⟨S64x1, lHd x wq k g 10⟩, ⟨S64x1, lHd x wq k g 11⟩, ⟨S64x1, lHd x wq k g 12⟩, ⟨S64x1, lHd x wq k g 13⟩, ⟨S64x1, lHd x wq k g 14⟩, ⟨S64x1, lHd x wq k g 15⟩] catM

/-! ## The chunks -/

theorem slO8 (j : Fin 8) : S64x1024.Slices ![8 * j.val, 0] S8x1024 := by revert j; decide
theorem slM8 (j : Fin 8) : S64x16.Slices ![8 * j.val, 0] S8x16 := by revert j; decide
def bRows (o : FVec F S64x1024 .f32) (j : Fin 8) : FVec F S8x1024 .f32 := extractStridedSlice S8x1024 ![8 * j.val, 0] o (slO8 j)
def bLo (o : FVec F S8x1024 .f32) : FVec F S8x512 .f32 := extractStridedSlice S8x512 ![0, 0] o slices_S8x1024_o0_0_S8x512
def coPre (o : FVec F S8x1024 .f32) : FVec F S16x512 .bf16 :=
  truncf .bf16 (concatenate S16x512 0 [⟨S8x512, bLo o⟩, ⟨S8x512, extractStridedSlice S8x512 ![0, 512] o slices_S8x1024_o0_512_S8x512⟩]
    concatenates_S8x512_S8x512_S16x512_d0) bitsLt_bf16_f32
def coRows (o : FVec F S8x1024 .f32) : FVec F S16x512 .bf16 := shapeCast S16x512 (coPre o) shapeCasts_S16x512_S16x512
def coChunk (o : FVec F S64x1024 .f32) (j : Fin 8) : FVec F S16x512 .bf16 := coRows (bRows o j)
def padZ : FVec F S8x96 .f32 := broadcast S8x96 (Scalar.ofBits .f32 0x00000000#32 : F .f32)
def csPre (m l : FVec F S64x16 .f32) (j : Fin 8) : FVec F S8x128 .f32 :=
  concatenate S8x128 1 [⟨S8x16, extractStridedSlice S8x16 ![8 * j.val, 0] m (slM8 j)⟩, ⟨S8x16, extractStridedSlice S8x16 ![8 * j.val, 0] l (slM8 j)⟩,
    ⟨S8x96, padZ⟩] concatenates_S8x16_S8x16_S8x96_S8x128_d1
def csChunk (m l : FVec F S64x16 .f32) (j : Fin 8) : FVec F S8x128 .f32 := shapeCast S8x128 (csPre m l j) shapeCasts_S8x128_S8x128
def gOf (j : Dev nD) : Fin 4 := ⟨j.val / 8, by have h : j.val < 32 := j.isLt; omega⟩
def rOf (j : Dev nD) : Fin 8 := ⟨j.val % 8, Nat.mod_lt _ (by decide)⟩
/-- The chunks a device with these inputs makes for device `j`. -/
def coOf (j : Dev nD) : FVec F S16x512 .bf16 := coChunk (oG x wq k v (gOf j)) (rOf j)
def csOf (j : Dev nD) : FVec F S8x128 .f32 := csChunk (mG x wq k (gOf j)) (lG x wq k (gOf j)) (rOf j)

end Spec

/-! ## The merge -/

section Merge

abbrev R16 (n : ℕ) : Shape := ⟨2, ![n, 16]⟩
abbrev R1 (n : ℕ) : Shape := ⟨2, ![n, 1]⟩
abbrev R64 (n : ℕ) : Shape := ⟨2, ![n, 64]⟩
abbrev RK (n : ℕ) : Shape := ⟨2, ![n, 1024]⟩

theorem sl1 (n : ℕ) (i : Fin 16) : (R16 n).Slices ![0, i.val] (R1 n) :=
  ⟨rfl, fun a => by match a with
    | 0 => show 0 + n ≤ n; omega
    | 1 => show i.val + 1 ≤ 16; omega⟩
theorem bc64 (n : ℕ) : (R1 n).Broadcasts (R64 n) :=
  ⟨le_rfl, fun a => by match a with
    | 0 => exact Or.inr fun _ => rfl
    | 1 => exact Or.inl rfl⟩
theorem slLo (n : ℕ) (d : ℕ) : (⟨2, ![2 * n, d]⟩ : Shape).Slices ![0, 0] ⟨2, ![n, d]⟩ :=
  ⟨rfl, fun a => by match a with
    | 0 => show 0 + n ≤ 2 * n; omega
    | 1 => show 0 + d ≤ d; omega⟩
theorem slHi (n : ℕ) (d : ℕ) : (⟨2, ![2 * n, d]⟩ : Shape).Slices ![n, 0] ⟨2, ![n, d]⟩ :=
  ⟨rfl, fun a => by match a with
    | 0 => show n + n ≤ 2 * n; omega
    | 1 => show 0 + d ≤ d; omega⟩
theorem catE (n : ℕ) : Shape.Concatenates [R64 n, R64 n, R64 n, R64 n, R64 n, R64 n, R64 n, R64 n, R64 n, R64 n, R64 n, R64 n, R64 n, R64 n, R64 n, R64 n] (RK n) 1 := by
  have key : ∀ s ∈ [R64 n, R64 n, R64 n, R64 n, R64 n, R64 n, R64 n, R64 n, R64 n, R64 n, R64 n, R64 n, R64 n, R64 n, R64 n, R64 n], s = R64 n := fun s hs => by
    simp only [List.mem_cons, List.not_mem_nil, or_false, or_self] at hs
    exact hs
  refine ⟨by simp, fun s hs => ?_, ?_⟩
  · cases key s hs
    exact ⟨rfl, fun a => by match a with
      | 0 => exact fun _ => rfl
      | 1 => exact fun h => absurd rfl h⟩
  · refine (List.sum_eq_card_nsmul _ 64 fun z hz => ?_).trans ?_
    · obtain ⟨s, hs, rfl⟩ := List.mem_map.1 hz
      cases key s hs
      rfl
    · rw [List.length_map]
      rfl

def colS (n : ℕ) (a : FVec F (R16 n) .f32) (i : Fin 16) : FVec F (R1 n) .f32 := extractStridedSlice (R1 n) ![0, i.val] a (sl1 n i)
def colC (n : ℕ) (a : FVec F (R16 n) .f32) (i : Fin 16) : FVec F (R1 n) .f32 := shapeCast (R1 n) (colS n a i) rfl
/-- Every column of the statistics repeated over the 64 columns of its head. -/
def colE (n : ℕ) (a : FVec F (R16 n) .f32) (i : Fin 16) : FVec F (R64 n) .f32 := broadcastTo (R64 n) (colC n a i) (bc64 n)
def expandE (n : ℕ) (a : FVec F (R16 n) .f32) : FVec F (RK n) .f32 :=
  concatenate (RK n) 1 [⟨R64 n, colE n a 0⟩, ⟨R64 n, colE n a 1⟩, ⟨R64 n, colE n a 2⟩, ⟨R64 n, colE n a 3⟩, ⟨R64 n, colE n a 4⟩, ⟨R64 n, colE n a 5⟩, ⟨R64 n, colE n a 6⟩, ⟨R64 n, colE n a 7⟩, ⟨R64 n, colE n a 8⟩, ⟨R64 n, colE n a 9⟩, ⟨R64 n, colE n a 10⟩, ⟨R64 n, colE n a 11⟩, ⟨R64 n, colE n a 12⟩, ⟨R64 n, colE n a 13⟩, ⟨R64 n, colE n a 14⟩, ⟨R64 n, colE n a 15⟩] (catE n)

/-- Rows `r` and `r + n` merged: the maximum, the two factors, the sum and the output. -/
def mMax (n : ℕ) (m : FVec F (R16 (2 * n)) .f32) : FVec F (R16 n) .f32 :=
  maximumf (extractStridedSlice (R16 n) ![0, 0] m (slLo n 16)) (extractStridedSlice (R16 n) ![n, 0] m (slHi n 16))
def facLo (n : ℕ) (m : FVec F (R16 (2 * n)) .f32) : FVec F (R16 n) .f32 := exp (subf (extractStridedSlice (R16 n) ![0, 0] m (slLo n 16)) (mMax n m))
def facHi (n : ℕ) (m : FVec F (R16 (2 * n)) .f32) : FVec F (R16 n) .f32 := exp (subf (extractStridedSlice (R16 n) ![n, 0] m (slHi n 16)) (mMax n m))
def mSum (n : ℕ) (m l : FVec F (R16 (2 * n)) .f32) : FVec F (R16 n) .f32 :=
  addf (mulf (facLo n m) (extractStridedSlice (R16 n) ![0, 0] l (slLo n 16))) (mulf (facHi n m) (extractStridedSlice (R16 n) ![n, 0] l (slHi n 16)))
def mulLo (n : ℕ) (m : FVec F (R16 (2 * n)) .f32) (o : FVec F (RK (2 * n)) .f32) : FVec F (RK n) .f32 :=
  mulf (expandE n (facLo n m)) (extractStridedSlice (RK n) ![0, 0] o (slLo n 1024))
def mOutp (n : ℕ) (m : FVec F (R16 (2 * n)) .f32) (o : FVec F (RK (2 * n)) .f32) : FVec F (RK n) .f32 :=
  addf (mulLo n m o) (mulf (expandE n (facHi n m)) (extractStridedSlice (RK n) ![n, 0] o (slHi n 1024)))

variable (co : Dev nD → Vec F S16x512 .bf16) (cs : Dev nD → Vec F S8x128 .f32)

def oBlk (s : Dev nD) : FVec F S8x1024 .f32 :=
  extf .f32 (concatenate S8x1024 1 [⟨S8x512, extractStridedSlice S8x512 ![0, 0] (co s) slices_S16x512_o0_0_S8x512⟩,
    ⟨S8x512, extractStridedSlice S8x512 ![8, 0] (co s) slices_S16x512_o8_0_S8x512⟩] concatenates_S8x512_S8x512_S8x1024_d1) bitsLt_bf16_f32
def mBlk (s : Dev nD) : FVec F S8x16 .f32 := extractStridedSlice S8x16 ![0, 0] (cs s) slices_S8x128_o0_0_S8x16
def lBlk (s : Dev nD) : FVec F S8x16 .f32 := extractStridedSlice S8x16 ![0, 16] (cs s) slices_S8x128_o0_16_S8x16
theorem catAO : Shape.Concatenates [S8x1024, S8x1024, S8x1024, S8x1024, S8x1024, S8x1024, S8x1024, S8x1024, S8x1024, S8x1024, S8x1024, S8x1024, S8x1024, S8x1024, S8x1024, S8x1024, S8x1024, S8x1024, S8x1024, S8x1024, S8x1024, S8x1024, S8x1024, S8x1024, S8x1024, S8x1024, S8x1024, S8x1024, S8x1024, S8x1024, S8x1024, S8x1024] S256x1024 0 := by decide
theorem catAM : Shape.Concatenates [S8x16, S8x16, S8x16, S8x16, S8x16, S8x16, S8x16, S8x16, S8x16, S8x16, S8x16, S8x16, S8x16, S8x16, S8x16, S8x16, S8x16, S8x16, S8x16, S8x16, S8x16, S8x16, S8x16, S8x16, S8x16, S8x16, S8x16, S8x16, S8x16, S8x16, S8x16, S8x16] S256x16 0 := by decide
def oAll : FVec F (RK (2 * 128)) .f32 := concatenate S256x1024 0 [⟨S8x1024, oBlk co 0⟩, ⟨S8x1024, oBlk co 1⟩, ⟨S8x1024, oBlk co 2⟩, ⟨S8x1024, oBlk co 3⟩, ⟨S8x1024, oBlk co 4⟩, ⟨S8x1024, oBlk co 5⟩, ⟨S8x1024, oBlk co 6⟩, ⟨S8x1024, oBlk co 7⟩, ⟨S8x1024, oBlk co 8⟩, ⟨S8x1024, oBlk co 9⟩, ⟨S8x1024, oBlk co 10⟩, ⟨S8x1024, oBlk co 11⟩, ⟨S8x1024, oBlk co 12⟩, ⟨S8x1024, oBlk co 13⟩, ⟨S8x1024, oBlk co 14⟩, ⟨S8x1024, oBlk co 15⟩, ⟨S8x1024, oBlk co 16⟩, ⟨S8x1024, oBlk co 17⟩, ⟨S8x1024, oBlk co 18⟩, ⟨S8x1024, oBlk co 19⟩, ⟨S8x1024, oBlk co 20⟩, ⟨S8x1024, oBlk co 21⟩, ⟨S8x1024, oBlk co 22⟩, ⟨S8x1024, oBlk co 23⟩, ⟨S8x1024, oBlk co 24⟩, ⟨S8x1024, oBlk co 25⟩, ⟨S8x1024, oBlk co 26⟩, ⟨S8x1024, oBlk co 27⟩, ⟨S8x1024, oBlk co 28⟩, ⟨S8x1024, oBlk co 29⟩, ⟨S8x1024, oBlk co 30⟩, ⟨S8x1024, oBlk co 31⟩] catAO
def mAll : FVec F (R16 (2 * 128)) .f32 := concatenate S256x16 0 [⟨S8x16, mBlk cs 0⟩, ⟨S8x16, mBlk cs 1⟩, ⟨S8x16, mBlk cs 2⟩, ⟨S8x16, mBlk cs 3⟩, ⟨S8x16, mBlk cs 4⟩, ⟨S8x16, mBlk cs 5⟩, ⟨S8x16, mBlk cs 6⟩, ⟨S8x16, mBlk cs 7⟩, ⟨S8x16, mBlk cs 8⟩, ⟨S8x16, mBlk cs 9⟩, ⟨S8x16, mBlk cs 10⟩, ⟨S8x16, mBlk cs 11⟩, ⟨S8x16, mBlk cs 12⟩, ⟨S8x16, mBlk cs 13⟩, ⟨S8x16, mBlk cs 14⟩, ⟨S8x16, mBlk cs 15⟩, ⟨S8x16, mBlk cs 16⟩, ⟨S8x16, mBlk cs 17⟩, ⟨S8x16, mBlk cs 18⟩, ⟨S8x16, mBlk cs 19⟩, ⟨S8x16, mBlk cs 20⟩, ⟨S8x16, mBlk cs 21⟩, ⟨S8x16, mBlk cs 22⟩, ⟨S8x16, mBlk cs 23⟩, ⟨S8x16, mBlk cs 24⟩, ⟨S8x16, mBlk cs 25⟩, ⟨S8x16, mBlk cs 26⟩, ⟨S8x16, mBlk cs 27⟩, ⟨S8x16, mBlk cs 28⟩, ⟨S8x16, mBlk cs 29⟩, ⟨S8x16, mBlk cs 30⟩, ⟨S8x16, mBlk cs 31⟩] catAM
def lAll : FVec F (R16 (2 * 128)) .f32 := concatenate S256x16 0 [⟨S8x16, lBlk cs 0⟩, ⟨S8x16, lBlk cs 1⟩, ⟨S8x16, lBlk cs 2⟩, ⟨S8x16, lBlk cs 3⟩, ⟨S8x16, lBlk cs 4⟩, ⟨S8x16, lBlk cs 5⟩, ⟨S8x16, lBlk cs 6⟩, ⟨S8x16, lBlk cs 7⟩, ⟨S8x16, lBlk cs 8⟩, ⟨S8x16, lBlk cs 9⟩, ⟨S8x16, lBlk cs 10⟩, ⟨S8x16, lBlk cs 11⟩, ⟨S8x16, lBlk cs 12⟩, ⟨S8x16, lBlk cs 13⟩, ⟨S8x16, lBlk cs 14⟩, ⟨S8x16, lBlk cs 15⟩, ⟨S8x16, lBlk cs 16⟩, ⟨S8x16, lBlk cs 17⟩, ⟨S8x16, lBlk cs 18⟩, ⟨S8x16, lBlk cs 19⟩, ⟨S8x16, lBlk cs 20⟩, ⟨S8x16, lBlk cs 21⟩, ⟨S8x16, lBlk cs 22⟩, ⟨S8x16, lBlk cs 23⟩, ⟨S8x16, lBlk cs 24⟩, ⟨S8x16, lBlk cs 25⟩, ⟨S8x16, lBlk cs 26⟩, ⟨S8x16, lBlk cs 27⟩, ⟨S8x16, lBlk cs 28⟩, ⟨S8x16, lBlk cs 29⟩, ⟨S8x16, lBlk cs 30⟩, ⟨S8x16, lBlk cs 31⟩] catAM

def m7 : FVec F (R16 (2 * 64)) .f32 := mMax 128 (mAll cs)
def m6 : FVec F (R16 (2 * 32)) .f32 := mMax 64 (m7 cs)
def m5 : FVec F (R16 (2 * 16)) .f32 := mMax 32 (m6 cs)
def m4 : FVec F (R16 (2 * 8)) .f32 := mMax 16 (m5 cs)
def l7 : FVec F (R16 (2 * 64)) .f32 := mSum 128 (mAll cs) (lAll cs)
def l6 : FVec F (R16 (2 * 32)) .f32 := mSum 64 (m7 cs) (l7 cs)
def l5 : FVec F (R16 (2 * 16)) .f32 := mSum 32 (m6 cs) (l6 cs)
def l4 : FVec F (R16 (2 * 8)) .f32 := mSum 16 (m5 cs) (l5 cs)
def l3 : FVec F (R16 8) .f32 := mSum 8 (m4 cs) (l4 cs)
def o7 : FVec F (RK (2 * 64)) .f32 := mOutp 128 (mAll cs) (oAll co)
def o6 : FVec F (RK (2 * 32)) .f32 := mOutp 64 (m7 cs) (o7 co cs)
def o5 : FVec F (RK (2 * 16)) .f32 := mOutp 32 (m6 cs) (o6 co cs)
def o4 : FVec F (RK (2 * 8)) .f32 := mOutp 16 (m5 cs) (o5 co cs)
def o3 : FVec F (RK 8) .f32 := mOutp 8 (m4 cs) (o4 co cs)
/-- The finished rows. -/
def finOf : FVec F S16x512 .bf16 := coRows (divf (o3 co cs) (expandE 8 (l3 cs)))

/-- The projection of the finished rows of batch `b`. -/
theorem slFin (b : Fin 2) : S16x512.Slices ![8 * b.val, 0] S8x512 := by revert b; decide
def rowOf (wo : Vec F S512x768 .f32) (fin : Vec F S16x512 .bf16) (b : Fin 2) : FVec F S1x8x768 .f32 :=
  shapeCast S1x8x768 (matmul dot_S8x512_S512x768_S8x768_1_0_0_1_n_n none (extractStridedSlice S8x512 ![8 * b.val, 0] fin (slFin b))
    (truncf .bf16 (shapeCast S512x768 (woPart wo) shapeCasts_S512x768_S512x768) bitsLt_bf16_f32) (constant S8x768 .f32 0x00000000#32)) shapeCasts_S8x768_S1x8x768

end Merge

section All

variable (x : Dev nD → Vec F S2x256x768 .f32) (wq : Dev nD → Vec F S768x512 .f32) (wo : Dev nD → Vec F S512x768 .f32)
    (k : Dev nD → Vec F S16x64x512 .bf16) (v : Dev nD → Vec F S16x512x64 .bf16)

/-- The chunks that device `d` receives, by their sender. -/
def coAt (d : Dev nD) : Dev nD → Vec F S16x512 .bf16 := fun s => coOf (x s) (wq s) (k s) (v s) d
def csAt (d : Dev nD) : Dev nD → Vec F S8x128 .f32 := fun s => csOf (x s) (wq s) (k s) d
def finAt (d : Dev nD) : Vec F S16x512 .bf16 := finOf (coAt x wq k v d) (csAt x wq k d)
/-- All values from the inputs. -/
def valsOf : Vals F where
  x := x
  wq := wq
  wo := wo
  k := k
  v := v
  co s d := coAt x wq k v d s
  cs s d := csAt x wq k d s
  fin d := finAt x wq k v d
  row d b j := rowOf (wo d) (finAt x wq k v j) b

end All

/-- The copy of a device's own block keeps its shape. -/
theorem pay440 (w : Vec F S16x512 .bf16) : k0_pay440 w = w := shapeCast_self _ _
theorem pay441 (w : Vec F S8x128 .f32) : k0_pay441 w = w := shapeCast_self _ _

end Cert.KernelIdeal.Att
-- ==== Proof.Walk1.lean ====
module
public import proofs.«01_k».proof.Proof.Spec

/-!
# The walk through the exchange of the partial sums

Each part of the body is one step per operation: the signals, the partial sums of the four groups of rows, the copies to their owners, and the waits for the blocks of the others.
-/

@[expose] public section

noncomputable section

namespace Cert.KernelIdeal.Att

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable {N : GSem nD τ sig → ℕ} {c : Dev nD}

variable {x : Dev nD → Vec F S2x256x768 .f32} {wq : Dev nD → Vec F S768x512 .f32} {wo : Dev nD → Vec F S512x768 .f32}
  {k : Dev nD → Vec F S16x64x512 .bf16} {v : Dev nD → Vec F S16x512x64 .bf16}
set_option maxHeartbeats 4000000 in
set_option maxRecDepth 100000 in
theorem walk_first (Q) (h : Q ⟨c, v2w c, oAll (coAt x wq k v c), m7 (csAt x wq k c), facLo 128 (mAll (csAt x wq k c)), facHi 128 (mAll (csAt x wq k c)), l7 (csAt x wq k c), colC 128 (facLo 128 (mAll (csAt x wq k c))) 0⟩ { nsig := 32, nsto := 32, nsts := 32, bar := 1, nsd := 32, nlo := 1, nls := 1, nrv := 32 }) : Exec (valsOf x wq wo k v) N c {} (k0_part81_skel (F := F) mX (Memref.isWhole_whole _) mWq (Memref.isWhole_whole _) mWo (Memref.isWhole_whole _) mK (Memref.isWhole_whole _) mV (Memref.isWhole_whole _) mOut (Memref.isWhole_whole _) mCo (Memref.isWhole_whole _) mCs (Memref.isWhole_whole _) mRo (Memref.isWhole_whole _) mRs (Memref.isWhole_whole _) mFin (Memref.isWhole_whole _) mAg (Memref.isWhole_whole _) cc0_scratch6 cc0_scratch7 cc0_scratch8 cc0_scratch9 cc0_scratch10 cc0_scratch11) Q := by
  unfold k0_part81_skel
  refine Exec.cut fun R hR => ?_
  rw [k0_part1_eq_skeleton]
  unfold k0_part1_skel
  refine Exec.devId ?_
  extract_lets -underBinder +onlyGivenNames v0 v1 v2 v3
  extract_lets -underBinder +onlyGivenNames jp
  refine Exec.signal (k := jp) ?_
  dsimp -zeta only [jp]
  clear jp
  iterate 7
    extract_lets -underBinder +onlyGivenNames jp
    refine Exec.signal (k := jp) ?_
    dsimp -zeta only [jp]
    clear jp
  refine Exec.ret ?_
  subst hR
  refine Exec.cut fun R hR => ?_
  rw [k0_part2_eq_skeleton]
  unfold k0_part2_skel
  iterate 10
    extract_lets -underBinder +onlyGivenNames jp
    refine Exec.signal (k := jp) ?_
    dsimp -zeta only [jp]
    clear jp
  refine Exec.ret' ⟨⟩ { nsig := 18 } ?_
  subst hR
  refine Exec.cut fun R hR => ?_
  rw [k0_part3_eq_skeleton]
  unfold k0_part3_skel
  iterate 10
    extract_lets -underBinder +onlyGivenNames jp
    refine Exec.signal (k := jp) ?_
    dsimp -zeta only [jp]
    clear jp
  refine Exec.ret' ⟨⟩ { nsig := 28 } ?_
  subst hR
  refine Exec.cut fun R hR => ?_
  rw [k0_part4_eq_skeleton]
  unfold k0_part4_skel
  iterate 4
    extract_lets -underBinder +onlyGivenNames jp
    refine Exec.signal (k := jp) ?_
    dsimp -zeta only [jp]
    clear jp
  refine Exec.ldWq ?_
  refine Exec.ldX ?_
  refine Exec.ldK ?_
  refine Exec.ldV ?_
  refine Exec.ret' (⟨wqB (wq c), qG (x c) (wq c) 0 0, mHd (x c) (wq c) (k c) 0 0, lHd (x c) (wq c) (k c) 0 0, pB (x c) (wq c) (k c) 0 0, vB (v c) 0, constant S64x64 .f32 0x00000000#32⟩) { nsig := 32 } ?_
  subst hR
  refine Exec.cut fun R hR => ?_
  rw [k0_part5_eq_skeleton]
  unfold k0_part5_skel
  refine Exec.ldK ?_
  refine Exec.ldV ?_
  refine Exec.ldK ?_
  refine Exec.ldV ?_
  refine Exec.ret' (⟨oHd (x c) (wq c) (k c) (v c) 0 0, mHd (x c) (wq c) (k c) 0 1, lHd (x c) (wq c) (k c) 0 1, oHd (x c) (wq c) (k c) (v c) 0 1, mHd (x c) (wq c) (k c) 0 2, lHd (x c) (wq c) (k c) 0 2, oHd (x c) (wq c) (k c) (v c) 0 2, qS (x c) (wq c) 0 3⟩) { nsig := 32 } ?_
  subst hR
  refine Exec.cut fun R hR => ?_
  rw [k0_part6_eq_skeleton]
  unfold k0_part6_skel
  refine Exec.ldK ?_
  refine Exec.ldV ?_
  refine Exec.ldK ?_
  refine Exec.ldV ?_
  refine Exec.ret' (⟨mHd (x c) (wq c) (k c) 0 3, lHd (x c) (wq c) (k c) 0 3, oHd (x c) (wq c) (k c) (v c) 0 3, mHd (x c) (wq c) (k c) 0 4, lHd (x c) (wq c) (k c) 0 4, oHd (x c) (wq c) (k c) (v c) 0 4, qH (x c) (wq c) 0 5⟩) { nsig := 32 } ?_
  subst hR
  refine Exec.cut fun R hR => ?_
  rw [k0_part7_eq_skeleton]
  unfold k0_part7_skel
  refine Exec.ldK ?_
  refine Exec.ldV ?_
  refine Exec.ldK ?_
  refine Exec.ldV ?_
  refine Exec.ret' (⟨mHd (x c) (wq c) (k c) 0 5, lHd (x c) (wq c) (k c) 0 5, oHd (x c) (wq c) (k c) (v c) 0 5, mHd (x c) (wq c) (k c) 0 6, lHd (x c) (wq c) (k c) 0 6, oHd (x c) (wq c) (k c) (v c) 0 6, qH (x c) (wq c) 0 7⟩) { nsig := 32 } ?_
  subst hR
  refine Exec.cut fun R hR => ?_
  rw [k0_part8_eq_skeleton]
  unfold k0_part8_skel
  refine Exec.ldK ?_
  refine Exec.ldV ?_
  refine Exec.ldX ?_
  refine Exec.ldK ?_
  refine Exec.ldV ?_
  refine Exec.ret' (⟨mHd (x c) (wq c) (k c) 0 7, lHd (x c) (wq c) (k c) 0 7, oHd (x c) (wq c) (k c) (v c) 0 7, qG (x c) (wq c) 1 0, mHd (x c) (wq c) (k c) 0 8, lHd (x c) (wq c) (k c) 0 8, pB (x c) (wq c) (k c) 0 8, vB (v c) 8, constant S64x64 .f32 0x00000000#32⟩) { nsig := 32 } ?_
  subst hR
  refine Exec.cut fun R hR => ?_
  rw [k0_part9_eq_skeleton]
  unfold k0_part9_skel
  refine Exec.ldK ?_
  refine Exec.ldV ?_
  refine Exec.ldK ?_
  refine Exec.ldV ?_
  refine Exec.ret' (⟨oHd (x c) (wq c) (k c) (v c) 0 8, mHd (x c) (wq c) (k c) 0 9, lHd (x c) (wq c) (k c) 0 9, oHd (x c) (wq c) (k c) (v c) 0 9, mHd (x c) (wq c) (k c) 0 10, lHd (x c) (wq c) (k c) 0 10, oHd (x c) (wq c) (k c) (v c) 0 10, qS (x c) (wq c) 0 11⟩) { nsig := 32 } ?_
  subst hR
  refine Exec.cut fun R hR => ?_
  rw [k0_part10_eq_skeleton]
  unfold k0_part10_skel
  refine Exec.ldK ?_
  refine Exec.ldV ?_
  refine Exec.ldK ?_
  refine Exec.ldV ?_
  refine Exec.ret' (⟨mHd (x c) (wq c) (k c) 0 11, lHd (x c) (wq c) (k c) 0 11, oHd (x c) (wq c) (k c) (v c) 0 11, mHd (x c) (wq c) (k c) 0 12, lHd (x c) (wq c) (k c) 0 12, oHd (x c) (wq c) (k c) (v c) 0 12, qH (x c) (wq c) 0 13⟩) { nsig := 32 } ?_
  subst hR
  refine Exec.cut fun R hR => ?_
  rw [k0_part11_eq_skeleton]
  unfold k0_part11_skel
  refine Exec.ldK ?_
  refine Exec.ldV ?_
  refine Exec.ldK ?_
  refine Exec.ldV ?_
  refine Exec.ret' (⟨mHd (x c) (wq c) (k c) 0 13, lHd (x c) (wq c) (k c) 0 13, oHd (x c) (wq c) (k c) (v c) 0 13, mHd (x c) (wq c) (k c) 0 14, lHd (x c) (wq c) (k c) 0 14, oHd (x c) (wq c) (k c) (v c) 0 14, qH (x c) (wq c) 0 15⟩) { nsig := 32 } ?_
  subst hR
  refine Exec.cut fun R hR => ?_
  rw [k0_part12_eq_skeleton]
  unfold k0_part12_skel
  refine Exec.ldK ?_
  refine Exec.ldV ?_
  refine Exec.ldCo fun _ => ?_
  refine Exec.stCo ?_ (by rfl)
  refine Exec.ldCs fun _ => ?_
  refine Exec.stCs ?_ (by rfl)
  refine Exec.ldCo fun _ => ?_
  refine Exec.stCo ?_ (by rfl)
  refine Exec.ret' (⟨oG (x c) (wq c) (k c) (v c) 0, mG (x c) (wq c) (k c) 0, lG (x c) (wq c) (k c) 0, padZ⟩) { nsig := 32, nsto := 2, nsts := 1 } ?_
  subst hR
  refine Exec.cut fun R hR => ?_
  rw [k0_part13_eq_skeleton]
  unfold k0_part13_skel
  refine Exec.ldCs fun _ => ?_
  refine Exec.stCs ?_ (by rfl)
  refine Exec.ldCo fun _ => ?_
  refine Exec.stCo ?_ (by rfl)
  refine Exec.ldCs fun _ => ?_
  refine Exec.stCs ?_ (by rfl)
  refine Exec.ldCo fun _ => ?_
  refine Exec.stCo ?_ (by rfl)
  refine Exec.ldCs fun _ => ?_
  refine Exec.stCs ?_ (by rfl)
  refine Exec.ldCo fun _ => ?_
  refine Exec.stCo ?_ (by rfl)
  refine Exec.ret' ⟨⟩ { nsig := 32, nsto := 5, nsts := 4 } ?_
  subst hR
  refine Exec.cut fun R hR => ?_
  rw [k0_part14_eq_skeleton]
  unfold k0_part14_skel
  refine Exec.ldCs fun _ => ?_
  refine Exec.stCs ?_ (by rfl)
  refine Exec.ldCo fun _ => ?_
  refine Exec.stCo ?_ (by rfl)
  refine Exec.ldCs fun _ => ?_
  refine Exec.stCs ?_ (by rfl)
  refine Exec.ldCo fun _ => ?_
  refine Exec.stCo ?_ (by rfl)
  refine Exec.ldCs fun _ => ?_
  refine Exec.stCs ?_ (by rfl)
  refine Exec.ldCo fun _ => ?_
  refine Exec.stCo ?_ (by rfl)
  refine Exec.ret' ⟨⟩ { nsig := 32, nsto := 8, nsts := 7 } ?_
  subst hR
  refine Exec.cut fun R hR => ?_
  rw [k0_part15_eq_skeleton]
  unfold k0_part15_skel
  refine Exec.ldCs fun _ => ?_
  refine Exec.stCs ?_ (by rfl)
  refine Exec.barrier ?_
  iterate 8
    extract_lets -underBinder +onlyGivenNames jp
    dsimp only
    refine Exec.send (k := jp) ?_
    dsimp -zeta only [jp]
    clear jp
  refine Exec.ret' ⟨⟩ { nsig := 32, nsto := 8, nsts := 8, bar := 1, nsd := 8 } ?_
  subst hR
  refine Exec.cut fun R hR => ?_
  rw [k0_part16_eq_skeleton]
  unfold k0_part16_skel
  refine Exec.ldX ?_
  refine Exec.ldK ?_
  refine Exec.ldV ?_
  refine Exec.ldK ?_
  refine Exec.ret' (⟨qG (x c) (wq c) 0 1, mHd (x c) (wq c) (k c) 1 0, lHd (x c) (wq c) (k c) 1 0, oHd (x c) (wq c) (k c) (v c) 1 0, mHd (x c) (wq c) (k c) 1 1, lHd (x c) (wq c) (k c) 1 1, pB (x c) (wq c) (k c) 1 1⟩) { nsig := 32, nsto := 8, nsts := 8, bar := 1, nsd := 8 } ?_
  subst hR
  refine Exec.cut fun R hR => ?_
  rw [k0_part17_eq_skeleton]
  unfold k0_part17_skel
  refine Exec.ldV ?_
  refine Exec.ldK ?_
  refine Exec.ldV ?_
  refine Exec.ldK ?_
  refine Exec.ret' (⟨oHd (x c) (wq c) (k c) (v c) 1 1, mHd (x c) (wq c) (k c) 1 2, lHd (x c) (wq c) (k c) 1 2, oHd (x c) (wq c) (k c) (v c) 1 2, mHd (x c) (wq c) (k c) 1 3, lHd (x c) (wq c) (k c) 1 3, pB (x c) (wq c) (k c) 1 3⟩) { nsig := 32, nsto := 8, nsts := 8, bar := 1, nsd := 8 } ?_
  subst hR
  refine Exec.cut fun R hR => ?_
  rw [k0_part18_eq_skeleton]
  unfold k0_part18_skel
  refine Exec.ldV ?_
  refine Exec.ldK ?_
  refine Exec.ldV ?_
  refine Exec.ldK ?_
  refine Exec.ldV ?_
  refine Exec.ret' (⟨oHd (x c) (wq c) (k c) (v c) 1 3, mHd (x c) (wq c) (k c) 1 4, lHd (x c) (wq c) (k c) 1 4, oHd (x c) (wq c) (k c) (v c) 1 4, mHd (x c) (wq c) (k c) 1 5, lHd (x c) (wq c) (k c) 1 5, pB (x c) (wq c) (k c) 1 5, vB (v c) 5⟩) { nsig := 32, nsto := 8, nsts := 8, bar := 1, nsd := 8 } ?_
  subst hR
  refine Exec.cut fun R hR => ?_
  rw [k0_part19_eq_skeleton]
  unfold k0_part19_skel
  refine Exec.ldK ?_
  refine Exec.ldV ?_
  refine Exec.ldK ?_
  refine Exec.ldV ?_
  refine Exec.ret' (⟨oHd (x c) (wq c) (k c) (v c) 1 5, mHd (x c) (wq c) (k c) 1 6, lHd (x c) (wq c) (k c) 1 6, oHd (x c) (wq c) (k c) (v c) 1 6, mHd (x c) (wq c) (k c) 1 7, lHd (x c) (wq c) (k c) 1 7, oHd (x c) (wq c) (k c) (v c) 1 7⟩) { nsig := 32, nsto := 8, nsts := 8, bar := 1, nsd := 8 } ?_
  subst hR
  refine Exec.cut fun R hR => ?_
  rw [k0_part20_eq_skeleton]
  unfold k0_part20_skel
  refine Exec.ldX ?_
  refine Exec.ldK ?_
  refine Exec.ldV ?_
  refine Exec.ldK ?_
  refine Exec.ret' (⟨qG (x c) (wq c) 1 1, mHd (x c) (wq c) (k c) 1 8, lHd (x c) (wq c) (k c) 1 8, oHd (x c) (wq c) (k c) (v c) 1 8, mHd (x c) (wq c) (k c) 1 9, lHd (x c) (wq c) (k c) 1 9, pB (x c) (wq c) (k c) 1 9⟩) { nsig := 32, nsto := 8, nsts := 8, bar := 1, nsd := 8 } ?_
  subst hR
  refine Exec.cut fun R hR => ?_
  rw [k0_part21_eq_skeleton]
  unfold k0_part21_skel
  refine Exec.ldV ?_
  refine Exec.ldK ?_
  refine Exec.ldV ?_
  refine Exec.ldK ?_
  refine Exec.ret' (⟨oHd (x c) (wq c) (k c) (v c) 1 9, mHd (x c) (wq c) (k c) 1 10, lHd (x c) (wq c) (k c) 1 10, oHd (x c) (wq c) (k c) (v c) 1 10, mHd (x c) (wq c) (k c) 1 11, lHd (x c) (wq c) (k c) 1 11, pB (x c) (wq c) (k c) 1 11⟩) { nsig := 32, nsto := 8, nsts := 8, bar := 1, nsd := 8 } ?_
  subst hR
  refine Exec.cut fun R hR => ?_
  rw [k0_part22_eq_skeleton]
  unfold k0_part22_skel
  refine Exec.ldV ?_
  refine Exec.ldK ?_
  refine Exec.ldV ?_
  refine Exec.ldK ?_
  refine Exec.ldV ?_
  refine Exec.ret' (⟨oHd (x c) (wq c) (k c) (v c) 1 11, mHd (x c) (wq c) (k c) 1 12, lHd (x c) (wq c) (k c) 1 12, oHd (x c) (wq c) (k c) (v c) 1 12, mHd (x c) (wq c) (k c) 1 13, lHd (x c) (wq c) (k c) 1 13, pB (x c) (wq c) (k c) 1 13, vB (v c) 13⟩) { nsig := 32, nsto := 8, nsts := 8, bar := 1, nsd := 8 } ?_
  subst hR
  refine Exec.cut fun R hR => ?_
  rw [k0_part23_eq_skeleton]
  unfold k0_part23_skel
  refine Exec.ldK ?_
  refine Exec.ldV ?_
  refine Exec.ldK ?_
  refine Exec.ldV ?_
  refine Exec.ret' (⟨oHd (x c) (wq c) (k c) (v c) 1 13, mHd (x c) (wq c) (k c) 1 14, lHd (x c) (wq c) (k c) 1 14, oHd (x c) (wq c) (k c) (v c) 1 14, mHd (x c) (wq c) (k c) 1 15, lHd (x c) (wq c) (k c) 1 15, oHd (x c) (wq c) (k c) (v c) 1 15⟩) { nsig := 32, nsto := 8, nsts := 8, bar := 1, nsd := 8 } ?_
  subst hR
  refine Exec.cut fun R hR => ?_
  rw [k0_part24_eq_skeleton]
  unfold k0_part24_skel
  refine Exec.ldCo fun _ => ?_
  refine Exec.stCo ?_ (by rfl)
  refine Exec.ldCs fun _ => ?_
  refine Exec.stCs ?_ (by rfl)
  refine Exec.ldCo fun _ => ?_
  refine Exec.stCo ?_ (by rfl)
  refine Exec.ldCs fun _ => ?_
  refine Exec.stCs ?_ (by rfl)
  refine Exec.ldCo fun _ => ?_
  refine Exec.stCo ?_ (by rfl)
  refine Exec.ret' (⟨oG (x c) (wq c) (k c) (v c) 1, mG (x c) (wq c) (k c) 1, lG (x c) (wq c) (k c) 1, padZ, csPre (mG (x c) (wq c) (k c) 1) (lG (x c) (wq c) (k c) 1) 2⟩) { nsig := 32, nsto := 11, nsts := 10, bar := 1, nsd := 8 } ?_
  subst hR
  refine Exec.cut fun R hR => ?_
  rw [k0_part25_eq_skeleton]
  unfold k0_part25_skel
  refine Exec.ldCs fun _ => ?_
  refine Exec.stCs ?_ (by rfl)
  refine Exec.ldCo fun _ => ?_
  refine Exec.stCo ?_ (by rfl)
  refine Exec.ldCs fun _ => ?_
  refine Exec.stCs ?_ (by rfl)
  refine Exec.ldCo fun _ => ?_
  refine Exec.stCo ?_ (by rfl)
  refine Exec.ldCs fun _ => ?_
  refine Exec.stCs ?_ (by rfl)
  refine Exec.ldCo fun _ => ?_
  refine Exec.stCo ?_ (by rfl)
  refine Exec.ret' (csPre (mG (x c) (wq c) (k c) 1) (lG (x c) (wq c) (k c) 1) 5) { nsig := 32, nsto := 14, nsts := 13, bar := 1, nsd := 8 } ?_
  subst hR
  refine Exec.cut fun R hR => ?_
  rw [k0_part26_eq_skeleton]
  unfold k0_part26_skel
  refine Exec.ldCs fun _ => ?_
  refine Exec.stCs ?_ (by rfl)
  refine Exec.ldCo fun _ => ?_
  refine Exec.stCo ?_ (by rfl)
  refine Exec.ldCs fun _ => ?_
  refine Exec.stCs ?_ (by rfl)
  refine Exec.ldCo fun _ => ?_
  refine Exec.stCo ?_ (by rfl)
  refine Exec.ldCs fun _ => ?_
  refine Exec.stCs ?_ (by rfl)
  iterate 2
    extract_lets -underBinder +onlyGivenNames jp
    dsimp only
    refine Exec.send (k := jp) ?_
    dsimp -zeta only [jp]
    clear jp
  refine Exec.ret ?_
  subst hR
  refine Exec.cut fun R hR => ?_
  rw [k0_part27_eq_skeleton]
  unfold k0_part27_skel
  iterate 6
    extract_lets -underBinder +onlyGivenNames jp
    dsimp only
    refine Exec.send (k := jp) ?_
    dsimp -zeta only [jp]
    clear jp
  refine Exec.ldX ?_
  refine Exec.ldK ?_
  refine Exec.ret' (⟨qG (x c) (wq c) 0 2, mHd (x c) (wq c) (k c) 2 0, pHd (x c) (wq c) (k c) 2 0⟩) { nsig := 32, nsto := 16, nsts := 16, bar := 1, nsd := 16 } ?_
  subst hR
  refine Exec.cut fun R hR => ?_
  rw [k0_part28_eq_skeleton]
  unfold k0_part28_skel
  refine Exec.ldV ?_
  refine Exec.ldK ?_
  refine Exec.ldV ?_
  refine Exec.ldK ?_
  refine Exec.ret' (⟨lHd (x c) (wq c) (k c) 2 0, oHd (x c) (wq c) (k c) (v c) 2 0, mHd (x c) (wq c) (k c) 2 1, lHd (x c) (wq c) (k c) 2 1, oHd (x c) (wq c) (k c) (v c) 2 1, mHd (x c) (wq c) (k c) 2 2, pHd (x c) (wq c) (k c) 2 2, lHd (x c) (wq c) (k c) 2 2⟩) { nsig := 32, nsto := 16, nsts := 16, bar := 1, nsd := 16 } ?_
  subst hR
  refine Exec.cut fun R hR => ?_
  rw [k0_part29_eq_skeleton]
  unfold k0_part29_skel
  refine Exec.ldV ?_
  refine Exec.ldK ?_
  refine Exec.ldV ?_
  refine Exec.ldK ?_
  refine Exec.ret' (⟨oHd (x c) (wq c) (k c) (v c) 2 2, mHd (x c) (wq c) (k c) 2 3, lHd (x c) (wq c) (k c) 2 3, oHd (x c) (wq c) (k c) (v c) 2 3, mHd (x c) (wq c) (k c) 2 4, lHd (x c) (wq c) (k c) 2 4, pB (x c) (wq c) (k c) 2 4⟩) { nsig := 32, nsto := 16, nsts := 16, bar := 1, nsd := 16 } ?_
  subst hR
  refine Exec.cut fun R hR => ?_
  rw [k0_part30_eq_skeleton]
  unfold k0_part30_skel
  refine Exec.ldV ?_
  refine Exec.ldK ?_
  refine Exec.ldV ?_
  refine Exec.ldK ?_
  refine Exec.ret' (⟨oHd (x c) (wq c) (k c) (v c) 2 4, mHd (x c) (wq c) (k c) 2 5, lHd (x c) (wq c) (k c) 2 5, oHd (x c) (wq c) (k c) (v c) 2 5, mHd (x c) (wq c) (k c) 2 6, lHd (x c) (wq c) (k c) 2 6, pB (x c) (wq c) (k c) 2 6⟩) { nsig := 32, nsto := 16, nsts := 16, bar := 1, nsd := 16 } ?_
  subst hR
  refine Exec.cut fun R hR => ?_
  rw [k0_part31_eq_skeleton]
  unfold k0_part31_skel
  refine Exec.ldV ?_
  refine Exec.ldK ?_
  refine Exec.ldV ?_
  refine Exec.ldX ?_
  refine Exec.ldK ?_
  refine Exec.ret' (⟨oHd (x c) (wq c) (k c) (v c) 2 6, mHd (x c) (wq c) (k c) 2 7, lHd (x c) (wq c) (k c) 2 7, oHd (x c) (wq c) (k c) (v c) 2 7, qG (x c) (wq c) 1 2, mHd (x c) (wq c) (k c) 2 8, pHd (x c) (wq c) (k c) 2 8⟩) { nsig := 32, nsto := 16, nsts := 16, bar := 1, nsd := 16 } ?_
  subst hR
  refine Exec.cut fun R hR => ?_
  rw [k0_part32_eq_skeleton]
  unfold k0_part32_skel
  refine Exec.ldV ?_
  refine Exec.ldK ?_
  refine Exec.ldV ?_
  refine Exec.ldK ?_
  refine Exec.ret' (⟨lHd (x c) (wq c) (k c) 2 8, oHd (x c) (wq c) (k c) (v c) 2 8, mHd (x c) (wq c) (k c) 2 9, lHd (x c) (wq c) (k c) 2 9, oHd (x c) (wq c) (k c) (v c) 2 9, mHd (x c) (wq c) (k c) 2 10, pHd (x c) (wq c) (k c) 2 10, lHd (x c) (wq c) (k c) 2 10⟩) { nsig := 32, nsto := 16, nsts := 16, bar := 1, nsd := 16 } ?_
  subst hR
  refine Exec.cut fun R hR => ?_
  rw [k0_part33_eq_skeleton]
  unfold k0_part33_skel
  refine Exec.ldV ?_
  refine Exec.ldK ?_
  refine Exec.ldV ?_
  refine Exec.ldK ?_
  refine Exec.ret' (⟨oHd (x c) (wq c) (k c) (v c) 2 10, mHd (x c) (wq c) (k c) 2 11, lHd (x c) (wq c) (k c) 2 11, oHd (x c) (wq c) (k c) (v c) 2 11, mHd (x c) (wq c) (k c) 2 12, lHd (x c) (wq c) (k c) 2 12, pB (x c) (wq c) (k c) 2 12⟩) { nsig := 32, nsto := 16, nsts := 16, bar := 1, nsd := 16 } ?_
  subst hR
  refine Exec.cut fun R hR => ?_
  rw [k0_part34_eq_skeleton]
  unfold k0_part34_skel
  refine Exec.ldV ?_
  refine Exec.ldK ?_
  refine Exec.ldV ?_
  refine Exec.ldK ?_
  refine Exec.ret' (⟨oHd (x c) (wq c) (k c) (v c) 2 12, mHd (x c) (wq c) (k c) 2 13, lHd (x c) (wq c) (k c) 2 13, oHd (x c) (wq c) (k c) (v c) 2 13, mHd (x c) (wq c) (k c) 2 14, lHd (x c) (wq c) (k c) 2 14, pB (x c) (wq c) (k c) 2 14⟩) { nsig := 32, nsto := 16, nsts := 16, bar := 1, nsd := 16 } ?_
  subst hR
  refine Exec.cut fun R hR => ?_
  rw [k0_part35_eq_skeleton]
  unfold k0_part35_skel
  refine Exec.ldV ?_
  refine Exec.ldK ?_
  refine Exec.ldV ?_
  refine Exec.ldCo fun _ => ?_
  refine Exec.stCo ?_ (by rfl)
  refine Exec.ldCs fun _ => ?_
  refine Exec.stCs ?_ (by rfl)
  refine Exec.ret' (⟨oG (x c) (wq c) (k c) (v c) 2, mG (x c) (wq c) (k c) 2, lG (x c) (wq c) (k c) 2, padZ, bRows (oG (x c) (wq c) (k c) (v c) 2) 1, bLo (bRows (oG (x c) (wq c) (k c) (v c) 2) 1)⟩) { nsig := 32, nsto := 17, nsts := 17, bar := 1, nsd := 16 } ?_
  subst hR
  refine Exec.cut fun R hR => ?_
  rw [k0_part36_eq_skeleton]
  unfold k0_part36_skel
  refine Exec.ldCo fun _ => ?_
  refine Exec.stCo ?_ (by rfl)
  refine Exec.ldCs fun _ => ?_
  refine Exec.stCs ?_ (by rfl)
  refine Exec.ldCo fun _ => ?_
  refine Exec.stCo ?_ (by rfl)
  refine Exec.ldCs fun _ => ?_
  refine Exec.stCs ?_ (by rfl)
  refine Exec.ldCo fun _ => ?_
  refine Exec.stCo ?_ (by rfl)
  refine Exec.ldCs fun _ => ?_
  refine Exec.stCs ?_ (by rfl)
  refine Exec.ret' (⟨bRows (oG (x c) (wq c) (k c) (v c) 2) 4, bLo (bRows (oG (x c) (wq c) (k c) (v c) 2) 4)⟩) { nsig := 32, nsto := 20, nsts := 20, bar := 1, nsd := 16 } ?_
  subst hR
  refine Exec.cut fun R hR => ?_
  rw [k0_part37_eq_skeleton]
  unfold k0_part37_skel
  refine Exec.ldCo fun _ => ?_
  refine Exec.stCo ?_ (by rfl)
  refine Exec.ldCs fun _ => ?_
  refine Exec.stCs ?_ (by rfl)
  refine Exec.ldCo fun _ => ?_
  refine Exec.stCo ?_ (by rfl)
  refine Exec.ldCs fun _ => ?_
  refine Exec.stCs ?_ (by rfl)
  refine Exec.ldCo fun _ => ?_
  refine Exec.stCo ?_ (by rfl)
  refine Exec.ldCs fun _ => ?_
  refine Exec.stCs ?_ (by rfl)
  refine Exec.ret' (⟨bRows (oG (x c) (wq c) (k c) (v c) 2) 7, bLo (bRows (oG (x c) (wq c) (k c) (v c) 2) 7)⟩) { nsig := 32, nsto := 23, nsts := 23, bar := 1, nsd := 16 } ?_
  subst hR
  refine Exec.cut fun R hR => ?_
  rw [k0_part38_eq_skeleton]
  unfold k0_part38_skel
  refine Exec.ldCo fun _ => ?_
  refine Exec.stCo ?_ (by rfl)
  refine Exec.ldCs fun _ => ?_
  refine Exec.stCs ?_ (by rfl)
  iterate 7
    extract_lets -underBinder +onlyGivenNames jp
    dsimp only
    refine Exec.send (k := jp) ?_
    dsimp -zeta only [jp]
    clear jp
  refine Exec.ret' ⟨⟩ { nsig := 32, nsto := 24, nsts := 24, bar := 1, nsd := 23 } ?_
  subst hR
  refine Exec.cut fun R hR => ?_
  rw [k0_part39_eq_skeleton]
  unfold k0_part39_skel
  extract_lets -underBinder +onlyGivenNames jp
  dsimp only
  refine Exec.send (k := jp) ?_
  dsimp -zeta only [jp]
  clear jp
  refine Exec.ldX ?_
  refine Exec.ldK ?_
  refine Exec.ldV ?_
  refine Exec.ldK ?_
  refine Exec.ret' (⟨qG (x c) (wq c) 0 3, mHd (x c) (wq c) (k c) 3 0, lHd (x c) (wq c) (k c) 3 0, oHd (x c) (wq c) (k c) (v c) 3 0, mHd (x c) (wq c) (k c) 3 1, dHd (x c) (wq c) (k c) 3 1⟩) { nsig := 32, nsto := 24, nsts := 24, bar := 1, nsd := 24 } ?_
  subst hR
  refine Exec.cut fun R hR => ?_
  rw [k0_part40_eq_skeleton]
  unfold k0_part40_skel
  refine Exec.ldV ?_
  refine Exec.ldK ?_
  refine Exec.ldV ?_
  refine Exec.ldK ?_
  refine Exec.ret' (⟨lHd (x c) (wq c) (k c) 3 1, oHd (x c) (wq c) (k c) (v c) 3 1, mHd (x c) (wq c) (k c) 3 2, lHd (x c) (wq c) (k c) 3 2, oHd (x c) (wq c) (k c) (v c) 3 2, mHd (x c) (wq c) (k c) 3 3, pHd (x c) (wq c) (k c) 3 3⟩) { nsig := 32, nsto := 24, nsts := 24, bar := 1, nsd := 24 } ?_
  subst hR
  refine Exec.cut fun R hR => ?_
  rw [k0_part41_eq_skeleton]
  unfold k0_part41_skel
  refine Exec.ldV ?_
  refine Exec.ldK ?_
  refine Exec.ldV ?_
  refine Exec.ldK ?_
  refine Exec.ret' (⟨lHd (x c) (wq c) (k c) 3 3, oHd (x c) (wq c) (k c) (v c) 3 3, mHd (x c) (wq c) (k c) 3 4, lHd (x c) (wq c) (k c) 3 4, oHd (x c) (wq c) (k c) (v c) 3 4, mHd (x c) (wq c) (k c) 3 5, pHd (x c) (wq c) (k c) 3 5, lHd (x c) (wq c) (k c) 3 5⟩) { nsig := 32, nsto := 24, nsts := 24, bar := 1, nsd := 24 } ?_
  subst hR
  refine Exec.cut fun R hR => ?_
  rw [k0_part42_eq_skeleton]
  unfold k0_part42_skel
  refine Exec.ldV ?_
  refine Exec.ldK ?_
  refine Exec.ldV ?_
  refine Exec.ldK ?_
  refine Exec.ret' (⟨oHd (x c) (wq c) (k c) (v c) 3 5, mHd (x c) (wq c) (k c) 3 6, lHd (x c) (wq c) (k c) 3 6, oHd (x c) (wq c) (k c) (v c) 3 6, mHd (x c) (wq c) (k c) 3 7, lHd (x c) (wq c) (k c) 3 7, pB (x c) (wq c) (k c) 3 7⟩) { nsig := 32, nsto := 24, nsts := 24, bar := 1, nsd := 24 } ?_
  subst hR
  refine Exec.cut fun R hR => ?_
  rw [k0_part43_eq_skeleton]
  unfold k0_part43_skel
  refine Exec.ldV ?_
  refine Exec.ldX ?_
  refine Exec.ldK ?_
  refine Exec.ldV ?_
  refine Exec.ldK ?_
  refine Exec.ret' (⟨oHd (x c) (wq c) (k c) (v c) 3 7, qG (x c) (wq c) 1 3, mHd (x c) (wq c) (k c) 3 8, lHd (x c) (wq c) (k c) 3 8, oHd (x c) (wq c) (k c) (v c) 3 8, mHd (x c) (wq c) (k c) 3 9, dHd (x c) (wq c) (k c) 3 9⟩) { nsig := 32, nsto := 24, nsts := 24, bar := 1, nsd := 24 } ?_
  subst hR
  refine Exec.cut fun R hR => ?_
  rw [k0_part44_eq_skeleton]
  unfold k0_part44_skel
  refine Exec.ldV ?_
  refine Exec.ldK ?_
  refine Exec.ldV ?_
  refine Exec.ldK ?_
  refine Exec.ret' (⟨lHd (x c) (wq c) (k c) 3 9, oHd (x c) (wq c) (k c) (v c) 3 9, mHd (x c) (wq c) (k c) 3 10, lHd (x c) (wq c) (k c) 3 10, oHd (x c) (wq c) (k c) (v c) 3 10, mHd (x c) (wq c) (k c) 3 11, pHd (x c) (wq c) (k c) 3 11⟩) { nsig := 32, nsto := 24, nsts := 24, bar := 1, nsd := 24 } ?_
  subst hR
  refine Exec.cut fun R hR => ?_
  rw [k0_part45_eq_skeleton]
  unfold k0_part45_skel
  refine Exec.ldV ?_
  refine Exec.ldK ?_
  refine Exec.ldV ?_
  refine Exec.ldK ?_
  refine Exec.ret' (⟨lHd (x c) (wq c) (k c) 3 11, oHd (x c) (wq c) (k c) (v c) 3 11, mHd (x c) (wq c) (k c) 3 12, lHd (x c) (wq c) (k c) 3 12, oHd (x c) (wq c) (k c) (v c) 3 12, mHd (x c) (wq c) (k c) 3 13, pHd (x c) (wq c) (k c) 3 13, lHd (x c) (wq c) (k c) 3 13⟩) { nsig := 32, nsto := 24, nsts := 24, bar := 1, nsd := 24 } ?_
  subst hR
  refine Exec.cut fun R hR => ?_
  rw [k0_part46_eq_skeleton]
  unfold k0_part46_skel
  refine Exec.ldV ?_
  refine Exec.ldK ?_
  refine Exec.ldV ?_
  refine Exec.ldK ?_
  refine Exec.ret' (⟨oHd (x c) (wq c) (k c) (v c) 3 13, mHd (x c) (wq c) (k c) 3 14, lHd (x c) (wq c) (k c) 3 14, oHd (x c) (wq c) (k c) (v c) 3 14, mHd (x c) (wq c) (k c) 3 15, lHd (x c) (wq c) (k c) 3 15, pB (x c) (wq c) (k c) 3 15⟩) { nsig := 32, nsto := 24, nsts := 24, bar := 1, nsd := 24 } ?_
  subst hR
  refine Exec.cut fun R hR => ?_
  rw [k0_part47_eq_skeleton]
  unfold k0_part47_skel
  refine Exec.ldV ?_
  refine Exec.ldCo fun _ => ?_
  refine Exec.stCo ?_ (by rfl)
  refine Exec.ldCs fun _ => ?_
  refine Exec.stCs ?_ (by rfl)
  refine Exec.ldCo fun _ => ?_
  refine Exec.stCo ?_ (by rfl)
  refine Exec.ldCs fun _ => ?_
  refine Exec.stCs ?_ (by rfl)
  refine Exec.ldCo fun _ => ?_
  refine Exec.ret' (⟨oG (x c) (wq c) (k c) (v c) 3, mG (x c) (wq c) (k c) 3, lG (x c) (wq c) (k c) 3, padZ, coPre (bRows (oG (x c) (wq c) (k c) (v c) 3) 2)⟩) { nsig := 32, nsto := 26, nsts := 26, bar := 1, nsd := 24 } ?_
  subst hR
  refine Exec.cut fun R hR => ?_
  rw [k0_part48_eq_skeleton]
  unfold k0_part48_skel
  refine Exec.stCo ?_ (by rfl)
  refine Exec.ldCs fun _ => ?_
  refine Exec.stCs ?_ (by rfl)
  refine Exec.ldCo fun _ => ?_
  refine Exec.stCo ?_ (by rfl)
  refine Exec.ldCs fun _ => ?_
  refine Exec.stCs ?_ (by rfl)
  refine Exec.ldCo fun _ => ?_
  refine Exec.stCo ?_ (by rfl)
  refine Exec.ldCs fun _ => ?_
  refine Exec.stCs ?_ (by rfl)
  refine Exec.ldCo fun _ => ?_
  refine Exec.ret' (coPre (bRows (oG (x c) (wq c) (k c) (v c) 3) 5)) { nsig := 32, nsto := 29, nsts := 29, bar := 1, nsd := 24 } ?_
  subst hR
  refine Exec.cut fun R hR => ?_
  rw [k0_part49_eq_skeleton]
  unfold k0_part49_skel
  refine Exec.stCo ?_ (by rfl)
  refine Exec.ldCs fun _ => ?_
  refine Exec.stCs ?_ (by rfl)
  refine Exec.ldCo fun _ => ?_
  refine Exec.stCo ?_ (by rfl)
  refine Exec.ldCs fun _ => ?_
  refine Exec.stCs ?_ (by rfl)
  refine Exec.ldCo fun _ => ?_
  refine Exec.stCo ?_ (by rfl)
  refine Exec.ldCs fun _ => ?_
  refine Exec.stCs ?_ (by rfl)
  extract_lets -underBinder +onlyGivenNames jp
  dsimp only
  refine Exec.send (k := jp) ?_
  dsimp -zeta only [jp]
  clear jp
  refine Exec.ret ?_
  subst hR
  refine Exec.cut fun R hR => ?_
  rw [k0_part50_eq_skeleton]
  unfold k0_part50_skel
  iterate 7
    extract_lets -underBinder +onlyGivenNames jp
    dsimp only
    refine Exec.send (k := jp) ?_
    dsimp -zeta only [jp]
    clear jp
  refine Exec.ldMyCo ?_
  refine Exec.ldMyRo fun _ => ?_
  refine Exec.stMyRo ?_ (pay440 _)
  refine Exec.ldMyCs ?_
  refine Exec.ret ?_
  subst hR
  refine Exec.cut fun R hR => ?_
  rw [k0_part51_eq_skeleton]
  unfold k0_part51_skel
  refine Exec.ldMyRs fun _ => ?_
  refine Exec.stMyRs ?_ (pay441 _)
  iterate 9
    extract_lets -underBinder +onlyGivenNames w0 w1 w2 jp
    dsimp only
    refine Exec.recv (k := jp) ?_
    dsimp -zeta only [jp]
    clear jp
  refine Exec.ret ?_
  subst hR
  refine Exec.cut fun R hR => ?_
  rw [k0_part52_eq_skeleton]
  unfold k0_part52_skel
  iterate 10
    extract_lets -underBinder +onlyGivenNames w0 w1 w2 jp
    dsimp only
    refine Exec.recv (k := jp) ?_
    dsimp -zeta only [jp]
    clear jp
  refine Exec.ret ?_
  subst hR
  refine Exec.cut fun R hR => ?_
  rw [k0_part53_eq_skeleton]
  unfold k0_part53_skel
  iterate 10
    extract_lets -underBinder +onlyGivenNames w0 w1 w2 jp
    dsimp only
    refine Exec.recv (k := jp) ?_
    dsimp -zeta only [jp]
    clear jp
  refine Exec.ret ?_
  subst hR
  refine Exec.cut fun R hR => ?_
  rw [k0_part54_eq_skeleton]
  unfold k0_part54_skel
  iterate 3
    extract_lets -underBinder +onlyGivenNames w0 w1 w2 jp
    dsimp only
    refine Exec.recv (k := jp) ?_
    dsimp -zeta only [jp]
    clear jp
  refine Exec.ldRo 0 ?_ (by rfl)
  refine Exec.ldRs 0 ?_ (by rfl)
  refine Exec.ldRo 1 ?_ (by rfl)
  refine Exec.ldRs 1 ?_ (by rfl)
  refine Exec.ldRo 2 ?_ (by rfl)
  refine Exec.ldRs 2 ?_ (by rfl)
  refine Exec.ldRo 3 ?_ (by rfl)
  refine Exec.ret' (⟨oBlk (coAt x wq k v c) 0, mBlk (csAt x wq k c) 0, lBlk (csAt x wq k c) 0, oBlk (coAt x wq k v c) 1, mBlk (csAt x wq k c) 1, lBlk (csAt x wq k c) 1, oBlk (coAt x wq k v c) 2, mBlk (csAt x wq k c) 2, lBlk (csAt x wq k c) 2, oBlk (coAt x wq k v c) 3⟩) { nsig := 32, nsto := 32, nsts := 32, bar := 1, nsd := 32, nlo := 1, nls := 1, nrv := 32 } ?_
  subst hR
  refine Exec.cut fun R hR => ?_
  rw [k0_part55_eq_skeleton]
  unfold k0_part55_skel
  refine Exec.ldRs 3 ?_ (by rfl)
  refine Exec.ldRo 4 ?_ (by rfl)
  refine Exec.ldRs 4 ?_ (by rfl)
  refine Exec.ldRo 5 ?_ (by rfl)
  refine Exec.ldRs 5 ?_ (by rfl)
  refine Exec.ldRo 6 ?_ (by rfl)
  refine Exec.ldRs 6 ?_ (by rfl)
  refine Exec.ldRo 7 ?_ (by rfl)
  refine Exec.ldRs 7 ?_ (by rfl)
  refine Exec.ldRo 8 ?_ (by rfl)
  refine Exec.ret' (⟨mBlk (csAt x wq k c) 3, lBlk (csAt x wq k c) 3, oBlk (coAt x wq k v c) 4, mBlk (csAt x wq k c) 4, lBlk (csAt x wq k c) 4, oBlk (coAt x wq k v c) 5, mBlk (csAt x wq k c) 5, lBlk (csAt x wq k c) 5, oBlk (coAt x wq k v c) 6, mBlk (csAt x wq k c) 6, lBlk (csAt x wq k c) 6, oBlk (coAt x wq k v c) 7, mBlk (csAt x wq k c) 7, lBlk (csAt x wq k c) 7, oBlk (coAt x wq k v c) 8⟩) { nsig := 32, nsto := 32, nsts := 32, bar := 1, nsd := 32, nlo := 1, nls := 1, nrv := 32 } ?_
  subst hR
  refine Exec.cut fun R hR => ?_
  rw [k0_part56_eq_skeleton]
  unfold k0_part56_skel
  refine Exec.ldRs 8 ?_ (by rfl)
  refine Exec.ldRo 9 ?_ (by rfl)
  refine Exec.ldRs 9 ?_ (by rfl)
  refine Exec.ldRo 10 ?_ (by rfl)
  refine Exec.ldRs 10 ?_ (by rfl)
  refine Exec.ldRo 11 ?_ (by rfl)
  refine Exec.ldRs 11 ?_ (by rfl)
  refine Exec.ldRo 12 ?_ (by rfl)
  refine Exec.ldRs 12 ?_ (by rfl)
  refine Exec.ldRo 13 ?_ (by rfl)
  refine Exec.ret' (⟨mBlk (csAt x wq k c) 8, lBlk (csAt x wq k c) 8, oBlk (coAt x wq k v c) 9, mBlk (csAt x wq k c) 9, lBlk (csAt x wq k c) 9, oBlk (coAt x wq k v c) 10, mBlk (csAt x wq k c) 10, lBlk (csAt x wq k c) 10, oBlk (coAt x wq k v c) 11, mBlk (csAt x wq k c) 11, lBlk (csAt x wq k c) 11, oBlk (coAt x wq k v c) 12, mBlk (csAt x wq k c) 12, lBlk (csAt x wq k c) 12, oBlk (coAt x wq k v c) 13⟩) { nsig := 32, nsto := 32, nsts := 32, bar := 1, nsd := 32, nlo := 1, nls := 1, nrv := 32 } ?_
  subst hR
  refine Exec.cut fun R hR => ?_
  rw [k0_part57_eq_skeleton]
  unfold k0_part57_skel
  refine Exec.ldRs 13 ?_ (by rfl)
  refine Exec.ldRo 14 ?_ (by rfl)
  refine Exec.ldRs 14 ?_ (by rfl)
  refine Exec.ldRo 15 ?_ (by rfl)
  refine Exec.ldRs 15 ?_ (by rfl)
  refine Exec.ldRo 16 ?_ (by rfl)
  refine Exec.ldRs 16 ?_ (by rfl)
  refine Exec.ldRo 17 ?_ (by rfl)
  refine Exec.ldRs 17 ?_ (by rfl)
  refine Exec.ldRo 18 ?_ (by rfl)
  refine Exec.ret' (⟨mBlk (csAt x wq k c) 13, lBlk (csAt x wq k c) 13, oBlk (coAt x wq k v c) 14, mBlk (csAt x wq k c) 14, lBlk (csAt x wq k c) 14, oBlk (coAt x wq k v c) 15, mBlk (csAt x wq k c) 15, lBlk (csAt x wq k c) 15, oBlk (coAt x wq k v c) 16, mBlk (csAt x wq k c) 16, lBlk (csAt x wq k c) 16, oBlk (coAt x wq k v c) 17, mBlk (csAt x wq k c) 17, lBlk (csAt x wq k c) 17, oBlk (coAt x wq k v c) 18⟩) { nsig := 32, nsto := 32, nsts := 32, bar := 1, nsd := 32, nlo := 1, nls := 1, nrv := 32 } ?_
  subst hR
  refine Exec.cut fun R hR => ?_
  rw [k0_part58_eq_skeleton]
  unfold k0_part58_skel
  refine Exec.ldRs 18 ?_ (by rfl)
  refine Exec.ldRo 19 ?_ (by rfl)
  refine Exec.ldRs 19 ?_ (by rfl)
  refine Exec.ldRo 20 ?_ (by rfl)
  refine Exec.ldRs 20 ?_ (by rfl)
  refine Exec.ldRo 21 ?_ (by rfl)
  refine Exec.ldRs 21 ?_ (by rfl)
  refine Exec.ldRo 22 ?_ (by rfl)
  refine Exec.ldRs 22 ?_ (by rfl)
  refine Exec.ldRo 23 ?_ (by rfl)
  refine Exec.ret' (⟨mBlk (csAt x wq k c) 18, lBlk (csAt x wq k c) 18, oBlk (coAt x wq k v c) 19, mBlk (csAt x wq k c) 19, lBlk (csAt x wq k c) 19, oBlk (coAt x wq k v c) 20, mBlk (csAt x wq k c) 20, lBlk (csAt x wq k c) 20, oBlk (coAt x wq k v c) 21, mBlk (csAt x wq k c) 21, lBlk (csAt x wq k c) 21, oBlk (coAt x wq k v c) 22, mBlk (csAt x wq k c) 22, lBlk (csAt x wq k c) 22, oBlk (coAt x wq k v c) 23⟩) { nsig := 32, nsto := 32, nsts := 32, bar := 1, nsd := 32, nlo := 1, nls := 1, nrv := 32 } ?_
  subst hR
  refine Exec.cut fun R hR => ?_
  rw [k0_part59_eq_skeleton]
  unfold k0_part59_skel
  refine Exec.ldRs 23 ?_ (by rfl)
  refine Exec.ldRo 24 ?_ (by rfl)
  refine Exec.ldRs 24 ?_ (by rfl)
  refine Exec.ldRo 25 ?_ (by rfl)
  refine Exec.ldRs 25 ?_ (by rfl)
  refine Exec.ldRo 26 ?_ (by rfl)
  refine Exec.ldRs 26 ?_ (by rfl)
  refine Exec.ldRo 27 ?_ (by rfl)
  refine Exec.ldRs 27 ?_ (by rfl)
  refine Exec.ldRo 28 ?_ (by rfl)
  refine Exec.ret' (⟨mBlk (csAt x wq k c) 23, lBlk (csAt x wq k c) 23, oBlk (coAt x wq k v c) 24, mBlk (csAt x wq k c) 24, lBlk (csAt x wq k c) 24, oBlk (coAt x wq k v c) 25, mBlk (csAt x wq k c) 25, lBlk (csAt x wq k c) 25, oBlk (coAt x wq k v c) 26, mBlk (csAt x wq k c) 26, lBlk (csAt x wq k c) 26, oBlk (coAt x wq k v c) 27, mBlk (csAt x wq k c) 27, lBlk (csAt x wq k c) 27, oBlk (coAt x wq k v c) 28⟩) { nsig := 32, nsto := 32, nsts := 32, bar := 1, nsd := 32, nlo := 1, nls := 1, nrv := 32 } ?_
  subst hR
  refine Exec.cut fun R hR => ?_
  rw [k0_part60_eq_skeleton]
  unfold k0_part60_skel
  refine Exec.ldRs 28 ?_ (by rfl)
  refine Exec.ldRo 29 ?_ (by rfl)
  refine Exec.ldRs 29 ?_ (by rfl)
  refine Exec.ldRo 30 ?_ (by rfl)
  refine Exec.ldRs 30 ?_ (by rfl)
  refine Exec.ldRo 31 ?_ (by rfl)
  refine Exec.ldRs 31 ?_ (by rfl)
  refine Exec.ret' (⟨oAll (coAt x wq k v c), m7 (csAt x wq k c), facLo 128 (mAll (csAt x wq k c)), facHi 128 (mAll (csAt x wq k c)), l7 (csAt x wq k c), colC 128 (facLo 128 (mAll (csAt x wq k c))) 0⟩) { nsig := 32, nsto := 32, nsts := 32, bar := 1, nsd := 32, nlo := 1, nls := 1, nrv := 32 } ?_
  subst hR
  exact Exec.ret' (⟨c, v2w c, oAll (coAt x wq k v c), m7 (csAt x wq k c), facLo 128 (mAll (csAt x wq k c)), facHi 128 (mAll (csAt x wq k c)), l7 (csAt x wq k c), colC 128 (facLo 128 (mAll (csAt x wq k c))) 0⟩) { nsig := 32, nsto := 32, nsts := 32, bar := 1, nsd := 32, nlo := 1, nls := 1, nrv := 32 } h

end Cert.KernelIdeal.Att
-- ==== Proof.Walk2.lean ====
module
public import proofs.«01_k».proof.Proof.Walk1

/-!
# The walk to the end of the body

The merge of the blocks, the copies of the merged rows to every device, the projection of every device's rows, and the waits for the copies sent.
-/

@[expose] public section

noncomputable section

namespace Cert.KernelIdeal.Att

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable {N : GSem nD τ sig → ℕ} {c : Dev nD}

variable {x : Dev nD → Vec F S2x256x768 .f32} {wq : Dev nD → Vec F S768x512 .f32} {wo : Dev nD → Vec F S512x768 .f32}
  {k : Dev nD → Vec F S16x64x512 .bf16} {v : Dev nD → Vec F S16x512x64 .bf16}
/-- Every phase over. -/
abbrev full : St := { nsig := 32, nsto := 32, nsts := 32, bar := 1, nsd := 32, nlo := 1, nls := 1, nrv := 32, fst := 1, np2 := 32, w0 := 1, w1 := 1, nr2 := 32, nf := 32 }

set_option maxHeartbeats 4000000 in
set_option maxRecDepth 100000 in
theorem walk : Exec (valsOf x wq wo k v) N c {} (cc0_body_skel (F := F) mX (Memref.isWhole_whole _) mWq (Memref.isWhole_whole _) mWo (Memref.isWhole_whole _) mK (Memref.isWhole_whole _) mV (Memref.isWhole_whole _) mOut (Memref.isWhole_whole _) mCo (Memref.isWhole_whole _) mCs (Memref.isWhole_whole _) mRo (Memref.isWhole_whole _) mRs (Memref.isWhole_whole _) mFin (Memref.isWhole_whole _) mAg (Memref.isWhole_whole _) cc0_scratch6 cc0_scratch7 cc0_scratch8 cc0_scratch9 cc0_scratch10 cc0_scratch11) fun _ s => s = full := by
  unfold cc0_body_skel
  refine Exec.bind ?_
  rw [k0_part81_eq_skeleton]
  refine walk_first _ ?_
  refine Exec.cut fun R hR => ?_
  rw [k0_part61_eq_skeleton]
  unfold k0_part61_skel
  refine Exec.ret' (⟨mulLo 128 (mAll (csAt x wq k c)) (oAll (coAt x wq k v c)), colE 128 (facHi 128 (mAll (csAt x wq k c))) 0, colE 128 (facHi 128 (mAll (csAt x wq k c))) 1, colE 128 (facHi 128 (mAll (csAt x wq k c))) 2, colC 128 (facHi 128 (mAll (csAt x wq k c))) 3⟩) { nsig := 32, nsto := 32, nsts := 32, bar := 1, nsd := 32, nlo := 1, nls := 1, nrv := 32 } ?_
  subst hR
  refine Exec.cut fun R hR => ?_
  rw [k0_part62_eq_skeleton]
  unfold k0_part62_skel
  refine Exec.ret' (⟨o7 (coAt x wq k v c) (csAt x wq k c), m6 (csAt x wq k c), facLo 64 (m7 (csAt x wq k c)), facHi 64 (m7 (csAt x wq k c)), l6 (csAt x wq k c), colE 64 (facLo 64 (m7 (csAt x wq k c))) 0, colC 64 (facLo 64 (m7 (csAt x wq k c))) 1⟩) { nsig := 32, nsto := 32, nsts := 32, bar := 1, nsd := 32, nlo := 1, nls := 1, nrv := 32 } ?_
  subst hR
  refine Exec.cut fun R hR => ?_
  rw [k0_part63_eq_skeleton]
  unfold k0_part63_skel
  refine Exec.ret' (⟨mulLo 64 (m7 (csAt x wq k c)) (o7 (coAt x wq k v c) (csAt x wq k c)), colE 64 (facHi 64 (m7 (csAt x wq k c))) 0, colE 64 (facHi 64 (m7 (csAt x wq k c))) 1, colE 64 (facHi 64 (m7 (csAt x wq k c))) 2, colE 64 (facHi 64 (m7 (csAt x wq k c))) 3, colC 64 (facHi 64 (m7 (csAt x wq k c))) 4⟩) { nsig := 32, nsto := 32, nsts := 32, bar := 1, nsd := 32, nlo := 1, nls := 1, nrv := 32 } ?_
  subst hR
  refine Exec.cut fun R hR => ?_
  rw [k0_part64_eq_skeleton]
  unfold k0_part64_skel
  refine Exec.ret' (⟨o6 (coAt x wq k v c) (csAt x wq k c), m5 (csAt x wq k c), facLo 32 (m6 (csAt x wq k c)), facHi 32 (m6 (csAt x wq k c)), l5 (csAt x wq k c), colE 32 (facLo 32 (m6 (csAt x wq k c))) 0, colE 32 (facLo 32 (m6 (csAt x wq k c))) 1, colC 32 (facLo 32 (m6 (csAt x wq k c))) 2⟩) { nsig := 32, nsto := 32, nsts := 32, bar := 1, nsd := 32, nlo := 1, nls := 1, nrv := 32 } ?_
  subst hR
  refine Exec.cut fun R hR => ?_
  rw [k0_part65_eq_skeleton]
  unfold k0_part65_skel
  refine Exec.ret' (⟨mulLo 32 (m6 (csAt x wq k c)) (o6 (coAt x wq k v c) (csAt x wq k c)), colE 32 (facHi 32 (m6 (csAt x wq k c))) 0, colE 32 (facHi 32 (m6 (csAt x wq k c))) 1, colE 32 (facHi 32 (m6 (csAt x wq k c))) 2, colE 32 (facHi 32 (m6 (csAt x wq k c))) 3, colE 32 (facHi 32 (m6 (csAt x wq k c))) 4, colC 32 (facHi 32 (m6 (csAt x wq k c))) 5⟩) { nsig := 32, nsto := 32, nsts := 32, bar := 1, nsd := 32, nlo := 1, nls := 1, nrv := 32 } ?_
  subst hR
  refine Exec.cut fun R hR => ?_
  rw [k0_part66_eq_skeleton]
  unfold k0_part66_skel
  refine Exec.ret' (⟨o5 (coAt x wq k v c) (csAt x wq k c), m4 (csAt x wq k c), facLo 16 (m5 (csAt x wq k c)), facHi 16 (m5 (csAt x wq k c)), l4 (csAt x wq k c), colE 16 (facLo 16 (m5 (csAt x wq k c))) 0, colE 16 (facLo 16 (m5 (csAt x wq k c))) 1, colE 16 (facLo 16 (m5 (csAt x wq k c))) 2, colC 16 (facLo 16 (m5 (csAt x wq k c))) 3⟩) { nsig := 32, nsto := 32, nsts := 32, bar := 1, nsd := 32, nlo := 1, nls := 1, nrv := 32 } ?_
  subst hR
  refine Exec.cut fun R hR => ?_
  rw [k0_part67_eq_skeleton]
  unfold k0_part67_skel
  refine Exec.ret' (⟨mulLo 16 (m5 (csAt x wq k c)) (o5 (coAt x wq k v c) (csAt x wq k c)), colE 16 (facHi 16 (m5 (csAt x wq k c))) 0, colE 16 (facHi 16 (m5 (csAt x wq k c))) 1, colE 16 (facHi 16 (m5 (csAt x wq k c))) 2, colE 16 (facHi 16 (m5 (csAt x wq k c))) 3, colE 16 (facHi 16 (m5 (csAt x wq k c))) 4, colE 16 (facHi 16 (m5 (csAt x wq k c))) 5, colC 16 (facHi 16 (m5 (csAt x wq k c))) 6⟩) { nsig := 32, nsto := 32, nsts := 32, bar := 1, nsd := 32, nlo := 1, nls := 1, nrv := 32 } ?_
  subst hR
  refine Exec.cut fun R hR => ?_
  rw [k0_part68_eq_skeleton]
  unfold k0_part68_skel
  refine Exec.ret' (⟨o4 (coAt x wq k v c) (csAt x wq k c), facLo 8 (m4 (csAt x wq k c)), facHi 8 (m4 (csAt x wq k c)), l3 (csAt x wq k c), colE 8 (facLo 8 (m4 (csAt x wq k c))) 0, colE 8 (facLo 8 (m4 (csAt x wq k c))) 1, colE 8 (facLo 8 (m4 (csAt x wq k c))) 2, colE 8 (facLo 8 (m4 (csAt x wq k c))) 3, colC 8 (facLo 8 (m4 (csAt x wq k c))) 4⟩) { nsig := 32, nsto := 32, nsts := 32, bar := 1, nsd := 32, nlo := 1, nls := 1, nrv := 32 } ?_
  subst hR
  refine Exec.cut fun R hR => ?_
  rw [k0_part69_eq_skeleton]
  unfold k0_part69_skel
  refine Exec.ret' (⟨mulLo 8 (m4 (csAt x wq k c)) (o4 (coAt x wq k v c) (csAt x wq k c)), colE 8 (facHi 8 (m4 (csAt x wq k c))) 0, colE 8 (facHi 8 (m4 (csAt x wq k c))) 1, colE 8 (facHi 8 (m4 (csAt x wq k c))) 2, colE 8 (facHi 8 (m4 (csAt x wq k c))) 3, colE 8 (facHi 8 (m4 (csAt x wq k c))) 4, colE 8 (facHi 8 (m4 (csAt x wq k c))) 5, colE 8 (facHi 8 (m4 (csAt x wq k c))) 6, colC 8 (facHi 8 (m4 (csAt x wq k c))) 7⟩) { nsig := 32, nsto := 32, nsts := 32, bar := 1, nsd := 32, nlo := 1, nls := 1, nrv := 32 } ?_
  subst hR
  refine Exec.cut fun R hR => ?_
  rw [k0_part70_eq_skeleton]
  unfold k0_part70_skel
  refine Exec.ret' (⟨o3 (coAt x wq k v c) (csAt x wq k c), colE 8 (l3 (csAt x wq k c)) 0, colE 8 (l3 (csAt x wq k c)) 1, colE 8 (l3 (csAt x wq k c)) 2, colE 8 (l3 (csAt x wq k c)) 3, colE 8 (l3 (csAt x wq k c)) 4, colE 8 (l3 (csAt x wq k c)) 5, colE 8 (l3 (csAt x wq k c)) 6, colE 8 (l3 (csAt x wq k c)) 7, colE 8 (l3 (csAt x wq k c)) 8, colE 8 (l3 (csAt x wq k c)) 9, colS 8 (l3 (csAt x wq k c)) 10⟩) { nsig := 32, nsto := 32, nsts := 32, bar := 1, nsd := 32, nlo := 1, nls := 1, nrv := 32 } ?_
  subst hR
  refine Exec.cut fun R hR => ?_
  rw [k0_part71_eq_skeleton]
  unfold k0_part71_skel
  refine Exec.ldFin fun _ => ?_
  refine Exec.stFin ?_ (by rfl)
  iterate 5
    extract_lets -underBinder +onlyGivenNames jp
    dsimp only
    refine Exec.send2 (k := jp) ?_
    dsimp -zeta only [jp]
    clear jp
  refine Exec.ret ?_
  subst hR
  refine Exec.cut fun R hR => ?_
  rw [k0_part72_eq_skeleton]
  unfold k0_part72_skel
  iterate 10
    extract_lets -underBinder +onlyGivenNames jp
    dsimp only
    refine Exec.send2 (k := jp) ?_
    dsimp -zeta only [jp]
    clear jp
  refine Exec.ret ?_
  subst hR
  refine Exec.cut fun R hR => ?_
  rw [k0_part73_eq_skeleton]
  unfold k0_part73_skel
  iterate 10
    extract_lets -underBinder +onlyGivenNames jp
    dsimp only
    refine Exec.send2 (k := jp) ?_
    dsimp -zeta only [jp]
    clear jp
  refine Exec.ret ?_
  subst hR
  refine Exec.cut fun R hR => ?_
  rw [k0_part74_eq_skeleton]
  unfold k0_part74_skel
  iterate 7
    extract_lets -underBinder +onlyGivenNames jp
    dsimp only
    refine Exec.send2 (k := jp) ?_
    dsimp -zeta only [jp]
    clear jp
  refine Exec.ldWo ?_
  refine Exec.ldMyFin ?_
  refine Exec.ldMyR0 fun _ => ?_
  refine Exec.ret ?_
  subst hR
  refine Exec.cut fun R hR => ?_
  rw [k0_part75_eq_skeleton]
  unfold k0_part75_skel
  refine Exec.stMyR0 ?_ (by rfl)
  refine Exec.ldMyR1 fun _ => ?_
  refine Exec.stMyR1 ?_ (by rfl)
  iterate 8
    extract_lets -underBinder +onlyGivenNames w0 w1 w2 jp
    dsimp only
    refine Exec.recv2 (k := jp) ?_ (by rfl) (by rfl)
    dsimp -zeta only [jp]
    clear jp
  refine Exec.ret ?_
  subst hR
  refine Exec.cut fun R hR => ?_
  rw [k0_part76_eq_skeleton]
  unfold k0_part76_skel
  iterate 10
    extract_lets -underBinder +onlyGivenNames w0 w1 w2 jp
    dsimp only
    refine Exec.recv2 (k := jp) ?_ (by rfl) (by rfl)
    dsimp -zeta only [jp]
    clear jp
  refine Exec.ret ?_
  subst hR
  refine Exec.cut fun R hR => ?_
  rw [k0_part77_eq_skeleton]
  unfold k0_part77_skel
  iterate 10
    extract_lets -underBinder +onlyGivenNames w0 w1 w2 jp
    dsimp only
    refine Exec.recv2 (k := jp) ?_ (by rfl) (by rfl)
    dsimp -zeta only [jp]
    clear jp
  refine Exec.ret ?_
  subst hR
  refine Exec.cut fun R hR => ?_
  rw [k0_part78_eq_skeleton]
  unfold k0_part78_skel
  iterate 4
    extract_lets -underBinder +onlyGivenNames w0 w1 w2 jp
    dsimp only
    refine Exec.recv2 (k := jp) ?_ (by rfl) (by rfl)
    dsimp -zeta only [jp]
    clear jp
  iterate 6
    extract_lets -underBinder +onlyGivenNames jp
    dsimp only
    refine Exec.done (k := jp) ?_
    dsimp -zeta only [jp]
    clear jp
  refine Exec.ret ?_
  subst hR
  refine Exec.cut fun R hR => ?_
  rw [k0_part79_eq_skeleton]
  unfold k0_part79_skel
  iterate 10
    extract_lets -underBinder +onlyGivenNames jp
    dsimp only
    refine Exec.done (k := jp) ?_
    dsimp -zeta only [jp]
    clear jp
  refine Exec.ret ?_
  subst hR
  refine Exec.cut fun R hR => ?_
  rw [k0_part80_eq_skeleton]
  unfold k0_part80_skel
  iterate 10
    extract_lets -underBinder +onlyGivenNames jp
    dsimp only
    refine Exec.done (k := jp) ?_
    dsimp -zeta only [jp]
    clear jp
  refine Exec.ret ?_
  subst hR
  beta_reduce
  iterate 6
    extract_lets -underBinder +onlyGivenNames jp
    dsimp only
    refine Exec.done (k := jp) ?_
    dsimp -zeta only [jp]
    clear jp
  exact Exec.ret' _ { nsig := 32, nsto := 32, nsts := 32, bar := 1, nsd := 32, nlo := 1, nls := 1, nrv := 32, fst := 1, np2 := 32, w0 := 1, w1 := 1, nr2 := 32, nf := 32 } rfl

end Cert.KernelIdeal.Att
-- ==== Proof.Ends.lean ====
module
public import proofs.«01_k».proof.Proof.Steps

/-!
# Where a device starts and where it ends

The buffers cut into blocks before the first step and put together after the last one, the cells opened and closed.
-/

@[expose] public section

noncomputable section

namespace Cert.KernelIdeal.Att

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Blocks that make a whole -/

section Glue

variable {T : Type} {sh : Shape} {e : EltTy} (r : T → Rect sh)

/-- The function that is `Y t` on rectangle `t`. -/
def glue (Y : ∀ t, (r t).shape.Idx → Elt F e) : sh.Idx → Elt F e := fun i => by
  classical
  exact if h : ∃ t : T, ∃ j, (r t).emb j = i then Y h.choose h.choose_spec.choose else Classical.arbitrary _

theorem glue_emb (hd : ∀ t t', t ≠ t' → Disjoint (r t).set (r t').set) (Y : ∀ t, (r t).shape.Idx → Elt F e) (t : T) (j : (r t).shape.Idx) :
    glue r Y ((r t).emb j) = Y t j := by
  classical
  have key : ∀ (t' : T) (j' : (r t').shape.Idx), (r t').emb j' = (r t).emb j → Y t' j' = Y t j := by
    intro t' j' h
    by_cases ht : t' = t
    · subst ht; rw [(r t').emb.injective h]
    · have h1 : (r t').emb j' ∈ (r t').set := by rw [← Rect.map_emb_univ]; exact Finset.mem_map_of_mem _ (Finset.mem_univ _)
      have h2 : (r t).emb j ∈ (r t).set := by rw [← Rect.map_emb_univ]; exact Finset.mem_map_of_mem _ (Finset.mem_univ _)
      exact absurd (h ▸ h2) (Finset.disjoint_left.mp (hd t' t ht) h1)
  have h : ∃ t' : T, ∃ j', (r t').emb j' = (r t).emb j := ⟨t, j, rfl⟩
  unfold glue
  rw [dif_pos h]
  exact key _ _ h.choose_spec.choose_spec

variable [Fintype T] [DecidableEq T]

theorem join_rects (c : Dev nD) {sp : Space} (m : Memref sig .tc sp sh e) (q : PosShare TreeShare) (hr : ∀ t a, (r t).stride a = 1)
    (hd : ∀ t t', t ≠ t' → Disjoint (r t).set (r t').set) (hcov : (Finset.univ.biUnion fun t => (r t).set) = Finset.univ)
    (Y : ∀ t, (r t).shape.Idx → Elt F e) :
    (bigSep Finset.univ fun t => owns (c : Thread nD τ) (m.slice (r t) (hr t)) q (Y t)) ⊢ (owns (c : Thread nD τ) m q (glue r Y) : sProp (MM F)) := by
  have h := owns_of_rects (Ix := Unit) (Name := ℕ) (U := UU) (Lvl := ℕ) (c : Thread nD τ) m q r hr hd hcov (glue r Y)
  refine BIBase.Entails.trans (Entails.of_eq (bigSep_congr fun t _ => ?_)) h
  exact congrArg _ (funext fun j => (glue_emb r hd Y t j).symm)

end Glue

theorem rO_disj (t t' : Dev nD) (h : t ≠ t') : Disjoint (rO t).set (rO t').set := by
  have : t.val ≠ t'.val := fun e => h (Fin.ext e)
  refine Rect.unit_disjoint (1 : Fin 2) ?_
  show 512 * t.val + 512 ≤ 512 * t'.val ∨ 512 * t'.val + 512 ≤ 512 * t.val
  omega
theorem rS_disj (t t' : Dev nD) (h : t ≠ t') : Disjoint (rS t).set (rS t').set := by
  have : t.val ≠ t'.val := fun e => h (Fin.ext e)
  refine Rect.unit_disjoint (1 : Fin 2) ?_
  show 128 * t.val + 128 ≤ 128 * t'.val ∨ 128 * t'.val + 128 ≤ 128 * t.val
  omega
theorem rO_cov : (Finset.univ.biUnion fun t => (rO t).set) = Finset.univ := by
  refine Finset.eq_univ_of_forall fun i => ?_
  have h0 : (i (0 : Fin 2)).val < 16 := (i (0 : Fin 2)).isLt
  have h1 : (i (1 : Fin 2)).val < 16384 := (i (1 : Fin 2)).isLt
  refine Finset.mem_biUnion.mpr ⟨⟨(i (1 : Fin 2)).val / 512, by show _ < 32; omega⟩, Finset.mem_univ _, Rect.mem_set_unit.mpr ?_⟩
  refine Fin.forall_fin_two.mpr ⟨⟨Nat.zero_le _, by show _ < 0 + 16; omega⟩, ?_, ?_⟩
  · show 512 * ((i (1 : Fin 2)).val / 512) ≤ (i (1 : Fin 2)).val; omega
  · show (i (1 : Fin 2)).val < 512 * ((i (1 : Fin 2)).val / 512) + 512; omega
theorem rS_cov : (Finset.univ.biUnion fun t => (rS t).set) = Finset.univ := by
  refine Finset.eq_univ_of_forall fun i => ?_
  have h0 : (i (0 : Fin 2)).val < 8 := (i (0 : Fin 2)).isLt
  have h1 : (i (1 : Fin 2)).val < 4096 := (i (1 : Fin 2)).isLt
  refine Finset.mem_biUnion.mpr ⟨⟨(i (1 : Fin 2)).val / 128, by show _ < 32; omega⟩, Finset.mem_univ _, Rect.mem_set_unit.mpr ?_⟩
  refine Fin.forall_fin_two.mpr ⟨⟨Nat.zero_le _, by show _ < 0 + 8; omega⟩, ?_, ?_⟩
  · show 128 * ((i (1 : Fin 2)).val / 128) ≤ (i (1 : Fin 2)).val; omega
  · show (i (1 : Fin 2)).val < 128 * ((i (1 : Fin 2)).val / 128) + 128; omega

/-- The rows of the result by batch and device. -/
abbrev rRR (t : Fin 2 × Dev nD) : Rect S2x256x768 := rR t.1 t.2
theorem rR_disj (t t' : Fin 2 × Dev nD) (h : t ≠ t') : Disjoint (rRR t).set (rRR t').set := by
  by_cases h0 : t.1 = t'.1
  · have : t.2.val ≠ t'.2.val := fun e => h (Prod.ext h0 (Fin.ext e))
    refine Rect.unit_disjoint (1 : Fin 3) ?_
    show 8 * t.2.val + 8 ≤ 8 * t'.2.val ∨ 8 * t'.2.val + 8 ≤ 8 * t.2.val
    omega
  · have : t.1.val ≠ t'.1.val := fun e => h0 (Fin.ext e)
    refine Rect.unit_disjoint (0 : Fin 3) ?_
    show t.1.val + 1 ≤ t'.1.val ∨ t'.1.val + 1 ≤ t.1.val
    omega
theorem rR_cov : (Finset.univ.biUnion fun t => (rRR t).set) = Finset.univ := by
  refine Finset.eq_univ_of_forall fun i => ?_
  have h0 : (i (0 : Fin 3)).val < 2 := (i (0 : Fin 3)).isLt
  have h1 : (i (1 : Fin 3)).val < 256 := (i (1 : Fin 3)).isLt
  have h2 : (i (2 : Fin 3)).val < 768 := (i (2 : Fin 3)).isLt
  refine Finset.mem_biUnion.mpr ⟨(⟨(i (0 : Fin 3)).val, h0⟩, ⟨(i (1 : Fin 3)).val / 8, by show _ < 32; omega⟩), Finset.mem_univ _, Rect.mem_set_unit.mpr ?_⟩
  intro a
  fin_cases a
  · exact ⟨Nat.le_refl _, Nat.lt_succ_self _⟩
  · constructor
    · show 8 * ((i (1 : Fin 3)).val / 8) ≤ (i (1 : Fin 3)).val; omega
    · show (i (1 : Fin 3)).val < 8 * ((i (1 : Fin 3)).val / 8) + 8; omega
  · exact ⟨Nat.zero_le _, by show (i (2 : Fin 3)).val < 0 + 768; omega⟩

variable (V : Vals F) (c : Dev nD) (κ : GSem nD τ sig → ℕ)

/-- A whole buffer at some contents. -/
abbrev scr {s : Shape} {e : EltTy} (d : Dev nD) (m : Memref sig .tc .vmem s e) : sProp (MM F) := iprop(∃ X, owns (d : Thread nD τ) m fullShare X)

/-- The result a device ends with. -/
def outOf : Vec F S2x256x768 .f32 := glue rRR fun t => V.row c t.1 t.2

section Cut

theorem oth_mono {Φ Ψ : Dev nD → sProp (MM F)} (h : ∀ j, Φ j ⊢ Ψ j) : others c Φ ⊢ others c Ψ := bigSep_mono fun j _ => h j
theorem all_mono {Φ Ψ : Dev nD → sProp (MM F)} (h : ∀ j, Φ j ⊢ Ψ j) : allD Φ ⊢ allD Ψ := bigSep_mono fun j _ => h j
theorem fam_mono {I : Type} [Fintype I] {Φ Ψ : I → sProp (MM F)} (h : ∀ j, Φ j ⊢ Ψ j) : bigSep Finset.univ Φ ⊢ bigSep Finset.univ Ψ :=
  bigSep_mono fun j _ => h j

theorem cut_O (m : Memref sig .tc .vmem S16x16384 .bf16) : scr (F := F) c m ⊢ allD (anyO c m) := by
  iintro ⟨%X, H⟩
  ihave H := (owns_rects (Ix := Unit) (Name := ℕ) (U := UU) (Lvl := ℕ) (c : Thread nD τ) m fullShare rO (fun _ _ => rfl) rO_disj rO_cov X) $$ H
  have key (j : Dev nD) : owns (c : Thread nD τ) (m.slice (rO j) (fun _ => rfl)) fullShare (fun i => X ((rO j).emb i)) ⊢ (anyO c m j : sProp (MM F)) := by
    iintro H; iexists _; iexact H
  iapply (all_mono key) $$ H
theorem cut_S (m : Memref sig .tc .vmem S8x4096 .f32) : scr (F := F) c m ⊢ allD (anyS c m) := by
  iintro ⟨%X, H⟩
  ihave H := (owns_rects (Ix := Unit) (Name := ℕ) (U := UU) (Lvl := ℕ) (c : Thread nD τ) m fullShare rS (fun _ _ => rfl) rS_disj rS_cov X) $$ H
  have key (j : Dev nD) : owns (c : Thread nD τ) (m.slice (rS j) (fun _ => rfl)) fullShare (fun i => X ((rS j).emb i)) ⊢ (anyS c m j : sProp (MM F)) := by
    iintro H; iexists _; iexact H
  iapply (all_mono key) $$ H
theorem cut_R : scr (F := F) c mOut ⊢ iprop(allD (A8 V c 0 0 0) ∗ allD (A8 V c 1 0 0)) := by
  iintro ⟨%X, H⟩
  ihave H := (owns_rects (Ix := Unit) (Name := ℕ) (U := UU) (Lvl := ℕ) (c : Thread nD τ) mOut fullShare rRR (fun _ _ => rfl) rR_disj rR_cov X) $$ H
  have key (t : Fin 2 × Dev nD) : owns (c : Thread nD τ) (mOut.slice (rRR t) (fun _ => rfl)) fullShare (fun i => X ((rRR t).emb i)) ⊢ (A8 V c t.1 0 0 t.2 : sProp (MM F)) := by
    unfold A8
    rw [if_neg (by simp)]
    iintro H; iexists _; iexact H
  ihave H := (fam_mono key) $$ H
  have e : bigSep Finset.univ (fun t : Fin 2 × Dev nD => A8 V c t.1 0 0 t.2) = iprop(allD (A8 V c 0 0 0) ∗ allD (A8 V c 1 0 0)) := by
    rw [bigSep_univ_prod, BI.bigSep_fin_two]; rfl
  iapply (Entails.of_eq e) $$ H

theorem join_O (m : Memref sig .tc .vmem S16x16384 .bf16) (Y : Dev nD → Vec F S16x512 .bf16) :
    allD (fun j => owns (c : Thread nD τ) (bO m j) fullShare (Y j)) ⊢ scr (F := F) c m := by
  iintro H
  ihave H := (join_rects rO c m fullShare (fun _ _ => rfl) rO_disj rO_cov Y) $$ H
  iexists _; iexact H
theorem join_S (m : Memref sig .tc .vmem S8x4096 .f32) (Y : Dev nD → Vec F S8x128 .f32) :
    allD (fun j => owns (c : Thread nD τ) (bS m j) fullShare (Y j)) ⊢ scr (F := F) c m := by
  iintro H
  ihave H := (join_rects rS c m fullShare (fun _ _ => rfl) rS_disj rS_cov Y) $$ H
  iexists _; iexact H
theorem join_R : iprop(allD (fun j => owns (c : Thread nD τ) (bR 0 j) fullShare (V.row c 0 j)) ∗ allD (fun j => owns (c : Thread nD τ) (bR 1 j) fullShare (V.row c 1 j)))
    ⊢ (owns (c : Thread nD τ) mOut fullShare (outOf V c) : sProp (MM F)) := by
  have e : iprop(allD (fun j => owns (c : Thread nD τ) (bR 0 j) fullShare (V.row c 0 j)) ∗ allD (fun j => owns (c : Thread nD τ) (bR 1 j) fullShare (V.row c 1 j)))
      = (bigSep Finset.univ (fun t : Fin 2 × Dev nD => owns (c : Thread nD τ) (bR t.1 t.2) fullShare (V.row c t.1 t.2)) : sProp (MM F)) := by
    rw [bigSep_univ_prod, BI.bigSep_fin_two]; rfl
  refine BIBase.Entails.trans (Entails.of_eq e) ?_
  exact join_rects rRR c mOut fullShare (fun _ _ => rfl) rR_disj rR_cov fun t => V.row c t.1 t.2

end Cut

/-! ## Families over the devices -/

theorem all_split (Φ : Dev nD → sProp (MM F)) : allD Φ = iprop(Φ c ∗ others c Φ) := take_dev (Finset.mem_univ c)
theorem oth_pair (Φ Ψ : Dev nD → sProp (MM F)) : iprop(others c Φ ∗ others c Ψ) ⊢ others c (fun j => iprop(Φ j ∗ Ψ j)) :=
  Entails.of_eq (bigSep_sep' _ Φ Ψ).symm
theorem oth_unpair (Φ Ψ : Dev nD → sProp (MM F)) : others c (fun j => iprop(Φ j ∗ Ψ j)) ⊢ iprop(others c Φ ∗ others c Ψ) :=
  Entails.of_eq (bigSep_sep' _ Φ Ψ)
theorem oth_eq {Φ Ψ : Dev nD → sProp (MM F)} (h : ∀ j, j ≠ c → Φ j = Ψ j) : others c Φ ⊢ others c Ψ :=
  Entails.of_eq (bigSep_congr fun j hj => h j (Finset.ne_of_mem_erase hj))
theorem all_eq {Φ Ψ : Dev nD → sProp (MM F)} (h : ∀ j, Φ j = Ψ j) : allD Φ ⊢ allD Ψ := Entails.of_eq (bigSep_congr fun j _ => h j)
theorem oth_emp {Φ : Dev nD → sProp (MM F)} (h : ∀ j, Φ j = iprop(emp)) : ⊢ others c Φ := by
  have e : others c Φ = iprop(emp) := by
    unfold others
    rw [bigSep_congr (Ψ := fun _ => (BI.emp : sProp (MM F))) fun j _ => h j, BI.bigSep_emp_const]; rfl
  rw [e]; exact BI.Entails.refl _
theorem all_emp {Φ : Dev nD → sProp (MM F)} (h : ∀ j, Φ j = iprop(emp)) : ⊢ allD Φ := by
  have e : allD Φ = iprop(emp) := by
    unfold allD
    rw [bigSep_congr (Ψ := fun _ => (BI.emp : sProp (MM F))) fun j _ => h j, BI.bigSep_emp_const]; rfl
  rw [e]; exact BI.Entails.refl _
theorem six (Φ : Fin 6 → sProp (MM F)) : bigSep Finset.univ Φ = iprop(Φ 0 ∗ Φ 1 ∗ Φ 2 ∗ Φ 3 ∗ Φ 4 ∗ Φ 5) :=
  bigSep_univ_eq_bigSepL [(0 : Fin 6), 1, 2, 3, 4, 5] (by decide) (by decide) Φ
theorem all_cells (Φ : Fin 6 → Dev nD → sProp (MM F)) :
    bigSep Finset.univ (fun kj : Fin 6 × Dev nD => Φ kj.1 kj.2)
      = iprop(allD (Φ 0) ∗ allD (Φ 1) ∗ allD (Φ 2) ∗ allD (Φ 3) ∗ allD (Φ 4) ∗ allD (Φ 5)) := by
  rw [bigSep_univ_prod, six]

/-! ## The start -/

/-- The tokens of what a device pays. -/
def Toks : sProp (MM F) := iprop(others c (fun j => dutyTok ER (bar j) 0 c) ∗ others c (T1 c 0) ∗ others c (T2 c 0))
/-- The credit for what it is paid. -/
def Creds : sProp (MM F) :=
  iprop(cred (tallyAt (bar c) () 31) ∗ others c (fun j => cred (tallyAt (cell c 1 j) () (amt 1)))
    ∗ others c (fun j => cred (tallyAt (cell c 3 j) () (amt 3))) ∗ others c (fun j => cred (tallyAt (cell c 5 j) () (amt 5))))
/-- What the launch hands out once: all invariants and that every barrier is open. -/
def Recs : sProp (MM F) :=
  iprop((∀ d : Dev nD, cellInv ER (Rd V) (κ (bar d)) (bar d))
    ∗ (∀ d : Dev nD, ∀ k : Fin 6, ∀ j : Dev nD, cellInv ER (Rd V) (κ (cell d k j)) (cell d k j))
    ∗ (∀ d : Dev nD, reached ER (bar d) 0) ∗ levAts L lv)
instance Recs_persistent : BI.Persistent (Recs V κ) := by unfold Recs; infer_instance

/-- A device's own cells opened. -/
def Ats : sProp (MM F) := bigSep Finset.univ fun kj : Fin 6 × Dev nD => iprop(atPos ER (cell c kj.1 kj.2) 0 ∅ 0 ∗ reached ER (cell c kj.1 kj.2) 0)

/-- What no step touches: the landing block and the cells a device has for itself. -/
def Side : sProp (MM F) := iprop(anyO c mAg c ∗ bigSep Finset.univ fun k : Fin 6 => atPos ER (cell c k c) 0 ∅ 0)

theorem SC_start (k : Fin 6) (j : Dev nD) : atPos ER (cell c k j) 0 ∅ 0 ⊢ (SC c k 0 0 j : sProp (MM F)) := by
  unfold SC; rw [if_neg (Nat.not_lt_zero _), if_neg (Nat.not_lt_zero _)]
  iintro H; iframe
theorem RC_start (k : Fin 6) (j : Dev nD) : iprop(atPos ER (cell c k j) 0 ∅ 0 ∗ cred (tallyAt (cell c k j) () (amt k))) ⊢ (RC V c k 0 j : sProp (MM F)) := by
  unfold RC; rw [if_neg (Nat.not_lt_zero _)]
theorem Ats_reached : Ats (F := F) c ⊢ iprop(bigSep Finset.univ (fun kj : Fin 6 × Dev nD => atPos ER (cell c kj.1 kj.2) 0 ∅ 0) ∗ (∀ k : Fin 6, ∀ j : Dev nD, reached ER (cell c k j) 0)) := by
  have key (k : Fin 6) (j : Dev nD) : bigSep Finset.univ (fun kj : Fin 6 × Dev nD => (reached ER (cell c kj.1 kj.2) 0 : sProp (MM F))) ⊢ reached ER (cell c k j) 0 :=
    bigSep_elim (Φ := fun kj : Fin 6 × Dev nD => (reached ER (cell c kj.1 kj.2) 0 : sProp (MM F))) (Finset.mem_univ (k, j))
  unfold Ats
  rw [bigSep_sep']
  iintro ⟨H, #Hr⟩
  iframe H
  iintro %k %j
  iapply (key k j) $$ Hr

theorem RC_all (k : Fin 6) : iprop(others c (fun j => atPos ER (cell c k j) 0 ∅ 0) ∗ others c (fun j => cred (tallyAt (cell c k j) () (amt k)))) ⊢ others c (RC V c k 0) :=
  BIBase.Entails.trans (oth_pair c (fun j => atPos ER (cell c k j) 0 ∅ 0) (fun j => cred (tallyAt (cell c k j) () (amt k)))) (oth_mono c fun j => RC_start V c k j)

set_option maxHeartbeats 1000000 in
theorem enter : iprop(Recs V κ ∗ Ats c ∗ atPos ER (bar c) 0 ∅ 0 ∗ Toks c ∗ Creds c ∗ Ins V c ∗ (∃ W, owes (c : Thread nD τ) (Owed c 0 0 0) W)
      ∗ scr c mOut ∗ scr c mCo ∗ scr c mCs ∗ scr c mRo ∗ scr c mRs ∗ scr c mFin ∗ scr c mAg)
    ⊢ iprop(Inv V c κ {} ∗ Side c) := by
  unfold Toks Creds Recs
  iintro ⟨#⟨HIb, HIc, HRb, Hlev⟩, HA, Hb, ⟨Ht1, Ht2, Ht3⟩, ⟨Hc0, Hc1, Hc3, Hc5⟩, HI, HO, Hout, Hco, Hcs, Hro, Hrs, Hfin, Hag⟩
  ihave ⟨HA, #HR⟩ := (Ats_reached c) $$ HA
  ihave HA := (Entails.of_eq (all_cells fun k j => (atPos ER (cell c k j) 0 ∅ 0 : sProp (MM F)))) $$ HA
  simp only [all_split c]
  icases HA with ⟨⟨Hd0, Ha0⟩, ⟨Hd1, Ha1⟩, ⟨Hd2, Ha2⟩, ⟨Hd3, Ha3⟩, ⟨Hd4, Ha4⟩, ⟨Hd5, Ha5⟩⟩
  ihave ⟨Hr0, Hr1⟩ := (cut_R V c) $$ Hout
  ihave Hco := (cut_O c mCo) $$ Hco
  ihave Hcs := (cut_S c mCs) $$ Hcs
  ihave Hro := (BIBase.Entails.trans (cut_O c mRo) (Entails.of_eq (all_split c _))) $$ Hro
  ihave Hrs := (BIBase.Entails.trans (cut_S c mRs) (Entails.of_eq (all_split c _))) $$ Hrs
  ihave Hag := (BIBase.Entails.trans (cut_O c mAg) (Entails.of_eq (all_split c _))) $$ Hag
  icases Hro with ⟨HroC, Hro⟩
  icases Hrs with ⟨HrsC, Hrs⟩
  icases Hag with ⟨HagC, Hag⟩
  ihave Hs := (oth_pair c (fun j => anyS c mRs j) (fun j => anyO c mAg j)) $$ [Hrs Hag]
  · iframe
  ihave Hs := (oth_pair c (fun j => anyO c mRo j) (fun j => iprop(anyS c mRs j ∗ anyO c mAg j))) $$ [Hro Hs]
  · iframe
  ihave H1 := (oth_pair c (fun j => dutyTok ER (bar j) 0 c) (fun j => slots (F := F) c j)) $$ [Ht1 Hs]
  · iframe Ht1; iexact Hs
  ihave H1 := (oth_mono c (Ψ := A1 c 0) fun j => by unfold A1; rw [if_neg (Nat.not_lt_zero _)]) $$ H1
  ihave H2 := (all_mono (Ψ := A2 V c 0 0 0) fun j => by unfold A2; rw [if_neg (Nat.not_lt_zero _)]) $$ Hco
  ihave H3 := (all_mono (Ψ := A3 V c 0 0 0) fun j => by unfold A3; rw [if_neg (Nat.not_lt_zero _)]) $$ Hcs
  ihave Hr1' := (RC_all V c 1) $$ [Ha1 Hc1]
  · iframe
  ihave Hr3' := (RC_all V c 3) $$ [Ha3 Hc3]
  · iframe
  ihave Hr5' := (RC_all V c 5) $$ [Ha5 Hc5]
  · iframe
  ihave Ha0 := (oth_mono c fun j => SC_start c 0 j) $$ Ha0
  ihave Ha2 := (oth_mono c fun j => SC_start c 2 j) $$ Ha2
  ihave Ha4 := (oth_mono c fun j => SC_start c 4 j) $$ Ha4
  unfold Inv Ctx Side OwnFin OwnBar OwnRo OwnRs
  rw [if_pos rfl, if_pos rfl, if_pos rfl, if_pos rfl, six]
  isplitr [HagC Hd0 Hd1 Hd2 Hd3 Hd4 Hd5]
  · isplitr
    · iframe HIb HIc HRb HR Hlev
    iframe HI HO H1 H2 H3
    isplitr
    · iapply (oth_emp c fun j => by unfold A4; rw [if_pos rfl])
    isplitr
    · iapply (oth_emp c fun j => by unfold A5; rw [if_pos rfl])
    iframe
    iapply (all_emp fun j => by unfold A9; rw [if_pos rfl])
  · iframe

/-! ## The end -/

/-- All steps done. -/
abbrev last : St := { nsig := 32, nsto := 32, nsts := 32, bar := 1, nsd := 32, nlo := 1, nls := 1, nrv := 32, fst := 1, np2 := 32, w0 := 1, w1 := 1, nr2 := 32, nf := 32 }

theorem closed_one (g : GSem nD τ sig) : iprop(cellInv ER (Rd V) (κ g) g ∗ atPos ER g 1 ∅ 0) ⊢ (|={Set.univ}=> semVal g 0 : sProp (MM F)) :=
  Rounds.cell_close ER (Rd V) (Set.mem_univ (κ g)) id (duties_later V g)
theorem closed_own (k : Fin 6) :
    iprop(cellInv ER (Rd V) (κ (cell c k c)) (cell c k c) ∗ atPos ER (cell c k c) 0 ∅ 0) ⊢ (|={Set.univ}=> semVal (cell c k c) 0 : sProp (MM F)) :=
  Rounds.cell_close ER (Rd V) (Set.mem_univ _) id (duties_own_all V c k)

/-- All cells of array `k` closed. -/
theorem closed_all (k : Fin 6) :
    iprop((∀ d : Dev nD, ∀ k : Fin 6, ∀ j : Dev nD, cellInv ER (Rd V) (κ (cell d k j)) (cell d k j))
      ∗ others c (fun j => atPos ER (cell c k j) 1 ∅ 0) ∗ atPos ER (cell c k c) 0 ∅ 0) ⊢ (|={Set.univ}=> allD (fun j => semVal (cell c k j) 0) : sProp (MM F)) := by
  rw [all_split c]
  iintro ⟨#HI, Ho, Hd⟩
  imod (closed_own V c κ k) $$ [Hd] with Hd
  · iframe Hd; iapply HI
  have key (j : Dev nD) (hj : j ∈ Finset.univ.erase c) :
      iprop((∀ d : Dev nD, ∀ k : Fin 6, ∀ j : Dev nD, cellInv ER (Rd V) (κ (cell d k j)) (cell d k j)) ∗ atPos ER (cell c k j) 1 ∅ 0)
        ⊢ (|={Set.univ}=> semVal (cell c k j) 0 : sProp (MM F)) := by
    iintro ⟨#HI, H⟩
    iapply (closed_one V κ (cell c k j))
    iframe H; iapply HI
  have all : iprop((∀ d : Dev nD, ∀ k : Fin 6, ∀ j : Dev nD, cellInv ER (Rd V) (κ (cell d k j)) (cell d k j))
      ∗ others c (fun j => atPos ER (cell c k j) 1 ∅ 0)) ⊢ (|={Set.univ}=> others c (fun j => semVal (cell c k j) 0) : sProp (MM F)) :=
    BIBase.Entails.trans (bigSep_with_persistent key) (bigSep_fupd _ _)
  imod all $$ [Ho] with Ho
  · iframe Ho; iexact HI
  imodintro
  iframe

theorem lt32 (j : Dev nD) : j.val < 32 := j.isLt
theorem A2_last (j : Dev nD) : A2 V c 32 32 32 j = owns (c : Thread nD τ) (bO mCo j) fullShare (V.co c j) := by
  unfold A2; rw [if_pos (lt32 j), if_neg fun h => h.2.2 (lt32 j)]
theorem A3_last (j : Dev nD) : A3 V c 32 32 32 j = owns (c : Thread nD τ) (bS mCs j) fullShare (V.cs c j) := by
  unfold A3; rw [if_pos (lt32 j), if_neg fun h => h.2.2 (lt32 j)]
theorem SC_last (k : Fin 6) (n : ℕ) (j : Dev nD) : (SC c k n 32 j : sProp (MM F)) = atPos ER (cell c k j) 1 ∅ 0 := by
  unfold SC; rw [if_pos (lt32 j)]
theorem RC_last (k : Fin 6) (j : Dev nD) : RC V c k 32 j = iprop(atPos ER (cell c k j) 1 ∅ 0 ∗ pay V k c j) := by
  unfold RC; rw [if_pos (lt32 j)]
theorem A8_last (b : Fin 2) (j : Dev nD) : A8 V c b 1 32 j = owns (c : Thread nD τ) (bR b j) fullShare (V.row c b j) := by
  unfold A8; rw [if_pos]; split
  · exact Nat.one_pos
  · exact lt32 j
theorem A9_last (j : Dev nD) : A9 V c 1 32 32 j = owns (c : Thread nD τ) mFin (tok j) (V.fin c) := by
  unfold A9; rw [if_neg (by decide), if_neg fun h => h.2.2 (lt32 j)]
theorem RC_out (k : Fin 6) : others c (RC V c k 32) ⊢ iprop(others c (fun j => atPos ER (cell c k j) 1 ∅ 0) ∗ others c (fun j => pay V k c j)) :=
  BIBase.Entails.trans (oth_eq c fun j _ => RC_last V c k j) (oth_unpair c _ _)

theorem join_fin : iprop(owns (c : Thread nD τ) mFin (Transfers.shareDrop fullShare 32) (V.fin c) ∗ allD (fun j => owns (c : Thread nD τ) mFin (tok j) (V.fin c)))
    ⊢ (scr c mFin : sProp (MM F)) := by
  refine BIBase.Entails.trans ?_ (show owns (c : Thread nD τ) mFin fullShare (V.fin c) ⊢ (scr c mFin : sProp (MM F)) from by
    iintro H; iexists _; iexact H)
  simp only [owns_whole]
  exact Transfers.pointsTo_toks_join fullShare 32

/-- The own block and the others'. -/
theorem ro_all : iprop(owns (c : Thread nD τ) (bO mRo c) fullShare (V.co c c) ∗ others c (fun j => pay V 1 c j))
    ⊢ allD (fun j => owns (c : Thread nD τ) (bO mRo j) fullShare (V.co j c)) := by
  rw [all_split c]; exact BI.Entails.refl _
theorem rs_all : iprop(owns (c : Thread nD τ) (bS mRs c) fullShare (V.cs c c) ∗ others c (fun j => pay V 3 c j))
    ⊢ allD (fun j => owns (c : Thread nD τ) (bS mRs j) fullShare (V.cs j c)) := by
  rw [all_split c]; exact BI.Entails.refl _
theorem ag_all (X : Vec F S16x512 .bf16) : iprop(owns (c : Thread nD τ) (bO mAg c) fullShare X ∗ others c (fun j => pay V 5 c j))
    ⊢ allD (fun j => owns (c : Thread nD τ) (bO mAg j) fullShare (if j = c then X else V.fin j)) := by
  rw [all_split c, if_pos rfl]
  iintro ⟨H, Ho⟩
  iframe H
  iapply (oth_eq c (Φ := fun j => pay V 5 c j) fun j hj => by rw [if_neg hj]; rfl) $$ Ho

set_option maxHeartbeats 1000000 in
theorem leave : iprop(Inv V c κ last ∗ Side c)
    ⊢ (|={Set.univ}=> iprop(Ins V c ∗ owns (c : Thread nD τ) mOut fullShare (outOf V c)
      ∗ (scr c mCo ∗ scr c mCs ∗ scr c mRo ∗ scr c mRs ∗ scr c mFin ∗ scr c mAg)
      ∗ (bigSep Finset.univ fun kj : Fin 6 × Dev nD => semVal (cell c kj.1 kj.2) 0) ∗ semVal (bar c) 0
      ∗ ∃ W, owes (c : Thread nD τ) (0 : CellTallies nD τ sig Unit) W) : sProp (MM F)) := by
  unfold Inv Ctx Side OwnFin OwnBar OwnRo OwnRs
  rw [if_neg (by decide), if_neg (by decide), if_neg (by decide), if_neg (by decide), six, Owed_done c (by decide) (by decide) (by decide)]
  iintro ⟨⟨#⟨HIb, HIc, -⟩, HI, HO, -, H2, H3, -, -, -, -, Hs0, Hs2, Hs4, Hr1, Hr3, Hr5, H80, H81, H9, Hf, Hb, Hro, Hrs⟩, ⟨%X, Hag⟩, Hd0, Hd1, Hd2, Hd3, Hd4, Hd5⟩
  ihave ⟨Hr1, Hp1⟩ := (RC_out V c 1) $$ Hr1
  ihave ⟨Hr3, Hp3⟩ := (RC_out V c 3) $$ Hr3
  ihave ⟨Hr5, Hp5⟩ := (RC_out V c 5) $$ Hr5
  ihave Hs0 := (oth_eq c fun j _ => SC_last c 0 32 j) $$ Hs0
  ihave Hs2 := (oth_eq c fun j _ => SC_last c 2 32 j) $$ Hs2
  ihave Hs4 := (oth_eq c fun j _ => SC_last c 4 32 j) $$ Hs4
  imod (closed_all V c κ 0) $$ [Hs0 Hd0] with Hc0
  · iframe; iexact HIc
  imod (closed_all V c κ 1) $$ [Hr1 Hd1] with Hc1
  · iframe; iexact HIc
  imod (closed_all V c κ 2) $$ [Hs2 Hd2] with Hc2
  · iframe; iexact HIc
  imod (closed_all V c κ 3) $$ [Hr3 Hd3] with Hc3
  · iframe; iexact HIc
  imod (closed_all V c κ 4) $$ [Hs4 Hd4] with Hc4
  · iframe; iexact HIc
  imod (closed_all V c κ 5) $$ [Hr5 Hd5] with Hc5
  · iframe; iexact HIc
  imod (closed_one V κ (bar c)) $$ [Hb] with Hb
  · iframe; iapply HIb
  imodintro
  ihave H2 := (BIBase.Entails.trans (all_eq fun j => A2_last V c j) (join_O c mCo _)) $$ H2
  ihave H3 := (BIBase.Entails.trans (all_eq fun j => A3_last V c j) (join_S c mCs _)) $$ H3
  ihave Hro := (BIBase.Entails.trans (ro_all V c) (join_O c mRo _)) $$ [Hro Hp1]
  · iframe
  ihave Hrs := (BIBase.Entails.trans (rs_all V c) (join_S c mRs _)) $$ [Hrs Hp3]
  · iframe
  ihave Hag := (BIBase.Entails.trans (ag_all V c X) (join_O c mAg _)) $$ [Hag Hp5]
  · iframe
  ihave H9 := (all_eq fun j => A9_last V c j) $$ H9
  ihave Hf := (join_fin V c) $$ [Hf H9]
  · iframe
  ihave H80 := (all_eq fun j => A8_last V c 0 j) $$ H80
  ihave H81 := (all_eq fun j => A8_last V c 1 j) $$ H81
  ihave H8 := (join_R V c) $$ [H80 H81]
  · iframe
  ihave Hc := (Entails.of_eq (all_cells fun k j => (semVal (cell c k j) 0 : sProp (MM F))).symm) $$ [Hc0 Hc1 Hc2 Hc3 Hc4 Hc5]
  · iframe
  iframe

end Cert.KernelIdeal.Att
-- ==== Proof.Launch.lean ====
module
public import proofs.«01_k».proof.Proof.Walk2
public import proofs.«01_k».proof.Proof.Ends
public import proofs.«01_k».proof.Proof.Gen.KernelIdeal.Frame
public import Idealize.ShloMosaic.Lib.Pipeline.Regions
public import Idealize.ShloMosaic.Lib.Pipeline.Kit
public import Idealize.ShloMosaic.Lib.Pipeline.RegionTalk
public import Idealize.ShloMosaic.Lib.StableHlo
public import Idealize.ShloMosaic.Harness.Basic

/-!
# The run of all devices

The body's obligation, the region of the kernel among the host's operations, what the launch hands to each device, and the run.
-/

@[expose] public section

noncomputable section

namespace Cert.KernelIdeal.Att

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

variable (m : (l : Loc nD τ sig) → Buf (Elt F) l) (ρ : Dev nD → PrngReg)

/-! ## The region's data -/

/-- What the buffers hold once the host's operations are done. -/
def W₁ (c : Dev nD) : Valuation τ sig (Elt F) := StableHlo.after hostOps0 (fun b => m (c, b))

/-- The values of the run from the arrays as the region finds them. -/
def vals : Vals F :=
  valsOf (fun c => iblk m c 0 t0_0) (fun c => iblk m c 1 t0_0) (fun c => iblk m c 2 t0_0) (fun c => iblk m c 3 t0_0) (fun c => iblk m c 4 t0_0)

/-- The semaphores of the kernel's own. -/
abbrev osem (kj : Fin 6 × Dev nD) : SemLoc sig := .dma (dsem kj.1 kj.2)

/-- The six scratch buffers at whatever contents. -/
def Scr (c : Dev nD) : sProp (MM F) := iprop(scr c mCo ∗ scr c mCs ∗ scr c mRo ∗ scr c mRs ∗ scr c mFin ∗ scr c mAg)
/-- All that enters the body besides buffers. -/
def Xk (c : Dev nD) : sProp (MM F) := iprop(∃ κ, Recs (vals m) κ ∗ Ats c ∗ atPos ER (bar c) 0 ∅ 0 ∗ Toks c ∗ Creds c)
/-- Before the region, the cells of its own not open yet. -/
def Tk (c : Dev nD) : sProp (MM F) :=
  iprop(∃ κ, Recs (vals m) κ ∗ (bigSep Finset.univ fun kj : Fin 6 × Dev nD => openTok ER (cell c kj.1 kj.2)) ∗ atPos ER (bar c) 0 ∅ 0 ∗ Toks c ∗ Creds c)
def Yk (c : Dev nD) : sProp (MM F) := semVal (bar c) 0

/-- The body's invariant before and after. -/
def Φa (c : Dev nD) : sProp (MM F) := iprop(Scr c ∗ (∃ r, prngReg c r) ∗ Xk m c)
def Φb (c : Dev nD) : sProp (MM F) :=
  iprop(Scr c ∗ (∃ r, prngReg c r) ∗ (bigSep Finset.univ fun kj : Fin 6 × Dev nD => semVal (cell c kj.1 kj.2) 0) ∗ Yk c)

/-- What each window holds after the body. -/
def dat0 (c : Dev nD) : Dat τ (Elt F) Unit ℕ UU ℕ cfg0 c where
  A w := W₁ m c (Proc.devRef .tc (Pipeline.arrRef spec0 w))
  after w t := match w with
    | 0 => iblk m c 0 t
    | 1 => iblk m c 1 t
    | 2 => iblk m c 2 t
    | 3 => iblk m c 3 t
    | 4 => iblk m c 4 t
    | 5 => outOf (vals m) c
    | ⟨_ + 6, h⟩ => absurd h (Nat.not_lt.2 (Nat.le_add_left _ _))
  Φ t := if t.val = 0 then Φa m c else Φb c
  q _ := fullShare
  owed t := if t.val = 0 then Owed c 0 0 0 else 0

theorem Φ_first (c : Dev nD) : (dat0 m c).Φ t0_0.castSucc = Φa m c := by
  show (if (t0_0.castSucc : Fin (cfg0.N + 1)).val = 0 then Φa m c else Φb c) = Φa m c; exact if_pos rfl
theorem Φ_last (c : Dev nD) : (dat0 m c).Φ t0_0.succ = Φb c := by
  show (if (t0_0.succ : Fin (cfg0.N + 1)).val = 0 then Φa m c else Φb c) = Φb c; exact if_neg (Nat.succ_ne_zero _)
theorem owed_first (c : Dev nD) : (dat0 m c).owed t0_0.castSucc = Owed c 0 0 0 := by
  show (if (t0_0.castSucc : Fin (cfg0.N + 1)).val = 0 then Owed c 0 0 0 else 0) = _; exact if_pos rfl
theorem owed_last (c : Dev nD) : (dat0 m c).owed t0_0.succ = 0 := by
  show (if (t0_0.succ : Fin (cfg0.N + 1)).val = 0 then Owed c 0 0 0 else 0) = 0; exact if_neg (Nat.succ_ne_zero _)
theorem last_N : (Fin.last cfg0.N) = t0_0.succ := Fin.ext N_0

/-! ## The body -/

theorem staged0 (c : Dev nD) (d) : (dat0 m c).before 0 t0_0 d = iblk m c 0 t0_0 :=
  ((dat0 m c).before_in_eq_fetched 0 rfl (fun _ => rfl) (fun _ _ _ => rfl) (fun _ => rfl) t0_0 d).trans rfl
theorem staged1 (c : Dev nD) (d) : (dat0 m c).before 1 t0_0 d = iblk m c 1 t0_0 :=
  ((dat0 m c).before_in_eq_fetched 1 rfl (fun _ => rfl) (fun _ _ _ => rfl) (fun _ => rfl) t0_0 d).trans rfl
theorem staged2 (c : Dev nD) (d) : (dat0 m c).before 2 t0_0 d = iblk m c 2 t0_0 :=
  ((dat0 m c).before_in_eq_fetched 2 rfl (fun _ => rfl) (fun _ _ _ => rfl) (fun _ => rfl) t0_0 d).trans rfl
theorem staged3 (c : Dev nD) (d) : (dat0 m c).before 3 t0_0 d = iblk m c 3 t0_0 :=
  ((dat0 m c).before_in_eq_fetched 3 rfl (fun _ => rfl) (fun _ _ _ => rfl) (fun _ => rfl) t0_0 d).trans rfl
theorem staged4 (c : Dev nD) (d) : (dat0 m c).before 4 t0_0 d = iblk m c 4 t0_0 :=
  ((dat0 m c).before_in_eq_fetched 4 rfl (fun _ => rfl) (fun _ _ _ => rfl) (fun _ => rfl) t0_0 d).trans rfl

theorem full_last : full = last := rfl

/-- From what a device starts with, the body runs to what it ends with. -/
theorem body_run (c : Dev nD) (κ : GSem nD τ sig → ℕ) :
    iprop(Recs (vals m) κ ∗ Ats c ∗ atPos ER (bar c) 0 ∅ 0 ∗ Toks c ∗ Creds c ∗ Ins (vals m) c ∗ (∃ W, owes (c : Thread nD τ) (Owed c 0 0 0) W)
      ∗ scr c mOut ∗ Scr c)
    ⊢ WP c (bodyAt0 t0_0) fun _ => iprop(Ins (vals m) c ∗ owns (c : Thread nD τ) mOut fullShare (outOf (vals m) c)
      ∗ Scr c ∗ (bigSep Finset.univ fun kj : Fin 6 × Dev nD => semVal (cell c kj.1 kj.2) 0) ∗ semVal (bar c) 0
      ∗ ∃ W, owes (c : Thread nD τ) (0 : CellTallies nD τ sig Unit) W) := by
  unfold Scr
  refine BIBase.Entails.trans (enter (vals m) c κ) ?_
  have hw : Exec (vals m) κ c {} (bodyAt0 (F := F) t0_0) fun _ s => s = full := walk
  unfold Exec at hw
  unfold WP at *
  iintro ⟨HI, HS⟩
  ihave HW := hw $$ HI
  iapply wp_fupd
  iapply (wp_mono _ _ _ fun r => ?_) $$ [HW HS]
  rotate_left
  · iapply wp_frame_r
    iframe HW HS
  · iintro ⟨⟨%s', %hs, HI⟩, HS⟩
    subst hs
    iapply (leave (vals m) c κ)
    iframe HI HS

theorem body_framed (c : Dev nD) (κ : GSem nD τ sig → ℕ) :
    iprop((Recs (vals m) κ ∗ Ats c ∗ atPos ER (bar c) 0 ∅ 0 ∗ Toks c ∗ Creds c ∗ Ins (vals m) c ∗ (∃ W, owes (c : Thread nD τ) (Owed c 0 0 0) W)
      ∗ scr c mOut ∗ Scr c) ∗ ∃ r, prngReg c r)
    ⊢ WP c (bodyAt0 t0_0) fun _ => iprop((Ins (vals m) c ∗ owns (c : Thread nD τ) mOut fullShare (outOf (vals m) c)
      ∗ Scr c ∗ (bigSep Finset.univ fun kj : Fin 6 × Dev nD => semVal (cell c kj.1 kj.2) 0) ∗ semVal (bar c) 0
      ∗ ∃ W, owes (c : Thread nD τ) (0 : CellTallies nD τ sig Unit) W) ∗ ∃ r, prngReg c r) :=
  BIBase.Entails.trans (sep_mono_left (body_run m c κ)) (wp_frame_r _ _ _)

theorem owes_in (c : Dev nD) : (dat0 m c).owesAt () t0_0.castSucc ⊢ (iprop(∃ W, owes (c : Thread nD τ) (Owed c 0 0 0) W) : sProp (MM F)) := by
  unfold Dat.owesAt Pipeline.owesWithin
  rw [owed_first]
  iintro ⟨%W, -, H⟩; iexists W; iexact H
theorem owes_out (c : Dev nD) : iprop(∃ W, owes (c : Thread nD τ) (0 : CellTallies nD τ sig Unit) W) ⊢ ((dat0 m c).owesAt () t0_0.succ : sProp (MM F)) := by
  unfold Dat.owesAt Pipeline.owesWithin Dat.bound
  rw [owed_last, show (dat0 m c).recorded t0_0.succ = Set.univ from rfl]
  iintro ⟨%W, H⟩; iexists W; isplitr; · ipureintro; exact fun _ _ => Or.inl trivial
  iexact H

theorem body0 (c : Dev nD) : BodyObligation (dat0 (F := F) m c) defs₀ 𝒱₀ () Set.univ := fun t => by
  obtain rfl := fin_N0 t
  rw [bigSep_W0, bigSep_W0, Φ_first, Φ_last]
  simp only [staged0, staged1, staged2, staged3, staged4]
  unfold Φa Xk
  refine BIBase.Entails.trans ?_ (BIBase.Entails.trans (exists_elim fun κ => body_framed m c κ) (wp_mono _ _ _ fun r => ?_))
  · iintro ⟨⟨HS, Hp, ⟨%κ, HR, HA, Hb, HT, HC⟩⟩, HO, ⟨%_, H0⟩, ⟨%_, H1⟩, ⟨%_, H2⟩, ⟨%_, H3⟩, ⟨%_, H4⟩, ⟨%_, H5⟩⟩
    ihave HO := (owes_in m c) $$ HO
    iexists κ
    iframe HR HA Hb HT HC HO HS Hp
    isplitl [H0 H1 H2 H3 H4]
    · unfold Ins
      isplitl [H0]; · iexact H0
      isplitl [H1]; · iexact H1
      isplitl [H2]; · iexact H2
      isplitl [H3]; · iexact H3
      iexact H4
    · iexists _; iexact H5
  · unfold Φb Ins Yk
    iintro ⟨⟨⟨H0, H1, H2, H3, H4⟩, H5, HS, Hs, Hb, HO⟩, Hp⟩
    iframe HS Hp Hs Hb
    isplitl [HO]; · iapply (owes_out m c) $$ HO
    isplitl [H0]; · iexact H0
    isplitl [H1]; · iexact H1
    isplitl [H2]; · iexact H2
    isplitl [H3]; · iexact H3
    isplitl [H4]; · iexact H4
    iexact H5

end Cert.KernelIdeal.Att
-- ==== Proof.Run.lean ====
module
public import proofs.«01_k».proof.Proof.Launch

/-!
# The region among the host's operations, the launch and the run
-/

@[expose] public section

noncomputable section

namespace Cert.KernelIdeal.Att

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

variable (m : (l : Loc nD τ sig) → Buf (Elt F) l) (ρ : Dev nD → PrngReg)

abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c := fun _ => dat0 m

/-! ## The region -/

/-- What the unscoped buffers hold at the end. -/
def W₂ (c : Dev nD) : Valuation τ sig (Elt F) := Function.update (W₁ m c) (Proc.devRef .tc main_v7) ((dat0 m c).arrAt 5 cfg0.N)

abbrev arrs : Finset (DevRef τ sig) := Pipeline.arrRefs (τ := τ) spec0
abbrev ucs : Finset (DevRef τ sig) := Pipeline.ucRefs τ sig

theorem v7_mem : Proc.devRef .tc main_v7 ∈ arrs := by decide
theorem arrs_sub : arrs ⊆ ucs := by decide

theorem osem_inj : Function.Injective osem := by
  rintro ⟨k, j⟩ ⟨k', j'⟩ h
  have h1 : dsem k j = dsem k' j' := by injection h
  exact Prod.ext (by rw [← kindOf_dsem k j, h1, kindOf_dsem]) (by rw [← peerOf_dsem k j, h1, peerOf_dsem])

theorem stage_low : ∀ (w : Fin 6) (s : Fin (spec0 w).nbuf), ((spec0 w).sem s).val < 6 := by decide

theorem own_facts : Pipeline.OwnSemFacts spec0 osem where
  isScoped := by decide +kernel
  inj := osem_inj
  disj kj w s h := by
    have h1 : dsem kj.1 kj.2 = (spec0 w).sem s := by injection h
    have h2 := stage_low w s
    rw [← h1] at h2
    have h3 : (dsem kj.1 kj.2).val = 6 + 32 * kj.1.val + kj.2.val := rfl
    omega

/-- Only semaphores above the lowest level are owed to. -/
theorem owed_cut (c : Dev nD) (g : GSem nD τ sig) (u : Unit) (h : 0 < Owed c 0 0 0 g u) : u ∈ L g ∧ 0 < lv g u := by
  have tc : ∀ (d : Dev nD) (sm : SemLoc sig), () ∈ L ((d : Thread nD τ), sm) := fun d sm => by rw [L_tc]; exact Finset.mem_singleton_self _
  have lc : ∀ (k : Fin 6) (j : Dev nD), k = 1 ∨ k = 3 ∨ k = 5 → 0 < lv (cell j k c) () := by
    intro k j hk
    unfold lv; simp only [kindOf_dsem]; rw [if_neg (by omega)]
    rcases hk with rfl | rfl | rfl <;> decide
  unfold Owed at h
  rw [Finset.sum_apply, Finsupp.finsetSum_apply] at h
  obtain ⟨j, -, hj⟩ := Finset.exists_ne_zero_of_sum_ne_zero (Nat.pos_iff_ne_zero.mp h)
  by_contra hcon
  apply hj
  have off : ∀ (d : Dev nD) (sm : SemLoc sig) (n : ℕ), 0 < lv ((d : Thread nD τ), sm) () → tallyAt ((d : Thread nD τ), sm) () n g u = 0 := by
    intro d sm n hl
    rw [tallyAt_apply, if_neg]
    rintro ⟨rfl, rfl⟩
    exact hcon ⟨tc d sm, hl⟩
  unfold Oj
  rw [if_neg (Nat.not_lt_zero _), if_neg (Nat.not_lt_zero _), if_neg (Nat.not_lt_zero _)]
  simp only [Pi.add_apply, Finsupp.add_apply]
  rw [off j (.reg barS) 1 Nat.one_pos, off j _ _ (lc 1 j (by decide)), off j _ _ (lc 3 j (by decide)), off j _ _ (lc 5 j (by decide))]
  rfl

theorem scratch_eq (c : Dev nD) : (Pipeline.scopedRest (Ix := Unit) (Name := ℕ) (U := UU) (Lvl := ℕ) (Val := Elt F) spec0 c : sProp (MM F)) = Scr c := by
  rw [scopedRest0_eq]
  unfold Scr scr
  simp only [owns_whole]
  rfl

theorem opened (c : Dev nD) (κ : GSem nD τ sig → ℕ) :
    iprop((∀ d : Dev nD, ∀ k : Fin 6, ∀ j : Dev nD, cellInv ER (Rd (vals m)) (κ (cell d k j)) (cell d k j))
      ∗ bigSep Finset.univ fun kj : Fin 6 × Dev nD => iprop(openTok ER (cell c kj.1 kj.2) ∗ semVal (cell c kj.1 kj.2) 0))
    ⊢ (|={Set.univ}=> Ats c : sProp (MM F)) := by
  have key (kj : Fin 6 × Dev nD) (_ : kj ∈ Finset.univ) : iprop((∀ d : Dev nD, ∀ k : Fin 6, ∀ j : Dev nD, cellInv ER (Rd (vals m)) (κ (cell d k j)) (cell d k j))
      ∗ (openTok ER (cell c kj.1 kj.2) ∗ semVal (cell c kj.1 kj.2) 0))
      ⊢ (|={Set.univ}=> iprop(atPos ER (cell c kj.1 kj.2) 0 ∅ 0 ∗ reached ER (cell c kj.1 kj.2) 0) : sProp (MM F)) := by
    iintro ⟨#HI, Ho, Hs⟩
    iapply (Rounds.cell_open ER (Rd (vals m)) (Set.mem_univ (κ (cell c kj.1 kj.2))))
    iframe Ho Hs
    iapply HI
  exact (bigSep_with_persistent key).trans (BI.bigSep_fupd _ _)

theorem hopen (c : Dev nD) : iprop(Tk m c ∗ Pipeline.ownSems0 osem c ∗ levAts L lv) ⊢ (|={Set.univ}=> Xk m c : sProp (MM F)) := by
  unfold Tk Xk Pipeline.ownSems0
  iintro ⟨⟨%κ, #HR, Ho, Hb, HT, HC⟩, Hs, -⟩
  imod (opened m c κ) $$ [Ho Hs] with HA
  · isplitr
    · unfold Recs; icases HR with ⟨-, H, -⟩; iexact H
    rw [bigSep_sep']
    iframe Ho Hs
  imodintro
  iexists κ
  iframe HR HA Hb HT HC

theorem held_none (c : Dev nD) (W : Valuation τ sig (Elt F)) : (StableHlo.held (c.tc : Thread nD τ) ∅ W : sProp (MM F)) = iprop(emp) := by
  unfold StableHlo.held; exact BI.bigSep_empty

theorem hin (c : Dev nD) : iprop(Pipeline.scopedRest spec0 c ∗ (∃ r, prngReg c r) ∗ StableHlo.held (c.tc : Thread nD τ) ∅ (W₁ m c) ∗ Xk m c) ⊢ (dat0 m c).Φ 0 := by
  rw [show (dat0 m c).Φ 0 = Φa m c from Φ_first m c, scratch_eq]
  unfold Φa
  iintro ⟨HS, Hp, -, HX⟩
  iframe HS Hp HX

theorem hout (c : Dev nD) : (dat0 m c).Φ (Fin.last cfg0.N)
    ⊢ iprop(Pipeline.scopedRest spec0 c ∗ (∃ r, prngReg c r) ∗ StableHlo.held (c.tc : Thread nD τ) ∅ (W₂ m c) ∗ Pipeline.ownSems0 osem c ∗ Yk c) := by
  rw [last_N, Φ_last, scratch_eq, held_none]
  unfold Φb Pipeline.ownSems0
  iintro ⟨HS, Hp, Hs, HY⟩
  iframe HS Hp Hs HY

theorem arr_ne : ∀ w : Fin 6, w ≠ 5 → Proc.devRef (τ := τ) .tc (Pipeline.arrRef spec0 w) ≠ Proc.devRef .tc main_v7 := by decide
theorem in_win : ∀ w : Fin 6, w ≠ 5 → (cfg0.win w).isOut = false := by decide

theorem W₂_arr (c : Dev nD) (w : Fin 6) : (dat0 m c).arrAt w cfg0.N = W₂ m c (Proc.devRef .tc (Pipeline.arrRef spec0 w)) := by
  by_cases h : w = 5
  · subst h; unfold W₂; exact (Function.update_self (f := W₁ m c) _ _).symm
  · rw [(dat0 m c).arrAt_in w (in_win w h)]
    unfold W₂
    rw [Function.update_of_ne (arr_ne w h)]
    rfl

set_option backward.isDefEq.respectTransparency.types false in
/-- The kernel between the host's operations and the end. -/
def reg : Pipeline.RegionSeg (pcfgs (F := F)) adm (pdats m) () defs₀ 𝒱₀ L lv 0 :=
  Pipeline.RegionSeg.ofTalk (pcfgs (F := F)) adm (pdats m) () defs₀ 𝒱₀ L lv 0 osem own_facts
    ∅ (ucs \ arrs) (Finset.empty_subset _) launch0.toP rfl (fun c => (body0 m c).loose)
    (fun _ => 0) (fun c => Owed c 0 0 0) (fun c => (owed_first m c).trans (zero_add _).symm) (fun c => (congrArg (dat0 m c).owed last_N).trans (owed_last m c))
    (fun _ => rfl) (fun c w => by show (dat0 m c).share w = fullShare; unfold Dat.share; split <;> rfl)
    (W₁ m) (W₂ m) (fun c b hb => by
      have hb := (Finset.mem_sdiff.mp (Finset.mem_sdiff.mp hb).1).2
      unfold W₂; rw [Function.update_of_ne]; rintro rfl; exact hb v7_mem)
    (Tk m) Yk (Xk m) Yk (hopen m) (hin m) (hout m)
    (fun c => by iintro H; imodintro; iexact H)
    (fun _ => 0)
    ⟨fun c w s => by rw [L_tc]; exact Finset.mem_singleton_self _,
      fun c w s => (show lv ((c : Thread nD τ), .dma ((spec0 w).sem s)) () ≤ 0 from by
        unfold lv; simp only; rw [if_pos (stage_low w s)]),
      fun c t g i h => owed_cut c g i (by
        have h' : 0 < (if t.val = 0 then Owed c 0 0 0 else 0) g i := h
        by_cases ht : t.val = 0
        · rwa [if_pos ht] at h'
        · rw [if_neg ht] at h'; exact absurd h' (lt_irrefl 0))⟩
    (fun _ => iprop(emp))
    (fun c w => by rfl) (fun c w => W₂_arr m c w)

end Cert.KernelIdeal.Att
-- ==== Proof.Start.lean ====
module
public import proofs.«01_k».proof.Proof.Run

/-!
# The launch and the run

Every cell's invariant, the tokens and the credits dealt to the devices, and the run of the whole program.
-/

@[expose] public section

noncomputable section

namespace Cert.KernelIdeal.Att

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

variable (m : (l : Loc nD τ sig) → Buf (Elt F) l) (ρ : Dev nD → PrngReg)

/-! ## The cells and the tokens -/

def barE : Dev nD ↪ GSem nD τ sig := ⟨fun c => bar c, fun _ _ h => congrArg (fun g : GSem nD τ sig => g.1.1) h⟩
def cellE : Dev nD × (Fin 6 × Dev nD) ↪ GSem nD τ sig :=
  ⟨fun x => cell x.1 x.2.1 x.2.2, fun _ _ h => Prod.ext (congrArg (fun g : GSem nD τ sig => g.1.1) h) (osem_inj (congrArg Prod.snd h))⟩
abbrev bars : Finset (GSem nD τ sig) := Finset.univ.map barE
abbrev cells : Finset (GSem nD τ sig) := Finset.univ.map cellE

/-- A barrier's token per payer, one token per cell of the copies. -/
def barT : Dev nD × Dev nD ↪ GSem nD τ sig × ℕ × Dev nD :=
  ⟨fun x => (bar x.2, 0, x.1), fun _ _ h => Prod.ext (congrArg (fun t : GSem nD τ sig × ℕ × Dev nD => t.2.2) h)
    (congrArg (fun t : GSem nD τ sig × ℕ × Dev nD => t.1.1.1) h)⟩
def cellT : Dev nD × (Fin 6 × Dev nD) ↪ GSem nD τ sig × ℕ × Dev nD :=
  ⟨fun x => (cell x.1 x.2.1 x.2.2, 0, 0), fun _ _ h => cellE.injective (congrArg (fun t : GSem nD τ sig × ℕ × Dev nD => t.1) h)⟩
def allT : Finset (GSem nD τ sig × ℕ × Dev nD) := Finset.univ.map barT ∪ Finset.univ.map cellT

theorem osem_ne (x : Fin 6 × Dev nD) : osem x ≠ .reg barS := fun h => by cases h

theorem bars_cells : Disjoint bars cells := by
  rw [Finset.disjoint_left]
  rintro g h₁ h₂
  obtain ⟨c, -, rfl⟩ := Finset.mem_map.mp h₁
  obtain ⟨x, -, h⟩ := Finset.mem_map.mp h₂
  exact osem_ne x.2 (congrArg Prod.snd h)
theorem toks_disj : Disjoint (Finset.univ.map barT) (Finset.univ.map cellT) := by
  rw [Finset.disjoint_left]
  rintro g h₁ h₂
  obtain ⟨c, -, rfl⟩ := Finset.mem_map.mp h₁
  obtain ⟨x, -, h⟩ := Finset.mem_map.mp h₂
  exact osem_ne x.2 (congrArg (fun t : GSem nD τ sig × ℕ × Dev nD => t.1.2) h)

theorem drop_self (c : Dev nD) (Φ : Dev nD → sProp (MM F)) : allD Φ ⊢ others c Φ := bigSep_subset (Finset.subset_univ _)

/-- Tokens of a pair of devices, seen from the other side. -/
theorem turned (Φ : Dev nD → Dev nD → sProp (MM F)) : allD (fun d => allD (Φ d)) ⊢ allD fun d => allD fun j => Φ j d :=
  Entails.of_eq (Pipeline.bigSep_univ_comm Φ)

theorem per_device (c : Dev nD) :
    iprop(allD (fun j => dutyTok ER (bar j) 0 c) ∗ allD (fun j => dutyTok ER (cell c 0 j) 0 0) ∗ allD (fun j => dutyTok ER (cell j 1 c) 0 0)
      ∗ allD (fun j => dutyTok ER (cell c 2 j) 0 0) ∗ allD (fun j => dutyTok ER (cell j 3 c) 0 0)
      ∗ allD (fun j => dutyTok ER (cell c 4 j) 0 0) ∗ allD (fun j => dutyTok ER (cell j 5 c) 0 0)) ⊢ (Toks c : sProp (MM F)) := by
  have h1 (j : Dev nD) : T1 (F := F) c 0 j = iprop(dutyTok ER (cell c 0 j) 0 0 ∗ dutyTok ER (cell j 1 c) 0 0 ∗ dutyTok ER (cell c 2 j) 0 0 ∗ dutyTok ER (cell j 3 c) 0 0) := by
    unfold T1; rw [if_neg (Nat.not_lt_zero _)]
  have h2 (j : Dev nD) : T2 (F := F) c 0 j = iprop(dutyTok ER (cell c 4 j) 0 0 ∗ dutyTok ER (cell j 5 c) 0 0) := by
    unfold T2; rw [if_neg (Nat.not_lt_zero _)]
  have e1 : others c (T1 (F := F) c 0) = iprop(others c (fun j => dutyTok ER (cell c 0 j) 0 0) ∗ others c (fun j => dutyTok ER (cell j 1 c) 0 0)
      ∗ others c (fun j => dutyTok ER (cell c 2 j) 0 0) ∗ others c (fun j => dutyTok ER (cell j 3 c) 0 0)) := by
    rw [show T1 (F := F) c 0 = _ from funext h1]
    unfold others
    rw [bigSep_sep', bigSep_sep', bigSep_sep']
  have e2 : others c (T2 (F := F) c 0) = iprop(others c (fun j => dutyTok ER (cell c 4 j) 0 0) ∗ others c (fun j => dutyTok ER (cell j 5 c) 0 0)) := by
    rw [show T2 (F := F) c 0 = _ from funext h2]
    unfold others
    rw [bigSep_sep']
  unfold Toks
  rw [e1, e2]
  iintro ⟨Hb, H0, H1, H2, H3, H4, H5⟩
  ihave Hb := (drop_self c _) $$ Hb
  ihave H0 := (drop_self c _) $$ H0
  ihave H1 := (drop_self c _) $$ H1
  ihave H2 := (drop_self c _) $$ H2
  ihave H3 := (drop_self c _) $$ H3
  ihave H4 := (drop_self c _) $$ H4
  ihave H5 := (drop_self c _) $$ H5
  iframe Hb H0 H1 H2 H3 H4 H5

theorem toks_dealt : bigSep allT (fun x => (dutyTok ER x.1 x.2.1 x.2.2 : sProp (MM F))) ⊢ allD (fun c => (Toks c : sProp (MM F))) := by
  have e : bigSep allT (fun x => (dutyTok ER x.1 x.2.1 x.2.2 : sProp (MM F)))
      = iprop(allD (fun c => allD fun j => dutyTok ER (bar j) 0 c)
        ∗ allD (fun c => allD fun j => dutyTok ER (cell c 0 j) 0 0) ∗ allD (fun c => allD fun j => dutyTok ER (cell c 1 j) 0 0)
        ∗ allD (fun c => allD fun j => dutyTok ER (cell c 2 j) 0 0) ∗ allD (fun c => allD fun j => dutyTok ER (cell c 3 j) 0 0)
        ∗ allD (fun c => allD fun j => dutyTok ER (cell c 4 j) 0 0) ∗ allD (fun c => allD fun j => dutyTok ER (cell c 5 j) 0 0)) := by
    unfold allT
    rw [BI.bigSep_union toks_disj, bigSep_map, bigSep_map, bigSep_univ_prod, bigSep_univ_prod]
    have e1 (c : Dev nD) : bigSep Finset.univ (fun b : Fin 6 × Dev nD => (dutyTok ER (cellT (c, b)).1 (cellT (c, b)).2.1 (cellT (c, b)).2.2 : sProp (MM F)))
        = iprop(allD (fun j => dutyTok ER (cell c 0 j) 0 0) ∗ allD (fun j => dutyTok ER (cell c 1 j) 0 0) ∗ allD (fun j => dutyTok ER (cell c 2 j) 0 0)
          ∗ allD (fun j => dutyTok ER (cell c 3 j) 0 0) ∗ allD (fun j => dutyTok ER (cell c 4 j) 0 0) ∗ allD (fun j => dutyTok ER (cell c 5 j) 0 0)) :=
      all_cells fun k j => dutyTok ER (cell c k j) 0 0
    rw [bigSep_congr fun c _ => e1 c, bigSep_sep', bigSep_sep', bigSep_sep', bigSep_sep', bigSep_sep']
    rfl
  have deal : iprop(allD (fun c => allD fun j => dutyTok ER (bar j) 0 c)
        ∗ allD (fun c => allD fun j => dutyTok ER (cell c 0 j) 0 0) ∗ allD (fun c => allD fun j => dutyTok ER (cell j 1 c) 0 0)
        ∗ allD (fun c => allD fun j => dutyTok ER (cell c 2 j) 0 0) ∗ allD (fun c => allD fun j => dutyTok ER (cell j 3 c) 0 0)
        ∗ allD (fun c => allD fun j => dutyTok ER (cell c 4 j) 0 0) ∗ allD (fun c => allD fun j => dutyTok ER (cell j 5 c) 0 0))
      ⊢ allD (fun c => (Toks c : sProp (MM F))) := by
    refine BIBase.Entails.trans (Entails.of_eq ?_) (all_mono fun c => per_device c)
    unfold allD
    rw [bigSep_sep', bigSep_sep', bigSep_sep', bigSep_sep', bigSep_sep', bigSep_sep']
  refine BIBase.Entails.trans (Entails.of_eq e) (BIBase.Entails.trans ?_ deal)
  iintro ⟨Hb, H0, H1, H2, H3, H4, H5⟩
  ihave H1 := (turned fun c j => dutyTok ER (cell c 1 j) 0 0) $$ H1
  ihave H3 := (turned fun c j => dutyTok ER (cell c 3 j) 0 0) $$ H3
  ihave H5 := (turned fun c j => dutyTok ER (cell c 5 j) 0 0) $$ H5
  iframe Hb H0 H1 H2 H3 H4 H5

/-! ## The credits -/

theorem owed_at (d : Dev nD) (g : GSem nD τ sig) :
    Owed d 0 0 0 g () = ∑ j ∈ Finset.univ.erase d, ((if g = bar j then 1 else 0)
      + ((if g = cell j 1 d then amt 1 else 0) + (if g = cell j 3 d then amt 3 else 0)) + (if g = cell j 5 d then amt 5 else 0)) := by
  unfold Owed
  rw [Finset.sum_apply, Finsupp.finsetSum_apply]
  refine Finset.sum_congr rfl fun j _ => ?_
  unfold Oj
  rw [if_neg (Nat.not_lt_zero _), if_neg (Nat.not_lt_zero _), if_neg (Nat.not_lt_zero _)]
  simp only [Pi.add_apply, Finsupp.add_apply, tallyAt_apply, and_true]

theorem bar_inj {c d : Dev nD} : bar c = bar d ↔ c = d :=
  ⟨fun h => congrArg (fun g : GSem nD τ sig => g.1.1) h, fun h => h ▸ rfl⟩
theorem cell_inj {c d j i : Dev nD} {k l : Fin 6} : cell c k j = cell d l i ↔ c = d ∧ k = l ∧ j = i :=
  ⟨fun h => by
    have := cellE.injective (a₁ := (c, k, j)) (a₂ := (d, l, i)) h
    simpa using this, fun ⟨h, h', h''⟩ => by rw [h, h', h'']⟩
theorem bar_cell (c d j : Dev nD) (k : Fin 6) : bar c ≠ cell d k j := fun h => osem_ne (k, j) (congrArg Prod.snd h).symm

theorem owed_bar (c d : Dev nD) : Owed d 0 0 0 (bar c) () = if d ∈ Finset.univ.erase c then 1 else 0 := by
  rw [owed_at]
  simp only [bar_cell, if_false, add_zero, bar_inj]
  rw [Finset.sum_ite_eq]
  simp only [Finset.mem_erase, Finset.mem_univ, and_true, ne_comm]
theorem owed_cell (c d j : Dev nD) (hj : j ≠ c) (k : Fin 6) (hk : k = 1 ∨ k = 3 ∨ k = 5) : Owed d 0 0 0 (cell c k j) () = if d = j then amt k else 0 := by
  rw [owed_at]
  by_cases hd : d = j
  · subst hd
    rw [if_pos rfl, Finset.sum_eq_single c]
    · rcases hk with rfl | rfl | rfl <;> simp [cell_inj, (bar_cell _ _ _ _).symm]
    · intro b _ hb
      simp [cell_inj, (bar_cell _ _ _ _).symm, Ne.symm hb]
    · intro h; exact absurd (Finset.mem_erase.mpr ⟨hj.symm, Finset.mem_univ _⟩) h
  · rw [if_neg hd]
    refine Finset.sum_eq_zero fun b _ => ?_
    have ne (l : Fin 6) : cell c k j ≠ cell b l d := fun h => hd (cell_inj.mp h).2.2.symm
    rw [if_neg (bar_cell _ _ _ _).symm, if_neg (ne 1), if_neg (ne 3), if_neg (ne 5)]
    rfl

theorem launch_bar (c : Dev nD) :
    tallyOn (bar c) (launchCredit (Pipeline.owing fun d => Owed d 0 0 0) 0 (bar c)) = (tallyAt (bar c) () 31 : CellTallies nD τ sig Unit) := by
  unfold tallyAt; refine congrArg _ (Finsupp.ext fun u => ?_); cases u
  rw [Pipeline.launchCredit_owing, Finsupp.single_eq_same, Finset.sum_congr rfl fun d _ => owed_bar c d, Finset.sum_ite_mem, Finset.univ_inter,
    Finset.sum_const, Finset.card_erase_of_mem (Finset.mem_univ _), Finset.card_univ, Fintype.card_fin]
  rfl
theorem launch_cell (c j : Dev nD) (hj : j ≠ c) (k : Fin 6) (hk : k = 1 ∨ k = 3 ∨ k = 5) :
    tallyOn (cell c k j) (launchCredit (Pipeline.owing fun d => Owed d 0 0 0) 0 (cell c k j)) = (tallyAt (cell c k j) () (amt k) : CellTallies nD τ sig Unit) := by
  unfold tallyAt; refine congrArg _ (Finsupp.ext fun u => ?_); cases u
  rw [Pipeline.launchCredit_owing, Finsupp.single_eq_same, Finset.sum_congr rfl fun d _ => owed_cell c d j hj k hk, Finset.sum_ite_eq' Finset.univ j fun _ => amt k,
    if_pos (Finset.mem_univ _)]

/-- The kernel's own semaphores among all of a core's. -/
def semE : Fin 6 × Dev nD ↪ SemLoc sig := ⟨osem, osem_inj⟩

theorem creds (c : Dev nD) : (Pipeline.launchCred (fun d => Owed d 0 0 0) c : sProp (MM F)) ⊢ Creds c := by
  have hs : insert (SemLoc.reg barS) (Finset.univ.map semE) ⊆ (Finset.univ : Finset (SemLoc sig)) := Finset.subset_univ _
  have hn : SemLoc.reg barS ∉ Finset.univ.map semE := by
    intro h
    obtain ⟨x, -, h⟩ := Finset.mem_map.mp h
    exact osem_ne x h
  have own (k : Fin 6) (hk : k = 1 ∨ k = 3 ∨ k = 5) :
      allD (fun j => cred (tallyOn (cell c k j) (launchCredit (Pipeline.owing fun d => Owed d 0 0 0) 0 (cell c k j))))
        ⊢ (others c (fun j => cred (tallyAt (cell c k j) () (amt k))) : sProp (MM F)) :=
    BIBase.Entails.trans (drop_self c _) (oth_eq c fun j hj => by rw [launch_cell c j hj k hk])
  have e : bigSep (insert (SemLoc.reg barS) (Finset.univ.map semE)) (fun sm : SemLoc sig => (cred (tallyOn ((c.tc : Thread nD τ), sm) (launchCredit (Pipeline.owing fun d => Owed d 0 0 0) 0 ((c.tc : Thread nD τ), sm))) : sProp (MM F)))
      = iprop(cred (tallyAt (bar c) () 31) ∗ bigSep Finset.univ fun kj : Fin 6 × Dev nD => cred (tallyOn (cell c kj.1 kj.2) (launchCredit (Pipeline.owing fun d => Owed d 0 0 0) 0 (cell c kj.1 kj.2)))) := by
    rw [bigSep_insert hn, bigSep_map, ← launch_bar]; rfl
  unfold Pipeline.launchCred Creds
  refine BIBase.Entails.trans (show _ ⊢ bigSep (insert (SemLoc.reg barS) (Finset.univ.map semE)) _ from bigSep_subset hs) (BIBase.Entails.trans (Entails.of_eq e) ?_)
  rw [all_cells fun k j => (cred (tallyOn (cell c k j) (launchCredit (Pipeline.owing fun d => Owed d 0 0 0) 0 (cell c k j))) : sProp (MM F))]
  iintro ⟨Hb, -, H1, -, H3, -, H5⟩
  ihave H1 := (own 1 (by decide)) $$ H1
  ihave H3 := (own 3 (by decide)) $$ H3
  ihave H5 := (own 5 (by decide)) $$ H5
  iframe Hb H1 H3 H5

end Cert.KernelIdeal.Att
-- ==== Proof.Go.lean ====
module
public import proofs.«01_k».proof.Proof.Start

/-!
# The run of the whole program
-/

@[expose] public section

noncomputable section

namespace Cert.KernelIdeal.Att

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

variable (m : (l : Loc nD τ sig) → Buf (Elt F) l) (ρ : Dev nD → PrngReg)

/-! ## The run -/

def endE : Fin 6 ↪ DevRef τ sig :=
  ⟨fun w => Proc.devRef .tc (match w with | 0 => main_arg0 | 1 => main_arg1 | 2 => main_arg2 | 3 => main_arg3 | 4 => main_arg4 | 5 => main_v7), by decide⟩
theorem endE_sub : Finset.univ.map endE ⊆ ucs := by decide

/-- The launch's element: the pipeline's and the protocol's. -/
def u₀ : UU :=
  (initOf (Pipeline.cells (Pipeline.pin (pcfgs (F := F)) adm) cellOf_inj) (Pipeline.launchToks (Pipeline.pin (pcfgs (F := F)) adm) cellOf_inj),
    launchOf bars cells allT)

theorem famPair {Φ Ψ : Dev nD → sProp (MM F)} : iprop(bigSep Finset.univ Φ ∗ bigSep Finset.univ Ψ) ⊢ bigSep Finset.univ fun c => iprop(Φ c ∗ Ψ c) :=
  Entails.of_eq (bigSep_sep' _ Φ Ψ).symm
theorem famUnpair {Φ Ψ : Dev nD → sProp (MM F)} : (bigSep Finset.univ fun c => iprop(Φ c ∗ Ψ c)) ⊢ iprop(bigSep Finset.univ Φ ∗ bigSep Finset.univ Ψ) :=
  Entails.of_eq (bigSep_sep' _ Φ Ψ)

/-- The protocol's part waits at device 0 until it is dealt. -/
def Gd (c : Dev nD) : sProp (MM F) := if c = 0 then BI.own (ER (launchOf bars cells allT)) else iprop(emp)
theorem Gd_all : bigSep Finset.univ (Gd (F := F)) = (BI.own (ER (launchOf bars cells allT)) : sProp (MM F)) := by
  rw [bigSep_univ_at _ (0 : Dev nD), bigSep_congr (s := Finset.univ.erase (0 : Dev nD)) (Ψ := fun _ => (BI.emp : sProp (MM F)))
      fun c hc => by unfold Gd; rw [if_neg (Finset.ne_of_mem_erase hc)]; rfl, BI.bigSep_emp_const]
  unfold Gd; rw [if_pos rfl]
  exact BI.equiv_iff.mp sep_emp

def Rk (c : Dev nD) : sProp (MM F) := iprop((∃ r, prngReg c r) ∗ Tk m c ∗ ∃ W, owes (c : Thread nD τ) (Owed c 0 0 0) W)
def W₀ (c : Dev nD) : Valuation τ sig (Elt F) := fun b => m (c, b)

def host : Pipeline.HostSeg (Ix := Unit) (Name := ℕ) (U := UU) (Lvl := ℕ) (pcfgs (F := F)) defs₀ 𝒱₀ L lv :=
  Pipeline.HostSeg.ofOps _ _ _ _ _ ucs hostOps0 (fun op h => Pipeline.sub_ucRefs op (List.forall_iff_forall_mem.mp hostOps0_sub op h))
    (List.forall_iff_forall_mem.mp hostOps0_fresh) (W₀ m) (Rk m)

def segs : List (Pipeline.Seg (pcfgs (F := F)) adm (pdats m) () defs₀ 𝒱₀ L lv) := [.host (host m), .region (reg m)]

abbrev T₀ (c : Dev nD) : sProp (MM F) := iprop(StableHlo.held (c : Thread nD τ) ucs (W₀ m c) ∗ Rk m c)
abbrev Tₙ (c : Dev nD) : sProp (MM F) := iprop(StableHlo.held (c : Thread nD τ) ucs (W₂ m c) ∗ semVal (bar c) 0)

theorem reg_pre (c : Dev nD) : iprop(StableHlo.held (c : Thread nD τ) ucs (W₁ m c) ∗ Rk m c) ⊢ (reg m).pre c := by
  show _ ⊢ iprop(StableHlo.held (c.tc : Thread nD τ) arrs (W₁ m c) ∗ (∃ r, prngReg c r)
    ∗ (StableHlo.held (c.tc : Thread nD τ) (ucs \ arrs) (W₁ m c) ∗ emp) ∗ Tk m c ∗ ∃ Wd, owes (c : Thread nD τ) (0 + Owed c 0 0 0) Wd)
  rw [zero_add, StableHlo.held_sub_split (c : Thread nD τ) arrs_sub (W₁ m c)]
  unfold Rk
  iintro ⟨⟨Ha, Hr⟩, Hp, HT, HO⟩
  iframe Ha Hp Hr HT HO

theorem reg_post (c : Dev nD) : (reg m).post c ⊢ iprop(Tₙ m c ∗ ∃ W, owes (c : Thread nD τ) (0 : CellTallies nD τ sig Unit) W) := by
  show iprop(StableHlo.held (c.tc : Thread nD τ) arrs (W₂ m c) ∗ (∃ r, prngReg c r)
    ∗ (StableHlo.held (c.tc : Thread nD τ) (ucs \ arrs) (W₂ m c) ∗ emp) ∗ semVal (bar c) 0 ∗ ∃ Wd, owes (c : Thread nD τ) (0 : CellTallies nD τ sig Unit) Wd) ⊢ _
  dsimp only [Tₙ]
  rw [StableHlo.held_sub_split (c : Thread nD τ) arrs_sub (W₂ m c)]
  iintro ⟨Ha, -, ⟨Hr, -⟩, Hb, HO⟩
  iframe Ha Hr Hb HO

theorem sems_eq (c : Dev nD) : (unscopedSems0 c : sProp (MM F)) = semVal (bar c) 0 := by
  unfold unscopedSems0
  rw [show (Finset.univ.filter fun sm : SemLoc sig => ¬ sm.isScoped .tc) = {SemLoc.reg barS} from by decide, BI.bigSep_singleton]

/-- What stays with a device when the cells are made. -/
def Kept (c : Dev nD) : sProp (MM F) :=
  iprop(StableHlo.held (c : Thread nD τ) ucs (W₀ m c) ∗ owes (c : Thread nD τ) (Owed c 0 0 0) ∅ ∗ Creds c ∗ prngReg c (ρ c))
/-- What a device gets of the cells. -/
def Dealt (c : Dev nD) : sProp (MM F) :=
  iprop(atPos ER (bar c) 0 ∅ 0 ∗ (bigSep Finset.univ fun kj : Fin 6 × Dev nD => openTok ER (cell c kj.1 kj.2)) ∗ Toks c)

theorem T₀_made (κ : GSem nD τ sig → ℕ) (c : Dev nD) : iprop(Recs (vals m) κ ∗ (Dealt c ∗ Kept m ρ c)) ⊢ T₀ m c := by
  unfold Dealt Kept T₀ Rk Tk
  iintro ⟨#HR, ⟨Hb, Ho, HT⟩, Hh, HO, HC, Hp⟩
  iframe Hh
  isplitl [Hp]; · iexists _; iexact Hp
  isplitr [HO]
  · iexists κ
    iframe HR Ho Hb HT HC
  · iexists ∅; iexact HO

theorem recs_made (κ : GSem nD τ sig → ℕ) :
    iprop((bigSep (bars ∪ cells) fun g => cellInv ER (Rd (vals m)) (κ g) g) ∗ (bigSep bars fun g => reached ER g 0) ∗ levAts L lv)
      ⊢ (Recs (vals m) κ : sProp (MM F)) := by
  have hb (d : Dev nD) : (bigSep (bars ∪ cells) fun g => (cellInv ER (Rd (vals m)) (κ g) g : sProp (MM F))) ⊢ cellInv ER (Rd (vals m)) (κ (bar d)) (bar d) :=
    bigSep_elim (Finset.mem_union_left _ (Finset.mem_map_of_mem barE (Finset.mem_univ d)))
  have hc (d : Dev nD) (k : Fin 6) (j : Dev nD) : (bigSep (bars ∪ cells) fun g => (cellInv ER (Rd (vals m)) (κ g) g : sProp (MM F)))
      ⊢ cellInv ER (Rd (vals m)) (κ (cell d k j)) (cell d k j) :=
    bigSep_elim (Finset.mem_union_right _ (Finset.mem_map_of_mem cellE (Finset.mem_univ (d, k, j))))
  have hr (d : Dev nD) : (bigSep bars fun g => (reached ER g 0 : sProp (MM F))) ⊢ reached ER (bar d) 0 :=
    bigSep_elim (Finset.mem_map_of_mem barE (Finset.mem_univ d))
  unfold Recs
  iintro ⟨#HI, #HR, #HL⟩
  isplitr; · iintro %d; iapply (hb d); iexact HI
  isplitr; · iintro %d %k %j; iapply (hc d k j); iexact HI
  isplitr; · iintro %d; iapply (hr d); iexact HR
  iexact HL

/-- What the launch hands to a core. -/
abbrev Given (c : Dev nD) : sProp (MM F) := iprop(unscopedBufs c (fun b => m ((c : Thread nD τ).loc b)) ∗ unscopedSems0 c
  ∗ owes (c : Thread nD τ) (Owed c 0 0 0) ∅ ∗ Pipeline.launchCred (fun d => Owed d 0 0 0) c ∗ prngReg c (ρ c) ∗ Gd c)

theorem bufs_eq (c : Dev nD) : (unscopedBufs c (fun b => m ((c : Thread nD τ).loc b)) : sProp (MM F)) = StableHlo.held (c : Thread nD τ) ucs (W₀ m c) :=
  Pipeline.unscopedBufs_held c (W₀ m c)

theorem given (c : Dev nD) : Given m ρ c ⊢ (iprop(Kept m ρ c ∗ (semVal (bar c) 0 ∗ Gd c)) : sProp (MM F)) := by
  unfold Given Kept
  rw [bufs_eq, sems_eq]
  iintro ⟨Hh, Hs, HO, Hcr, Hp, HG⟩
  ihave Hc := (creds (F := F) c) $$ Hcr
  iframe Hh HO Hc Hp Hs HG

theorem given_all : bigSep Finset.univ (Given m ρ) ⊢ (iprop(bigSep Finset.univ (Kept m ρ) ∗ (bigSep Finset.univ (fun c : Dev nD => semVal (bar c) 0) ∗ bigSep Finset.univ Gd)) : sProp (MM F)) := by
  refine BIBase.Entails.trans (fam_mono fun c => given m ρ c) ?_
  rw [bigSep_sep', bigSep_sep']

theorem bars_in : bigSep Finset.univ (fun c : Dev nD => (semVal (bar c) 0 : sProp (MM F))) ⊢ bigSep bars (fun g => (semVal g 0 : sProp (MM F))) :=
  Entails.of_eq (bigSep_map (s := Finset.univ) barE (Φ := fun g : GSem nD τ sig => (semVal g 0 : sProp (MM F)))).symm
theorem bars_out : bigSep bars (fun g => (atPos ER g 0 ∅ 0 : sProp (MM F))) ⊢ bigSep Finset.univ (fun c : Dev nD => (atPos ER (bar c) 0 ∅ 0 : sProp (MM F))) :=
  Entails.of_eq (bigSep_map (s := Finset.univ) barE (Φ := fun g : GSem nD τ sig => (atPos ER g 0 ∅ 0 : sProp (MM F))))
theorem cells_out : bigSep cells (fun g => (openTok ER g : sProp (MM F)))
    ⊢ bigSep Finset.univ (fun c : Dev nD => bigSep Finset.univ fun kj : Fin 6 × Dev nD => (openTok ER (cell c kj.1 kj.2) : sProp (MM F))) := by
  refine Entails.of_eq ((bigSep_map (s := Finset.univ) cellE (Φ := fun g : GSem nD τ sig => (openTok ER g : sProp (MM F)))).trans ?_)
  exact bigSep_univ_prod (fun x : Dev nD × (Fin 6 × Dev nD) => (openTok ER (cell x.1 x.2.1 x.2.2) : sProp (MM F)))

theorem dealt_all : iprop(bigSep bars (fun g => atPos ER g 0 ∅ 0) ∗ bigSep cells (fun g => openTok ER g) ∗ bigSep allT (fun x => dutyTok ER x.1 x.2.1 x.2.2))
    ⊢ (bigSep Finset.univ Dealt : sProp (MM F)) := by
  iintro ⟨Ha, Ho, Ht⟩
  ihave Ha := bars_out $$ Ha
  ihave Ho := cells_out $$ Ho
  ihave Ht := (toks_dealt (F := F)) $$ Ht
  unfold Dealt
  iapply famPair
  iframe Ha
  iapply famPair
  iframe Ho Ht

theorem made_all (κ : GSem nD τ sig → ℕ) : iprop(Recs (vals m) κ ∗ bigSep Finset.univ Dealt ∗ bigSep Finset.univ (Kept m ρ)) ⊢ (bigSep Finset.univ (T₀ m) : sProp (MM F)) := by
  refine BIBase.Entails.trans ?_ (bigSep_with_persistent (R := Recs (vals m) κ) (Φ := fun c => iprop(Dealt c ∗ Kept m ρ c)) fun c _ => T₀_made m ρ κ c)
  rw [bigSep_sep']

theorem funded : iprop(bigSep bars (fun g => (semVal g 0 : sProp (MM F))) ∗ BI.own (ER (launchOf bars cells allT)))
    ⊢ iprop(|={Set.univ}=> ∃ κ : GSem nD τ sig → ℕ, bigSep (bars ∪ cells) (fun g => cellInv ER (Rd (vals m)) (κ g) g)
          ∗ bigSep bars (fun g => reached ER g 0) ∗ bigSep bars (fun g => atPos ER g 0 ∅ 0)
          ∗ bigSep cells (fun g => openTok ER g)
          ∗ bigSep allT (fun x => dutyTok ER x.1 x.2.1 x.2.2)) := by
  iintro H
  imod (Rounds.fund_launch ER (Rd (vals m)) bars_cells (fun g _ h => h) allT) $$ H with ⟨%κ, -, H⟩
  imodintro
  iexists κ
  iexact H

theorem init : iprop((bigSep Finset.univ fun c : Dev nD => Given m ρ c) ∗ levAts L lv)
      ⊢ (|={Set.univ}=> bigSep Finset.univ (T₀ m) : sProp (MM F)) := by
  iintro ⟨H, #HL⟩
  ihave H := (given_all m ρ) $$ H
  icases H with ⟨HB, Hv, HG⟩
  ihave Hu := (Entails.of_eq (Gd_all (F := F))) $$ HG
  ihave Hv := bars_in $$ Hv
  imod (funded m) $$ [Hv Hu] with ⟨%κ, #Hinv, #Hr, Hat, Hopen, Htok⟩
  · iframe Hv Hu
  imodintro
  iapply (made_all m ρ κ)
  isplitr
  · iapply (recs_made m κ)
    iframe Hinv Hr HL
  isplitr [HB]
  · iapply dealt_all
    iframe Hat Hopen Htok
  · iexact HB

theorem bar_only : ∀ sm : SemLoc sig, sm.isScoped .tc = false → sm = .reg barS := by decide

theorem held_ends (c : Dev nD) (W : Valuation τ sig (Elt F)) : StableHlo.held (c : Thread nD τ) ucs W
    ⊢ (bigSep Finset.univ fun w : Fin 6 => ((c, endE w) : Loc nD τ sig) ↦{fullShare} W (endE w) : sProp (MM F)) := by
  unfold StableHlo.held
  refine BIBase.Entails.trans (show _ ⊢ bigSep (Finset.univ.map endE) _ from bigSep_subset endE_sub) (Entails.of_eq ?_)
  rw [bigSep_map]

set_option backward.isDefEq.respectTransparency.types false in
/-- From any memory every fair execution ends, with every array at what `W₂` says and every counter at zero. -/
theorem run_main : θ_run defs (onTc (τ := τ) (main (F := F))) ⟨m, fun _ => 0, ρ⟩
    (fun r => (∀ (c : Dev nD) (w : Fin 6), r.2.mem (c, endE w) = W₂ m c (endE w)) ∧ r.2.sem = fun _ => 0) :=
  Pipeline.θ_run_regions_kit_sems (pcfgs (F := F)) adm (pdats m) () cellOf_inj EP defs₀ 𝒱₀ L lv m ρ main (segs m)
    (fun c Q => by rw [main_segs adm (pdats m) () 𝒱₀ L lv (host m) (reg m) rfl c]; exact BI.Entails.refl _)
    (by simp only [segs, Pipeline.Seg.pipes_host, Pipeline.Seg.pipes_region, Pipeline.Seg.pipes_nil]; decide)
    (O₀ := fun d => Owed d 0 0 0) (hL := L_of_ne) (G := Gd) (u₀ := u₀ (F := F))
    (hu₀ := by
      unfold u₀
      iintro Hu
      ihave H := (ownU_pair _ _) $$ Hu
      icases H with ⟨HP, HX⟩
      imodintro
      isplitl [HP]; · iexact HP
      rw [Gd_all]; iexact HX)
    (T₀ := T₀ m) (Tₙ := Tₙ m)
    (hch := ⟨fun c => .rfl, fun c => reg_pre m c, fun c => reg_post m c⟩)
    (hinit := init m ρ)
    (QY := fun c s => (∀ w : Fin 6, s.mem (c, endE w) = W₂ m c (endE w)) ∧ s.sem (bar c) = 0)
    (hfin := fun c s' => by
      iintro ⟨⟨Hh, Hb⟩, HSI⟩
      ihave Hh := (held_ends c (W₂ m c)) $$ Hh
      ihave Hh := (Entails.of_eq (six fun w : Fin 6 => (((c, endE w) : Loc nD τ sig) ↦{fullShare} W₂ m c (endE w) : sProp (MM F)))) $$ Hh
      icases Hh with ⟨H0, H1, H2, H3, H4, H5⟩
      icombine HSI H0 gives %h0
      icombine HSI H1 gives %h1
      icombine HSI H2 gives %h2
      icombine HSI H3 gives %h3
      icombine HSI H4 gives %h4
      icombine HSI H5 gives %h5
      icombine HSI Hb gives %hb
      imodintro
      isplitr
      · ipureintro
        refine ⟨fun w => ?_, by simpa using hb⟩
        fin_cases w
        exacts [Buf.eq_of_forall_mem_univ h0, Buf.eq_of_forall_mem_univ h1, Buf.eq_of_forall_mem_univ h2, Buf.eq_of_forall_mem_univ h3,
          Buf.eq_of_forall_mem_univ h4, Buf.eq_of_forall_mem_univ h5]
      iexact HSI)
    (hQ := fun s h hs => ⟨fun c => (h c).1, sem_eq_zero hs fun c sm hsm => by
        obtain rfl := bar_only sm hsm
        exact (h c).2⟩)

end Cert.KernelIdeal.Att
-- ==== Proof.Frames.lean ====
module
public import proofs.«01_k».proof.Defs
public import proofs.«01_k».proof.Proof.Gen.Kernel
public import proofs.«01_k».proof.Proof.Go

/-!
# The two frames of the kernel

The run is over any float values, so the printed program's frame is the same run at its words.
-/

@[expose] public section

noncomputable section

namespace Cert.KernelIdeal.Att

open Cert.KernelIdeal Cert.KernelIdeal.Gen
open Idealize.ShloMosaic
open Idealize.ShloMosaic.TcCoe
open Idealize.SL.Sem

variable {F : FTy → Type} [FloatOps F]
variable (m : (l : Loc nD τ sig) → Buf (Elt F) l)

/-- An argument is at the end what it was. -/
theorem W₂_arg (c : Dev nD) (b : Ref sig .tc) (h : Proc.devRef (τ := τ) .tc b ≠ Proc.devRef .tc main_v7)
    (hV : Gen.V m c b = m ((c : Thread nD τ).loc b)) : W₂ m c (Proc.devRef .tc b) = m ((c : Thread nD τ).loc b) := by
  unfold W₂
  rw [Function.update_of_ne h]
  exact hV

/-- Every execution ends with the arguments unchanged, the result at what the last device's region wrote and all counters at zero. -/
theorem run_ends (ρ : Dev nD → PrngReg) : θ_run defs (onTc (τ := τ) (main (F := F))) ⟨m, fun _ => 0, ρ⟩
    (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.mem ((c.tc : Thread nD τ).loc main_v7) = (dat0 m c).arrAt 5 cfg0.N) ∧ r.2.sem = fun _ => 0) :=
  (θ_run defs _ _).mono (fun _ h => ⟨fun c =>
    ⟨⟨(h.1 c 0).trans (W₂_arg m c main_arg0 (by decide) (V_main_arg0 m c)),
      (h.1 c 1).trans (W₂_arg m c main_arg1 (by decide) (V_main_arg1 m c)),
      (h.1 c 2).trans (W₂_arg m c main_arg2 (by decide) (V_main_arg2 m c)),
      (h.1 c 3).trans (W₂_arg m c main_arg3 (by decide) (V_main_arg3 m c)),
      (h.1 c 4).trans (W₂_arg m c main_arg4 (by decide) (V_main_arg4 m c))⟩,
      (h.1 c 5).trans (W₂_arr m c 5).symm⟩, h.2⟩) (run_main m ρ)

theorem frame_ideal : Cert.quiescent_KernelIdeal := fun m ρ _ =>
  (θ_run Cert.KernelIdeal.defs _ _).mono (fun _ h => ⟨fun c => (h.1 c).1, h.2⟩) (run_ends (F := Ideal) m ρ)

/-- The printed program is the idealized one: no operation was replaced. -/
theorem main_same : Cert.Kernel.main (F := F) = Cert.KernelIdeal.main (F := F) := rfl

theorem defs₀_same : Cert.Kernel.defs₀ (F := F) = Cert.KernelIdeal.defs₀ (F := F) := by
  unfold Cert.Kernel.defs₀ Cert.KernelIdeal.defs₀
  refine congrArg Defs.onTc (funext fun l => funext fun x => ?_)
  match l, x with
  | ⟨0, _⟩, (t, s) => rfl
  | ⟨_ + 1, h⟩, _ => exact absurd h (Nat.not_lt.2 (Nat.le_add_left _ _))

theorem defs_same : Cert.Kernel.defs (F := F) = Cert.KernelIdeal.defs (F := F) :=
  congrArg (Pipeline.defs Cert.KernelIdeal.pcfgs) defs₀_same

theorem frame_kernel : Cert.quiescent_Kernel := by
  intro m ρ _
  rw [main_same, defs_same]
  exact (θ_run (Cert.KernelIdeal.defs (F := Bits)) _ _).mono (fun _ h => ⟨fun c => (h.1 c).1, h.2⟩) (run_ends (F := Bits) m ρ)

end Cert.KernelIdeal.Att
-- ==== Proof.Soft.lean ====
module
public import Idealize.ShloMosaic.Lib.Pointwise

/-!
# Softmax sums over the extended reals

A set of scores is summed up by its largest score, the sum of the exponentials relative to it and the sum of the values
weighted by them. Two such summaries of disjoint sets merge to the summary of the union, whatever the scores and values:
a score below the maximum is scaled by a factor between 0 and 1, which distributes over the sums.
-/

@[expose] public section

noncomputable section

namespace Cert.Soft

open Idealize.ShloMosaic

variable {ι : Type} [DecidableEq ι]

/-- The weight of a score relative to a maximum. -/
def ew (a b : EReal) : EReal := Ideal.exp (a - b)

theorem ew_bot (b : EReal) : ew ⊥ b = 0 := by
  unfold ew
  rw [sub_eq_add_neg, EReal.bot_add]
  rfl

theorem ew_top (a : EReal) : ew a ⊤ = 0 := by
  unfold ew
  rw [sub_eq_add_neg, EReal.neg_top, EReal.add_bot]
  rfl

theorem ew_coe (a b : ℝ) : ew a b = (Real.exp (a - b) : EReal) := rfl

theorem ew_nonneg {a b : EReal} (h : a ≤ b) : 0 ≤ ew a b := by
  induction b using EReal.rec with
  | bot => rw [le_bot_iff.1 h, ew_bot]
  | top => rw [ew_top]
  | coe b =>
    induction a using EReal.rec with
    | bot => rw [ew_bot]
    | top => exact absurd (top_le_iff.1 h) (EReal.coe_ne_top b)
    | coe a => rw [ew_coe]; exact EReal.coe_nonneg.2 (Real.exp_pos _).le

theorem ew_ne_top {a b : EReal} (h : a ≤ b) : ew a b ≠ ⊤ := by
  induction b using EReal.rec with
  | bot => rw [le_bot_iff.1 h, ew_bot]; exact EReal.zero_ne_top
  | top => rw [ew_top]; exact EReal.zero_ne_top
  | coe b =>
    induction a using EReal.rec with
    | bot => rw [ew_bot]; exact EReal.zero_ne_top
    | top => exact absurd (top_le_iff.1 h) (EReal.coe_ne_top b)
    | coe a => rw [ew_coe]; exact EReal.coe_ne_top _

theorem ew_mul {s a b : EReal} (h : s ≤ a) (h' : a ≤ b) : ew a b * ew s a = ew s b := by
  induction b using EReal.rec with
  | bot =>
    rw [le_bot_iff.1 h'] at h ⊢
    rw [le_bot_iff.1 h, ew_bot, zero_mul]
  | top => rw [ew_top, ew_top, zero_mul]
  | coe b =>
    induction a using EReal.rec with
    | bot => rw [le_bot_iff.1 h, ew_bot, ew_bot, zero_mul]
    | top => exact absurd (top_le_iff.1 h') (EReal.coe_ne_top b)
    | coe a =>
      induction s using EReal.rec with
      | bot => rw [ew_bot, ew_bot, mul_zero]
      | top => exact absurd (top_le_iff.1 h) (EReal.coe_ne_top a)
      | coe s =>
        rw [ew_coe, ew_coe, ew_coe, ← EReal.coe_mul, ← Real.exp_add]
        congr 2
        ring

theorem mul_sum' {c : EReal} (h0 : 0 ≤ c) (ht : c ≠ ⊤) (A : Finset ι) (f : ι → EReal) : c * ∑ a ∈ A, f a = ∑ a ∈ A, c * f a := by
  induction A using Finset.cons_induction with
  | empty => simp
  | cons a A ha ih => rw [Finset.sum_cons, Finset.sum_cons, EReal.left_distrib_of_nonneg_of_ne_top h0 ht, ih]

/-- The sums over a set: of the weights relative to `M`, and of the weighted values. -/
def wsum (A : Finset ι) (s : ι → EReal) (M : EReal) : EReal := ∑ a ∈ A, ew (s a) M
def vsum (A : Finset ι) (s v : ι → EReal) (M : EReal) : EReal := ∑ a ∈ A, ew (s a) M * v a

theorem wsum_scale (A : Finset ι) (s : ι → EReal) {M N : EReal} (h : ∀ a ∈ A, s a ≤ M) (hM : M ≤ N) : ew M N * wsum A s M = wsum A s N := by
  unfold wsum
  rw [mul_sum' (ew_nonneg hM) (ew_ne_top hM)]
  exact Finset.sum_congr rfl fun a ha => ew_mul (h a ha) hM

theorem vsum_scale (A : Finset ι) (s v : ι → EReal) {M N : EReal} (h : ∀ a ∈ A, s a ≤ M) (hM : M ≤ N) : ew M N * vsum A s v M = vsum A s v N := by
  unfold vsum
  rw [mul_sum' (ew_nonneg hM) (ew_ne_top hM)]
  exact Finset.sum_congr rfl fun a ha => by rw [← mul_assoc, ew_mul (h a ha) hM]

theorem wsum_union {A B : Finset ι} (hd : Disjoint A B) (s : ι → EReal) :
    ew (A.sup s) ((A ∪ B).sup s) * wsum A s (A.sup s) + ew (B.sup s) ((A ∪ B).sup s) * wsum B s (B.sup s) = wsum (A ∪ B) s ((A ∪ B).sup s) := by
  rw [wsum_scale A s (fun _ h => Finset.le_sup h) (Finset.sup_mono Finset.subset_union_left),
    wsum_scale B s (fun _ h => Finset.le_sup h) (Finset.sup_mono Finset.subset_union_right)]
  exact (Finset.sum_union hd).symm

theorem vsum_union {A B : Finset ι} (hd : Disjoint A B) (s v : ι → EReal) :
    ew (A.sup s) ((A ∪ B).sup s) * vsum A s v (A.sup s) + ew (B.sup s) ((A ∪ B).sup s) * vsum B s v (B.sup s)
      = vsum (A ∪ B) s v ((A ∪ B).sup s) := by
  rw [vsum_scale A s v (fun _ h => Finset.le_sup h) (Finset.sup_mono Finset.subset_union_left),
    vsum_scale B s v (fun _ h => Finset.le_sup h) (Finset.sup_mono Finset.subset_union_right)]
  exact (Finset.sum_union hd).symm

/-- One step of the running softmax: the earlier sums scaled, the chunk's weights taken at the new maximum. -/
theorem wsum_step {A B : Finset ι} (hd : Disjoint A B) (s : ι → EReal) :
    wsum A s (A.sup s) * ew (A.sup s) ((A ∪ B).sup s) + wsum B s ((A ∪ B).sup s) = wsum (A ∪ B) s ((A ∪ B).sup s) := by
  rw [mul_comm, wsum_scale A s (fun _ h => Finset.le_sup h) (Finset.sup_mono Finset.subset_union_left)]
  exact (Finset.sum_union hd).symm

theorem vsum_step {A B : Finset ι} (hd : Disjoint A B) (s v : ι → EReal) :
    vsum A s v (A.sup s) * ew (A.sup s) ((A ∪ B).sup s) + vsum B s v ((A ∪ B).sup s) = vsum (A ∪ B) s v ((A ∪ B).sup s) := by
  rw [mul_comm, vsum_scale A s v (fun _ h => Finset.le_sup h) (Finset.sup_mono Finset.subset_union_left)]
  exact (Finset.sum_union hd).symm

/-- A fold of maxima is the supremum. -/
theorem fold_max_eq_sup (A : Finset ι) (f : ι → EReal) : A.fold max ⊥ f = A.sup f := rfl

/-- The start of a maximum is the least value. -/
theorem negInf : FloatOps.ofBits (F := Ideal) .f32 0xFF800000#32 = (⊥ : EReal) := by
  show Ideal.ofBits .f32 0xFF800000#32 = ⊥
  simp [Ideal.ofBits, Ideal.ieee]

/-! ## The keys: `n` consecutive ones -/

/-- Position `j` of the chunk of `n` positions number `c`. -/
def key (n : ℕ) (c : ℕ) (h : n * c + n ≤ 16384) : Fin n ↪ Fin 16384 where
  toFun j := ⟨n * c + j.val, by have := j.isLt; omega⟩
  inj' a b h := by
    have h' := Fin.mk.inj_iff.1 h
    exact Fin.ext (by omega)

/-- The positions of a chunk. -/
def chunk (n c : ℕ) : Finset (Fin 16384) := Finset.univ.filter fun a => n * c ≤ a.val ∧ a.val < n * c + n

theorem map_key (n c : ℕ) (h : n * c + n ≤ 16384) : Finset.univ.map (key n c h) = chunk n c := by
  ext a
  simp only [chunk, key, Finset.mem_map, Finset.mem_univ, true_and, Finset.mem_filter, Function.Embedding.coeFn_mk]
  constructor
  · rintro ⟨j, rfl⟩
    have := j.isLt
    exact ⟨by show _ ≤ n * c + j.val; omega, by show n * c + j.val < _; omega⟩
  · rintro ⟨h1, h2⟩
    exact ⟨⟨a.val - n * c, by omega⟩, Fin.ext (by show n * c + (a.val - n * c) = a.val; omega)⟩

theorem sum_chunk (n c : ℕ) (h : n * c + n ≤ 16384) (f : Fin 16384 → EReal) : ∑ j, f (key n c h j) = ∑ a ∈ chunk n c, f a := by
  rw [← map_key n c h, Finset.sum_map]

theorem sup_chunk (n c : ℕ) (h : n * c + n ≤ 16384) (f : Fin 16384 → EReal) :
    Finset.univ.fold max ⊥ (fun j => f (key n c h j)) = (chunk n c).sup f := by
  rw [← map_key n c h, Finset.sup_map]
  rfl

end Cert.Soft
-- ==== Proof.Merge.lean ====
module
public import proofs.«01_k».proof.Proof.Spec
public import proofs.«01_k».proof.Proof.Soft

/-!
# The merge, at the extended reals

Halving the rows joins the summaries of two disjoint sets of keys; after five halvings every row holds all keys.
-/

@[expose] public section

noncomputable section

namespace Cert.KernelIdeal.Att

open Cert.KernelIdeal Cert.KernelIdeal.Gen
open Idealize.ShloMosaic
open Idealize.ShloMosaic.TcCoe
open Cert.Soft

/-- Column `e` of head `i` among the 1024. -/
def col (i : Fin 16) (e : Fin 64) : Fin 1024 := ⟨64 * i.val + e.val, by omega⟩
def row8 (p : ℕ) : Fin 8 := ⟨p % 8, Nat.mod_lt _ (by decide)⟩

/-- Sixteen pieces of one shape, as a family. -/
theorem cat16 {α : Type} (n w : ℕ) (f : Fin 16 → ((⟨2, ![n, w]⟩ : Shape).Idx → α)) {T : ℕ}
    (h : Shape.Concatenates ((List.ofFn fun i : Fin 16 => (⟨⟨2, ![n, w]⟩, f i⟩ : (s : Shape) × (s.Idx → α))).map (·.1)) ⟨2, ![n, T]⟩ 1)
    (p : Fin n) (i : Fin 16) (e : Fin w) (c : Fin T) (hc : c.val = w * i.val + e.val) :
    concatenate ⟨2, ![n, T]⟩ 1 (List.ofFn fun i : Fin 16 => (⟨⟨2, ![n, w]⟩, f i⟩ : (s : Shape) × (s.Idx → α))) h (ix2 p c) = f i (ix2 p e) := by
  have hw : 0 < w := Nat.zero_lt_of_lt e.isLt
  refine concatenate_ofFn_apply 1 f h rfl w rfl (ix2 p c) i ?_ (ix2 p e) ?_ ?_
  · show c.val / w = i.val
    rw [hc, Nat.mul_add_div hw, Nat.div_eq_of_lt e.isLt, Nat.add_zero]
  · show e.val = c.val % w
    rw [hc, Nat.mul_add_mod, Nat.mod_eq_of_lt e.isLt]
  · intro b hb
    match b with
    | 0 => rfl
    | 1 => exact absurd rfl hb

theorem expandE_at (n : ℕ) (a : FVec Ideal (R16 n) .f32) (p : Fin n) (i : Fin 16) (e : Fin 64) : expandE n a (ix2 p (col i e)) = a (ix2 p i) := by
  refine (cat16 n 64 (colE n a) (catE n) p i e (col i e) rfl).trans ?_
  unfold colE colC colS
  rw [shapeCast_self]
  refine (broadcastTo_apply _ _ _ (ix2 p 0) fun b => ?_).trans (extractStridedSlice_apply _ _ _ _ _ fun b => ?_)
  · match b with
    | 0 =>
      show p.val = if n = 1 then 0 else p.val
      split_ifs with h
      · subst h; omega
      · rfl
    | 1 => rfl
  · match b with
    | 0 => exact (Nat.zero_add _).symm
    | 1 => rfl

theorem lo_at (n d : ℕ) (x : FVec Ideal ⟨2, ![2 * n, d]⟩ .f32) (p : Fin n) (c : Fin d) :
    extractStridedSlice ⟨2, ![n, d]⟩ ![0, 0] x (slLo n d) (ix2 p c) = x (ix2 ⟨p.val, by omega⟩ c) :=
  extractStridedSlice_apply _ _ _ _ _ fun b => match b with
    | 0 => (Nat.zero_add _).symm
    | 1 => (Nat.zero_add _).symm

theorem hi_at (n d : ℕ) (x : FVec Ideal ⟨2, ![2 * n, d]⟩ .f32) (p : Fin n) (c : Fin d) :
    extractStridedSlice ⟨2, ![n, d]⟩ ![n, 0] x (slHi n d) (ix2 p c) = x (ix2 ⟨n + p.val, by omega⟩ c) :=
  extractStridedSlice_apply _ _ _ _ _ fun b => match b with
    | 0 => rfl
    | 1 => (Nat.zero_add _).symm

/-- The keys that row `p` of `n` has seen. -/
def cov (n p : ℕ) : Finset (Fin 16384) := Finset.univ.filter fun a => (8 * (a.val / 512) + p % 8) % n = p

theorem cov_all (p : ℕ) (h : p < 256) : cov 256 p = chunk 512 (p / 8) := by
  ext a
  simp only [cov, chunk, Finset.mem_filter, Finset.mem_univ, true_and]
  omega

theorem cov_end (p : ℕ) (h : p < 8) : cov 8 p = Finset.univ := by
  ext a
  simp only [cov, Finset.mem_filter, Finset.mem_univ, true_and, iff_true]
  omega

theorem mod_two (y n p : ℕ) (hp : p < n) : y % n = p ↔ y % (2 * n) = p ∨ y % (2 * n) = n + p := by
  have h0 : y % (2 * n) % n = y % n := Nat.mod_mod_of_dvd _ ⟨2, Nat.mul_comm _ _⟩
  have h1 : y % (2 * n) < 2 * n := Nat.mod_lt _ (by omega)
  rw [← h0]
  by_cases h : y % (2 * n) < n
  · rw [Nat.mod_eq_of_lt h]; omega
  · rw [Nat.mod_eq_sub_mod (by omega), Nat.mod_eq_of_lt (by omega)]; omega

theorem cov_union (n p : ℕ) (hp : p < n) (h8 : 8 ∣ n) : cov n p = cov (2 * n) p ∪ cov (2 * n) (n + p) := by
  have h : (n + p) % 8 = p % 8 := by omega
  ext a
  simp only [cov, Finset.mem_filter, Finset.mem_univ, true_and, Finset.mem_union, h]
  exact mod_two _ n p hp

theorem cov_disjoint (n p : ℕ) (hp : p < n) (h8 : 8 ∣ n) : Disjoint (cov (2 * n) p) (cov (2 * n) (n + p)) := by
  have h : (n + p) % 8 = p % 8 := by omega
  refine Finset.disjoint_left.2 fun a h1 h2 => ?_
  simp only [cov, Finset.mem_filter, Finset.mem_univ, true_and, h] at h1 h2
  omega

variable (s : Fin 8 → Fin 16 → Fin 16384 → EReal) (v : Fin 16 → Fin 64 → Fin 16384 → EReal)

/-- Three arrays of `n` rows hold the summaries of the keys their rows have seen. -/
structure Holds (n : ℕ) (m l : FVec Ideal (R16 n) .f32) (o : FVec Ideal (RK n) .f32) : Prop where
  hm : ∀ (p : Fin n) (i : Fin 16), m (ix2 p i) = (cov n p).sup (s (row8 p) i)
  hl : ∀ (p : Fin n) (i : Fin 16), l (ix2 p i) = wsum (cov n p) (s (row8 p) i) ((cov n p).sup (s (row8 p) i))
  ho : ∀ (p : Fin n) (i : Fin 16) (e : Fin 64), o (ix2 p (col i e)) = vsum (cov n p) (s (row8 p) i) (v i e) ((cov n p).sup (s (row8 p) i))

theorem mMax_at (n : ℕ) (m : FVec Ideal (R16 (2 * n)) .f32) (p : Fin n) (i : Fin 16) :
    mMax n m (ix2 p i) = m (ix2 ⟨p.val, by omega⟩ i) ⊔ m (ix2 ⟨n + p.val, by omega⟩ i) := by
  rw [← lo_at n 16 m, ← hi_at n 16 m]
  rfl
theorem facLo_at (n : ℕ) (m : FVec Ideal (R16 (2 * n)) .f32) (p : Fin n) (i : Fin 16) :
    facLo n m (ix2 p i) = ew (m (ix2 ⟨p.val, by omega⟩ i)) (mMax n m (ix2 p i)) := by
  rw [← lo_at n 16 m]
  rfl
theorem facHi_at (n : ℕ) (m : FVec Ideal (R16 (2 * n)) .f32) (p : Fin n) (i : Fin 16) :
    facHi n m (ix2 p i) = ew (m (ix2 ⟨n + p.val, by omega⟩ i)) (mMax n m (ix2 p i)) := by
  rw [← hi_at n 16 m]
  rfl
theorem mSum_at (n : ℕ) (m l : FVec Ideal (R16 (2 * n)) .f32) (p : Fin n) (i : Fin 16) :
    mSum n m l (ix2 p i) = facLo n m (ix2 p i) * l (ix2 ⟨p.val, by omega⟩ i) + facHi n m (ix2 p i) * l (ix2 ⟨n + p.val, by omega⟩ i) := by
  rw [← lo_at n 16 l, ← hi_at n 16 l]
  rfl
theorem mOutp_at (n : ℕ) (m : FVec Ideal (R16 (2 * n)) .f32) (o : FVec Ideal (RK (2 * n)) .f32) (p : Fin n) (i : Fin 16) (e : Fin 64) :
    mOutp n m o (ix2 p (col i e))
      = facLo n m (ix2 p i) * o (ix2 ⟨p.val, by omega⟩ (col i e)) + facHi n m (ix2 p i) * o (ix2 ⟨n + p.val, by omega⟩ (col i e)) := by
  rw [← lo_at n 1024 o, ← hi_at n 1024 o, ← expandE_at n (facLo n m) p i e, ← expandE_at n (facHi n m) p i e]
  rfl

theorem Holds.step {n : ℕ} (h8 : 8 ∣ n) {m l : FVec Ideal (R16 (2 * n)) .f32} {o : FVec Ideal (RK (2 * n)) .f32} (h : Holds s v (2 * n) m l o) :
    Holds s v n (mMax n m) (mSum n m l) (mOutp n m o) := by
  have hr (p : Fin n) : row8 (n + p.val) = row8 p.val := Fin.ext (show (n + p.val) % 8 = p.val % 8 by omega)
  have hM (p : Fin n) (i : Fin 16) : mMax n m (ix2 p i) = (cov n p).sup (s (row8 p) i) := by
    rw [mMax_at, h.hm, h.hm, cov_union n p p.isLt h8, Finset.sup_union]
    show _ ⊔ (cov (2 * n) (n + p.val)).sup (s (row8 (n + p.val)) i) = _
    rw [hr]
  refine ⟨hM, fun p i => ?_, fun p i e => ?_⟩
  · rw [mSum_at, facLo_at, facHi_at, hM, h.hm, h.hm, h.hl, h.hl]
    simp only [hr]
    rw [cov_union n p p.isLt h8]
    exact wsum_union (cov_disjoint n p p.isLt h8) _
  · rw [mOutp_at, facLo_at, facHi_at, hM, h.hm, h.hm, h.ho, h.ho]
    simp only [hr]
    rw [cov_union n p p.isLt h8]
    exact vsum_union (cov_disjoint n p p.isLt h8) _ _

variable (co : Dev nD → Vec Ideal S16x512 .bf16) (cs : Dev nD → Vec Ideal S8x128 .f32)

theorem holds_end (h : Holds s v 256 (mAll cs) (lAll cs) (oAll co)) : Holds s v 8 (mMax 8 (m4 cs)) (l3 cs) (o3 co cs) :=
  ((((Holds.step s v (n := 128) (by decide) h).step s v (n := 64) (by decide)).step s v (n := 32) (by decide)).step s v (n := 16) (by decide)).step s v (n := 8)
    (by decide)

end Cert.KernelIdeal.Att
-- ==== Proof.Cells.lean ====
module
public import proofs.«01_k».proof.Proof.Merge
public import Idealize.ShloMosaic.Lib.KernelVsHost

/-!
# A device's own attention, at an index

Over its 512 keys: the scores, their maximum, the weights' sum and the weighted values, of every row and head.
-/

@[expose] public section

noncomputable section

namespace Cert.KernelIdeal.Att

open Cert.KernelIdeal Cert.KernelIdeal.Gen
open Idealize.ShloMosaic
open Idealize.ShloMosaic.TcCoe
open Cert.Soft

variable (x : Vec Ideal S2x256x768 .f32) (wq : Vec Ideal S768x512 .f32) (wo : Vec Ideal S512x768 .f32) (k : Vec Ideal S16x64x512 .bf16) (v : Vec Ideal S16x512x64 .bf16)

/-- Where a unit-stride part of an array reads. -/
theorem part_at {n : ℕ} {sz : Fin n → ℕ} {e : EltTy} (X : (⟨n, sz⟩ : Shape).Idx → Elt Ideal e) (off sz' : Fin n → ℕ) (h : ∀ a, off a + sz' a ≤ sz a)
    (j : (⟨n, sz'⟩ : Shape).Idx) (i : (⟨n, sz⟩ : Shape).Idx) (hi : ∀ a, (i a).val = off a + (j a).val) :
    part X (Rect.unit (s := ⟨n, sz⟩) off sz' h) j = X i :=
  congrArg X (funext fun a => Fin.ext (by
    show off a + 1 * (j a).val = (i a).val
    rw [hi, Nat.one_mul]))

theorem xPart_at (b : Fin 2) (g : Fin 4) (r : Fin 64) (t : Fin 768) : xPart x b g (ix3 0 r t) = x (ix3 b ⟨64 * g.val + r.val, by omega⟩ t) :=
  part_at x _ _ (inbX b g) _ _ fun a => match a with
    | 0 => rfl
    | 1 => rfl
    | 2 => (Nat.zero_add _).symm
theorem kPart_at (i : Fin 16) (e : Fin 64) (j : Fin 512) : kPart k i (ix3 0 e j) = k (ix3 i e j) :=
  part_at k _ _ (inbK i) _ _ fun a => match a with
    | 0 => rfl
    | 1 => (Nat.zero_add _).symm
    | 2 => (Nat.zero_add _).symm
theorem vPart_at (i : Fin 16) (e : Fin 64) (j : Fin 512) : vPart v i (ix3 0 j e) = v (ix3 i j e) :=
  part_at v _ _ (inbV i) _ _ fun a => match a with
    | 0 => rfl
    | 1 => (Nat.zero_add _).symm
    | 2 => (Nat.zero_add _).symm
theorem wqPart_eq : wqPart wq = wq :=
  funext fun j => part_at wq _ _ inbWq j j fun a => match a with
    | 0 => (Nat.zero_add _).symm
    | 1 => (Nat.zero_add _).symm
theorem woPart_eq : woPart wo = wo :=
  funext fun j => part_at wo _ _ inbWo j j fun a => match a with
    | 0 => (Nat.zero_add _).symm
    | 1 => (Nat.zero_add _).symm

/-- The projected query of a batch's row at a column. -/
def qry (b : Fin 2) (r : Fin 256) (c : Fin 512) : EReal := ∑ t : Fin 768, x (ix3 b r t) * wq (ix2 t c)
/-- The score of a row of batch and head `i` against local key `j`. -/
def lsc (r : Fin 256) (i : Fin 16) (j : Fin 512) : EReal :=
  (∑ e : Fin 64, qry x wq (bOf i) r ⟨64 * (hOf i).val + e.val, by omega⟩ * k (ix3 i e j)) * Ideal.ofBits .f32 0x3E000000#32

theorem qG_at (b : Fin 2) (g : Fin 4) (r : Fin 64) (c : Fin 512) : qG x wq b g (ix2 r c) = qry x wq b ⟨64 * g.val + r.val, by omega⟩ c := by
  unfold qG wqB qry
  rw [wqPart_eq]
  simp only [← xPart_at]
  generalize xPart x b g = y
  pointwise

theorem scHd_at (g : Fin 4) (i : Fin 16) (r : Fin 64) (j : Fin 512) : scHd x wq k g i (ix2 r j) = lsc x wq k ⟨64 * g.val + r.val, by omega⟩ i j := by
  unfold scHd qH qS lsc
  simp only [← qG_at, ← kPart_at]
  generalize kPart k i = y
  generalize qG x wq (bOf i) g = q
  pointwise

theorem mHd_at (g : Fin 4) (i : Fin 16) (r : Fin 64) : mHd x wq k g i (ix2 r 0) = Finset.univ.fold max ⊥ fun j => lsc x wq k ⟨64 * g.val + r.val, by omega⟩ i j := by
  unfold mHd
  simp only [← scHd_at]
  generalize scHd x wq k g i = y
  pointwise
  exact congrArg (fun z => Finset.fold max z (fun j : Fin 512 => y (ix2 r j)) Finset.univ) negInf

theorem pHd_at (g : Fin 4) (i : Fin 16) (r : Fin 64) (j : Fin 512) : pHd x wq k g i (ix2 r j) = ew (scHd x wq k g i (ix2 r j)) (mHd x wq k g i (ix2 r 0)) := by
  unfold pHd dHd
  generalize mHd x wq k g i = m
  generalize scHd x wq k g i = y
  pointwise
  rfl

theorem lHd_at (g : Fin 4) (i : Fin 16) (r : Fin 64) : lHd x wq k g i (ix2 r 0) = ∑ j : Fin 512, ew (scHd x wq k g i (ix2 r j)) (mHd x wq k g i (ix2 r 0)) := by
  unfold lHd
  simp only [← pHd_at]
  generalize pHd x wq k g i = y
  pointwise

theorem oHd_at (g : Fin 4) (i : Fin 16) (r : Fin 64) (e : Fin 64) : oHd x wq k v g i (ix2 r e) = ∑ j : Fin 512, ew (scHd x wq k g i (ix2 r j)) (mHd x wq k g i (ix2 r 0)) * v (ix3 i j e) := by
  unfold oHd pB vB
  simp only [← pHd_at, ← vPart_at]
  generalize pHd x wq k g i = y
  generalize vPart v i = z
  pointwise

theorem oG_at (g : Fin 4) (i : Fin 16) (r : Fin 64) (e : Fin 64) : oG x wq k v g (ix2 r (col i e)) = oHd x wq k v g i (ix2 r e) :=
  cat16 64 64 (oHd x wq k v g) catO r i e (col i e) rfl
theorem mG_at (g : Fin 4) (i : Fin 16) (r : Fin 64) : mG x wq k g (ix2 r i) = mHd x wq k g i (ix2 r 0) :=
  cat16 64 1 (mHd x wq k g) catM r i 0 i (by simp)
theorem lG_at (g : Fin 4) (i : Fin 16) (r : Fin 64) : lG x wq k g (ix2 r i) = lHd x wq k g i (ix2 r 0) :=
  cat16 64 1 (lHd x wq k g) catM r i 0 i (by simp)

/-! ## The chunks -/

variable (co : Dev nD → Vec Ideal S16x512 .bf16) (cs : Dev nD → Vec Ideal S8x128 .f32) (s : Dev nD)

theorem coChunk_at (o : FVec Ideal S64x1024 .f32) (j : Fin 8) (p : Fin 8) (c : Fin 1024) (h : co s = coChunk o j) :
    oBlk co s (ix2 p c) = o (ix2 ⟨8 * j.val + p.val, by omega⟩ c) := by
  unfold oBlk
  rw [h]
  unfold coChunk coRows coPre bLo bRows
  rw [shapeCast_self]
  pointwise
  split_ifs with hc h1
  · rfl
  · exact absurd h1 (by decide)
  · exact congrArg (fun z => o (ix2 _ z)) (Fin.ext (by show 512 + (c.val - 512) = c.val; omega))

theorem mChunk_at (m l : FVec Ideal S64x16 .f32) (j : Fin 8) (p : Fin 8) (i : Fin 16) (h : cs s = csChunk m l j) :
    mBlk cs s (ix2 p i) = m (ix2 ⟨8 * j.val + p.val, by omega⟩ i) := by
  unfold mBlk
  rw [h]
  unfold csChunk csPre padZ
  rw [shapeCast_self]
  pointwise
theorem lChunk_at (m l : FVec Ideal S64x16 .f32) (j : Fin 8) (p : Fin 8) (i : Fin 16) (h : cs s = csChunk m l j) :
    lBlk cs s (ix2 p i) = l (ix2 ⟨8 * j.val + p.val, by omega⟩ i) := by
  unfold lBlk
  rw [h]
  unfold csChunk csPre padZ
  rw [shapeCast_self]
  pointwise

/-- Thirty-two pieces of eight rows. -/
theorem cat32 {α : Type} (w : ℕ) (f : Fin 32 → ((⟨2, ![8, w]⟩ : Shape).Idx → α))
    (h : Shape.Concatenates ((List.ofFn fun i : Fin 32 => (⟨⟨2, ![8, w]⟩, f i⟩ : (s : Shape) × (s.Idx → α))).map (·.1)) ⟨2, ![256, w]⟩ 0)
    (p : Fin 256) (c : Fin w) :
    concatenate ⟨2, ![256, w]⟩ 0 (List.ofFn fun i : Fin 32 => (⟨⟨2, ![8, w]⟩, f i⟩ : (s : Shape) × (s.Idx → α))) h (ix2 p c)
      = f ⟨p.val / 8, by omega⟩ (ix2 (row8 p.val) c) := by
  refine concatenate_ofFn_apply 0 f h rfl 8 rfl (ix2 p c) ⟨p.val / 8, by omega⟩ rfl (ix2 (row8 p.val) c) rfl ?_
  intro b hb
  match b with
  | 0 => exact absurd rfl hb
  | 1 => rfl

theorem oAll_at (p : Fin 256) (c : Fin 1024) : oAll co (ix2 p c) = oBlk co ⟨p.val / 8, by show _ < 32; omega⟩ (ix2 (row8 p.val) c) :=
  cat32 1024 (oBlk co) catAO p c
theorem mAll_at (p : Fin 256) (i : Fin 16) : mAll cs (ix2 p i) = mBlk cs ⟨p.val / 8, by show _ < 32; omega⟩ (ix2 (row8 p.val) i) :=
  cat32 16 (mBlk cs) catAM p i
theorem lAll_at (p : Fin 256) (i : Fin 16) : lAll cs (ix2 p i) = lBlk cs ⟨p.val / 8, by show _ < 32; omega⟩ (ix2 (row8 p.val) i) :=
  cat32 16 (lBlk cs) catAM p i

end Cert.KernelIdeal.Att
-- ==== Proof.Running.lean ====
module
public import proofs.«01_k».proof.Proof.Gen.ReferenceIdeal.Run
public import proofs.«01_k».proof.Proof.Soft
public import Idealize.ShloMosaic.Lib.KernelVsHost

/-!
# The reference's running softmax

Its three arrays after `n` chunks are the summary of the first `1024 n` keys, for every row and head.
-/

@[expose] public section

noncomputable section

namespace Cert.ReferenceIdeal.Value

open Cert.ReferenceIdeal Cert.ReferenceIdeal.Gen Idealize.ShloMosaic Cert.Soft

theorem slN (n : ℕ) : S2x16384x8x64.Slices ![0, 1024 * (n % 16), 0, 0] S2x1024x8x64 :=
  ⟨rfl, fun a => by
    have := Nat.mod_lt n (show 0 < 16 by decide)
    match a with
    | 0 => show 0 + 2 ≤ 2; omega
    | 1 => show 1024 * (n % 16) + 1024 ≤ 16384; omega
    | 2 => show 0 + 8 ≤ 8; omega
    | 3 => show 0 + 64 ≤ 64; omega⟩

section Steps
variable {F : FTy → Type} [FloatOps F]
variable (q : FVec F S2x256x8x64 .f32) (k v : FVec F S2x16384x8x64 .f32)

def sN (n : ℕ) : FVec F S2x8x256x1024 .f32 :=
  mulf (Host.dotGeneral dot_S2x256x8x64_S2x1024x8x64_S2x8x256x1024_3_3_1_1_02_02 none q (extractStridedSlice S2x1024x8x64 ![0, 1024 * (n % 16), 0, 0] k (slN n)))
    (broadcastInDim S2x8x256x1024 ![] bcast_S_S2x8x256x1024 (constant S_ .f32 0x3E000000#32))
def mN : ℕ → FVec F S2x8x256x1 .f32
  | 0 => broadcastInDim S2x8x256x1 ![] bcast_S_S2x8x256x1 (constant S_ .f32 0xFF800000#32)
  | n + 1 => maximumf (mN n) (broadcastInDim S2x8x256x1 ![0, 1, 2] bcast_S2x8x256_S2x8x256x1_0_1_2
      (Host.reduce FloatOps.maximumf (sN q k n) (constant S_ .f32 0xFF800000#32) reducesTo_S2x8x256x1024_S2x8x256_d3 h_S_))
def aN (n : ℕ) : FVec F S2x8x256x1 .f32 := Host.exp (subf (mN q k n) (mN q k (n + 1)))
def pN (n : ℕ) : FVec F S2x8x256x1024 .f32 :=
  Host.exp (subf (sN q k n) (broadcastInDim S2x8x256x1024 ![0, 1, 2, 3] bcast_S2x8x256x1_S2x8x256x1024_0_1_2_3 (mN q k (n + 1))))
def lN : ℕ → FVec F S2x8x256x1 .f32
  | 0 => broadcastInDim S2x8x256x1 ![] bcast_S_S2x8x256x1 (constant S_ .f32 0x00000000#32)
  | n + 1 => addf (mulf (lN n) (aN q k n)) (broadcastInDim S2x8x256x1 ![0, 1, 2] bcast_S2x8x256_S2x8x256x1_0_1_2
      (Host.reduceAdd (pN q k n) (constant S_ .f32 0x00000000#32) reducesTo_S2x8x256x1024_S2x8x256_d3 h_S_))
def oN : ℕ → FVec F S2x256x8x64 .f32
  | 0 => broadcastInDim S2x256x8x64 ![] bcast_S_S2x256x8x64 (constant S_ .f32 0x00000000#32)
  | n + 1 => addf (mulf (oN n) (broadcastInDim S2x256x8x64 ![0, 1, 2, 3] bcast_S2x256x8x1_S2x256x8x64_0_1_2_3
      (transpose S2x256x8x1 [0, 2, 1, 3] (aN q k n) transposes_S2x8x256x1_S2x256x8x1_0_2_1_3)))
      (transpose S2x256x8x64 [0, 3, 1, 2] (Host.dotGeneral dot_S2x1024x8x64_S2x8x256x1024_S2x8x64x256_1_3_3_2_02_01 none
        (extractStridedSlice S2x1024x8x64 ![0, 1024 * (n % 16), 0, 0] v (slN n)) (pN q k n)) transposes_S2x8x64x256_S2x256x8x64_0_3_1_2)
def qOf (x : FVec F S2x256x768 .f32) (wq : FVec F S768x512 .f32) : FVec F S2x256x8x64 .f32 :=
  shapeCast _ (Host.dotGeneral dot_S2x256x768_S768x512_S2x256x512_2_0_01_1_n_n none x wq) shapeCasts_S2x256x512_S2x256x8x64
def fN (n : ℕ) : FVec F S2x256x8x64 .f32 :=
  Host.divf (oN q k v n) (broadcastInDim S2x256x8x64 ![0, 1, 2, 3] bcast_S2x256x8x1_S2x256x8x64_0_1_2_3
    (transpose S2x256x8x1 [0, 2, 1, 3] (lN q k n) transposes_S2x8x256x1_S2x256x8x1_0_2_1_3))
def refOf (x : FVec F S2x256x768 .f32) (wq : FVec F S768x512 .f32) (wo : FVec F S512x768 .f32) : FVec F S2x256x768 .f32 :=
  Host.dotGeneral dot_S2x256x512_S512x768_S2x256x768_2_0_01_1_n_n none
    (shapeCast _ (fN (qOf x wq) k v 16) shapeCasts_S2x256x8x64_S2x256x512) wo

end Steps

/-! ## Read at an index, over the extended reals -/

variable (q : FVec Ideal S2x256x8x64 .f32) (k v : FVec Ideal S2x16384x8x64 .f32)

def score (b : Fin 2) (h : Fin 8) (r : Fin 256) (a : Fin 16384) : EReal :=
  (∑ d : Fin 64, q (ix4 b r h d) * k (ix4 b a h d)) * Ideal.ofBits .f32 0x3E000000#32

theorem inN {n : ℕ} (h : n < 16) : 1024 * n + 1024 ≤ 16384 := by omega

theorem sN_at {n : ℕ} (hn : n < 16) (b : Fin 2) (h : Fin 8) (r : Fin 256) (j : Fin 1024) :
    sN q k n (ix4 b h r j) = score q k b h r (key 1024 n (inN hn) j) := by
  pointwise [sN, score]
  simp only [Nat.mod_eq_of_lt hn]
  rfl

theorem rmax_at (y : FVec Ideal S2x8x256x1024 .f32) (b : Fin 2) (h : Fin 8) (r : Fin 256) :
    Host.reduce FloatOps.maximumf y (constant S_ .f32 0xFF800000#32) reducesTo_S2x8x256x1024_S2x8x256_d3 h_S_ (ix3 b h r)
      = Finset.univ.fold max ⊥ fun j : Fin 1024 => y (ix4 b h r j) := by
  pointwise
  exact congrArg (fun z => Finset.fold max z (fun j : Fin 1024 => y (ix4 b h r j)) Finset.univ) negInf

theorem max_at (m : FVec Ideal S2x8x256x1 .f32) (y : FVec Ideal S2x8x256 .f32) (b : Fin 2) (h : Fin 8) (r : Fin 256) :
    maximumf m (broadcastInDim S2x8x256x1 ![0, 1, 2] bcast_S2x8x256_S2x8x256x1_0_1_2 y) (ix4 b h r 0) = max (m (ix4 b h r 0)) (y (ix3 b h r)) := by
  pointwise

theorem mN_at (n : ℕ) (b : Fin 2) (h : Fin 8) (r : Fin 256) :
    mN q k (n + 1) (ix4 b h r 0) = max (mN q k n (ix4 b h r 0)) (Finset.univ.fold max ⊥ fun j => sN q k n (ix4 b h r j)) := by
  rw [← rmax_at]
  exact max_at _ _ b h r

theorem lN_at (n : ℕ) (b : Fin 2) (h : Fin 8) (r : Fin 256) :
    lN q k (n + 1) (ix4 b h r 0) = lN q k n (ix4 b h r 0) * ew (mN q k n (ix4 b h r 0)) (mN q k (n + 1) (ix4 b h r 0))
      + ∑ j : Fin 1024, ew (sN q k n (ix4 b h r j)) (mN q k (n + 1) (ix4 b h r 0)) := by
  rw [lN]
  pointwise [aN, pN]
  rfl

theorem oN_at (n : ℕ) (b : Fin 2) (h : Fin 8) (r : Fin 256) (e : Fin 64) :
    oN q k v (n + 1) (ix4 b r h e) = oN q k v n (ix4 b r h e) * ew (mN q k n (ix4 b h r 0)) (mN q k (n + 1) (ix4 b h r 0))
      + ∑ j : Fin 1024, v (ix4 b ⟨1024 * (n % 16) + j.val, by omega⟩ h e) * ew (sN q k n (ix4 b h r j)) (mN q k (n + 1) (ix4 b h r 0)) := by
  rw [oN]
  pointwise [aN, pN]
  rfl

/-! ## The invariant -/

/-- The keys before chunk `n`. -/
def cur (n : ℕ) : Finset (Fin 16384) := Finset.univ.filter fun a => a.val < 1024 * n

theorem cur_succ (n : ℕ) : cur (n + 1) = cur n ∪ chunk 1024 n := by
  ext a
  simp only [cur, chunk, Finset.mem_filter, Finset.mem_univ, true_and, Finset.mem_union]
  omega
theorem cur_disjoint (n : ℕ) : Disjoint (cur n) (chunk 1024 n) := by
  refine Finset.disjoint_left.2 fun a h1 h2 => ?_
  simp only [cur, chunk, Finset.mem_filter, Finset.mem_univ, true_and] at h1 h2
  omega
theorem cur_zero : cur 0 = ∅ := by
  ext a
  simp [cur]
theorem cur_end : cur 16 = Finset.univ := by
  ext a
  simp only [cur, Finset.mem_filter, Finset.mem_univ, true_and, iff_true]
  omega

theorem m_inv (b : Fin 2) (h : Fin 8) (r : Fin 256) : ∀ n ≤ 16, mN q k n (ix4 b h r 0) = (cur n).sup (score q k b h r)
  | 0, _ => by
    rw [cur_zero, Finset.sup_empty, mN]
    pointwise
    exact negInf
  | n + 1, hn => by
    rw [mN_at, m_inv b h r n (by omega), cur_succ, Finset.sup_union, ← sup_chunk 1024 n (inN hn)]
    simp only [sN_at q k hn]

theorem l_inv (b : Fin 2) (h : Fin 8) (r : Fin 256) : ∀ n ≤ 16, lN q k n (ix4 b h r 0) = wsum (cur n) (score q k b h r) ((cur n).sup (score q k b h r))
  | 0, _ => by
    rw [cur_zero, lN]
    pointwise
    rfl
  | n + 1, hn => by
    rw [lN_at, l_inv b h r n (by omega), m_inv q k b h r n (by omega), m_inv q k b h r (n + 1) hn]
    simp only [sN_at q k hn]
    rw [sum_chunk 1024 n (inN hn) fun a => ew (score q k b h r a) _, cur_succ]
    exact wsum_step (cur_disjoint n) _

theorem o_inv (b : Fin 2) (h : Fin 8) (r : Fin 256) (e : Fin 64) : ∀ n ≤ 16, oN q k v n (ix4 b r h e)
      = vsum (cur n) (score q k b h r) (fun a => v (ix4 b a h e)) ((cur n).sup (score q k b h r))
  | 0, _ => by
    rw [cur_zero, oN]
    pointwise
    exact Finset.sum_empty.symm
  | n + 1, hn => by
    rw [oN_at, o_inv b h r e n (by omega), m_inv q k b h r n (by omega), m_inv q k b h r (n + 1) hn]
    simp only [sN_at q k hn, Nat.mod_eq_of_lt hn]
    refine Eq.trans ?_ ((vsum_step (cur_disjoint n) _ _).trans (by rw [cur_succ]))
    rw [← cur_succ]
    refine congrArg _ ?_
    refine Eq.trans ?_ (sum_chunk 1024 n (inN hn) fun a => ew (score q k b h r a) _ * v (ix4 b a h e))
    exact Finset.sum_congr rfl fun j _ => mul_comm _ _

/-! ## The whole reference -/

/-- The attention of one row and head: the weighted values over the weights. -/
def att (s w : Fin 16384 → EReal) : EReal := Ideal.div (vsum Finset.univ s w (Finset.univ.sup s)) (wsum Finset.univ s (Finset.univ.sup s))

theorem fN_at (b : Fin 2) (h : Fin 8) (r : Fin 256) (e : Fin 64) :
    fN q k v 16 (ix4 b r h e) = att (score q k b h r) fun a => v (ix4 b a h e) := by
  rw [att, ← cur_end, ← l_inv q k b h r 16 le_rfl, ← o_inv q k v b h r e 16 le_rfl, fN]
  generalize oN q k v 16 = o
  generalize lN q k 16 = l
  pointwise

theorem qOf_at (x : FVec Ideal S2x256x768 .f32) (wq : FVec Ideal S768x512 .f32) (b : Fin 2) (r : Fin 256) (h : Fin 8) (e : Fin 64) :
    qOf x wq (ix4 b r h e) = ∑ t : Fin 768, x (ix3 b r t) * wq (ix2 t ⟨64 * h.val + e.val, by omega⟩) := by
  pointwise [qOf]
  simp only [Nat.mul_comm 64]

theorem refOf_at (x : FVec Ideal S2x256x768 .f32) (wq : FVec Ideal S768x512 .f32) (wo : FVec Ideal S512x768 .f32) (b : Fin 2) (r : Fin 256) (n : Fin 768) :
    refOf k v x wq wo (ix3 b r n) = ∑ w : Fin 512, att (score (qOf x wq) k b ⟨w.val / 64, by omega⟩ r) (fun a => v (ix4 b a ⟨w.val / 64, by omega⟩ ⟨w.val % 64, by omega⟩))
      * wo (ix2 w n) := by
  rw [refOf]
  simp only [← fN_at]
  generalize fN (qOf x wq) k v 16 = f
  pointwise

set_option maxRecDepth 8192 in
/-- The reference's run ends at that function of its arguments. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v377) = refOf (F := Ideal) (m ((c.tc : Thread nD τ).loc main_arg3)) (m ((c.tc : Thread nD τ).loc main_arg4))
        (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans rfl, (h c).2⟩) (run m ρ)

end Cert.ReferenceIdeal.Value
-- ==== Proof.Whole.lean ====
module
public import proofs.«01_k».proof.Proof.Cells
public import proofs.«01_k».proof.Proof.Ends
public import proofs.«01_k».proof.Proof.Running

/-!
# The kernel's result is the reference's

From inputs that agree with the reference's: the rows a device finishes, the rows every device projects, and the whole.
-/

@[expose] public section

noncomputable section

namespace Cert.KernelIdeal.Att

open Cert.KernelIdeal Cert.KernelIdeal.Gen
open Idealize.ShloMosaic
open Idealize.ShloMosaic.TcCoe
open Cert.Soft
open Cert.ReferenceIdeal.Value (att score qOf refOf qOf_at refOf_at)

variable (x : Vec Ideal S2x256x768 .f32) (wq : Vec Ideal S768x512 .f32) (wo : Vec Ideal S512x768 .f32)
    (K V : FVec Ideal Cert.ReferenceIdeal.S2x16384x8x64 .f32)

/-- The score of a row of batch and head `i` against a key of all. -/
def sc (r : Fin 256) (i : Fin 16) : Fin 16384 → EReal := score (qOf (F := Ideal) x wq) K (bOf i) (hOf i) r
def vc (i : Fin 16) (e : Fin 64) (a : Fin 16384) : EReal := V (ix4 (bOf i) a (hOf i) e)

theorem in512 (s : Dev nD) : 512 * s.val + 512 ≤ 16384 := by
  have h : s.val < 32 := s.isLt
  omega

variable (k : Dev nD → Vec Ideal S16x64x512 .bf16) (v : Dev nD → Vec Ideal S16x512x64 .bf16)
variable (hk : ∀ s (i : Fin 16) (e : Fin 64) (j : Fin 512), k s (ix3 i e j) = K (ix4 (bOf i) (key 512 s.val (in512 s) j) (hOf i) e))
variable (hv : ∀ s (i : Fin 16) (e : Fin 64) (j : Fin 512), v s (ix3 i j e) = V (ix4 (bOf i) (key 512 s.val (in512 s) j) (hOf i) e))

include hk in
theorem lsc_at (s : Dev nD) (r : Fin 256) (i : Fin 16) (j : Fin 512) : lsc x wq (k s) r i j = sc x wq K r i (key 512 s.val (in512 s) j) := by
  unfold lsc sc score qry
  simp only [hk, qOf_at]

/-- Row `p` of the eight that device `d` finishes. -/
def rowD (d : Dev nD) (p : Fin 8) : Fin 256 := ⟨8 * d.val + p.val, by have h : d.val < 32 := d.isLt; omega⟩
theorem rowD_eq (d : Dev nD) (p : Fin 8) (h : 64 * (gOf d).val + (8 * (rOf d).val + p.val) < 256) :
    (⟨64 * (gOf d).val + (8 * (rOf d).val + p.val), h⟩ : Fin 256) = rowD d p :=
  Fin.ext (by show 64 * (d.val / 8) + (8 * (d.val % 8) + p.val) = 8 * d.val + p.val; omega)

include hk in
theorem mHd_all (s d : Dev nD) (p : Fin 8) (i : Fin 16) :
    mHd x wq (k s) (gOf d) i (ix2 ⟨8 * (rOf d).val + p.val, by omega⟩ 0) = (chunk 512 s.val).sup (sc x wq K (rowD d p) i) := by
  rw [mHd_at, ← sup_chunk 512 s.val (in512 s)]
  simp only [lsc_at x wq K k hk, rowD_eq]

include hk in
theorem holds_all (hv : ∀ s (i : Fin 16) (e : Fin 64) (j : Fin 512), v s (ix3 i j e) = V (ix4 (bOf i) (key 512 s.val (in512 s) j) (hOf i) e)) (d : Dev nD) :
    Holds (fun p => sc x wq K (rowD d p)) (vc V) 256 (mAll (csAt (fun _ => x) (fun _ => wq) k d)) (lAll (csAt (fun _ => x) (fun _ => wq) k d))
      (oAll (coAt (fun _ => x) (fun _ => wq) k v d)) := by
  refine ⟨fun p i => ?_, fun p i => ?_, fun p i e => ?_⟩
  · rw [mAll_at, mChunk_at _ _ _ _ _ _ _ rfl, mG_at, mHd_all x wq K k hk, cov_all _ p.isLt]
  · rw [lAll_at, lChunk_at _ _ _ _ _ _ _ rfl, lG_at, lHd_at, mHd_all x wq K k hk, cov_all _ p.isLt, wsum, ← sum_chunk 512 _ (in512 ⟨p.val / 8, by show _ < 32; omega⟩)]
    simp only [scHd_at, lsc_at x wq K k hk, rowD_eq]
  · rw [oAll_at, coChunk_at _ _ _ _ _ _ rfl, oG_at, oHd_at, mHd_all x wq K k hk, cov_all _ p.isLt, vsum, ← sum_chunk 512 _ (in512 ⟨p.val / 8, by show _ < 32; omega⟩)]
    simp only [scHd_at, lsc_at x wq K k hk, rowD_eq, hv, vc]

/-! ## The finished rows -/

theorem coRows_at (o : FVec Ideal S8x1024 .f32) (b : Fin 2) (r : Fin 8) (w : Fin 512) :
    coRows o (ix2 ⟨8 * b.val + r.val, by omega⟩ w) = o (ix2 r ⟨512 * b.val + w.val, by omega⟩) := by
  unfold coRows coPre bLo
  rw [shapeCast_self]
  pointwise
  split_ifs with hb h0
  · have h0 : b.val = 0 := by omega
    exact congrArg o (congrArg₂ ix2 (Fin.ext (by show 8 * b.val + r.val = r.val; omega)) (Fin.ext (by show w.val = 512 * b.val + w.val; omega)))
  · have h0 : b.val = 1 := by omega
    exact congrArg o (congrArg₂ ix2 (Fin.ext (by show 8 * b.val + r.val - 8 = r.val; omega)) (Fin.ext (by show 512 + w.val = 512 * b.val + w.val; omega)))
  · exact absurd rfl h0

/-- The batch and head that a column of batch `b` belongs to. -/
def hd (b : Fin 2) (w : Fin 512) : Fin 16 := ⟨8 * b.val + w.val / 64, by omega⟩
def cl (w : Fin 512) : Fin 64 := ⟨w.val % 64, by omega⟩
theorem col_hd (b : Fin 2) (w : Fin 512) (h : 512 * b.val + w.val < 1024) : (⟨512 * b.val + w.val, h⟩ : Fin 1024) = col (hd b w) (cl w) :=
  Fin.ext (by show 512 * b.val + w.val = 64 * (8 * b.val + w.val / 64) + w.val % 64; omega)
theorem bOf_hd (b : Fin 2) (w : Fin 512) : bOf (hd b w) = b := Fin.ext (by show (8 * b.val + w.val / 64) / 8 = b.val; omega)
theorem hOf_hd (b : Fin 2) (w : Fin 512) : hOf (hd b w) = ⟨w.val / 64, by omega⟩ := Fin.ext (by show (8 * b.val + w.val / 64) % 8 = w.val / 64; omega)

include hk hv in
theorem fin_at (d : Dev nD) (b : Fin 2) (r : Fin 8) (w : Fin 512) :
    finAt (fun _ => x) (fun _ => wq) k v d (ix2 ⟨8 * b.val + r.val, by omega⟩ w) = att (sc x wq K (rowD d r) (hd b w)) (vc V (hd b w) (cl w)) := by
  have h := holds_end _ _ _ _ (holds_all x wq K V k v hk hv d)
  unfold finAt finOf
  rw [coRows_at, col_hd]
  show Ideal.div (o3 (coAt (fun _ => x) (fun _ => wq) k v d) (csAt (fun _ => x) (fun _ => wq) k d) (ix2 r (col (hd b w) (cl w))) : EReal)
    (expandE 8 (l3 (csAt (fun _ => x) (fun _ => wq) k d)) (ix2 r (col (hd b w) (cl w))) : EReal) = _
  rw [expandE_at, h.hl, h.ho, cov_end _ r.isLt]
  have hr : row8 r.val = r := Fin.ext (Nat.mod_eq_of_lt r.isLt)
  simp only [hr]
  rfl

theorem rowOf_at (fin : Vec Ideal S16x512 .bf16) (b : Fin 2) (r : Fin 8) (n : Fin 768) :
    rowOf wo fin b (ix3 0 r n) = ∑ w : Fin 512, fin (ix2 ⟨8 * b.val + r.val, by omega⟩ w) * wo (ix2 w n) := by
  unfold rowOf
  rw [woPart_eq]
  pointwise

include hk hv in
theorem row_at (d : Dev nD) (b : Fin 2) (r : Fin 8) (n : Fin 768) :
    rowOf wo (finAt (fun _ => x) (fun _ => wq) k v d) b (ix3 0 r n) = refOf (F := Ideal) K V x wq wo (ix3 b (rowD d r) n) := by
  rw [rowOf_at, refOf_at]
  refine Finset.sum_congr rfl fun w _ => ?_
  rw [fin_at x wq K V k v hk hv]
  unfold sc vc
  rw [bOf_hd, hOf_hd]
  rfl

include hk hv in
/-- Every device's result is the reference's. -/
theorem outOf_eq (c : Dev nD) : outOf (valsOf (F := Ideal) (fun _ => x) (fun _ => wq) (fun _ => wo) k v) c = refOf (F := Ideal) K V x wq wo := by
  funext i
  let b : Fin 2 := i (0 : Fin 3)
  let n : Fin 768 := i (2 : Fin 3)
  have h1 : (i (1 : Fin 3)).val < 256 := (i (1 : Fin 3)).isLt
  let d : Dev nD := ⟨(i (1 : Fin 3)).val / 8, by show _ < 32; omega⟩
  let r : Fin 8 := ⟨(i (1 : Fin 3)).val % 8, by omega⟩
  have hq : 8 * ((i (1 : Fin 3)).val / 8) + (i (1 : Fin 3)).val % 8 = (i (1 : Fin 3)).val := Nat.div_add_mod _ _
  have hi : i = (rRR (b, d)).emb (ix3 0 r n) := funext fun a => Fin.ext (match a with
    | 0 => rfl
    | 1 => by
      show (i (1 : Fin 3)).val = 8 * ((i (1 : Fin 3)).val / 8) + 1 * ((i (1 : Fin 3)).val % 8)
      omega
    | 2 => by
      show (i (2 : Fin 3)).val = 0 + 1 * (i (2 : Fin 3)).val
      omega)
  have hi' : i = ix3 b (rowD d r) n := funext fun a => Fin.ext (match a with
    | 0 => rfl
    | 1 => hq.symm
    | 2 => rfl)
  have e : outOf (valsOf (F := Ideal) (fun _ => x) (fun _ => wq) (fun _ => wo) k v) c i = rowOf wo (finAt (fun _ => x) (fun _ => wq) k v d) b (ix3 0 r n) := by
    conv_lhs => rw [hi]
    exact glue_emb rRR rR_disj _ (b, d) (ix3 0 r n)
  rw [e, row_at x wq wo K V k v hk hv]
  conv_rhs => rw [hi']

end Cert.KernelIdeal.Att
-- ==== Proof.Algebraic.lean ====
module
public import proofs.«01_k».proof.Proof.Frames
public import proofs.«01_k».proof.Proof.Whole

/-!
# The algebraic claim

What the kernel's region finds in its arrays, what its result array ends with, and the claim.
-/

@[expose] public section

noncomputable section

namespace Cert.KernelIdeal.Att

open Cert.KernelIdeal Cert.KernelIdeal.Gen
open Idealize.ShloMosaic
open Idealize.ShloMosaic.TcCoe
open Idealize.SL.Sem
open Cert.Soft
open Cert.ReferenceIdeal.Value (refOf run_ref)

variable (m : (l : Loc nD τ sig) → Buf (Elt Ideal) l)

/-! ## The blocks: whole arrays -/

theorem z0 : ∀ a, win0_0.index t0_0 a = 0 := by decide +kernel
theorem z1 : ∀ a, win0_1.index t0_0 a = 0 := by decide +kernel
theorem z2 : ∀ a, win0_2.index t0_0 a = 0 := by decide +kernel
theorem z3 : ∀ a, win0_3.index t0_0 a = 0 := by decide +kernel
theorem z4 : ∀ a, win0_4.index t0_0 a = 0 := by decide +kernel
theorem z5 : ∀ t a, win0_5.index t a = 0 := by decide +kernel

theorem blk0 (c : Dev nD) : iblk m c 0 t0_0 = m ((c : Thread nD τ).loc main_arg0) :=
  Eq.trans (funext fun y => congrArg (V m c main_arg0) (funext fun a => Fin.ext (win0_0.rect_emb_val_of_index_zero t0_0 a (z0 a) y))) (V_main_arg0 m c)
theorem blk1 (c : Dev nD) : iblk m c 1 t0_0 = m ((c : Thread nD τ).loc main_arg1) :=
  Eq.trans (funext fun y => congrArg (V m c main_arg1) (funext fun a => Fin.ext (win0_1.rect_emb_val_of_index_zero t0_0 a (z1 a) y))) (V_main_arg1 m c)
theorem blk2 (c : Dev nD) : iblk m c 2 t0_0 = m ((c : Thread nD τ).loc main_arg2) :=
  Eq.trans (funext fun y => congrArg (V m c main_arg2) (funext fun a => Fin.ext (win0_2.rect_emb_val_of_index_zero t0_0 a (z2 a) y))) (V_main_arg2 m c)

def kHost (a : FVec Ideal S2x512x8x64 .f32) : FVec Ideal S16x64x512 .bf16 :=
  truncf .bf16 (shapeCast S16x64x512 (transpose S2x8x64x512 [0, 2, 3, 1] a transposes_S2x512x8x64_S2x8x64x512_0_2_3_1) shapeCasts_S2x8x64x512_S16x64x512) bitsLt_bf16_f32
def vHost (a : FVec Ideal S2x512x8x64 .f32) : FVec Ideal S16x512x64 .bf16 :=
  truncf .bf16 (shapeCast S16x512x64 (transpose S2x8x512x64 [0, 2, 1, 3] a transposes_S2x512x8x64_S2x8x512x64_0_2_1_3) shapeCasts_S2x8x512x64_S16x512x64) bitsLt_bf16_f32

theorem V_main_v3 (c : Dev nD) : V m c main_v3 = kHost (m ((c : Thread nD τ).loc main_arg3)) := by
  show StableHlo.after hostOps0 _ _ = _
  simp only [hostOps0]
  after_results_simp
  rfl
theorem V_main_v6 (c : Dev nD) : V m c main_v6 = vHost (m ((c : Thread nD τ).loc main_arg4)) := by
  show StableHlo.after hostOps0 _ _ = _
  simp only [hostOps0]
  after_results_simp
  rfl
theorem blk3 (c : Dev nD) : iblk m c 3 t0_0 = kHost (m ((c : Thread nD τ).loc main_arg3)) :=
  Eq.trans (funext fun y => congrArg (V m c main_v3) (funext fun a => Fin.ext (win0_3.rect_emb_val_of_index_zero t0_0 a (z3 a) y))) (V_main_v3 m c)
theorem blk4 (c : Dev nD) : iblk m c 4 t0_0 = vHost (m ((c : Thread nD τ).loc main_arg4)) :=
  Eq.trans (funext fun y => congrArg (V m c main_v6) (funext fun a => Fin.ext (win0_4.rect_emb_val_of_index_zero t0_0 a (z4 a) y))) (V_main_v6 m c)

theorem kHost_at (a : FVec Ideal S2x512x8x64 .f32) (i : Fin 16) (e : Fin 64) (j : Fin 512) : kHost a (ix3 i e j) = a (ix4 (bOf i) j (hOf i) e) := by
  pointwise [kHost]
  rfl
theorem vHost_at (a : FVec Ideal S2x512x8x64 .f32) (i : Fin 16) (e : Fin 64) (j : Fin 512) : vHost a (ix3 i j e) = a (ix4 (bOf i) j (hOf i) e) := by
  pointwise [vHost]
  rfl

theorem block_at (A : FVec Ideal Cert.ReferenceIdeal.S2x16384x8x64 .f32) (ht : Layout.Tiles ⟨4, ![2, 512, 8, 64]⟩ ⟨4, ![2, 16384, 8, 64]⟩ 1 32)
    (s : Dev nD) (b : Fin 2) (j : Fin 512) (h : Fin 8) (e : Fin 64) :
    Layout.block ⟨4, ![2, 512, 8, 64]⟩ ⟨4, ![2, 16384, 8, 64]⟩ 1 32 s A ht (ix4 b j h e) = A (ix4 b (key 512 s.val (in512 s) j) h e) := by
  rw [Layout.block_apply]
  refine congrArg A (funext fun a => Fin.ext ?_)
  match a with
  | 0 => rfl
  | 1 =>
    show s.val * 512 + j.val = 512 * s.val + j.val
    omega
  | 2 => rfl
  | 3 => rfl

/-! ## The result array -/

theorem result (c : Dev nD) : (dat0 m c).arrAt 5 cfg0.N = outOf (vals m) c := by
  refine (dat0 m c).arrAt_eq_of_cover 5 _ (fun t _ => funext fun y => ?_) fun i => ?_
  · show outOf (vals m) c (win0_5.xinj (grid0.coords t) y) = outOf (vals m) c ((win0_5.rect t).emb y)
    exact congrArg _ (funext fun a => Fin.ext (win0_5.rect_emb_val_of_index_zero t a (z5 t a) y).symm)
  · refine ⟨t0_0, flush0_5 _, ?_⟩
    show i ∈ ((View.whole main_v7).slice (win0_5.rect t0_0)).set
    rw [View.set_slice_whole, Rect.mem_set_unit]
    have e : ∀ a, win0_5.index t0_0 a * win0_5.size a = 0 ∧ win0_5.xsize (grid0.coords t0_0) a = S2x256x768.size a := by
      decide +kernel
    intro a
    show win0_5.index t0_0 a * win0_5.size a ≤ (i a : ℕ) ∧ (i a : ℕ) < win0_5.index t0_0 a * win0_5.size a + win0_5.xsize (grid0.coords t0_0) a
    rw [(e a).1, (e a).2, Nat.zero_add]
    exact ⟨Nat.zero_le _, (i a).isLt⟩

theorem outOf_vals (K V : FVec Ideal Cert.ReferenceIdeal.S2x16384x8x64 .f32) (x : Vec Ideal S2x256x768 .f32) (wq : Vec Ideal S768x512 .f32)
    (wo : Vec Ideal S512x768 .f32) (ht : Layout.Tiles ⟨4, ![2, 512, 8, 64]⟩ ⟨4, ![2, 16384, 8, 64]⟩ 1 32)
    (h0 : ∀ c : Dev nD, m ((c.tc : Thread nD τ).loc main_arg0) = x) (h1 : ∀ c : Dev nD, m ((c.tc : Thread nD τ).loc main_arg1) = wq)
    (h2 : ∀ c : Dev nD, m ((c.tc : Thread nD τ).loc main_arg2) = wo)
    (h3 : ∀ c : Dev nD, m ((c.tc : Thread nD τ).loc main_arg3) = Layout.block ⟨4, ![2, 512, 8, 64]⟩ ⟨4, ![2, 16384, 8, 64]⟩ 1 32 c K ht)
    (h4 : ∀ c : Dev nD, m ((c.tc : Thread nD τ).loc main_arg4) = Layout.block ⟨4, ![2, 512, 8, 64]⟩ ⟨4, ![2, 16384, 8, 64]⟩ 1 32 c V ht)
    (c : Dev nD) : outOf (vals m) c = refOf (F := Ideal) K V x wq wo := by
  have e : vals m = valsOf (F := Ideal) (fun _ => x) (fun _ => wq) (fun _ => wo) (fun c => kHost (m ((c : Thread nD τ).loc main_arg3)))
      (fun c => vHost (m ((c : Thread nD τ).loc main_arg4))) := by
    unfold vals
    rw [show (fun c : Dev nD => iblk m c 0 t0_0) = fun _ => x from funext fun c => (blk0 m c).trans (h0 c),
      show (fun c : Dev nD => iblk m c 1 t0_0) = fun _ => wq from funext fun c => (blk1 m c).trans (h1 c),
      show (fun c : Dev nD => iblk m c 2 t0_0) = fun _ => wo from funext fun c => (blk2 m c).trans (h2 c),
      show (fun c : Dev nD => iblk m c 3 t0_0) = _ from funext fun c => blk3 m c,
      show (fun c : Dev nD => iblk m c 4 t0_0) = _ from funext fun c => blk4 m c]
  rw [e]
  exact outOf_eq x wq wo K V _ _ (fun s i e j => by rw [kHost_at, h3]; exact block_at K ht s _ j _ e)
    (fun s i e j => by rw [vHost_at, h4]; exact block_at V ht s _ j _ e) c

theorem algebraic : Cert.algebraic_KernelIdeal_ReferenceIdeal := fun m g m' g' _ h =>
  ⟨_, (θ_run Cert.KernelIdeal.defs _ _).mono (fun _ hr c => ⟨((hr.1 c).2.trans (result m c)).trans
      (outOf_vals m _ _ _ _ _ _ (fun c => (h c).1) (fun c => (h c).2.1) (fun c => (h c).2.2.1) (fun c => (h c).2.2.2.1) (fun c => (h c).2.2.2.2) c),
      (hr.1 c).1⟩) (run_ends m g),
    (θ_run Cert.ReferenceIdeal.defs _ _).mono (fun _ hr => hr 0) (run_ref m' g')⟩

end Cert.KernelIdeal.Att
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- The reference is a host program; its run is read off its operations, and it has no semaphore. -/
theorem frame_reference : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

theorem claim : Cert.Claim := ⟨Cert.Kernel.Gen.facts, Cert.KernelIdeal.Gen.facts, Cert.ReferenceIdeal.Gen.facts,
  Cert.KernelIdeal.Att.frame_kernel, Cert.KernelIdeal.Att.frame_ideal, frame_reference, trivial, Cert.KernelIdeal.Att.algebraic⟩

end Cert.Proof

end
